-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_PostAttn (m : (ℓ : Loc Cert.PostAttn.nD Cert.PostAttn.τ Cert.PostAttn.sig) → Buf (Elt Bits) ℓ) : Prop :=
  True

def Pre_PostAttnIdeal (m : (ℓ : Loc Cert.PostAttnIdeal.nD Cert.PostAttnIdeal.τ Cert.PostAttnIdeal.sig) → Buf (Elt Ideal) ℓ) : Prop :=
  True

def Pre_PostAttnIdeal_all_finite [hPre_all_finite : Cert.Pre_all_finite.Facts] (m : (ℓ : Loc Cert.PostAttnIdeal.nD Cert.PostAttnIdeal.τ Cert.PostAttnIdeal.sig) → Buf (Elt Ideal) ℓ) : Prop :=
  ∀ c : Dev Cert.PostAttnIdeal.nD,
    (Cert.Pre_all_finite.fn (F := Ideal) (m ((c.tc : Thread Cert.PostAttnIdeal.nD Cert.PostAttnIdeal.τ).loc Cert.PostAttnIdeal.main_arg0)) (m ((c.tc : Thread Cert.PostAttnIdeal.nD Cert.PostAttnIdeal.τ).loc Cert.PostAttnIdeal.main_arg1)) (m ((c.tc : Thread Cert.PostAttnIdeal.nD Cert.PostAttnIdeal.τ).loc Cert.PostAttnIdeal.main_arg2)) (m ((c.tc : Thread Cert.PostAttnIdeal.nD Cert.PostAttnIdeal.τ).loc Cert.PostAttnIdeal.main_arg3)) (m ((c.tc : Thread Cert.PostAttnIdeal.nD Cert.PostAttnIdeal.τ).loc Cert.PostAttnIdeal.main_arg4)) (m ((c.tc : Thread Cert.PostAttnIdeal.nD Cert.PostAttnIdeal.τ).loc Cert.PostAttnIdeal.main_arg5)) (m ((c.tc : Thread Cert.PostAttnIdeal.nD Cert.PostAttnIdeal.τ).loc Cert.PostAttnIdeal.main_arg6)) (m ((c.tc : Thread Cert.PostAttnIdeal.nD Cert.PostAttnIdeal.τ).loc Cert.PostAttnIdeal.main_arg7)) (m ((c.tc : Thread Cert.PostAttnIdeal.nD Cert.PostAttnIdeal.τ).loc Cert.PostAttnIdeal.main_arg8))) = (fun _ => 1#1)

def Pre_PostAttnReferenceIdeal (m : (ℓ : Loc Cert.PostAttnReferenceIdeal.nD Cert.PostAttnReferenceIdeal.τ Cert.PostAttnReferenceIdeal.sig) → Buf (Elt Ideal) ℓ) : Prop :=
  True

def Pre_PostAttnReferenceIdeal_all_finite [hPre_all_finite : Cert.Pre_all_finite.Facts] (m : (ℓ : Loc Cert.PostAttnReferenceIdeal.nD Cert.PostAttnReferenceIdeal.τ Cert.PostAttnReferenceIdeal.sig) → Buf (Elt Ideal) ℓ) : Prop :=
  ∀ c : Dev Cert.PostAttnReferenceIdeal.nD,
    (Cert.Pre_all_finite.fn (F := Ideal) (m ((c.tc : Thread Cert.PostAttnReferenceIdeal.nD Cert.PostAttnReferenceIdeal.τ).loc Cert.PostAttnReferenceIdeal.main_arg0)) (m ((c.tc : Thread Cert.PostAttnReferenceIdeal.nD Cert.PostAttnReferenceIdeal.τ).loc Cert.PostAttnReferenceIdeal.main_arg1)) (m ((c.tc : Thread Cert.PostAttnReferenceIdeal.nD Cert.PostAttnReferenceIdeal.τ).loc Cert.PostAttnReferenceIdeal.main_arg2)) (m ((c.tc : Thread Cert.PostAttnReferenceIdeal.nD Cert.PostAttnReferenceIdeal.τ).loc Cert.PostAttnReferenceIdeal.main_arg3)) (m ((c.tc : Thread Cert.PostAttnReferenceIdeal.nD Cert.PostAttnReferenceIdeal.τ).loc Cert.PostAttnReferenceIdeal.main_arg4)) (m ((c.tc : Thread Cert.PostAttnReferenceIdeal.nD Cert.PostAttnReferenceIdeal.τ).loc Cert.PostAttnReferenceIdeal.main_arg5)) (m ((c.tc : Thread Cert.PostAttnReferenceIdeal.nD Cert.PostAttnReferenceIdeal.τ).loc Cert.PostAttnReferenceIdeal.main_arg6)) (m ((c.tc : Thread Cert.PostAttnReferenceIdeal.nD Cert.PostAttnReferenceIdeal.τ).loc Cert.PostAttnReferenceIdeal.main_arg7)) (m ((c.tc : Thread Cert.PostAttnReferenceIdeal.nD Cert.PostAttnReferenceIdeal.τ).loc Cert.PostAttnReferenceIdeal.main_arg8))) = (fun _ => 1#1)

def Pre_PostSample (m : (ℓ : Loc Cert.PostSample.nD Cert.PostSample.τ Cert.PostSample.sig) → Buf (Elt Bits) ℓ) : Prop :=
  True

def Pre_PostSampleIdeal (m : (ℓ : Loc Cert.PostSampleIdeal.nD Cert.PostSampleIdeal.τ Cert.PostSampleIdeal.sig) → Buf (Elt Ideal) ℓ) : Prop :=
  True

def Pre_PostSampleIdeal_samples_finite [hPre_samples_finite : Cert.Pre_samples_finite.Facts] (m : (ℓ : Loc Cert.PostSampleIdeal.nD Cert.PostSampleIdeal.τ Cert.PostSampleIdeal.sig) → Buf (Elt Ideal) ℓ) : Prop :=
  ∀ c : Dev Cert.PostSampleIdeal.nD,
    (Cert.Pre_samples_finite.fn (F := Ideal) (m ((c.tc : Thread Cert.PostSampleIdeal.nD Cert.PostSampleIdeal.τ).loc Cert.PostSampleIdeal.main_arg0)) (m ((c.tc : Thread Cert.PostSampleIdeal.nD Cert.PostSampleIdeal.τ).loc Cert.PostSampleIdeal.main_arg1)) (m ((c.tc : Thread Cert.PostSampleIdeal.nD Cert.PostSampleIdeal.τ).loc Cert.PostSampleIdeal.main_arg2)) (m ((c.tc : Thread Cert.PostSampleIdeal.nD Cert.PostSampleIdeal.τ).loc Cert.PostSampleIdeal.main_arg3)) (m ((c.tc : Thread Cert.PostSampleIdeal.nD Cert.PostSampleIdeal.τ).loc Cert.PostSampleIdeal.main_arg4)) (m ((c.tc : Thread Cert.PostSampleIdeal.nD Cert.PostSampleIdeal.τ).loc Cert.PostSampleIdeal.main_arg5)) (m ((c.tc : Thread Cert.PostSampleIdeal.nD Cert.PostSampleIdeal.τ).loc Cert.PostSampleIdeal.main_arg6)) (m ((c.tc : Thread Cert.PostSampleIdeal.nD Cert.PostSampleIdeal.τ).loc Cert.PostSampleIdeal.main_arg7)) (m ((c.tc : Thread Cert.PostSampleIdeal.nD Cert.PostSampleIdeal.τ).loc Cert.PostSampleIdeal.main_arg8))) = (fun _ => 1#1)

def Pre_PostSampleReferenceIdeal (m : (ℓ : Loc Cert.PostSampleReferenceIdeal.nD Cert.PostSampleReferenceIdeal.τ Cert.PostSampleReferenceIdeal.sig) → Buf (Elt Ideal) ℓ) : Prop :=
  True

def Pre_PostSampleReferenceIdeal_samples_finite [hPre_samples_finite : Cert.Pre_samples_finite.Facts] (m : (ℓ : Loc Cert.PostSampleReferenceIdeal.nD Cert.PostSampleReferenceIdeal.τ Cert.PostSampleReferenceIdeal.sig) → Buf (Elt Ideal) ℓ) : Prop :=
  ∀ c : Dev Cert.PostSampleReferenceIdeal.nD,
    (Cert.Pre_samples_finite.fn (F := Ideal) (m ((c.tc : Thread Cert.PostSampleReferenceIdeal.nD Cert.PostSampleReferenceIdeal.τ).loc Cert.PostSampleReferenceIdeal.main_arg0)) (m ((c.tc : Thread Cert.PostSampleReferenceIdeal.nD Cert.PostSampleReferenceIdeal.τ).loc Cert.PostSampleReferenceIdeal.main_arg1)) (m ((c.tc : Thread Cert.PostSampleReferenceIdeal.nD Cert.PostSampleReferenceIdeal.τ).loc Cert.PostSampleReferenceIdeal.main_arg2)) (m ((c.tc : Thread Cert.PostSampleReferenceIdeal.nD Cert.PostSampleReferenceIdeal.τ).loc Cert.PostSampleReferenceIdeal.main_arg3)) (m ((c.tc : Thread Cert.PostSampleReferenceIdeal.nD Cert.PostSampleReferenceIdeal.τ).loc Cert.PostSampleReferenceIdeal.main_arg4)) (m ((c.tc : Thread Cert.PostSampleReferenceIdeal.nD Cert.PostSampleReferenceIdeal.τ).loc Cert.PostSampleReferenceIdeal.main_arg5)) (m ((c.tc : Thread Cert.PostSampleReferenceIdeal.nD Cert.PostSampleReferenceIdeal.τ).loc Cert.PostSampleReferenceIdeal.main_arg6)) (m ((c.tc : Thread Cert.PostSampleReferenceIdeal.nD Cert.PostSampleReferenceIdeal.τ).loc Cert.PostSampleReferenceIdeal.main_arg7)) (m ((c.tc : Thread Cert.PostSampleReferenceIdeal.nD Cert.PostSampleReferenceIdeal.τ).loc Cert.PostSampleReferenceIdeal.main_arg8))) = (fun _ => 1#1)

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3))
      ∧ r.2.sem = fun _ => 0)

def quiescent_PostAttn [hPostAttn : Cert.PostAttn.Facts] : Prop :=
  ∀ (m : (ℓ : Loc Cert.PostAttn.nD Cert.PostAttn.τ Cert.PostAttn.sig) → Buf (Elt Bits) ℓ) (g : Dev Cert.PostAttn.nD → PrngReg), Pre_PostAttn m →
    θ_run (Cert.PostAttn.defs (F := Bits)) (onTc (τ := Cert.PostAttn.τ) (Cert.PostAttn.main (F := Bits))) ⟨m, fun _ => 0, g⟩ (fun r => (∀ c : Dev Cert.PostAttn.nD,
      r.2.mem ((c.tc : Thread Cert.PostAttn.nD Cert.PostAttn.τ).loc Cert.PostAttn.main_arg0) = m ((c.tc : Thread Cert.PostAttn.nD Cert.PostAttn.τ).loc Cert.PostAttn.main_arg0)
      ∧ r.2.mem ((c.tc : Thread Cert.PostAttn.nD Cert.PostAttn.τ).loc Cert.PostAttn.main_arg1) = m ((c.tc : Thread Cert.PostAttn.nD Cert.PostAttn.τ).loc Cert.PostAttn.main_arg1)
      ∧ r.2.mem ((c.tc : Thread Cert.PostAttn.nD Cert.PostAttn.τ).loc Cert.PostAttn.main_arg2) = m ((c.tc : Thread Cert.PostAttn.nD Cert.PostAttn.τ).loc Cert.PostAttn.main_arg2)
      ∧ r.2.mem ((c.tc : Thread Cert.PostAttn.nD Cert.PostAttn.τ).loc Cert.PostAttn.main_arg3) = m ((c.tc : Thread Cert.PostAttn.nD Cert.PostAttn.τ).loc Cert.PostAttn.main_arg3)
      ∧ r.2.mem ((c.tc : Thread Cert.PostAttn.nD Cert.PostAttn.τ).loc Cert.PostAttn.main_arg4) = m ((c.tc : Thread Cert.PostAttn.nD Cert.PostAttn.τ).loc Cert.PostAttn.main_arg4)
      ∧ r.2.mem ((c.tc : Thread Cert.PostAttn.nD Cert.PostAttn.τ).loc Cert.PostAttn.main_arg5) = m ((c.tc : Thread Cert.PostAttn.nD Cert.PostAttn.τ).loc Cert.PostAttn.main_arg5)
      ∧ r.2.mem ((c.tc : Thread Cert.PostAttn.nD Cert.PostAttn.τ).loc Cert.PostAttn.main_arg6) = m ((c.tc : Thread Cert.PostAttn.nD Cert.PostAttn.τ).loc Cert.PostAttn.main_arg6)
      ∧ r.2.mem ((c.tc : Thread Cert.PostAttn.nD Cert.PostAttn.τ).loc Cert.PostAttn.main_arg7) = m ((c.tc : Thread Cert.PostAttn.nD Cert.PostAttn.τ).loc Cert.PostAttn.main_arg7)
      ∧ r.2.mem ((c.tc : Thread Cert.PostAttn.nD Cert.PostAttn.τ).loc Cert.PostAttn.main_arg8) = m ((c.tc : Thread Cert.PostAttn.nD Cert.PostAttn.τ).loc Cert.PostAttn.main_arg8))
      ∧ r.2.sem = fun _ => 0)

def quiescent_PostAttnIdeal [hPostAttnIdeal : Cert.PostAttnIdeal.Facts] : Prop :=
  ∀ (m : (ℓ : Loc Cert.PostAttnIdeal.nD Cert.PostAttnIdeal.τ Cert.PostAttnIdeal.sig) → Buf (Elt Ideal) ℓ) (g : Dev Cert.PostAttnIdeal.nD → PrngReg), Pre_PostAttnIdeal m →
    θ_run (Cert.PostAttnIdeal.defs (F := Ideal)) (onTc (τ := Cert.PostAttnIdeal.τ) (Cert.PostAttnIdeal.main (F := Ideal))) ⟨m, fun _ => 0, g⟩ (fun r => (∀ c : Dev Cert.PostAttnIdeal.nD,
      r.2.mem ((c.tc : Thread Cert.PostAttnIdeal.nD Cert.PostAttnIdeal.τ).loc Cert.PostAttnIdeal.main_arg0) = m ((c.tc : Thread Cert.PostAttnIdeal.nD Cert.PostAttnIdeal.τ).loc Cert.PostAttnIdeal.main_arg0)
      ∧ r.2.mem ((c.tc : Thread Cert.PostAttnIdeal.nD Cert.PostAttnIdeal.τ).loc Cert.PostAttnIdeal.main_arg1) = m ((c.tc : Thread Cert.PostAttnIdeal.nD Cert.PostAttnIdeal.τ).loc Cert.PostAttnIdeal.main_arg1)
      ∧ r.2.mem ((c.tc : Thread Cert.PostAttnIdeal.nD Cert.PostAttnIdeal.τ).loc Cert.PostAttnIdeal.main_arg2) = m ((c.tc : Thread Cert.PostAttnIdeal.nD Cert.PostAttnIdeal.τ).loc Cert.PostAttnIdeal.main_arg2)
      ∧ r.2.mem ((c.tc : Thread Cert.PostAttnIdeal.nD Cert.PostAttnIdeal.τ).loc Cert.PostAttnIdeal.main_arg3) = m ((c.tc : Thread Cert.PostAttnIdeal.nD Cert.PostAttnIdeal.τ).loc Cert.PostAttnIdeal.main_arg3)
      ∧ r.2.mem ((c.tc : Thread Cert.PostAttnIdeal.nD Cert.PostAttnIdeal.τ).loc Cert.PostAttnIdeal.main_arg4) = m ((c.tc : Thread Cert.PostAttnIdeal.nD Cert.PostAttnIdeal.τ).loc Cert.PostAttnIdeal.main_arg4)
      ∧ r.2.mem ((c.tc : Thread Cert.PostAttnIdeal.nD Cert.PostAttnIdeal.τ).loc Cert.PostAttnIdeal.main_arg5) = m ((c.tc : Thread Cert.PostAttnIdeal.nD Cert.PostAttnIdeal.τ).loc Cert.PostAttnIdeal.main_arg5)
      ∧ r.2.mem ((c.tc : Thread Cert.PostAttnIdeal.nD Cert.PostAttnIdeal.τ).loc Cert.PostAttnIdeal.main_arg6) = m ((c.tc : Thread Cert.PostAttnIdeal.nD Cert.PostAttnIdeal.τ).loc Cert.PostAttnIdeal.main_arg6)
      ∧ r.2.mem ((c.tc : Thread Cert.PostAttnIdeal.nD Cert.PostAttnIdeal.τ).loc Cert.PostAttnIdeal.main_arg7) = m ((c.tc : Thread Cert.PostAttnIdeal.nD Cert.PostAttnIdeal.τ).loc Cert.PostAttnIdeal.main_arg7)
      ∧ r.2.mem ((c.tc : Thread Cert.PostAttnIdeal.nD Cert.PostAttnIdeal.τ).loc Cert.PostAttnIdeal.main_arg8) = m ((c.tc : Thread Cert.PostAttnIdeal.nD Cert.PostAttnIdeal.τ).loc Cert.PostAttnIdeal.main_arg8))
      ∧ r.2.sem = fun _ => 0)

def quiescent_PostAttnIdeal_pre_all_finite [hPostAttnIdeal : Cert.PostAttnIdeal.Facts] [hPre_all_finite : Cert.Pre_all_finite.Facts] : Prop :=
  ∀ (m : (ℓ : Loc Cert.PostAttnIdeal.nD Cert.PostAttnIdeal.τ Cert.PostAttnIdeal.sig) → Buf (Elt Ideal) ℓ) (g : Dev Cert.PostAttnIdeal.nD → PrngReg), Pre_PostAttnIdeal_all_finite m →
    θ_run (Cert.PostAttnIdeal.defs (F := Ideal)) (onTc (τ := Cert.PostAttnIdeal.τ) (Cert.PostAttnIdeal.main (F := Ideal))) ⟨m, fun _ => 0, g⟩ (fun r => (∀ c : Dev Cert.PostAttnIdeal.nD,
      r.2.mem ((c.tc : Thread Cert.PostAttnIdeal.nD Cert.PostAttnIdeal.τ).loc Cert.PostAttnIdeal.main_arg0) = m ((c.tc : Thread Cert.PostAttnIdeal.nD Cert.PostAttnIdeal.τ).loc Cert.PostAttnIdeal.main_arg0)
      ∧ r.2.mem ((c.tc : Thread Cert.PostAttnIdeal.nD Cert.PostAttnIdeal.τ).loc Cert.PostAttnIdeal.main_arg1) = m ((c.tc : Thread Cert.PostAttnIdeal.nD Cert.PostAttnIdeal.τ).loc Cert.PostAttnIdeal.main_arg1)
      ∧ r.2.mem ((c.tc : Thread Cert.PostAttnIdeal.nD Cert.PostAttnIdeal.τ).loc Cert.PostAttnIdeal.main_arg2) = m ((c.tc : Thread Cert.PostAttnIdeal.nD Cert.PostAttnIdeal.τ).loc Cert.PostAttnIdeal.main_arg2)
      ∧ r.2.mem ((c.tc : Thread Cert.PostAttnIdeal.nD Cert.PostAttnIdeal.τ).loc Cert.PostAttnIdeal.main_arg3) = m ((c.tc : Thread Cert.PostAttnIdeal.nD Cert.PostAttnIdeal.τ).loc Cert.PostAttnIdeal.main_arg3)
      ∧ r.2.mem ((c.tc : Thread Cert.PostAttnIdeal.nD Cert.PostAttnIdeal.τ).loc Cert.PostAttnIdeal.main_arg4) = m ((c.tc : Thread Cert.PostAttnIdeal.nD Cert.PostAttnIdeal.τ).loc Cert.PostAttnIdeal.main_arg4)
      ∧ r.2.mem ((c.tc : Thread Cert.PostAttnIdeal.nD Cert.PostAttnIdeal.τ).loc Cert.PostAttnIdeal.main_arg5) = m ((c.tc : Thread Cert.PostAttnIdeal.nD Cert.PostAttnIdeal.τ).loc Cert.PostAttnIdeal.main_arg5)
      ∧ r.2.mem ((c.tc : Thread Cert.PostAttnIdeal.nD Cert.PostAttnIdeal.τ).loc Cert.PostAttnIdeal.main_arg6) = m ((c.tc : Thread Cert.PostAttnIdeal.nD Cert.PostAttnIdeal.τ).loc Cert.PostAttnIdeal.main_arg6)
      ∧ r.2.mem ((c.tc : Thread Cert.PostAttnIdeal.nD Cert.PostAttnIdeal.τ).loc Cert.PostAttnIdeal.main_arg7) = m ((c.tc : Thread Cert.PostAttnIdeal.nD Cert.PostAttnIdeal.τ).loc Cert.PostAttnIdeal.main_arg7)
      ∧ r.2.mem ((c.tc : Thread Cert.PostAttnIdeal.nD Cert.PostAttnIdeal.τ).loc Cert.PostAttnIdeal.main_arg8) = m ((c.tc : Thread Cert.PostAttnIdeal.nD Cert.PostAttnIdeal.τ).loc Cert.PostAttnIdeal.main_arg8))
      ∧ r.2.sem = fun _ => 0)

def quiescent_PostAttnReferenceIdeal [hPostAttnReferenceIdeal : Cert.PostAttnReferenceIdeal.Facts] : Prop :=
  ∀ (m : (ℓ : Loc Cert.PostAttnReferenceIdeal.nD Cert.PostAttnReferenceIdeal.τ Cert.PostAttnReferenceIdeal.sig) → Buf (Elt Ideal) ℓ) (g : Dev Cert.PostAttnReferenceIdeal.nD → PrngReg), Pre_PostAttnReferenceIdeal m →
    θ_run (Cert.PostAttnReferenceIdeal.defs (F := Ideal)) (onTc (τ := Cert.PostAttnReferenceIdeal.τ) (Cert.PostAttnReferenceIdeal.main (F := Ideal))) ⟨m, fun _ => 0, g⟩ (fun r => (∀ c : Dev Cert.PostAttnReferenceIdeal.nD,
      r.2.mem ((c.tc : Thread Cert.PostAttnReferenceIdeal.nD Cert.PostAttnReferenceIdeal.τ).loc Cert.PostAttnReferenceIdeal.main_arg0) = m ((c.tc : Thread Cert.PostAttnReferenceIdeal.nD Cert.PostAttnReferenceIdeal.τ).loc Cert.PostAttnReferenceIdeal.main_arg0)
      ∧ r.2.mem ((c.tc : Thread Cert.PostAttnReferenceIdeal.nD Cert.PostAttnReferenceIdeal.τ).loc Cert.PostAttnReferenceIdeal.main_arg1) = m ((c.tc : Thread Cert.PostAttnReferenceIdeal.nD Cert.PostAttnReferenceIdeal.τ).loc Cert.PostAttnReferenceIdeal.main_arg1)
      ∧ r.2.mem ((c.tc : Thread Cert.PostAttnReferenceIdeal.nD Cert.PostAttnReferenceIdeal.τ).loc Cert.PostAttnReferenceIdeal.main_arg2) = m ((c.tc : Thread Cert.PostAttnReferenceIdeal.nD Cert.PostAttnReferenceIdeal.τ).loc Cert.PostAttnReferenceIdeal.main_arg2)
      ∧ r.2.mem ((c.tc : Thread Cert.PostAttnReferenceIdeal.nD Cert.PostAttnReferenceIdeal.τ).loc Cert.PostAttnReferenceIdeal.main_arg3) = m ((c.tc : Thread Cert.PostAttnReferenceIdeal.nD Cert.PostAttnReferenceIdeal.τ).loc Cert.PostAttnReferenceIdeal.main_arg3)
      ∧ r.2.mem ((c.tc : Thread Cert.PostAttnReferenceIdeal.nD Cert.PostAttnReferenceIdeal.τ).loc Cert.PostAttnReferenceIdeal.main_arg4) = m ((c.tc : Thread Cert.PostAttnReferenceIdeal.nD Cert.PostAttnReferenceIdeal.τ).loc Cert.PostAttnReferenceIdeal.main_arg4)
      ∧ r.2.mem ((c.tc : Thread Cert.PostAttnReferenceIdeal.nD Cert.PostAttnReferenceIdeal.τ).loc Cert.PostAttnReferenceIdeal.main_arg5) = m ((c.tc : Thread Cert.PostAttnReferenceIdeal.nD Cert.PostAttnReferenceIdeal.τ).loc Cert.PostAttnReferenceIdeal.main_arg5)
      ∧ r.2.mem ((c.tc : Thread Cert.PostAttnReferenceIdeal.nD Cert.PostAttnReferenceIdeal.τ).loc Cert.PostAttnReferenceIdeal.main_arg6) = m ((c.tc : Thread Cert.PostAttnReferenceIdeal.nD Cert.PostAttnReferenceIdeal.τ).loc Cert.PostAttnReferenceIdeal.main_arg6)
      ∧ r.2.mem ((c.tc : Thread Cert.PostAttnReferenceIdeal.nD Cert.PostAttnReferenceIdeal.τ).loc Cert.PostAttnReferenceIdeal.main_arg7) = m ((c.tc : Thread Cert.PostAttnReferenceIdeal.nD Cert.PostAttnReferenceIdeal.τ).loc Cert.PostAttnReferenceIdeal.main_arg7)
      ∧ r.2.mem ((c.tc : Thread Cert.PostAttnReferenceIdeal.nD Cert.PostAttnReferenceIdeal.τ).loc Cert.PostAttnReferenceIdeal.main_arg8) = m ((c.tc : Thread Cert.PostAttnReferenceIdeal.nD Cert.PostAttnReferenceIdeal.τ).loc Cert.PostAttnReferenceIdeal.main_arg8))
      ∧ r.2.sem = fun _ => 0)

def quiescent_PostAttnReferenceIdeal_pre_all_finite [hPostAttnReferenceIdeal : Cert.PostAttnReferenceIdeal.Facts] [hPre_all_finite : Cert.Pre_all_finite.Facts] : Prop :=
  ∀ (m : (ℓ : Loc Cert.PostAttnReferenceIdeal.nD Cert.PostAttnReferenceIdeal.τ Cert.PostAttnReferenceIdeal.sig) → Buf (Elt Ideal) ℓ) (g : Dev Cert.PostAttnReferenceIdeal.nD → PrngReg), Pre_PostAttnReferenceIdeal_all_finite m →
    θ_run (Cert.PostAttnReferenceIdeal.defs (F := Ideal)) (onTc (τ := Cert.PostAttnReferenceIdeal.τ) (Cert.PostAttnReferenceIdeal.main (F := Ideal))) ⟨m, fun _ => 0, g⟩ (fun r => (∀ c : Dev Cert.PostAttnReferenceIdeal.nD,
      r.2.mem ((c.tc : Thread Cert.PostAttnReferenceIdeal.nD Cert.PostAttnReferenceIdeal.τ).loc Cert.PostAttnReferenceIdeal.main_arg0) = m ((c.tc : Thread Cert.PostAttnReferenceIdeal.nD Cert.PostAttnReferenceIdeal.τ).loc Cert.PostAttnReferenceIdeal.main_arg0)
      ∧ r.2.mem ((c.tc : Thread Cert.PostAttnReferenceIdeal.nD Cert.PostAttnReferenceIdeal.τ).loc Cert.PostAttnReferenceIdeal.main_arg1) = m ((c.tc : Thread Cert.PostAttnReferenceIdeal.nD Cert.PostAttnReferenceIdeal.τ).loc Cert.PostAttnReferenceIdeal.main_arg1)
      ∧ r.2.mem ((c.tc : Thread Cert.PostAttnReferenceIdeal.nD Cert.PostAttnReferenceIdeal.τ).loc Cert.PostAttnReferenceIdeal.main_arg2) = m ((c.tc : Thread Cert.PostAttnReferenceIdeal.nD Cert.PostAttnReferenceIdeal.τ).loc Cert.PostAttnReferenceIdeal.main_arg2)
      ∧ r.2.mem ((c.tc : Thread Cert.PostAttnReferenceIdeal.nD Cert.PostAttnReferenceIdeal.τ).loc Cert.PostAttnReferenceIdeal.main_arg3) = m ((c.tc : Thread Cert.PostAttnReferenceIdeal.nD Cert.PostAttnReferenceIdeal.τ).loc Cert.PostAttnReferenceIdeal.main_arg3)
      ∧ r.2.mem ((c.tc : Thread Cert.PostAttnReferenceIdeal.nD Cert.PostAttnReferenceIdeal.τ).loc Cert.PostAttnReferenceIdeal.main_arg4) = m ((c.tc : Thread Cert.PostAttnReferenceIdeal.nD Cert.PostAttnReferenceIdeal.τ).loc Cert.PostAttnReferenceIdeal.main_arg4)
      ∧ r.2.mem ((c.tc : Thread Cert.PostAttnReferenceIdeal.nD Cert.PostAttnReferenceIdeal.τ).loc Cert.PostAttnReferenceIdeal.main_arg5) = m ((c.tc : Thread Cert.PostAttnReferenceIdeal.nD Cert.PostAttnReferenceIdeal.τ).loc Cert.PostAttnReferenceIdeal.main_arg5)
      ∧ r.2.mem ((c.tc : Thread Cert.PostAttnReferenceIdeal.nD Cert.PostAttnReferenceIdeal.τ).loc Cert.PostAttnReferenceIdeal.main_arg6) = m ((c.tc : Thread Cert.PostAttnReferenceIdeal.nD Cert.PostAttnReferenceIdeal.τ).loc Cert.PostAttnReferenceIdeal.main_arg6)
      ∧ r.2.mem ((c.tc : Thread Cert.PostAttnReferenceIdeal.nD Cert.PostAttnReferenceIdeal.τ).loc Cert.PostAttnReferenceIdeal.main_arg7) = m ((c.tc : Thread Cert.PostAttnReferenceIdeal.nD Cert.PostAttnReferenceIdeal.τ).loc Cert.PostAttnReferenceIdeal.main_arg7)
      ∧ r.2.mem ((c.tc : Thread Cert.PostAttnReferenceIdeal.nD Cert.PostAttnReferenceIdeal.τ).loc Cert.PostAttnReferenceIdeal.main_arg8) = m ((c.tc : Thread Cert.PostAttnReferenceIdeal.nD Cert.PostAttnReferenceIdeal.τ).loc Cert.PostAttnReferenceIdeal.main_arg8))
      ∧ r.2.sem = fun _ => 0)

def quiescent_PostSample [hPostSample : Cert.PostSample.Facts] : Prop :=
  ∀ (m : (ℓ : Loc Cert.PostSample.nD Cert.PostSample.τ Cert.PostSample.sig) → Buf (Elt Bits) ℓ) (g : Dev Cert.PostSample.nD → PrngReg), Pre_PostSample m →
    θ_run (Cert.PostSample.defs (F := Bits)) (onTc (τ := Cert.PostSample.τ) (Cert.PostSample.main (F := Bits))) ⟨m, fun _ => 0, g⟩ (fun r => (∀ c : Dev Cert.PostSample.nD,
      r.2.mem ((c.tc : Thread Cert.PostSample.nD Cert.PostSample.τ).loc Cert.PostSample.main_arg0) = m ((c.tc : Thread Cert.PostSample.nD Cert.PostSample.τ).loc Cert.PostSample.main_arg0)
      ∧ r.2.mem ((c.tc : Thread Cert.PostSample.nD Cert.PostSample.τ).loc Cert.PostSample.main_arg1) = m ((c.tc : Thread Cert.PostSample.nD Cert.PostSample.τ).loc Cert.PostSample.main_arg1)
      ∧ r.2.mem ((c.tc : Thread Cert.PostSample.nD Cert.PostSample.τ).loc Cert.PostSample.main_arg2) = m ((c.tc : Thread Cert.PostSample.nD Cert.PostSample.τ).loc Cert.PostSample.main_arg2)
      ∧ r.2.mem ((c.tc : Thread Cert.PostSample.nD Cert.PostSample.τ).loc Cert.PostSample.main_arg3) = m ((c.tc : Thread Cert.PostSample.nD Cert.PostSample.τ).loc Cert.PostSample.main_arg3)
      ∧ r.2.mem ((c.tc : Thread Cert.PostSample.nD Cert.PostSample.τ).loc Cert.PostSample.main_arg4) = m ((c.tc : Thread Cert.PostSample.nD Cert.PostSample.τ).loc Cert.PostSample.main_arg4)
      ∧ r.2.mem ((c.tc : Thread Cert.PostSample.nD Cert.PostSample.τ).loc Cert.PostSample.main_arg5) = m ((c.tc : Thread Cert.PostSample.nD Cert.PostSample.τ).loc Cert.PostSample.main_arg5)
      ∧ r.2.mem ((c.tc : Thread Cert.PostSample.nD Cert.PostSample.τ).loc Cert.PostSample.main_arg6) = m ((c.tc : Thread Cert.PostSample.nD Cert.PostSample.τ).loc Cert.PostSample.main_arg6)
      ∧ r.2.mem ((c.tc : Thread Cert.PostSample.nD Cert.PostSample.τ).loc Cert.PostSample.main_arg7) = m ((c.tc : Thread Cert.PostSample.nD Cert.PostSample.τ).loc Cert.PostSample.main_arg7)
      ∧ r.2.mem ((c.tc : Thread Cert.PostSample.nD Cert.PostSample.τ).loc Cert.PostSample.main_arg8) = m ((c.tc : Thread Cert.PostSample.nD Cert.PostSample.τ).loc Cert.PostSample.main_arg8))
      ∧ r.2.sem = fun _ => 0)

def quiescent_PostSampleIdeal [hPostSampleIdeal : Cert.PostSampleIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg), Pre_PostSampleIdeal m →
    θ_run (Cert.PostSampleIdeal.defs (F := Ideal)) (onTc (τ := Cert.PostSampleIdeal.τ) (Cert.PostSampleIdeal.main (F := Ideal))) ⟨m, fun _ => 0, g⟩ (fun r => (∀ c : Dev Cert.PostSampleIdeal.nD,
      r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
      ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
      ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
      ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
      ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
      ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
      ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
      ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
      ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8))
      ∧ r.2.sem = fun _ => 0)

def quiescent_PostSampleIdeal_pre_samples_finite [hPostSampleIdeal : Cert.PostSampleIdeal.Facts] [hPre_samples_finite : Cert.Pre_samples_finite.Facts] : Prop :=
  ∀ (m : (ℓ : Loc Cert.PostSampleIdeal.nD Cert.PostSampleIdeal.τ Cert.PostSampleIdeal.sig) → Buf (Elt Ideal) ℓ) (g : Dev Cert.PostSampleIdeal.nD → PrngReg), Pre_PostSampleIdeal_samples_finite m →
    θ_run (Cert.PostSampleIdeal.defs (F := Ideal)) (onTc (τ := Cert.PostSampleIdeal.τ) (Cert.PostSampleIdeal.main (F := Ideal))) ⟨m, fun _ => 0, g⟩ (fun r => (∀ c : Dev Cert.PostSampleIdeal.nD,
      r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
      ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
      ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
      ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
      ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
      ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
      ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
      ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
      ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8))
      ∧ r.2.sem = fun _ => 0)

def quiescent_PostSampleReferenceIdeal [hPostSampleReferenceIdeal : Cert.PostSampleReferenceIdeal.Facts] : Prop :=
  ∀ (m : (ℓ : Loc Cert.PostSampleReferenceIdeal.nD Cert.PostSampleReferenceIdeal.τ Cert.PostSampleReferenceIdeal.sig) → Buf (Elt Ideal) ℓ) (g : Dev Cert.PostSampleReferenceIdeal.nD → PrngReg), Pre_PostSampleReferenceIdeal m →
    θ_run (Cert.PostSampleReferenceIdeal.defs (F := Ideal)) (onTc (τ := Cert.PostSampleReferenceIdeal.τ) (Cert.PostSampleReferenceIdeal.main (F := Ideal))) ⟨m, fun _ => 0, g⟩ (fun r => (∀ c : Dev Cert.PostSampleReferenceIdeal.nD,
      r.2.mem ((c.tc : Thread Cert.PostSampleReferenceIdeal.nD Cert.PostSampleReferenceIdeal.τ).loc Cert.PostSampleReferenceIdeal.main_arg0) = m ((c.tc : Thread Cert.PostSampleReferenceIdeal.nD Cert.PostSampleReferenceIdeal.τ).loc Cert.PostSampleReferenceIdeal.main_arg0)
      ∧ r.2.mem ((c.tc : Thread Cert.PostSampleReferenceIdeal.nD Cert.PostSampleReferenceIdeal.τ).loc Cert.PostSampleReferenceIdeal.main_arg1) = m ((c.tc : Thread Cert.PostSampleReferenceIdeal.nD Cert.PostSampleReferenceIdeal.τ).loc Cert.PostSampleReferenceIdeal.main_arg1)
      ∧ r.2.mem ((c.tc : Thread Cert.PostSampleReferenceIdeal.nD Cert.PostSampleReferenceIdeal.τ).loc Cert.PostSampleReferenceIdeal.main_arg2) = m ((c.tc : Thread Cert.PostSampleReferenceIdeal.nD Cert.PostSampleReferenceIdeal.τ).loc Cert.PostSampleReferenceIdeal.main_arg2)
      ∧ r.2.mem ((c.tc : Thread Cert.PostSampleReferenceIdeal.nD Cert.PostSampleReferenceIdeal.τ).loc Cert.PostSampleReferenceIdeal.main_arg3) = m ((c.tc : Thread Cert.PostSampleReferenceIdeal.nD Cert.PostSampleReferenceIdeal.τ).loc Cert.PostSampleReferenceIdeal.main_arg3)
      ∧ r.2.mem ((c.tc : Thread Cert.PostSampleReferenceIdeal.nD Cert.PostSampleReferenceIdeal.τ).loc Cert.PostSampleReferenceIdeal.main_arg4) = m ((c.tc : Thread Cert.PostSampleReferenceIdeal.nD Cert.PostSampleReferenceIdeal.τ).loc Cert.PostSampleReferenceIdeal.main_arg4)
      ∧ r.2.mem ((c.tc : Thread Cert.PostSampleReferenceIdeal.nD Cert.PostSampleReferenceIdeal.τ).loc Cert.PostSampleReferenceIdeal.main_arg5) = m ((c.tc : Thread Cert.PostSampleReferenceIdeal.nD Cert.PostSampleReferenceIdeal.τ).loc Cert.PostSampleReferenceIdeal.main_arg5)
      ∧ r.2.mem ((c.tc : Thread Cert.PostSampleReferenceIdeal.nD Cert.PostSampleReferenceIdeal.τ).loc Cert.PostSampleReferenceIdeal.main_arg6) = m ((c.tc : Thread Cert.PostSampleReferenceIdeal.nD Cert.PostSampleReferenceIdeal.τ).loc Cert.PostSampleReferenceIdeal.main_arg6)
      ∧ r.2.mem ((c.tc : Thread Cert.PostSampleReferenceIdeal.nD Cert.PostSampleReferenceIdeal.τ).loc Cert.PostSampleReferenceIdeal.main_arg7) = m ((c.tc : Thread Cert.PostSampleReferenceIdeal.nD Cert.PostSampleReferenceIdeal.τ).loc Cert.PostSampleReferenceIdeal.main_arg7)
      ∧ r.2.mem ((c.tc : Thread Cert.PostSampleReferenceIdeal.nD Cert.PostSampleReferenceIdeal.τ).loc Cert.PostSampleReferenceIdeal.main_arg8) = m ((c.tc : Thread Cert.PostSampleReferenceIdeal.nD Cert.PostSampleReferenceIdeal.τ).loc Cert.PostSampleReferenceIdeal.main_arg8))
      ∧ r.2.sem = fun _ => 0)

def quiescent_PostSampleReferenceIdeal_pre_samples_finite [hPostSampleReferenceIdeal : Cert.PostSampleReferenceIdeal.Facts] [hPre_samples_finite : Cert.Pre_samples_finite.Facts] : Prop :=
  ∀ (m : (ℓ : Loc Cert.PostSampleReferenceIdeal.nD Cert.PostSampleReferenceIdeal.τ Cert.PostSampleReferenceIdeal.sig) → Buf (Elt Ideal) ℓ) (g : Dev Cert.PostSampleReferenceIdeal.nD → PrngReg), Pre_PostSampleReferenceIdeal_samples_finite m →
    θ_run (Cert.PostSampleReferenceIdeal.defs (F := Ideal)) (onTc (τ := Cert.PostSampleReferenceIdeal.τ) (Cert.PostSampleReferenceIdeal.main (F := Ideal))) ⟨m, fun _ => 0, g⟩ (fun r => (∀ c : Dev Cert.PostSampleReferenceIdeal.nD,
      r.2.mem ((c.tc : Thread Cert.PostSampleReferenceIdeal.nD Cert.PostSampleReferenceIdeal.τ).loc Cert.PostSampleReferenceIdeal.main_arg0) = m ((c.tc : Thread Cert.PostSampleReferenceIdeal.nD Cert.PostSampleReferenceIdeal.τ).loc Cert.PostSampleReferenceIdeal.main_arg0)
      ∧ r.2.mem ((c.tc : Thread Cert.PostSampleReferenceIdeal.nD Cert.PostSampleReferenceIdeal.τ).loc Cert.PostSampleReferenceIdeal.main_arg1) = m ((c.tc : Thread Cert.PostSampleReferenceIdeal.nD Cert.PostSampleReferenceIdeal.τ).loc Cert.PostSampleReferenceIdeal.main_arg1)
      ∧ r.2.mem ((c.tc : Thread Cert.PostSampleReferenceIdeal.nD Cert.PostSampleReferenceIdeal.τ).loc Cert.PostSampleReferenceIdeal.main_arg2) = m ((c.tc : Thread Cert.PostSampleReferenceIdeal.nD Cert.PostSampleReferenceIdeal.τ).loc Cert.PostSampleReferenceIdeal.main_arg2)
      ∧ r.2.mem ((c.tc : Thread Cert.PostSampleReferenceIdeal.nD Cert.PostSampleReferenceIdeal.τ).loc Cert.PostSampleReferenceIdeal.main_arg3) = m ((c.tc : Thread Cert.PostSampleReferenceIdeal.nD Cert.PostSampleReferenceIdeal.τ).loc Cert.PostSampleReferenceIdeal.main_arg3)
      ∧ r.2.mem ((c.tc : Thread Cert.PostSampleReferenceIdeal.nD Cert.PostSampleReferenceIdeal.τ).loc Cert.PostSampleReferenceIdeal.main_arg4) = m ((c.tc : Thread Cert.PostSampleReferenceIdeal.nD Cert.PostSampleReferenceIdeal.τ).loc Cert.PostSampleReferenceIdeal.main_arg4)
      ∧ r.2.mem ((c.tc : Thread Cert.PostSampleReferenceIdeal.nD Cert.PostSampleReferenceIdeal.τ).loc Cert.PostSampleReferenceIdeal.main_arg5) = m ((c.tc : Thread Cert.PostSampleReferenceIdeal.nD Cert.PostSampleReferenceIdeal.τ).loc Cert.PostSampleReferenceIdeal.main_arg5)
      ∧ r.2.mem ((c.tc : Thread Cert.PostSampleReferenceIdeal.nD Cert.PostSampleReferenceIdeal.τ).loc Cert.PostSampleReferenceIdeal.main_arg6) = m ((c.tc : Thread Cert.PostSampleReferenceIdeal.nD Cert.PostSampleReferenceIdeal.τ).loc Cert.PostSampleReferenceIdeal.main_arg6)
      ∧ r.2.mem ((c.tc : Thread Cert.PostSampleReferenceIdeal.nD Cert.PostSampleReferenceIdeal.τ).loc Cert.PostSampleReferenceIdeal.main_arg7) = m ((c.tc : Thread Cert.PostSampleReferenceIdeal.nD Cert.PostSampleReferenceIdeal.τ).loc Cert.PostSampleReferenceIdeal.main_arg7)
      ∧ r.2.mem ((c.tc : Thread Cert.PostSampleReferenceIdeal.nD Cert.PostSampleReferenceIdeal.τ).loc Cert.PostSampleReferenceIdeal.main_arg8) = m ((c.tc : Thread Cert.PostSampleReferenceIdeal.nD Cert.PostSampleReferenceIdeal.τ).loc Cert.PostSampleReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)) (v2 : (c : Dev Cert.InProjIdeal.nD) → Buf (Elt Ideal) ((c.tc : Thread Cert.InProjIdeal.nD Cert.InProjIdeal.τ).loc Cert.InProjIdeal.main_v5_2)) (v3 : (c : Dev Cert.InProjIdeal.nD) → Buf (Elt Ideal) ((c.tc : Thread Cert.InProjIdeal.nD Cert.InProjIdeal.τ).loc Cert.InProjIdeal.main_v5_3)) (v4 : (c : Dev Cert.InProjIdeal.nD) → Buf (Elt Ideal) ((c.tc : Thread Cert.InProjIdeal.nD Cert.InProjIdeal.τ).loc Cert.InProjIdeal.main_v5_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_v5_2) = v2 c
          ∧ r.2.mem ((c.tc : Thread Cert.InProjIdeal.nD Cert.InProjIdeal.τ).loc Cert.InProjIdeal.main_v5_3) = v3 c
          ∧ r.2.mem ((c.tc : Thread Cert.InProjIdeal.nD Cert.InProjIdeal.τ).loc Cert.InProjIdeal.main_v5_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v38) = v0 c
          ∧ r.2.mem ((c.tc : Thread Cert.InProjReferenceIdeal.nD Cert.InProjReferenceIdeal.τ).loc Cert.InProjReferenceIdeal.main_v39) = v1 c
          ∧ r.2.mem ((c.tc : Thread Cert.InProjReferenceIdeal.nD Cert.InProjReferenceIdeal.τ).loc Cert.InProjReferenceIdeal.main_v40) = v2 c
          ∧ r.2.mem ((c.tc : Thread Cert.InProjReferenceIdeal.nD Cert.InProjReferenceIdeal.τ).loc Cert.InProjReferenceIdeal.main_v41) = v3 c
          ∧ r.2.mem ((c.tc : Thread Cert.InProjReferenceIdeal.nD Cert.InProjReferenceIdeal.τ).loc Cert.InProjReferenceIdeal.main_v42) = v4 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)) →
    ∃ (v0 : (c : Dev Cert.SampleIdeal.nD) → Buf (Elt Ideal) ((c.tc : Thread Cert.SampleIdeal.nD Cert.SampleIdeal.τ).loc Cert.SampleIdeal.main_v5_0)) (v1 : (c : Dev Cert.SampleIdeal.nD) → Buf (Elt Ideal) ((c.tc : Thread Cert.SampleIdeal.nD Cert.SampleIdeal.τ).loc Cert.SampleIdeal.main_v5_1)) (v2 : (c : Dev Cert.SampleIdeal.nD) → Buf (Elt Ideal) ((c.tc : Thread Cert.SampleIdeal.nD Cert.SampleIdeal.τ).loc Cert.SampleIdeal.main_v5_2)) (v3 : (c : Dev Cert.SampleIdeal.nD) → Buf (Elt Ideal) ((c.tc : Thread Cert.SampleIdeal.nD Cert.SampleIdeal.τ).loc Cert.SampleIdeal.main_v5_3)) (v4 : (c : Dev Cert.SampleIdeal.nD) → Buf (Elt Ideal) ((c.tc : Thread Cert.SampleIdeal.nD Cert.SampleIdeal.τ).loc Cert.SampleIdeal.main_v5_4)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v5_0) = v0 c
          ∧ r.2.mem ((c.tc : Thread Cert.SampleIdeal.nD Cert.SampleIdeal.τ).loc Cert.SampleIdeal.main_v5_1) = v1 c
          ∧ r.2.mem ((c.tc : Thread Cert.SampleIdeal.nD Cert.SampleIdeal.τ).loc Cert.SampleIdeal.main_v5_2) = v2 c
          ∧ r.2.mem ((c.tc : Thread Cert.SampleIdeal.nD Cert.SampleIdeal.τ).loc Cert.SampleIdeal.main_v5_3) = v3 c
          ∧ r.2.mem ((c.tc : Thread Cert.SampleIdeal.nD Cert.SampleIdeal.τ).loc Cert.SampleIdeal.main_v5_4) = v4 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v38) = v0 c
          ∧ r.2.mem ((c.tc : Thread Cert.SampleReferenceIdeal.nD Cert.SampleReferenceIdeal.τ).loc Cert.SampleReferenceIdeal.main_v39) = v1 c
          ∧ r.2.mem ((c.tc : Thread Cert.SampleReferenceIdeal.nD Cert.SampleReferenceIdeal.τ).loc Cert.SampleReferenceIdeal.main_v40) = v2 c
          ∧ r.2.mem ((c.tc : Thread Cert.SampleReferenceIdeal.nD Cert.SampleReferenceIdeal.τ).loc Cert.SampleReferenceIdeal.main_v41) = v3 c
          ∧ r.2.mem ((c.tc : Thread Cert.SampleReferenceIdeal.nD Cert.SampleReferenceIdeal.τ).loc Cert.SampleReferenceIdeal.main_v42) = v4 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3))

def preserves_PostAttn_PostAttnIdeal : Prop :=
  True

def algebraic_PostAttnIdeal_PostAttnReferenceIdeal_pre_all_finite [hPostAttnIdeal : Cert.PostAttnIdeal.Facts] [hPostAttnReferenceIdeal : Cert.PostAttnReferenceIdeal.Facts] [hPre_all_finite : Cert.Pre_all_finite.Facts] : Prop :=
  ∀ (m : (ℓ : Loc Cert.PostAttnIdeal.nD Cert.PostAttnIdeal.τ Cert.PostAttnIdeal.sig) → Buf (Elt Ideal) ℓ) (g : Dev Cert.PostAttnIdeal.nD → PrngReg)
    (m' : (ℓ : Loc Cert.PostAttnReferenceIdeal.nD Cert.PostAttnReferenceIdeal.τ Cert.PostAttnReferenceIdeal.sig) → Buf (Elt Ideal) ℓ) (g' : Dev Cert.PostAttnReferenceIdeal.nD → PrngReg), Pre_PostAttnIdeal_all_finite m →
    (∀ c : Dev Cert.PostAttnIdeal.nD,
      m' ((c.tc : Thread Cert.PostAttnReferenceIdeal.nD Cert.PostAttnReferenceIdeal.τ).loc Cert.PostAttnReferenceIdeal.main_arg0) = m ((c.tc : Thread Cert.PostAttnIdeal.nD Cert.PostAttnIdeal.τ).loc Cert.PostAttnIdeal.main_arg0)
      ∧ m' ((c.tc : Thread Cert.PostAttnReferenceIdeal.nD Cert.PostAttnReferenceIdeal.τ).loc Cert.PostAttnReferenceIdeal.main_arg1) = m ((c.tc : Thread Cert.PostAttnIdeal.nD Cert.PostAttnIdeal.τ).loc Cert.PostAttnIdeal.main_arg1)
      ∧ m' ((c.tc : Thread Cert.PostAttnReferenceIdeal.nD Cert.PostAttnReferenceIdeal.τ).loc Cert.PostAttnReferenceIdeal.main_arg2) = m ((c.tc : Thread Cert.PostAttnIdeal.nD Cert.PostAttnIdeal.τ).loc Cert.PostAttnIdeal.main_arg2)
      ∧ m' ((c.tc : Thread Cert.PostAttnReferenceIdeal.nD Cert.PostAttnReferenceIdeal.τ).loc Cert.PostAttnReferenceIdeal.main_arg3) = m ((c.tc : Thread Cert.PostAttnIdeal.nD Cert.PostAttnIdeal.τ).loc Cert.PostAttnIdeal.main_arg3)
      ∧ m' ((c.tc : Thread Cert.PostAttnReferenceIdeal.nD Cert.PostAttnReferenceIdeal.τ).loc Cert.PostAttnReferenceIdeal.main_arg4) = m ((c.tc : Thread Cert.PostAttnIdeal.nD Cert.PostAttnIdeal.τ).loc Cert.PostAttnIdeal.main_arg4)
      ∧ m' ((c.tc : Thread Cert.PostAttnReferenceIdeal.nD Cert.PostAttnReferenceIdeal.τ).loc Cert.PostAttnReferenceIdeal.main_arg5) = m ((c.tc : Thread Cert.PostAttnIdeal.nD Cert.PostAttnIdeal.τ).loc Cert.PostAttnIdeal.main_arg5)
      ∧ m' ((c.tc : Thread Cert.PostAttnReferenceIdeal.nD Cert.PostAttnReferenceIdeal.τ).loc Cert.PostAttnReferenceIdeal.main_arg6) = m ((c.tc : Thread Cert.PostAttnIdeal.nD Cert.PostAttnIdeal.τ).loc Cert.PostAttnIdeal.main_arg6)
      ∧ m' ((c.tc : Thread Cert.PostAttnReferenceIdeal.nD Cert.PostAttnReferenceIdeal.τ).loc Cert.PostAttnReferenceIdeal.main_arg7) = m ((c.tc : Thread Cert.PostAttnIdeal.nD Cert.PostAttnIdeal.τ).loc Cert.PostAttnIdeal.main_arg7)
      ∧ m' ((c.tc : Thread Cert.PostAttnReferenceIdeal.nD Cert.PostAttnReferenceIdeal.τ).loc Cert.PostAttnReferenceIdeal.main_arg8) = m ((c.tc : Thread Cert.PostAttnIdeal.nD Cert.PostAttnIdeal.τ).loc Cert.PostAttnIdeal.main_arg8)) →
    ∃ (v0 : (c : Dev Cert.PostAttnIdeal.nD) → Buf (Elt Ideal) ((c.tc : Thread Cert.PostAttnIdeal.nD Cert.PostAttnIdeal.τ).loc Cert.PostAttnIdeal.main_v19_0)) (v1 : (c : Dev Cert.PostAttnIdeal.nD) → Buf (Elt Ideal) ((c.tc : Thread Cert.PostAttnIdeal.nD Cert.PostAttnIdeal.τ).loc Cert.PostAttnIdeal.main_v19_1)) (v2 : (c : Dev Cert.PostAttnIdeal.nD) → Buf (Elt Ideal) ((c.tc : Thread Cert.PostAttnIdeal.nD Cert.PostAttnIdeal.τ).loc Cert.PostAttnIdeal.main_v19_2)),
      θ_run (Cert.PostAttnIdeal.defs (F := Ideal)) (onTc (τ := Cert.PostAttnIdeal.τ) (Cert.PostAttnIdeal.main (F := Ideal))) ⟨m, fun _ => 0, g⟩ (fun r => ∀ c : Dev Cert.PostAttnIdeal.nD,
          r.2.mem ((c.tc : Thread Cert.PostAttnIdeal.nD Cert.PostAttnIdeal.τ).loc Cert.PostAttnIdeal.main_v19_0) = v0 c
          ∧ r.2.mem ((c.tc : Thread Cert.PostAttnIdeal.nD Cert.PostAttnIdeal.τ).loc Cert.PostAttnIdeal.main_v19_1) = v1 c
          ∧ r.2.mem ((c.tc : Thread Cert.PostAttnIdeal.nD Cert.PostAttnIdeal.τ).loc Cert.PostAttnIdeal.main_v19_2) = v2 c
          ∧ r.2.mem ((c.tc : Thread Cert.PostAttnIdeal.nD Cert.PostAttnIdeal.τ).loc Cert.PostAttnIdeal.main_arg0) = m ((c.tc : Thread Cert.PostAttnIdeal.nD Cert.PostAttnIdeal.τ).loc Cert.PostAttnIdeal.main_arg0)
          ∧ r.2.mem ((c.tc : Thread Cert.PostAttnIdeal.nD Cert.PostAttnIdeal.τ).loc Cert.PostAttnIdeal.main_arg1) = m ((c.tc : Thread Cert.PostAttnIdeal.nD Cert.PostAttnIdeal.τ).loc Cert.PostAttnIdeal.main_arg1)
          ∧ r.2.mem ((c.tc : Thread Cert.PostAttnIdeal.nD Cert.PostAttnIdeal.τ).loc Cert.PostAttnIdeal.main_arg2) = m ((c.tc : Thread Cert.PostAttnIdeal.nD Cert.PostAttnIdeal.τ).loc Cert.PostAttnIdeal.main_arg2)
          ∧ r.2.mem ((c.tc : Thread Cert.PostAttnIdeal.nD Cert.PostAttnIdeal.τ).loc Cert.PostAttnIdeal.main_arg3) = m ((c.tc : Thread Cert.PostAttnIdeal.nD Cert.PostAttnIdeal.τ).loc Cert.PostAttnIdeal.main_arg3)
          ∧ r.2.mem ((c.tc : Thread Cert.PostAttnIdeal.nD Cert.PostAttnIdeal.τ).loc Cert.PostAttnIdeal.main_arg4) = m ((c.tc : Thread Cert.PostAttnIdeal.nD Cert.PostAttnIdeal.τ).loc Cert.PostAttnIdeal.main_arg4)
          ∧ r.2.mem ((c.tc : Thread Cert.PostAttnIdeal.nD Cert.PostAttnIdeal.τ).loc Cert.PostAttnIdeal.main_arg5) = m ((c.tc : Thread Cert.PostAttnIdeal.nD Cert.PostAttnIdeal.τ).loc Cert.PostAttnIdeal.main_arg5)
          ∧ r.2.mem ((c.tc : Thread Cert.PostAttnIdeal.nD Cert.PostAttnIdeal.τ).loc Cert.PostAttnIdeal.main_arg6) = m ((c.tc : Thread Cert.PostAttnIdeal.nD Cert.PostAttnIdeal.τ).loc Cert.PostAttnIdeal.main_arg6)
          ∧ r.2.mem ((c.tc : Thread Cert.PostAttnIdeal.nD Cert.PostAttnIdeal.τ).loc Cert.PostAttnIdeal.main_arg7) = m ((c.tc : Thread Cert.PostAttnIdeal.nD Cert.PostAttnIdeal.τ).loc Cert.PostAttnIdeal.main_arg7)
          ∧ r.2.mem ((c.tc : Thread Cert.PostAttnIdeal.nD Cert.PostAttnIdeal.τ).loc Cert.PostAttnIdeal.main_arg8) = m ((c.tc : Thread Cert.PostAttnIdeal.nD Cert.PostAttnIdeal.τ).loc Cert.PostAttnIdeal.main_arg8))
      ∧ θ_run (Cert.PostAttnReferenceIdeal.defs (F := Ideal)) (onTc (τ := Cert.PostAttnReferenceIdeal.τ) (Cert.PostAttnReferenceIdeal.main (F := Ideal))) ⟨m', fun _ => 0, g'⟩ (fun r => ∀ c : Dev Cert.PostAttnReferenceIdeal.nD,
          r.2.mem ((c.tc : Thread Cert.PostAttnReferenceIdeal.nD Cert.PostAttnReferenceIdeal.τ).loc Cert.PostAttnReferenceIdeal.main_v56) = v0 c
          ∧ r.2.mem ((c.tc : Thread Cert.PostAttnReferenceIdeal.nD Cert.PostAttnReferenceIdeal.τ).loc Cert.PostAttnReferenceIdeal.main_v74) = v1 c
          ∧ r.2.mem ((c.tc : Thread Cert.PostAttnReferenceIdeal.nD Cert.PostAttnReferenceIdeal.τ).loc Cert.PostAttnReferenceIdeal.main_v75) = v2 c
          ∧ r.2.mem ((c.tc : Thread Cert.PostAttnReferenceIdeal.nD Cert.PostAttnReferenceIdeal.τ).loc Cert.PostAttnReferenceIdeal.main_arg0) = m' ((c.tc : Thread Cert.PostAttnReferenceIdeal.nD Cert.PostAttnReferenceIdeal.τ).loc Cert.PostAttnReferenceIdeal.main_arg0)
          ∧ r.2.mem ((c.tc : Thread Cert.PostAttnReferenceIdeal.nD Cert.PostAttnReferenceIdeal.τ).loc Cert.PostAttnReferenceIdeal.main_arg1) = m' ((c.tc : Thread Cert.PostAttnReferenceIdeal.nD Cert.PostAttnReferenceIdeal.τ).loc Cert.PostAttnReferenceIdeal.main_arg1)
          ∧ r.2.mem ((c.tc : Thread Cert.PostAttnReferenceIdeal.nD Cert.PostAttnReferenceIdeal.τ).loc Cert.PostAttnReferenceIdeal.main_arg2) = m' ((c.tc : Thread Cert.PostAttnReferenceIdeal.nD Cert.PostAttnReferenceIdeal.τ).loc Cert.PostAttnReferenceIdeal.main_arg2)
          ∧ r.2.mem ((c.tc : Thread Cert.PostAttnReferenceIdeal.nD Cert.PostAttnReferenceIdeal.τ).loc Cert.PostAttnReferenceIdeal.main_arg3) = m' ((c.tc : Thread Cert.PostAttnReferenceIdeal.nD Cert.PostAttnReferenceIdeal.τ).loc Cert.PostAttnReferenceIdeal.main_arg3)
          ∧ r.2.mem ((c.tc : Thread Cert.PostAttnReferenceIdeal.nD Cert.PostAttnReferenceIdeal.τ).loc Cert.PostAttnReferenceIdeal.main_arg4) = m' ((c.tc : Thread Cert.PostAttnReferenceIdeal.nD Cert.PostAttnReferenceIdeal.τ).loc Cert.PostAttnReferenceIdeal.main_arg4)
          ∧ r.2.mem ((c.tc : Thread Cert.PostAttnReferenceIdeal.nD Cert.PostAttnReferenceIdeal.τ).loc Cert.PostAttnReferenceIdeal.main_arg5) = m' ((c.tc : Thread Cert.PostAttnReferenceIdeal.nD Cert.PostAttnReferenceIdeal.τ).loc Cert.PostAttnReferenceIdeal.main_arg5)
          ∧ r.2.mem ((c.tc : Thread Cert.PostAttnReferenceIdeal.nD Cert.PostAttnReferenceIdeal.τ).loc Cert.PostAttnReferenceIdeal.main_arg6) = m' ((c.tc : Thread Cert.PostAttnReferenceIdeal.nD Cert.PostAttnReferenceIdeal.τ).loc Cert.PostAttnReferenceIdeal.main_arg6)
          ∧ r.2.mem ((c.tc : Thread Cert.PostAttnReferenceIdeal.nD Cert.PostAttnReferenceIdeal.τ).loc Cert.PostAttnReferenceIdeal.main_arg7) = m' ((c.tc : Thread Cert.PostAttnReferenceIdeal.nD Cert.PostAttnReferenceIdeal.τ).loc Cert.PostAttnReferenceIdeal.main_arg7)
          ∧ r.2.mem ((c.tc : Thread Cert.PostAttnReferenceIdeal.nD Cert.PostAttnReferenceIdeal.τ).loc Cert.PostAttnReferenceIdeal.main_arg8) = m' ((c.tc : Thread Cert.PostAttnReferenceIdeal.nD Cert.PostAttnReferenceIdeal.τ).loc Cert.PostAttnReferenceIdeal.main_arg8))

def preserves_PostSample_PostSampleIdeal : Prop :=
  True

def algebraic_PostSampleIdeal_PostSampleReferenceIdeal_pre_samples_finite [hPostSampleIdeal : Cert.PostSampleIdeal.Facts] [hPostSampleReferenceIdeal : Cert.PostSampleReferenceIdeal.Facts] [hPre_samples_finite : Cert.Pre_samples_finite.Facts] : Prop :=
  ∀ (m : (ℓ : Loc Cert.PostSampleIdeal.nD Cert.PostSampleIdeal.τ Cert.PostSampleIdeal.sig) → Buf (Elt Ideal) ℓ) (g : Dev Cert.PostSampleIdeal.nD → PrngReg)
    (m' : (ℓ : Loc Cert.PostSampleReferenceIdeal.nD Cert.PostSampleReferenceIdeal.τ Cert.PostSampleReferenceIdeal.sig) → Buf (Elt Ideal) ℓ) (g' : Dev Cert.PostSampleReferenceIdeal.nD → PrngReg), Pre_PostSampleIdeal_samples_finite m →
    (∀ c : Dev Cert.PostSampleIdeal.nD,
      m' ((c.tc : Thread Cert.PostSampleReferenceIdeal.nD Cert.PostSampleReferenceIdeal.τ).loc Cert.PostSampleReferenceIdeal.main_arg0) = m ((c.tc : Thread Cert.PostSampleIdeal.nD Cert.PostSampleIdeal.τ).loc Cert.PostSampleIdeal.main_arg0)
      ∧ m' ((c.tc : Thread Cert.PostSampleReferenceIdeal.nD Cert.PostSampleReferenceIdeal.τ).loc Cert.PostSampleReferenceIdeal.main_arg1) = m ((c.tc : Thread Cert.PostSampleIdeal.nD Cert.PostSampleIdeal.τ).loc Cert.PostSampleIdeal.main_arg1)
      ∧ m' ((c.tc : Thread Cert.PostSampleReferenceIdeal.nD Cert.PostSampleReferenceIdeal.τ).loc Cert.PostSampleReferenceIdeal.main_arg2) = m ((c.tc : Thread Cert.PostSampleIdeal.nD Cert.PostSampleIdeal.τ).loc Cert.PostSampleIdeal.main_arg2)
      ∧ m' ((c.tc : Thread Cert.PostSampleReferenceIdeal.nD Cert.PostSampleReferenceIdeal.τ).loc Cert.PostSampleReferenceIdeal.main_arg3) = m ((c.tc : Thread Cert.PostSampleIdeal.nD Cert.PostSampleIdeal.τ).loc Cert.PostSampleIdeal.main_arg3)
      ∧ m' ((c.tc : Thread Cert.PostSampleReferenceIdeal.nD Cert.PostSampleReferenceIdeal.τ).loc Cert.PostSampleReferenceIdeal.main_arg4) = m ((c.tc : Thread Cert.PostSampleIdeal.nD Cert.PostSampleIdeal.τ).loc Cert.PostSampleIdeal.main_arg4)
      ∧ m' ((c.tc : Thread Cert.PostSampleReferenceIdeal.nD Cert.PostSampleReferenceIdeal.τ).loc Cert.PostSampleReferenceIdeal.main_arg5) = m ((c.tc : Thread Cert.PostSampleIdeal.nD Cert.PostSampleIdeal.τ).loc Cert.PostSampleIdeal.main_arg5)
      ∧ m' ((c.tc : Thread Cert.PostSampleReferenceIdeal.nD Cert.PostSampleReferenceIdeal.τ).loc Cert.PostSampleReferenceIdeal.main_arg6) = m ((c.tc : Thread Cert.PostSampleIdeal.nD Cert.PostSampleIdeal.τ).loc Cert.PostSampleIdeal.main_arg6)
      ∧ m' ((c.tc : Thread Cert.PostSampleReferenceIdeal.nD Cert.PostSampleReferenceIdeal.τ).loc Cert.PostSampleReferenceIdeal.main_arg7) = m ((c.tc : Thread Cert.PostSampleIdeal.nD Cert.PostSampleIdeal.τ).loc Cert.PostSampleIdeal.main_arg7)
      ∧ m' ((c.tc : Thread Cert.PostSampleReferenceIdeal.nD Cert.PostSampleReferenceIdeal.τ).loc Cert.PostSampleReferenceIdeal.main_arg8) = m ((c.tc : Thread Cert.PostSampleIdeal.nD Cert.PostSampleIdeal.τ).loc Cert.PostSampleIdeal.main_arg8)) →
    ∃ (v0 : (c : Dev Cert.PostSampleIdeal.nD) → Buf (Elt Ideal) ((c.tc : Thread Cert.PostSampleIdeal.nD Cert.PostSampleIdeal.τ).loc Cert.PostSampleIdeal.main_v19_0)) (v1 : (c : Dev Cert.PostSampleIdeal.nD) → Buf (Elt Ideal) ((c.tc : Thread Cert.PostSampleIdeal.nD Cert.PostSampleIdeal.τ).loc Cert.PostSampleIdeal.main_v19_1)) (v2 : (c : Dev Cert.PostSampleIdeal.nD) → Buf (Elt Ideal) ((c.tc : Thread Cert.PostSampleIdeal.nD Cert.PostSampleIdeal.τ).loc Cert.PostSampleIdeal.main_v19_2)),
      θ_run (Cert.PostSampleIdeal.defs (F := Ideal)) (onTc (τ := Cert.PostSampleIdeal.τ) (Cert.PostSampleIdeal.main (F := Ideal))) ⟨m, fun _ => 0, g⟩ (fun r => ∀ c : Dev Cert.PostSampleIdeal.nD,
          r.2.mem ((c.tc : Thread Cert.PostSampleIdeal.nD Cert.PostSampleIdeal.τ).loc Cert.PostSampleIdeal.main_v19_0) = v0 c
          ∧ r.2.mem ((c.tc : Thread Cert.PostSampleIdeal.nD Cert.PostSampleIdeal.τ).loc Cert.PostSampleIdeal.main_v19_1) = v1 c
          ∧ r.2.mem ((c.tc : Thread Cert.PostSampleIdeal.nD Cert.PostSampleIdeal.τ).loc Cert.PostSampleIdeal.main_v19_2) = v2 c
          ∧ r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
          ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
          ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
          ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
          ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
          ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
          ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
          ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
          ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8))
      ∧ θ_run (Cert.PostSampleReferenceIdeal.defs (F := Ideal)) (onTc (τ := Cert.PostSampleReferenceIdeal.τ) (Cert.PostSampleReferenceIdeal.main (F := Ideal))) ⟨m', fun _ => 0, g'⟩ (fun r => ∀ c : Dev Cert.PostSampleReferenceIdeal.nD,
          r.2.mem ((c.tc : Thread Cert.PostSampleReferenceIdeal.nD Cert.PostSampleReferenceIdeal.τ).loc Cert.PostSampleReferenceIdeal.main_v56) = v0 c
          ∧ r.2.mem ((c.tc : Thread Cert.PostSampleReferenceIdeal.nD Cert.PostSampleReferenceIdeal.τ).loc Cert.PostSampleReferenceIdeal.main_v74) = v1 c
          ∧ r.2.mem ((c.tc : Thread Cert.PostSampleReferenceIdeal.nD Cert.PostSampleReferenceIdeal.τ).loc Cert.PostSampleReferenceIdeal.main_v75) = v2 c
          ∧ r.2.mem ((c.tc : Thread Cert.PostSampleReferenceIdeal.nD Cert.PostSampleReferenceIdeal.τ).loc Cert.PostSampleReferenceIdeal.main_arg0) = m' ((c.tc : Thread Cert.PostSampleReferenceIdeal.nD Cert.PostSampleReferenceIdeal.τ).loc Cert.PostSampleReferenceIdeal.main_arg0)
          ∧ r.2.mem ((c.tc : Thread Cert.PostSampleReferenceIdeal.nD Cert.PostSampleReferenceIdeal.τ).loc Cert.PostSampleReferenceIdeal.main_arg1) = m' ((c.tc : Thread Cert.PostSampleReferenceIdeal.nD Cert.PostSampleReferenceIdeal.τ).loc Cert.PostSampleReferenceIdeal.main_arg1)
          ∧ r.2.mem ((c.tc : Thread Cert.PostSampleReferenceIdeal.nD Cert.PostSampleReferenceIdeal.τ).loc Cert.PostSampleReferenceIdeal.main_arg2) = m' ((c.tc : Thread Cert.PostSampleReferenceIdeal.nD Cert.PostSampleReferenceIdeal.τ).loc Cert.PostSampleReferenceIdeal.main_arg2)
          ∧ r.2.mem ((c.tc : Thread Cert.PostSampleReferenceIdeal.nD Cert.PostSampleReferenceIdeal.τ).loc Cert.PostSampleReferenceIdeal.main_arg3) = m' ((c.tc : Thread Cert.PostSampleReferenceIdeal.nD Cert.PostSampleReferenceIdeal.τ).loc Cert.PostSampleReferenceIdeal.main_arg3)
          ∧ r.2.mem ((c.tc : Thread Cert.PostSampleReferenceIdeal.nD Cert.PostSampleReferenceIdeal.τ).loc Cert.PostSampleReferenceIdeal.main_arg4) = m' ((c.tc : Thread Cert.PostSampleReferenceIdeal.nD Cert.PostSampleReferenceIdeal.τ).loc Cert.PostSampleReferenceIdeal.main_arg4)
          ∧ r.2.mem ((c.tc : Thread Cert.PostSampleReferenceIdeal.nD Cert.PostSampleReferenceIdeal.τ).loc Cert.PostSampleReferenceIdeal.main_arg5) = m' ((c.tc : Thread Cert.PostSampleReferenceIdeal.nD Cert.PostSampleReferenceIdeal.τ).loc Cert.PostSampleReferenceIdeal.main_arg5)
          ∧ r.2.mem ((c.tc : Thread Cert.PostSampleReferenceIdeal.nD Cert.PostSampleReferenceIdeal.τ).loc Cert.PostSampleReferenceIdeal.main_arg6) = m' ((c.tc : Thread Cert.PostSampleReferenceIdeal.nD Cert.PostSampleReferenceIdeal.τ).loc Cert.PostSampleReferenceIdeal.main_arg6)
          ∧ r.2.mem ((c.tc : Thread Cert.PostSampleReferenceIdeal.nD Cert.PostSampleReferenceIdeal.τ).loc Cert.PostSampleReferenceIdeal.main_arg7) = m' ((c.tc : Thread Cert.PostSampleReferenceIdeal.nD Cert.PostSampleReferenceIdeal.τ).loc Cert.PostSampleReferenceIdeal.main_arg7)
          ∧ r.2.mem ((c.tc : Thread Cert.PostSampleReferenceIdeal.nD Cert.PostSampleReferenceIdeal.τ).loc Cert.PostSampleReferenceIdeal.main_arg8) = m' ((c.tc : Thread Cert.PostSampleReferenceIdeal.nD Cert.PostSampleReferenceIdeal.τ).loc Cert.PostSampleReferenceIdeal.main_arg8))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hSample : Cert.Sample.Facts) (hSampleIdeal : Cert.SampleIdeal.Facts) (hSampleReferenceIdeal : Cert.SampleReferenceIdeal.Facts) (hPostAttn : Cert.PostAttn.Facts) (hPostAttnIdeal : Cert.PostAttnIdeal.Facts) (hPostAttnReferenceIdeal : Cert.PostAttnReferenceIdeal.Facts) (hPostSample : Cert.PostSample.Facts) (hPostSampleIdeal : Cert.PostSampleIdeal.Facts) (hPostSampleReferenceIdeal : Cert.PostSampleReferenceIdeal.Facts) (hPre_experts_in_range : Cert.Pre_experts_in_range.Facts) (hPre_all_finite : Cert.Pre_all_finite.Facts) (hPre_samples_finite : Cert.Pre_samples_finite.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal) (hPre_experts_in_range := hPre_experts_in_range)
    ∧ quiescent_InProj (hInProj := hInProj)
    ∧ quiescent_InProjIdeal (hInProjIdeal := hInProjIdeal)
    ∧ quiescent_InProjReferenceIdeal (hInProjReferenceIdeal := hInProjReferenceIdeal)
    ∧ quiescent_Sample (hSample := hSample)
    ∧ quiescent_SampleIdeal (hSampleIdeal := hSampleIdeal)
    ∧ quiescent_SampleReferenceIdeal (hSampleReferenceIdeal := hSampleReferenceIdeal)
    ∧ quiescent_PostAttn (hPostAttn := hPostAttn)
    ∧ quiescent_PostAttnIdeal (hPostAttnIdeal := hPostAttnIdeal)
    ∧ quiescent_PostAttnIdeal_pre_all_finite (hPostAttnIdeal := hPostAttnIdeal) (hPre_all_finite := hPre_all_finite)
    ∧ quiescent_PostAttnReferenceIdeal (hPostAttnReferenceIdeal := hPostAttnReferenceIdeal)
    ∧ quiescent_PostAttnReferenceIdeal_pre_all_finite (hPostAttnReferenceIdeal := hPostAttnReferenceIdeal) (hPre_all_finite := hPre_all_finite)
    ∧ quiescent_PostSample (hPostSample := hPostSample)
    ∧ quiescent_PostSampleIdeal (hPostSampleIdeal := hPostSampleIdeal)
    ∧ quiescent_PostSampleIdeal_pre_samples_finite (hPostSampleIdeal := hPostSampleIdeal) (hPre_samples_finite := hPre_samples_finite)
    ∧ quiescent_PostSampleReferenceIdeal (hPostSampleReferenceIdeal := hPostSampleReferenceIdeal)
    ∧ quiescent_PostSampleReferenceIdeal_pre_samples_finite (hPostSampleReferenceIdeal := hPostSampleReferenceIdeal) (hPre_samples_finite := hPre_samples_finite)
    ∧ preserves_Kernel_KernelIdeal
    ∧ algebraic_KernelIdeal_ReferenceIdeal (hKernelIdeal := hKernelIdeal) (hReferenceIdeal := hReferenceIdeal) (hPre_experts_in_range := hPre_experts_in_range)
    ∧ preserves_InProj_InProjIdeal
    ∧ algebraic_InProjIdeal_InProjReferenceIdeal (hInProjIdeal := hInProjIdeal) (hInProjReferenceIdeal := hInProjReferenceIdeal)
    ∧ preserves_Sample_SampleIdeal
    ∧ algebraic_SampleIdeal_SampleReferenceIdeal (hSampleIdeal := hSampleIdeal) (hSampleReferenceIdeal := hSampleReferenceIdeal)
    ∧ preserves_PostAttn_PostAttnIdeal
    ∧ algebraic_PostAttnIdeal_PostAttnReferenceIdeal_pre_all_finite (hPostAttnIdeal := hPostAttnIdeal) (hPostAttnReferenceIdeal := hPostAttnReferenceIdeal) (hPre_all_finite := hPre_all_finite)
    ∧ preserves_PostSample_PostSampleIdeal
    ∧ algebraic_PostSampleIdeal_PostSampleReferenceIdeal_pre_samples_finite (hPostSampleIdeal := hPostSampleIdeal) (hPostSampleReferenceIdeal := hPostSampleReferenceIdeal) (hPre_samples_finite := hPre_samples_finite)
-- ==== Pre_all_finite.lean ====
abbrev S16x2048x1024 : Shape := ⟨3, ![16, 2048, 1024]⟩
abbrev S1024 : Shape := ⟨1, ![1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S_ : Shape := ⟨0, ![]⟩

class Facts : Prop where
  bitsLt_bf16_f32 : FTy.bits .bf16 < FTy.bits .f32
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x32 : S_.BroadcastsInDim S1x1024x32 (![] : Fin 0 → Fin S1x1024x32.rank)
  reducesTo_S1x1024x32_S_d0_1_2 : S1x1024x32.ReducesTo [0, 1, 2] S_
  bcast_S_S1x32 : S_.BroadcastsInDim S1x32 (![] : Fin 0 → Fin S1x32.rank)
  reducesTo_S1x32_S_d0_1 : S1x32.ReducesTo [0, 1] S_

variable [Facts]

def fn_part2 {F : FTy → Type} [FloatOps F] (main_arg7 : FVec F S1x1024x32 .f32) (main_arg8 : FVec F S1x32 .f32) (main_v29 : IVec S_ 1) (main_v33 : IVec S_ 1) : IVec S_ 1 :=
  let main_v34 : IVec S_ 1 := andi main_v29 main_v33
  let main_v35 : FVec F S1x1024x32 .f32 := Host.absf main_arg7
  let main_cst_12 : FVec F S_ .f32 := constant S_ .f32 0x7F800000#32
  let main_v36 : FVec F S1x1024x32 .f32 := broadcastInDim S1x1024x32 ![] bcast_S_S1x1024x32 main_cst_12
  let main_v37 : IVec S1x1024x32 1 := cmpf .olt main_v35 main_v36
  let main_c_13 : IVec S_ 1 := constantI S_ 1 1#1
  let main_v38 : IVec S_ 1 := (fun x v => Host.reduce IntOp.andi x v reducesTo_S1x1024x32_S_d0_1_2 h_S_) main_v37 main_c_13
  let main_v39 : IVec S_ 1 := andi main_v34 main_v38
  let main_v40 : FVec F S1x32 .f32 := Host.absf main_arg8
  let main_cst_14 : FVec F S_ .f32 := constant S_ .f32 0x7F800000#32
  let main_v41 : FVec F S1x32 .f32 := broadcastInDim S1x32 ![] bcast_S_S1x32 main_cst_14
  let main_v42 : IVec S1x32 1 := cmpf .olt main_v40 main_v41
  let main_c_15 : IVec S_ 1 := constantI S_ 1 1#1
  let main_v43 : IVec S_ 1 := (fun x v => Host.reduce IntOp.andi x v reducesTo_S1x32_S_d0_1 h_S_) main_v42 main_c_15
  let main_v44 : IVec S_ 1 := andi main_v39 main_v43
  main_v44

def fn_part1 {F : FTy → Type} [FloatOps F] (main_arg4 : FVec F S1x1024x1024 .f32) (main_arg5 : FVec F S1x1024 .f32) (main_arg6 : FVec F S1x1024 .f32) (main_arg7 : FVec F S1x1024x32 .f32) (main_arg8 : FVec F S1x32 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S1x1024x1024 .f32 := Host.absf main_arg4
  let main_cst_6 : FVec F S_ .f32 := constant S_ .f32 0x7F800000#32
  let main_v21 : FVec F S1x1024x1024 .f32 := broadcastInDim S1x1024x1024 ![] bcast_S_S1x1024x1024 main_cst_6
  let main_v22 : IVec S1x1024x1024 1 := cmpf .olt main_v20 main_v21
  let main_c_7 : IVec S_ 1 := constantI S_ 1 1#1
  let main_v23 : IVec S_ 1 := (fun x v => Host.reduce IntOp.andi x v reducesTo_S1x1024x1024_S_d0_1_2 h_S_) main_v22 main_c_7
  let main_v24 : IVec S_ 1 := andi main_v19 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  let main_v30 : FVec F S1x1024 .f32 := Host.absf main_arg6
  let main_cst_10 : FVec F S_ .f32 := constant S_ .f32 0x7F800000#32
  let main_v31 : FVec F S1x1024 .f32 := broadcastInDim S1x1024 ![] bcast_S_S1x1024 main_cst_10
  let main_v32 : IVec S1x1024 1 := cmpf .olt main_v30 main_v31
  let main_c_11 : IVec S_ 1 := constantI S_ 1 1#1
  let main_v33 : IVec S_ 1 := (fun x v => Host.reduce IntOp.andi x v reducesTo_S1x1024_S_d0_1 h_S_) main_v32 main_c_11
  fn_part2 (F := F) main_arg7 main_arg8 main_v29 main_v33

def fn {F : FTy → Type} [FloatOps F] (main_arg0 : FVec F S16x2048x1024 .bf16) (main_arg1 : FVec F S16x2048x1024 .f32) (main_arg2 : FVec F S1024 .f32) (main_arg3 : FVec F S1024 .f32) (main_arg4 : FVec F S1x1024x1024 .f32) (main_arg5 : FVec F S1x1024 .f32) (main_arg6 : FVec F S1x1024 .f32) (main_arg7 : FVec F S1x1024x32 .f32) (main_arg8 : FVec F S1x32 .f32) : IVec S_ 1 :=
  let main_v0 : FVec F S16x2048x1024 .f32 := (extf .f32 · bitsLt_bf16_f32) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_c : IVec S_ 1 := constantI S_ 1 1#1
  let main_v4 : IVec S_ 1 := (fun x v => Host.reduce IntOp.andi x v reducesTo_S16x2048x1024_S_d0_1_2 h_S_) main_v3 main_c
  let main_v5 : FVec F S16x2048x1024 .f32 := Host.absf main_arg1
  let main_cst_0 : FVec F S_ .f32 := constant S_ .f32 0x7F800000#32
  let main_v6 : FVec F S16x2048x1024 .f32 := broadcastInDim S16x2048x1024 ![] bcast_S_S16x2048x1024 main_cst_0
  let main_v7 : IVec S16x2048x1024 1 := cmpf .olt main_v5 main_v6
  let main_c_1 : IVec S_ 1 := constantI S_ 1 1#1
  let main_v8 : IVec S_ 1 := (fun x v => Host.reduce IntOp.andi x v reducesTo_S16x2048x1024_S_d0_1_2 h_S_) main_v7 main_c_1
  let main_v9 : IVec S_ 1 := andi main_v4 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_arg4 main_arg5 main_arg6 main_arg7 main_arg8 main_v14 main_v15 main_v16
-- ==== Pre_experts_in_range.lean ====
abbrev S289 : Shape := ⟨1, ![289]⟩
abbrev S147968x1024 : Shape := ⟨2, ![147968, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S289 : S_.BroadcastsInDim S289 (![] : Fin 0 → Fin S289.rank)
  reducesTo_S289_S_d0 : S289.ReducesTo [0] S_
  h_S_ : 0 < S_.numel

variable [Facts]

def fn {F : FTy → Type} [FloatOps F] (main_arg0 : IVec S289 32) (main_arg1 : FVec F S147968x1024 .f32) (main_arg2 : FVec F S1x32x1024x2048 .f32) (main_arg3 : FVec F S1x32x2048 .f32) (main_arg4 : FVec F S1x32x1024x1024 .f32) (main_arg5 : FVec F S1x32x1024 .f32) : IVec S_ 1 :=
  let main_c : IVec S_ 32 := constantI S_ 32 0#32
  let main_v0 : IVec S289 32 := broadcastInDim S289 ![] bcast_S_S289 main_c
  let main_v1 : IVec S289 1 := cmpi .sge main_arg0 main_v0
  let main_c_0 : IVec S_ 32 := constantI S_ 32 32#32
  let main_v2 : IVec S289 32 := broadcastInDim S289 ![] bcast_S_S289 main_c_0
  let main_v3 : IVec S289 1 := cmpi .slt main_arg0 main_v2
  let main_v4 : IVec S289 1 := andi main_v1 main_v3
  let main_c_1 : IVec S_ 1 := constantI S_ 1 1#1
  let main_v5 : IVec S_ 1 := (fun x v => Host.reduce IntOp.andi x v reducesTo_S289_S_d0 h_S_) main_v4 main_c_1
  main_v5
-- ==== Pre_samples_finite.lean ====
abbrev S32x4x1024 : Shape := ⟨3, ![32, 4, 1024]⟩
abbrev S1024 : Shape := ⟨1, ![1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S_ : Shape := ⟨0, ![]⟩

class Facts : Prop where
  bitsLt_bf16_f32 : FTy.bits .bf16 < FTy.bits .f32
  bcast_S_S32x4x1024 : S_.BroadcastsInDim S32x4x1024 (![] : Fin 0 → Fin S32x4x1024.rank)
  reducesTo_S32x4x1024_S_d0_1_2 : S32x4x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x32 : S_.BroadcastsInDim S1x1024x32 (![] : Fin 0 → Fin S1x1024x32.rank)
  reducesTo_S1x1024x32_S_d0_1_2 : S1x1024x32.ReducesTo [0, 1, 2] S_
  bcast_S_S1x32 : S_.BroadcastsInDim S1x32 (![] : Fin 0 → Fin S1x32.rank)
  reducesTo_S1x32_S_d0_1 : S1x32.ReducesTo [0, 1] S_

variable [Facts]

def fn_part2 {F : FTy → Type} [FloatOps F] (main_arg7 : FVec F S1x1024x32 .f32) (main_arg8 : FVec F S1x32 .f32) (main_v29 : IVec S_ 1) (main_v33 : IVec S_ 1) : IVec S_ 1 :=
  let main_v34 : IVec S_ 1 := andi main_v29 main_v33
  let main_v35 : FVec F S1x1024x32 .f32 := Host.absf main_arg7
  let main_cst_12 : FVec F S_ .f32 := constant S_ .f32 0x7F800000#32
  let main_v36 : FVec F S1x1024x32 .f32 := broadcastInDim S1x1024x32 ![] bcast_S_S1x1024x32 main_cst_12
  let main_v37 : IVec S1x1024x32 1 := cmpf .olt main_v35 main_v36
  let main_c_13 : IVec S_ 1 := constantI S_ 1 1#1
  let main_v38 : IVec S_ 1 := (fun x v => Host.reduce IntOp.andi x v reducesTo_S1x1024x32_S_d0_1_2 h_S_) main_v37 main_c_13
  let main_v39 : IVec S_ 1 := andi main_v34 main_v38
  let main_v40 : FVec F S1x32 .f32 := Host.absf main_arg8
  let main_cst_14 : FVec F S_ .f32 := constant S_ .f32 0x7F800000#32
  let main_v41 : FVec F S1x32 .f32 := broadcastInDim S1x32 ![] bcast_S_S1x32 main_cst_14
  let main_v42 : IVec S1x32 1 := cmpf .olt main_v40 main_v41
  let main_c_15 : IVec S_ 1 := constantI S_ 1 1#1
  let main_v43 : IVec S_ 1 := (fun x v => Host.reduce IntOp.andi x v reducesTo_S1x32_S_d0_1 h_S_) main_v42 main_c_15
  let main_v44 : IVec S_ 1 := andi main_v39 main_v43
  main_v44

def fn_part1 {F : FTy → Type} [FloatOps F] (main_arg4 : FVec F S1x1024x1024 .f32) (main_arg5 : FVec F S1x1024 .f32) (main_arg6 : FVec F S1x1024 .f32) (main_arg7 : FVec F S1x1024x32 .f32) (main_arg8 : FVec F S1x32 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S1x1024x1024 .f32 := Host.absf main_arg4
  let main_cst_6 : FVec F S_ .f32 := constant S_ .f32 0x7F800000#32
  let main_v21 : FVec F S1x1024x1024 .f32 := broadcastInDim S1x1024x1024 ![] bcast_S_S1x1024x1024 main_cst_6
  let main_v22 : IVec S1x1024x1024 1 := cmpf .olt main_v20 main_v21
  let main_c_7 : IVec S_ 1 := constantI S_ 1 1#1
  let main_v23 : IVec S_ 1 := (fun x v => Host.reduce IntOp.andi x v reducesTo_S1x1024x1024_S_d0_1_2 h_S_) main_v22 main_c_7
  let main_v24 : IVec S_ 1 := andi main_v19 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  let main_v30 : FVec F S1x1024 .f32 := Host.absf main_arg6
  let main_cst_10 : FVec F S_ .f32 := constant S_ .f32 0x7F800000#32
  let main_v31 : FVec F S1x1024 .f32 := broadcastInDim S1x1024 ![] bcast_S_S1x1024 main_cst_10
  let main_v32 : IVec S1x1024 1 := cmpf .olt main_v30 main_v31
  let main_c_11 : IVec S_ 1 := constantI S_ 1 1#1
  let main_v33 : IVec S_ 1 := (fun x v => Host.reduce IntOp.andi x v reducesTo_S1x1024_S_d0_1 h_S_) main_v32 main_c_11
  fn_part2 (F := F) main_arg7 main_arg8 main_v29 main_v33

def fn {F : FTy → Type} [FloatOps F] (main_arg0 : FVec F S32x4x1024 .bf16) (main_arg1 : FVec F S32x4x1024 .f32) (main_arg2 : FVec F S1024 .f32) (main_arg3 : FVec F S1024 .f32) (main_arg4 : FVec F S1x1024x1024 .f32) (main_arg5 : FVec F S1x1024 .f32) (main_arg6 : FVec F S1x1024 .f32) (main_arg7 : FVec F S1x1024x32 .f32) (main_arg8 : FVec F S1x32 .f32) : IVec S_ 1 :=
  let main_v0 : FVec F S32x4x1024 .f32 := (extf .f32 · bitsLt_bf16_f32) main_arg0
  let main_v1 : FVec F S32x4x1024 .f32 := Host.absf main_v0
  let main_cst : FVec F S_ .f32 := constant S_ .f32 0x7F800000#32
  let main_v2 : FVec F S32x4x1024 .f32 := broadcastInDim S32x4x1024 ![] bcast_S_S32x4x1024 main_cst
  let main_v3 : IVec S32x4x1024 1 := cmpf .olt main_v1 main_v2
  let main_c : IVec S_ 1 := constantI S_ 1 1#1
  let main_v4 : IVec S_ 1 := (fun x v => Host.reduce IntOp.andi x v reducesTo_S32x4x1024_S_d0_1_2 h_S_) main_v3 main_c
  let main_v5 : FVec F S32x4x1024 .f32 := Host.absf main_arg1
  let main_cst_0 : FVec F S_ .f32 := constant S_ .f32 0x7F800000#32
  let main_v6 : FVec F S32x4x1024 .f32 := broadcastInDim S32x4x1024 ![] bcast_S_S32x4x1024 main_cst_0
  let main_v7 : IVec S32x4x1024 1 := cmpf .olt main_v5 main_v6
  let main_c_1 : IVec S_ 1 := constantI S_ 1 1#1
  let main_v8 : IVec S_ 1 := (fun x v => Host.reduce IntOp.andi x v reducesTo_S32x4x1024_S_d0_1_2 h_S_) main_v7 main_c_1
  let main_v9 : IVec S_ 1 := andi main_v4 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_arg4 main_arg5 main_arg6 main_arg7 main_arg8 main_v14 main_v15 main_v16
-- ==== Kernel.lean ====
abbrev S289 : Shape := ⟨1, ![289]⟩
abbrev S147968x1024 : Shape := ⟨2, ![147968, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 12
  | .vmem => 14
  | .smem => 1
  | _ => 0

abbrev bufTy : (tb : Table) → Fin (tcTables nBuf tb) → BufTy
  | .hbm, ⟨0, _⟩ => ⟨S147968x1024, .f32⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S32x1024x2048, .f32⟩
  | .hbm, ⟨6, _⟩ => ⟨S32x2048, .f32⟩
  | .hbm, ⟨7, _⟩ => ⟨S32x1x2048, .f32⟩
  | .hbm, ⟨8, _⟩ => ⟨S32x1024x1024, .f32⟩
  | .hbm, ⟨9, _⟩ => ⟨S32x1024, .f32⟩
  | .hbm, ⟨10, _⟩ => ⟨S32x1x1024, .f32⟩
  | .hbm, ⟨11, _⟩ => ⟨S147968x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S289, .i32⟩
  | _, _ => ⟨S147968x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![289], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S289 : Shape := ⟨1, ![289]⟩
abbrev S147968x1024 : Shape := ⟨2, ![147968, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S289x512x1024 : Shape := ⟨3, ![289, 512, 1024]⟩
abbrev S32x1024x2048 : Shape := ⟨3, ![32, 1024, 2048]⟩
abbrev S_ : Shape := ⟨0, ![]⟩
abbrev S289x1 : Shape := ⟨2, ![289, 1]⟩
abbrev S289x1024x2048 : Shape := ⟨3, ![289, 1024, 2048]⟩
abbrev S32x2048 : Shape := ⟨2, ![32, 2048]⟩
abbrev S289x2048 : Shape := ⟨2, ![289, 2048]⟩
abbrev S32x1024x1024 : Shape := ⟨3, ![32, 1024, 1024]⟩
abbrev S289x1024x1024 : Shape := ⟨3, ![289, 1024, 1024]⟩
abbrev S32x1024 : Shape := ⟨2, ![32, 1024]⟩
abbrev S289x1024 : Shape := ⟨2, ![289, 1024]⟩
abbrev S289x512x2048 : Shape := ⟨3, ![289, 512, 2048]⟩
abbrev S289x1x2048 : Shape := ⟨3, ![289, 1, 2048]⟩
abbrev S289x1x1024 : Shape := ⟨3, ![289, 1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S289, .i32⟩
  | .hbm, ⟨1, _⟩ => ⟨S147968x1024, .f32⟩
  | .hbm, ⟨2, _⟩ => ⟨S1x32x1024x2048, .f32⟩
  | .hbm, ⟨3, _⟩ => ⟨S1x32x2048, .f32⟩
  | .hbm, ⟨4, _⟩ => ⟨S1x32x1024x1024, .f32⟩
  | .hbm, ⟨5, _⟩ => ⟨S1x32x1024, .f32⟩
  | .hbm, ⟨6, _⟩ => ⟨S289x512x1024, .f32⟩
  | .hbm, ⟨7, _⟩ => ⟨S32x1024x2048, .f32⟩
  | .hbm, ⟨8, _⟩ => ⟨S_, .i32⟩
  | .hbm, ⟨9, _⟩ => ⟨S289, .i32⟩
  | .hbm, ⟨10, _⟩ => ⟨S289, .i1⟩
  | .hbm, ⟨11, _⟩ => ⟨S_, .i32⟩
  | .hbm, ⟨12, _⟩ => ⟨S289, .i32⟩
  | .hbm, ⟨13, _⟩ => ⟨S289, .i32⟩
  | .hbm, ⟨14, _⟩ => ⟨S289, .i32⟩
  | .hbm, ⟨15, _⟩ => ⟨S289x1, .i32⟩
  | .hbm, ⟨16, _⟩ => ⟨S289x1024x2048, .f32⟩
  | .hbm, ⟨17, _⟩ => ⟨S32x2048, .f32⟩
  | .hbm, ⟨18, _⟩ => ⟨S_, .i32⟩
  | .hbm, ⟨19, _⟩ => ⟨S289, .i32⟩
  | .hbm, ⟨20, _⟩ => ⟨S289, .i1⟩
  | .hbm, ⟨21, _⟩ => ⟨S_, .i32⟩
  | .hbm, ⟨22, _⟩ => ⟨S289, .i32⟩
  | .hbm, ⟨23, _⟩ => ⟨S289, .i32⟩
  | .hbm, ⟨24, _⟩ => ⟨S289, .i32⟩
  | .hbm, ⟨25, _⟩ => ⟨S289x1, .i32⟩
  | .hbm, ⟨26, _⟩ => ⟨S289x2048, .f32⟩
  | .hbm, ⟨27, _⟩ => ⟨S32x1024x1024, .f32⟩
  | .hbm, ⟨28, _⟩ => ⟨S_, .i32⟩
  | .hbm, ⟨29, _⟩ => ⟨S289, .i32⟩
  | .hbm, ⟨30, _⟩ => ⟨S289, .i1⟩
  | .hbm, ⟨31, _⟩ => ⟨S_, .i32⟩
  | .hbm, ⟨32, _⟩ => ⟨S289, .i32⟩
  | .hbm, ⟨33, _⟩ => ⟨S289, .i32⟩
  | .hbm, ⟨34, _⟩ => ⟨S289, .i32⟩
  | .hbm, ⟨35, _⟩ => ⟨S289x1, .i32⟩
  | .hbm, ⟨36, _⟩ => ⟨S289x1024x1024, .f32⟩
  | .hbm, ⟨37, _⟩ => ⟨S32x1024, .f32⟩
  | .hbm, ⟨38, _⟩ => ⟨S_, .i32⟩
  | .hbm, ⟨39, _⟩ => ⟨S289, .i32⟩
  | .hbm, ⟨40, _⟩ => ⟨S289, .i1⟩
  | .hbm, ⟨41, _⟩ => ⟨S_, .i32⟩
  | .hbm, ⟨42, _⟩ => ⟨S289, .i32⟩
  | .hbm, ⟨43, _⟩ => ⟨S289, .i32⟩
  | .hbm, ⟨44, _⟩ => ⟨S289, .i32⟩
  | .hbm, ⟨45, _⟩ => ⟨S289x1, .i32⟩
  | .hbm, ⟨46, _⟩ => ⟨S289x1024, .f32⟩
  | .hbm, ⟨47, _⟩ => ⟨S289x512x2048, .f32⟩
  | .hbm, ⟨48, _⟩ => ⟨S289x1x2048, .f32⟩
  | .hbm, ⟨49, _⟩ => ⟨S289x512x2048, .f32⟩
  | .hbm, ⟨50, _⟩ => ⟨S289x512x2048, .f32⟩
  | .hbm, ⟨51, _⟩ => ⟨S289x512x1024, .f32⟩
  | .hbm, ⟨52, _⟩ => ⟨S289x512x1024, .f32⟩
  | .hbm, ⟨53, _⟩ => ⟨S_, .f32⟩
  | .hbm, ⟨54, _⟩ => ⟨S289x512x1024, .f32⟩
  | .hbm, ⟨55, _⟩ => ⟨S289x512x1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S289x512x1024, .f32⟩
  | .hbm, ⟨60, _⟩ => ⟨S289x512x1024, .f32⟩
  | .hbm, ⟨61, _⟩ => ⟨S_, .f32⟩
  | .hbm, ⟨62, _⟩ => ⟨S289x512x1024, .f32⟩
  | .hbm, ⟨63, _⟩ => ⟨S289x512x1024, .f32⟩
  | .hbm, ⟨64, _⟩ => ⟨S_, .f32⟩
  | .hbm, ⟨65, _⟩ => ⟨S289x512x1024, .f32⟩
  | .hbm, ⟨66, _⟩ => ⟨S289x512x1024, .f32⟩
  | .hbm, ⟨67, _⟩ => ⟨S289x512x1024, .f32⟩
  | .hbm, ⟨68, _⟩ => ⟨S_, .f32⟩
  | .hbm, ⟨69, _⟩ => ⟨S289x512x1024, .f32⟩
  | .hbm, ⟨70, _⟩ => ⟨S289x512x1024, .f32⟩
  | .hbm, ⟨71, _⟩ => ⟨S289x512x1024, .f32⟩
  | .hbm, ⟨72, _⟩ => ⟨S289x512x1024, .f32⟩
  | .hbm, ⟨73, _⟩ => ⟨S_, .f32⟩
  | .hbm, ⟨74, _⟩ => ⟨S289x512x1024, .f32⟩
  | .hbm, ⟨75, _⟩ => ⟨S289x512x1024, .f32⟩
  | .hbm, ⟨76, _⟩ => ⟨S_, .f32⟩
  | .hbm, ⟨77, _⟩ => ⟨S289x512x1024, .f32⟩
  | .hbm, ⟨78, _⟩ => ⟨S289x512x1024, .f32⟩
  | .hbm, ⟨79, _⟩ => ⟨S289x512x1024, .f32⟩
  | .hbm, ⟨80, _⟩ => ⟨S289x512x1024, .f32⟩
  | .hbm, ⟨81, _⟩ => ⟨S289x1x1024, .f32⟩
  | .hbm, ⟨82, _⟩ => ⟨S289x512x1024, .f32⟩
  | .hbm, ⟨83, _⟩ => ⟨S289x512x1024, .f32⟩
  | .hbm, ⟨84, _⟩ => ⟨S147968x1024, .f32⟩
  | _, _ => ⟨S289, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_cst_8 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== InProj.lean ====
abbrev S16x2048x1024 : Shape := ⟨3, ![16, 2048, 1024]⟩
abbrev S1024 : Shape := ⟨1, ![1024]⟩
abbrev S1x1024x3072 : Shape := ⟨3, ![1, 1024, 3072]⟩
abbrev S32768x1024 : Shape := ⟨2, ![32768, 1024]⟩
abbrev S1x1024 : Shape := ⟨2, ![1, 1024]⟩
abbrev S1024x3072 : Shape := ⟨2, ![1024, 3072]⟩
abbrev S32768x3072 : Shape := ⟨2, ![32768, 3072]⟩
abbrev S262144x64 : Shape := ⟨2, ![262144, 64]⟩
abbrev S131072x128 : Shape := ⟨2, ![131072, 128]⟩
abbrev S256x1024 : Shape := ⟨2, ![256, 1024]⟩
abbrev S256x3072 : Shape := ⟨2, ![256, 3072]⟩
abbrev S2048x64 : Shape := ⟨2, ![2048, 64]⟩
abbrev S1024x128 : Shape := ⟨2, ![1024, 128]⟩
abbrev S256 : Shape := ⟨1, ![256]⟩
abbrev S256x1 : Shape := ⟨2, ![256, 1]⟩
abbrev S256x512 : Shape := ⟨2, ![256, 512]⟩
abbrev S256x64 : Shape := ⟨2, ![256, 64]⟩
abbrev S256x128 : Shape := ⟨2, ![256, 128]⟩

abbrev nBuf : Space → Nat
  | .hbm => 14
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1x1024x3072, .f32⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x3072, .f32⟩
  | .hbm, ⟨8, _⟩ => ⟨S1024x3072, .bf16⟩
  | .hbm, ⟨9, _⟩ => ⟨S32768x3072, .bf16⟩
  | .hbm, ⟨10, _⟩ => ⟨S262144x64, .f32⟩
  | .hbm, ⟨11, _⟩ => ⟨S262144x64, .f32⟩
  | .hbm, ⟨12, _⟩ => ⟨S131072x128, .f32⟩
  | .hbm, ⟨13, _⟩ => ⟨S131072x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S256x3072, .bf16⟩
  | .local _ .vmem, ⟨6, _⟩ => ⟨S256x3072, .bf16⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjIdeal.lean ====
abbrev S16x2048x1024 : Shape := ⟨3, ![16, 2048, 1024]⟩
abbrev S1024 : Shape := ⟨1, ![1024]⟩
abbrev S1x1024x3072 : Shape := ⟨3, ![1, 1024, 3072]⟩
abbrev S32768x1024 : Shape := ⟨2, ![32768, 1024]⟩
abbrev S1x1024 : Shape := ⟨2, ![1, 1024]⟩
abbrev S1024x3072 : Shape := ⟨2, ![1024, 3072]⟩
abbrev S32768x3072 : Shape := ⟨2, ![32768, 3072]⟩
abbrev S262144x64 : Shape := ⟨2, ![262144, 64]⟩
abbrev S131072x128 : Shape := ⟨2, ![131072, 128]⟩
abbrev S256x1024 : Shape := ⟨2, ![256, 1024]⟩
abbrev S256x3072 : Shape := ⟨2, ![256, 3072]⟩
abbrev S2048x64 : Shape := ⟨2, ![2048, 64]⟩
abbrev S1024x128 : Shape := ⟨2, ![1024, 128]⟩
abbrev S256 : Shape := ⟨1, ![256]⟩
abbrev S256x1 : Shape := ⟨2, ![256, 1]⟩
abbrev S256x512 : Shape := ⟨2, ![256, 512]⟩
abbrev S256x64 : Shape := ⟨2, ![256, 64]⟩
abbrev S256x128 : Shape := ⟨2, ![256, 128]⟩

abbrev nBuf : Space → Nat
  | .hbm => 14
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1x1024x3072, .f32⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x3072, .f32⟩
  | .hbm, ⟨8, _⟩ => ⟨S1024x3072, .bf16⟩
  | .hbm, ⟨9, _⟩ => ⟨S32768x3072, .bf16⟩
  | .hbm, ⟨10, _⟩ => ⟨S262144x64, .f32⟩
  | .hbm, ⟨11, _⟩ => ⟨S262144x64, .f32⟩
  | .hbm, ⟨12, _⟩ => ⟨S131072x128, .f32⟩
  | .hbm, ⟨13, _⟩ => ⟨S131072x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S256x3072, .bf16⟩
  | .local _ .vmem, ⟨6, _⟩ => ⟨S256x3072, .bf16⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjReferenceIdeal.lean ====
abbrev S16x2048x1024 : Shape := ⟨3, ![16, 2048, 1024]⟩
abbrev S1024 : Shape := ⟨1, ![1024]⟩
abbrev S1x1024x3072 : Shape := ⟨3, ![1, 1024, 3072]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3072 : Shape := ⟨2, ![1024, 3072]⟩
abbrev S16x2048x3072 : Shape := ⟨3, ![16, 2048, 3072]⟩
abbrev S16x2048x512 : Shape := ⟨3, ![16, 2048, 512]⟩
abbrev S32768x3072 : Shape := ⟨2, ![32768, 3072]⟩
abbrev S262144x64 : Shape := ⟨2, ![262144, 64]⟩
abbrev S131072x128 : Shape := ⟨2, ![131072, 128]⟩

abbrev nBuf : Space → Nat
  | .hbm => 54
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1x1024x3072, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S1024x3072, .f32⟩
  | .hbm, ⟨34, _⟩ => ⟨S16x2048x3072, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S16x2048x512, .f32⟩
  | .hbm, ⟨39, _⟩ => ⟨S16x2048x512, .f32⟩
  | .hbm, ⟨40, _⟩ => ⟨S16x2048x512, .f32⟩
  | .hbm, ⟨41, _⟩ => ⟨S_, .f32⟩
  | .hbm, ⟨42, _⟩ => ⟨S16x2048x512, .f32⟩
  | .hbm, ⟨43, _⟩ => ⟨S16x2048x512, .f32⟩
  | .hbm, ⟨44, _⟩ => ⟨S_, .f32⟩
  | .hbm, ⟨45, _⟩ => ⟨S16x2048x512, .f32⟩
  | .hbm, ⟨46, _⟩ => ⟨S16x2048x512, .f32⟩
  | .hbm, ⟨47, _⟩ => ⟨S16x2048x3072, .f32⟩
  | .hbm, ⟨48, _⟩ => ⟨S32768x3072, .f32⟩
  | .hbm, ⟨49, _⟩ => ⟨S32768x3072, .bf16⟩
  | .hbm, ⟨50, _⟩ => ⟨S262144x64, .f32⟩
  | .hbm, ⟨51, _⟩ => ⟨S262144x64, .f32⟩
  | .hbm, ⟨52, _⟩ => ⟨S131072x128, .f32⟩
  | .hbm, ⟨53, _⟩ => ⟨S131072x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Sample.lean ====
abbrev S32x4x1024 : Shape := ⟨3, ![32, 4, 1024]⟩
abbrev S1024 : Shape := ⟨1, ![1024]⟩
abbrev S1x1024x3072 : Shape := ⟨3, ![1, 1024, 3072]⟩
abbrev S128x1024 : Shape := ⟨2, ![128, 1024]⟩
abbrev S1x1024 : Shape := ⟨2, ![1, 1024]⟩
abbrev S1024x3072 : Shape := ⟨2, ![1024, 3072]⟩
abbrev S128x3072 : Shape := ⟨2, ![128, 3072]⟩
abbrev S1024x64 : Shape := ⟨2, ![1024, 64]⟩
abbrev S512x128 : Shape := ⟨2, ![512, 128]⟩
abbrev S128 : Shape := ⟨1, ![128]⟩
abbrev S128x1 : Shape := ⟨2, ![128, 1]⟩
abbrev S128x512 : Shape := ⟨2, ![128, 512]⟩
abbrev S128x64 : Shape := ⟨2, ![128, 64]⟩
abbrev S128x128 : Shape := ⟨2, ![128, 128]⟩

abbrev nBuf : Space → Nat
  | .hbm => 14
  | .vmem => 9
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024, .f32⟩
  | .hbm, ⟨3, _⟩ => ⟨S1x1024x3072, .f32⟩
  | .hbm, ⟨4, _⟩ => ⟨S128x1024, .f32⟩
  | .hbm, ⟨5, _⟩ => ⟨S1x1024, .f32⟩
  | .hbm, ⟨6, _⟩ => ⟨S1x1024, .f32⟩
  | .hbm, ⟨7, _⟩ => ⟨S1024x3072, .f32⟩
  | .hbm, ⟨8, _⟩ => ⟨S1024x3072, .bf16⟩
  | .hbm, ⟨9, _⟩ => ⟨S128x3072, .bf16⟩
  | .hbm, ⟨10, _⟩ => ⟨S1024x64, .f32⟩
  | .hbm, ⟨11, _⟩ => ⟨S1024x64, .f32⟩
  | .hbm, ⟨12, _⟩ => ⟨S512x128, .f32⟩
  | .hbm, ⟨13, _⟩ => ⟨S512x128, .f32⟩
  | .local _ .vmem, ⟨0, _⟩ => ⟨S128x1024, .f32⟩
  | .local _ .vmem, ⟨1, _⟩ => ⟨S1x1024, .f32⟩
  | .local _ .vmem, ⟨2, _⟩ => ⟨S1x1024, .f32⟩
  | .local _ .vmem, ⟨3, _⟩ => ⟨S1024x3072, .bf16⟩
  | .local _ .vmem, ⟨4, _⟩ => ⟨S128x3072, .bf16⟩
  | .local _ .vmem, ⟨5, _⟩ => ⟨S1024x64, .f32⟩
  | .local _ .vmem, ⟨6, _⟩ => ⟨S1024x64, .f32⟩
  | .local _ .vmem, ⟨7, _⟩ => ⟨S512x128, .f32⟩
  | .local _ .vmem, ⟨8, _⟩ => ⟨S512x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SampleReferenceIdeal.lean ====
abbrev S32x4x1024 : Shape := ⟨3, ![32, 4, 1024]⟩
abbrev S1024 : Shape := ⟨1, ![1024]⟩
abbrev S1x1024x3072 : Shape := ⟨3, ![1, 1024, 3072]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x3072 : Shape := ⟨2, ![1024, 3072]⟩
abbrev S32x4x3072 : Shape := ⟨3, ![32, 4, 3072]⟩
abbrev S32x4x512 : Shape := ⟨3, ![32, 4, 512]⟩
abbrev S128x3072 : Shape := ⟨2, ![128, 3072]⟩
abbrev S1024x64 : Shape := ⟨2, ![1024, 64]⟩
abbrev S512x128 : Shape := ⟨2, ![512, 128]⟩

abbrev nBuf : Space → Nat
  | .hbm => 54
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024, .f32⟩
  | .hbm, ⟨3, _⟩ => ⟨S1x1024x3072, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S32x4x1024, .f32⟩
  | .hbm, ⟨11, _⟩ => ⟨S32x4x1024, .f32⟩
  | .hbm, ⟨12, _⟩ => ⟨S32x4x1024, .f32⟩
  | .hbm, ⟨13, _⟩ => ⟨S_, .f32⟩
  | .hbm, ⟨14, _⟩ => ⟨S32x4, .f32⟩
  | .hbm, ⟨15, _⟩ => ⟨S32x4x1, .f32⟩
  | .hbm, ⟨16, _⟩ => ⟨S_, .f32⟩
  | .hbm, ⟨17, _⟩ => ⟨S32x4x1, .f32⟩
  | .hbm, ⟨18, _⟩ => ⟨S32x4x1, .f32⟩
  | .hbm, ⟨19, _⟩ => ⟨S32x4x1024, .f32⟩
  | .hbm, ⟨20, _⟩ => ⟨S32x4x1024, .f32⟩
  | .hbm, ⟨21, _⟩ => ⟨S_, .f32⟩
  | .hbm, ⟨22, _⟩ => ⟨S32x4x1, .f32⟩
  | .hbm, ⟨23, _⟩ => ⟨S32x4x1, .f32⟩
  | .hbm, ⟨24, _⟩ => ⟨S32x4x1, .f32⟩
  | .hbm, ⟨25, _⟩ => ⟨S32x4x1024, .f32⟩
  | .hbm, ⟨26, _⟩ => ⟨S32x4x1024, .f32⟩
  | .hbm, ⟨27, _⟩ => ⟨S1x1x1024, .f32⟩
  | .hbm, ⟨28, _⟩ => ⟨S32x4x1024, .f32⟩
  | .hbm, ⟨29, _⟩ => ⟨S32x4x1024, .f32⟩
  | .hbm, ⟨30, _⟩ => ⟨S1x1x1024, .f32⟩
  | .hbm, ⟨31, _⟩ => ⟨S32x4x1024, .f32⟩
  | .hbm, ⟨32, _⟩ => ⟨S32x4x1024, .f32⟩
  | .hbm, ⟨33, _⟩ => ⟨S1024x3072, .f32⟩
  | .hbm, ⟨34, _⟩ => ⟨S32x4x3072, .f32⟩
  | .hbm, ⟨35, _⟩ => ⟨S32x4x512, .f32⟩
  | .hbm, ⟨36, _⟩ => ⟨S32x4x512, .f32⟩
  | .hbm, ⟨37, _⟩ => ⟨S32x4x512, .f32⟩
  | .hbm, ⟨38, _⟩ => ⟨S32x4x512, .f32⟩
  | .hbm, ⟨39, _⟩ => ⟨S32x4x512, .f32⟩
  | .hbm, ⟨40, _⟩ => ⟨S32x4x512, .f32⟩
  | .hbm, ⟨41, _⟩ => ⟨S_, .f32⟩
  | .hbm, ⟨42, _⟩ => ⟨S32x4x512, .f32⟩
  | .hbm, ⟨43, _⟩ => ⟨S32x4x512, .f32⟩
  | .hbm, ⟨44, _⟩ => ⟨S_, .f32⟩
  | .hbm, ⟨45, _⟩ => ⟨S32x4x512, .f32⟩
  | .hbm, ⟨46, _⟩ => ⟨S32x4x512, .f32⟩
  | .hbm, ⟨47, _⟩ => ⟨S32x4x3072, .f32⟩
  | .hbm, ⟨48, _⟩ => ⟨S128x3072, .f32⟩
  | .hbm, ⟨49, _⟩ => ⟨S128x3072, .bf16⟩
  | .hbm, ⟨50, _⟩ => ⟨S1024x64, .f32⟩
  | .hbm, ⟨51, _⟩ => ⟨S1024x64, .f32⟩
  | .hbm, ⟨52, _⟩ => ⟨S512x128, .f32⟩
  | .hbm, ⟨53, _⟩ => ⟨S512x128, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== PostAttn.lean ====
abbrev S16x2048x1024 : Shape := ⟨3, ![16, 2048, 1024]⟩
abbrev S1024 : Shape := ⟨1, ![1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S1x128 : Shape := ⟨2, ![1, 128]⟩
abbrev S32768x1024 : Shape := ⟨2, ![32768, 1024]⟩
abbrev S1024x1024 : Shape := ⟨2, ![1024, 1024]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 35
  | .vmem => 18
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S1024, .f32⟩
  | .hbm, ⟨3, _⟩ => ⟨S1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x32, .f32⟩
  | .hbm, ⟨8, _⟩ => ⟨S1x32, .f32⟩
  | .hbm, ⟨9, _⟩ => ⟨S1024x32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S32, .f32⟩
  | .hbm, ⟨18, _⟩ => ⟨S1x32, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S32768x1024, .bf16⟩
  | .hbm, ⟨23, _⟩ => ⟨S32768x1024, .f32⟩
  | .hbm, ⟨24, _⟩ => ⟨S1x1024, .f32⟩
  | .hbm, ⟨25, _⟩ => ⟨S1x1024, .f32⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S32768x1024, .f32⟩
  | .hbm, ⟨33, _⟩ => ⟨S32768x128, .i32⟩
  | .hbm, ⟨34, _⟩ => ⟨S32768x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x128, .i32⟩
  | .local _ .vmem, ⟨15, _⟩ => ⟨S512x128, .i32⟩
  | .local _ .vmem, ⟨16, _⟩ => ⟨S512x128, .f32⟩
  | .local _ .vmem, ⟨17, _⟩ => ⟨S512x128, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostAttnIdeal.lean ====
abbrev S16x2048x1024 : Shape := ⟨3, ![16, 2048, 1024]⟩
abbrev S1024 : Shape := ⟨1, ![1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S1x128 : Shape := ⟨2, ![1, 128]⟩
abbrev S32768x1024 : Shape := ⟨2, ![32768, 1024]⟩
abbrev S1024x1024 : Shape := ⟨2, ![1024, 1024]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 35
  | .vmem => 18
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S1024, .f32⟩
  | .hbm, ⟨3, _⟩ => ⟨S1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x32, .f32⟩
  | .hbm, ⟨8, _⟩ => ⟨S1x32, .f32⟩
  | .hbm, ⟨9, _⟩ => ⟨S1024x32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S32, .f32⟩
  | .hbm, ⟨18, _⟩ => ⟨S1x32, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S32768x1024, .bf16⟩
  | .hbm, ⟨23, _⟩ => ⟨S32768x1024, .f32⟩
  | .hbm, ⟨24, _⟩ => ⟨S1x1024, .f32⟩
  | .hbm, ⟨25, _⟩ => ⟨S1x1024, .f32⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S32768x1024, .f32⟩
  | .hbm, ⟨33, _⟩ => ⟨S32768x128, .i32⟩
  | .hbm, ⟨34, _⟩ => ⟨S32768x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x128, .i32⟩
  | .local _ .vmem, ⟨15, _⟩ => ⟨S512x128, .i32⟩
  | .local _ .vmem, ⟨16, _⟩ => ⟨S512x128, .f32⟩
  | .local _ .vmem, ⟨17, _⟩ => ⟨S512x128, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostAttnReferenceIdeal.lean ====
abbrev S16x2048x1024 : Shape := ⟨3, ![16, 2048, 1024]⟩
abbrev S1024 : Shape := ⟨1, ![1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x1024 : Shape := ⟨2, ![1024, 1024]⟩
abbrev S32768x1024 : Shape := ⟨2, ![32768, 1024]⟩
abbrev S1024x32 : Shape := ⟨2, ![1024, 32]⟩
abbrev S32768x32 : Shape := ⟨2, ![32768, 32]⟩
abbrev S32 : Shape := ⟨1, ![32]⟩
abbrev S32768x4 : Shape := ⟨2, ![32768, 4]⟩
abbrev S32768 : Shape := ⟨1, ![32768]⟩
abbrev S32768x1 : Shape := ⟨2, ![32768, 1]⟩
abbrev S32768x128 : Shape := ⟨2, ![32768, 128]⟩

abbrev nBuf : Space → Nat
  | .hbm => 105
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S1024, .f32⟩
  | .hbm, ⟨3, _⟩ => ⟨S1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x32, .f32⟩
  | .hbm, ⟨8, _⟩ => ⟨S1x32, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S1x1x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S1024x1024, .f32⟩
  | .hbm, ⟨40, _⟩ => ⟨S16x2048x1024, .f32⟩
  | .hbm, ⟨41, _⟩ => ⟨S_, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S16x2048, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S_, .f32⟩
  | .hbm, ⟨57, _⟩ => ⟨S16x2048, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S16x2048x1024, .f32⟩
  | .hbm, ⟨63, _⟩ => ⟨S16x2048x1024, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S16x2048x1, .f32⟩
  | .hbm, ⟨68, _⟩ => ⟨S16x2048x1024, .f32⟩
  | .hbm, ⟨69, _⟩ => ⟨S16x2048x1024, .f32⟩
  | .hbm, ⟨70, _⟩ => ⟨S1x1x1024, .f32⟩
  | .hbm, ⟨71, _⟩ => ⟨S16x2048x1024, .f32⟩
  | .hbm, ⟨72, _⟩ => ⟨S16x2048x1024, .f32⟩
  | .hbm, ⟨73, _⟩ => ⟨S1x1x1024, .f32⟩
  | .hbm, ⟨74, _⟩ => ⟨S16x2048x1024, .f32⟩
  | .hbm, ⟨75, _⟩ => ⟨S16x2048x1024, .f32⟩
  | .hbm, ⟨76, _⟩ => ⟨S32768x1024, .f32⟩
  | .hbm, ⟨77, _⟩ => ⟨S1024x32, .f32⟩
  | .hbm, ⟨78, _⟩ => ⟨S32768x32, .f32⟩
  | .hbm, ⟨79, _⟩ => ⟨S32, .f32⟩
  | .hbm, ⟨80, _⟩ => ⟨S1x32, .f32⟩
  | .hbm, ⟨81, _⟩ => ⟨S32768x32, .f32⟩
  | .hbm, ⟨82, _⟩ => ⟨S32768x32, .f32⟩
  | .hbm, ⟨83, _⟩ => ⟨S32768x4, .f32⟩
  | .hbm, ⟨84, _⟩ => ⟨S32768x4, .i32⟩
  | .hbm, ⟨85, _⟩ => ⟨S_, .f32⟩
  | .hbm, ⟨86, _⟩ => ⟨S32768, .f32⟩
  | .hbm, ⟨87, _⟩ => ⟨S_, .f32⟩
  | .hbm, ⟨88, _⟩ => ⟨S32768, .f32⟩
  | .hbm, ⟨89, _⟩ => ⟨S32768, .f32⟩
  | .hbm, ⟨90, _⟩ => ⟨S32768x1, .f32⟩
  | .hbm, ⟨91, _⟩ => ⟨S32768x4, .f32⟩
  | .hbm, ⟨92, _⟩ => ⟨S32768x4, .f32⟩
  | .hbm, ⟨93, _⟩ => ⟨S32768x4, .f32⟩
  | .hbm, ⟨94, _⟩ => ⟨S_, .f32⟩
  | .hbm, ⟨95, _⟩ => ⟨S32768, .f32⟩
  | .hbm, ⟨96, _⟩ => ⟨S32768x1, .f32⟩
  | .hbm, ⟨97, _⟩ => ⟨S32768x4, .f32⟩
  | .hbm, ⟨98, _⟩ => ⟨S32768x4, .f32⟩
  | .hbm, ⟨99, _⟩ => ⟨S_, .i32⟩
  | .hbm, ⟨100, _⟩ => ⟨S_, .i32⟩
  | .hbm, ⟨101, _⟩ => ⟨S32768x128, .i32⟩
  | .hbm, ⟨102, _⟩ => ⟨S_, .i32⟩
  | .hbm, ⟨103, _⟩ => ⟨S_, .f32⟩
  | .hbm, ⟨104, _⟩ => ⟨S32768x128, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_values : Ref sig .tc := ⟨.hbm, 83, rfl⟩
abbrev main_indices : Ref sig .tc := ⟨.hbm, 84, rfl⟩
abbrev main_cst_10 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c : Ref sig .tc := ⟨.hbm, 99, rfl⟩
abbrev main_call0_v0 : Ref sig .tc := ⟨.hbm, 100, rfl⟩
abbrev main_v74 : Ref sig .tc := ⟨.hbm, 101, rfl⟩
abbrev main_c_13 : Ref sig .tc := ⟨.hbm, 102, rfl⟩
abbrev main_call1_v0 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== PostSample.lean ====
abbrev S32x4x1024 : Shape := ⟨3, ![32, 4, 1024]⟩
abbrev S1024 : Shape := ⟨1, ![1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S1x128 : Shape := ⟨2, ![1, 128]⟩
abbrev S128x1024 : Shape := ⟨2, ![128, 1024]⟩
abbrev S1024x1024 : Shape := ⟨2, ![1024, 1024]⟩
abbrev S128x128 : Shape := ⟨2, ![128, 128]⟩
abbrev S128 : Shape := ⟨1, ![128]⟩
abbrev S128x1 : Shape := ⟨2, ![128, 1]⟩

abbrev nBuf : Space → Nat
  | .hbm => 35
  | .vmem => 13
  | .smem => 0
  | _ => 0

abbrev bufTy : (tb : Table) → Fin (tcTables nBuf tb) → BufTy
  | .hbm, ⟨0, _⟩ => ⟨S32x4x1024, .bf16⟩
  | .hbm, ⟨1, _⟩ => ⟨S32x4x1024, .f32⟩
  | .hbm, ⟨2, _⟩ => ⟨S1024, .f32⟩
  | .hbm, ⟨3, _⟩ => ⟨S1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x32, .f32⟩
  | .hbm, ⟨8, _⟩ => ⟨S1x32, .f32⟩
  | .hbm, ⟨9, _⟩ => ⟨S1024x32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S32, .f32⟩
  | .hbm, ⟨18, _⟩ => ⟨S1x32, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S128x1024, .bf16⟩
  | .hbm, ⟨23, _⟩ => ⟨S128x1024, .f32⟩
  | .hbm, ⟨24, _⟩ => ⟨S1x1024, .f32⟩
  | .hbm, ⟨25, _⟩ => ⟨S1x1024, .f32⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S128x1024, .f32⟩
  | .hbm, ⟨33, _⟩ => ⟨S128x128, .i32⟩
  | .hbm, ⟨34, _⟩ => ⟨S128x128, .f32⟩
  | .local _ .vmem, ⟨0, _⟩ => ⟨S128x1024, .bf16⟩
  | .local _ .vmem, ⟨1, _⟩ => ⟨S128x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x128, .bf16⟩
  | .local _ .vmem, ⟨8, _⟩ => ⟨S1024x128, .bf16⟩
  | .local _ .vmem, ⟨9, _⟩ => ⟨S1x128, .f32⟩
  | .local _ .vmem, ⟨10, _⟩ => ⟨S128x1024, .f32⟩
  | .local _ .vmem, ⟨11, _⟩ => ⟨S128x128, .i32⟩
  | .local _ .vmem, ⟨12, _⟩ => ⟨S128x128, .f32⟩
  | _, _ => ⟨S32x4x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== PostSampleReferenceIdeal.lean ====
abbrev S32x4x1024 : Shape := ⟨3, ![32, 4, 1024]⟩
abbrev S1024 : Shape := ⟨1, ![1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x1024 : Shape := ⟨2, ![1024, 1024]⟩
abbrev S128x1024 : Shape := ⟨2, ![128, 1024]⟩
abbrev S1024x32 : Shape := ⟨2, ![1024, 32]⟩
abbrev S128x32 : Shape := ⟨2, ![128, 32]⟩
abbrev S32 : Shape := ⟨1, ![32]⟩
abbrev S128x4 : Shape := ⟨2, ![128, 4]⟩
abbrev S128 : Shape := ⟨1, ![128]⟩
abbrev S128x1 : Shape := ⟨2, ![128, 1]⟩
abbrev S128x128 : Shape := ⟨2, ![128, 128]⟩

abbrev nBuf : Space → Nat
  | .hbm => 105
  | .vmem => 0
  | .smem => 0
  | _ => 0

abbrev bufTy : (tb : Table) → Fin (tcTables nBuf tb) → BufTy
  | .hbm, ⟨0, _⟩ => ⟨S32x4x1024, .bf16⟩
  | .hbm, ⟨1, _⟩ => ⟨S32x4x1024, .f32⟩
  | .hbm, ⟨2, _⟩ => ⟨S1024, .f32⟩
  | .hbm, ⟨3, _⟩ => ⟨S1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x32, .f32⟩
  | .hbm, ⟨8, _⟩ => ⟨S1x32, .f32⟩
  | .hbm, ⟨9, _⟩ => ⟨S_, .f32⟩
  | .hbm, ⟨10, _⟩ => ⟨S32x4, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1024, .f32⟩
  | .hbm, ⟨16, _⟩ => ⟨S32x4x1024, .f32⟩
  | .hbm, ⟨17, _⟩ => ⟨S32x4x1024, .f32⟩
  | .hbm, ⟨18, _⟩ => ⟨S_, .f32⟩
  | .hbm, ⟨19, _⟩ => ⟨S32x4, .f32⟩
  | .hbm, ⟨20, _⟩ => ⟨S32x4x1, .f32⟩
  | .hbm, ⟨21, _⟩ => ⟨S_, .f32⟩
  | .hbm, ⟨22, _⟩ => ⟨S32x4x1, .f32⟩
  | .hbm, ⟨23, _⟩ => ⟨S32x4x1, .f32⟩
  | .hbm, ⟨24, _⟩ => ⟨S32x4x1024, .f32⟩
  | .hbm, ⟨25, _⟩ => ⟨S32x4x1024, .f32⟩
  | .hbm, ⟨26, _⟩ => ⟨S_, .f32⟩
  | .hbm, ⟨27, _⟩ => ⟨S32x4x1, .f32⟩
  | .hbm, ⟨28, _⟩ => ⟨S32x4x1, .f32⟩
  | .hbm, ⟨29, _⟩ => ⟨S32x4x1, .f32⟩
  | .hbm, ⟨30, _⟩ => ⟨S32x4x1024, .f32⟩
  | .hbm, ⟨31, _⟩ => ⟨S32x4x1024, .f32⟩
  | .hbm, ⟨32, _⟩ => ⟨S1x1x1024, .f32⟩
  | .hbm, ⟨33, _⟩ => ⟨S32x4x1024, .f32⟩
  | .hbm, ⟨34, _⟩ => ⟨S32x4x1024, .f32⟩
  | .hbm, ⟨35, _⟩ => ⟨S1x1x1024, .f32⟩
  | .hbm, ⟨36, _⟩ => ⟨S32x4x1024, .f32⟩
  | .hbm, ⟨37, _⟩ => ⟨S32x4x1024, .f32⟩
  | .hbm, ⟨38, _⟩ => ⟨S32x4x1024, .f32⟩
  | .hbm, ⟨39, _⟩ => ⟨S1024x1024, .f32⟩
  | .hbm, ⟨40, _⟩ => ⟨S32x4x1024, .f32⟩
  | .hbm, ⟨41, _⟩ => ⟨S_, .f32⟩
  | .hbm, ⟨42, _⟩ => ⟨S32x4x1024, .f32⟩
  | .hbm, ⟨43, _⟩ => ⟨S32x4x1024, .f32⟩
  | .hbm, ⟨44, _⟩ => ⟨S32x4x1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S32x4, .f32⟩
  | .hbm, ⟨49, _⟩ => ⟨S32x4x1, .f32⟩
  | .hbm, ⟨50, _⟩ => ⟨S_, .f32⟩
  | .hbm, ⟨51, _⟩ => ⟨S32x4x1, .f32⟩
  | .hbm, ⟨52, _⟩ => ⟨S32x4x1, .f32⟩
  | .hbm, ⟨53, _⟩ => ⟨S32x4x1024, .f32⟩
  | .hbm, ⟨54, _⟩ => ⟨S32x4x1024, .f32⟩
  | .hbm, ⟨55, _⟩ => ⟨S32x4x1024, .f32⟩
  | .hbm, ⟨56, _⟩ => ⟨S_, .f32⟩
  | .hbm, ⟨57, _⟩ => ⟨S32x4, .f32⟩
  | .hbm, ⟨58, _⟩ => ⟨S32x4x1, .f32⟩
  | .hbm, ⟨59, _⟩ => ⟨S_, .f32⟩
  | .hbm, ⟨60, _⟩ => ⟨S32x4x1, .f32⟩
  | .hbm, ⟨61, _⟩ => ⟨S32x4x1, .f32⟩
  | .hbm, ⟨62, _⟩ => ⟨S32x4x1024, .f32⟩
  | .hbm, ⟨63, _⟩ => ⟨S32x4x1024, .f32⟩
  | .hbm, ⟨64, _⟩ => ⟨S_, .f32⟩
  | .hbm, ⟨65, _⟩ => ⟨S32x4x1, .f32⟩
  | .hbm, ⟨66, _⟩ => ⟨S32x4x1, .f32⟩
  | .hbm, ⟨67, _⟩ => ⟨S32x4x1, .f32⟩
  | .hbm, ⟨68, _⟩ => ⟨S32x4x1024, .f32⟩
  | .hbm, ⟨69, _⟩ => ⟨S32x4x1024, .f32⟩
  | .hbm, ⟨70, _⟩ => ⟨S1x1x1024, .f32⟩
  | .hbm, ⟨71, _⟩ => ⟨S32x4x1024, .f32⟩
  | .hbm, ⟨72, _⟩ => ⟨S32x4x1024, .f32⟩
  | .hbm, ⟨73, _⟩ => ⟨S1x1x1024, .f32⟩
  | .hbm, ⟨74, _⟩ => ⟨S32x4x1024, .f32⟩
  | .hbm, ⟨75, _⟩ => ⟨S32x4x1024, .f32⟩
  | .hbm, ⟨76, _⟩ => ⟨S128x1024, .f32⟩
  | .hbm, ⟨77, _⟩ => ⟨S1024x32, .f32⟩
  | .hbm, ⟨78, _⟩ => ⟨S128x32, .f32⟩
  | .hbm, ⟨79, _⟩ => ⟨S32, .f32⟩
  | .hbm, ⟨80, _⟩ => ⟨S1x32, .f32⟩
  | .hbm, ⟨81, _⟩ => ⟨S128x32, .f32⟩
  | .hbm, ⟨82, _⟩ => ⟨S128x32, .f32⟩
  | .hbm, ⟨83, _⟩ => ⟨S128x4, .f32⟩
  | .hbm, ⟨84, _⟩ => ⟨S128x4, .i32⟩
  | .hbm, ⟨85, _⟩ => ⟨S_, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128x1, .f32⟩
  | .hbm, ⟨91, _⟩ => ⟨S128x4, .f32⟩
  | .hbm, ⟨92, _⟩ => ⟨S128x4, .f32⟩
  | .hbm, ⟨93, _⟩ => ⟨S128x4, .f32⟩
  | .hbm, ⟨94, _⟩ => ⟨S_, .f32⟩
  | .hbm, ⟨95, _⟩ => ⟨S128, .f32⟩
  | .hbm, ⟨96, _⟩ => ⟨S128x1, .f32⟩
  | .hbm, ⟨97, _⟩ => ⟨S128x4, .f32⟩
  | .hbm, ⟨98, _⟩ => ⟨S128x4, .f32⟩
  | .hbm, ⟨99, _⟩ => ⟨S_, .i32⟩
  | .hbm, ⟨100, _⟩ => ⟨S_, .i32⟩
  | .hbm, ⟨101, _⟩ => ⟨S128x128, .i32⟩
  | .hbm, ⟨102, _⟩ => ⟨S_, .i32⟩
  | .hbm, ⟨103, _⟩ => ⟨S_, .f32⟩
  | .hbm, ⟨104, _⟩ => ⟨S128x128, .f32⟩
  | _, _ => ⟨S32x4x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_values : Ref sig .tc := ⟨.hbm, 83, rfl⟩
abbrev main_indices : Ref sig .tc := ⟨.hbm, 84, rfl⟩
abbrev main_cst_10 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c : Ref sig .tc := ⟨.hbm, 99, rfl⟩
abbrev main_call0_v0 : Ref sig .tc := ⟨.hbm, 100, rfl⟩
abbrev main_v74 : Ref sig .tc := ⟨.hbm, 101, rfl⟩
abbrev main_c_13 : Ref sig .tc := ⟨.hbm, 102, rfl⟩
abbrev main_call1_v0 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Proof.ExpertsBody.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.FrameBody
public import Idealize.ShloMosaic.Lib.Pipeline.ValueKit
public import Idealize.ShloMosaic.Lib.Pipeline.ReadBack
public import Idealize.ShloMosaic.Lib.Tactic
public import Idealize.ShloMosaic.Lib.WordCmp
public import Idealize.ShloMosaic.Lib.Claim

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of experts as the body is handed it: its whole buffer. -/
abbrev tabM : Memref sig .tc .smem S289 .i32 := Memref.whole main_arg0

/-- The contents of the table's buffer on core `c`. -/
abbrev TabBuf (c : Dev nD) : Type := Buf (Elt F) (tabM.view.loc (c : Thread nD τ))

/-- The half of the table that the body holds, at contents `f`. -/
abbrev tabPt (c : Dev nD) (f : TabBuf (F := F) c) : sProp 𝕄 :=
  tabM.view.loc (c : Thread nD τ) ↦{fullShare.right} f

/-- The expert of the block at point `i`, as the body reads it off the table. -/
abbrev wordHere (c : Dev nD) (i : grid0.Coords) (f : TabBuf (F := F) c) : BitVec 32 :=
  tabM.view.readAt (Elt F) (Rect.unit (s := S289) (k0_off1 i) S1.size (k0_off1_inb i)).toLoadRect f (Shape.Idx.first (numel1_S1.symm ▸ Nat.one_pos))

/-- The expert of the block before it, as the body reads it off the table. -/
abbrev wordBefore (c : Dev nD) (i : grid0.Coords) (f : TabBuf (F := F) c) : BitVec 32 :=
  tabM.view.readAt (Elt F) (Rect.unit (s := S289) (k0_off2 i) S1.size (k0_off2_inb i)).toLoadRect f (Shape.Idx.first (numel1_S1.symm ▸ Nat.one_pos))

/-- The condition under which the body casts the weights anew: the first point, or an expert other than the one before. -/
abbrev recast (i : grid0.Coords) (v2 v6 : BitVec 32) : Prop :=
  (Scalar.cmpi .ne (Scalar.extui (Scalar.ori (Scalar.cmpi .eq (BitVec.ofNat 32 (i 0).val) 0#32) (Scalar.cmpi .ne v2 v6))) 0#32) = 1#1

/-- The block of rows that the body leaves, of its rows, the two cast weights and the two biases. -/
def outBlock (x0 : Vec F S512x1024 .f32) (s0 : Vec F S1024x2048 .bf16) (x2 : Vec F S1x1x2048 .f32) (s1 : Vec F S1024x1024 .bf16)
    (x4 : Vec F S1x1x1024 .f32) : Vec F S512x1024 .f32 :=
  k0_pay1 (k0_pay4 x0 s0 x2) s1 x4

/-- What reads back after a store through the whole buffer's rectangle, last: its payload. -/
theorem read_writes_full {sp : Space} {S : Shape} {e : EltTy} (v : View sig .tc sp S e) (f : v.ty.Contents (Elt F)) {off : Fin S.rank → Nat}
    (inb : ∀ a, off a + S.size a ≤ S.size a) (w : S.Idx → Elt F e) (L : List (View.Piece (Elt F) S e)) (h : ∀ a, off a = 0) :
    v.read (Elt F) (v.writes (Elt F) f (⟨Rect.unit off S.size inb, w⟩ :: L)) = w := by
  rw [View.read_writes_eq_canon _ _ _ fun y => ⟨_, List.mem_cons_self .., ?_⟩]
  · exact View.canon_cons_unit_zero (funext h) inb w L
  · rw [Rect.mem_set_unit]; intro a; have := (y a).isLt; rw [h a]; omega

set_option maxHeartbeats 1000000 in
/-- The body where the weights are cast anew: the scratch ends at the casts of the windows' weights. -/
theorem run_recast (c : Dev nD) (i : grid0.Coords) (arg2 : Memref sig .tc .vmem S512x1024 .f32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S1024x2048 .bf16) (harg8 : arg8.IsWhole) (arg9 : Memref sig .tc .vmem S1024x1024 .bf16) (harg9 : arg9.IsWhole)
    (x0 : Vec F S512x1024 .f32) (x1 : Vec F S1x1024x2048 .f32) (x2 : Vec F S1x1x2048 .f32) (x3 : Vec F S1x1024x1024 .f32) (x4 : Vec F S1x1x1024 .f32)
    (ft : TabBuf (F := F) c) (hc : recast i (wordHere c i ft) (wordBefore c i ft)) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ tabPt c ft
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlock x0 (k0_pay2 x1) x2 (k0_pay3 x3) x4) ∗ owns (c : Thread nD τ) arg8 fullShare (k0_pay2 x1) ∗ owns (c : Thread nD τ) arg9 fullShare (k0_pay3 x3) ∗ tabPt c ft) -∗ K ⟨⟩))
      ⊢ wp frame (wpE (defs₀ (F := F)) Variants.none c none) E (cc0_experts i tabM (Memref.isWhole_whole _) arg2 harg2 arg3 harg3 arg4 harg4 arg5 harg5 arg6 harg6 arg7 harg7 arg8 harg8 arg9 harg9) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_run_names
    refine (read_writes_full _ _ _ _ _ (by decide)).trans ?_
    simp (disch := decide) only [View.ld_unit_lit', View.readCov_unit_lit', View.readAt_eq_ld, Memref.IsWhole.read_unread]
    rfl
  isplitl [HS0]
  · iexists _; isplitr; swap; · iexact HS0
    ipureintro
    sl_unfold_run_names
    refine (read_writes_full _ _ _ _ _ (by decide)).trans ?_
    simp (disch := decide) only [View.ld_unit_lit', View.readCov_unit_lit', View.readAt_eq_ld, Memref.IsWhole.read_unread]
  isplitl [HS1]
  · iexists _; isplitr; swap; · iexact HS1
    ipureintro
    sl_unfold_run_names
    refine (read_writes_full _ _ _ _ _ (by decide)).trans ?_
    simp (disch := decide) only [View.ld_unit_lit', View.readCov_unit_lit', View.readAt_eq_ld, Memref.IsWhole.read_unread]
  iexact HT0

set_option maxHeartbeats 1000000 in
/-- The body where the weights are not cast anew: it uses the scratch as it finds it. -/
theorem run_keep (c : Dev nD) (i : grid0.Coords) (arg2 : Memref sig .tc .vmem S512x1024 .f32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S1024x2048 .bf16) (harg8 : arg8.IsWhole) (arg9 : Memref sig .tc .vmem S1024x1024 .bf16) (harg9 : arg9.IsWhole)
    (x0 : Vec F S512x1024 .f32) (x1 : Vec F S1x1024x2048 .f32) (x2 : Vec F S1x1x2048 .f32) (x3 : Vec F S1x1024x1024 .f32) (x4 : Vec F S1x1x1024 .f32)
    (s0 : Vec F S1024x2048 .bf16) (s1 : Vec F S1024x1024 .bf16) (ft : TabBuf (F := F) c) (hc : ¬recast i (wordHere c i ft) (wordBefore c i ft)) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare s0 ∗ owns (c : Thread nD τ) arg9 fullShare s1 ∗ tabPt c ft
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlock x0 s0 x2 s1 x4) ∗ owns (c : Thread nD τ) arg8 fullShare s0 ∗ owns (c : Thread nD τ) arg9 fullShare s1 ∗ tabPt c ft) -∗ K ⟨⟩))
      ⊢ wp frame (wpE (defs₀ (F := F)) Variants.none c none) E (cc0_experts i tabM (Memref.isWhole_whole _) arg2 harg2 arg3 harg3 arg4 harg4 arg5 harg5 arg6 harg6 arg7 harg7 arg8 harg8 arg9 harg9) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hs0; obtain rfl := harg9.eq_unread hs1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_run_names
    refine (read_writes_full _ _ _ _ _ (by decide)).trans ?_
    simp (disch := decide) only [View.ld_unit_lit', View.readCov_unit_lit', View.readAt_eq_ld, Memref.IsWhole.read_unread]
    rfl
  isplitl [HS0]
  · iexists _; isplitr; · ipureintro; exact harg8.read_unread _
    iexact HS0
  isplitl [HS1]
  · iexists _; isplitr; · ipureintro; exact harg9.read_unread _
    iexact HS1
  iexact HT0

end Cert.Experts

end
-- ==== Proof.ExpertsRun.lean ====
module

public import proofs.«01_k».proof.Proof.ExpertsBody

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Words of the table -/

/-- The table's place `n`. -/
abbrev slot (n : Fin 289) : S289.Idx := ix1 n

/-- A one-word rectangle's only place, where the rectangle starts at `n`. -/
theorem idx_slot (off : Fin 1 → ℕ) (inb : ∀ a, off a + S1.size a ≤ S289.size a) (j : S1.Idx) (n : Fin 289) (h : off 0 = n.val) :
    (Rect.unit (s := S289) off S1.size inb).toLoadRect.idx j = slot n := by
  funext a; obtain rfl : a = 0 := Subsingleton.elim _ _
  apply Fin.ext
  have hj : (j 0).val = 0 := by have h1 : (j 0).val < 1 := (j 0).isLt; omega
  show off 0 + 1 * (j 0).val = n.val
  omega

/-- The word the body takes for the block at `i` is the table's at `i`. -/
theorem wordHere_eq (c : Dev nD) (i : grid0.Coords) (f : TabBuf (F := F) c) : wordHere c i f = f (slot (i 0)) := by
  unfold wordHere
  rw [View.readAt_apply, idx_slot _ _ _ (i 0) (congrFun (k0_off1_eq i) 0)]
  rfl

/-- The word the body takes for the block before is the table's there. -/
theorem wordBefore_eq (c : Dev nD) (i : grid0.Coords) (f : TabBuf (F := F) c) (n : Fin 289) (h : n.val + 1 = (i 0).val) :
    wordBefore c i f = f (slot n) := by
  have e : k0_off2 i 0 = n.val := by
    have hi : (i 0).val < 289 := (i 0).isLt
    have h_arg0 : Affine.IsInt (BitVec.ofNat 32 (i 0).val) (((i 0).val : Int)) := Affine.ofNat _ (by omega)
    have h1 : Affine.IsInt 1#32 (1) := Affine.ofNat _ (by omega)
    have h0 : Affine.IsInt 0#32 (0) := Affine.ofNat _ (by omega)
    have h3 := Affine.subi (e := (n.val : Int)) h_arg0 h1 (by omega)
    have h4 := Affine.maxsi (e := (n.val : Int)) h3 h0 (by omega)
    have h5 := Affine.indexCast h4
    have h6 := congrFun (Affine.vec_cons (y := n.val) (f := ![]) (g := ![]) h5 (by omega) rfl) 0
    exact h6
  unfold wordBefore
  rw [View.readAt_apply, idx_slot _ _ _ n e]
  rfl

/-- Where the weights are not cast anew, the point is not the first and the two experts are the same. -/
theorem of_not_recast (i : grid0.Coords) (v2 v6 : BitVec 32) (h : ¬recast i v2 v6) : (i 0).val ≠ 0 ∧ v2 = v6 := by
  have key : ∀ a b : Bool, ¬(Scalar.cmpi .ne (Scalar.extui (Scalar.ori (BitVec.ofBool a) (BitVec.ofBool b))) 0#32 = 1#1) → a = false ∧ b = false := by
    decide
  obtain ⟨ha, hb⟩ := key (BitVec.ofNat 32 (i 0).val == 0#32) (v2 != v6) h
  refine ⟨fun h0 => ?_, by simpa using hb⟩
  rw [h0] at ha; simp at ha

/-! ## The region's entry -/

/-- Core `c`'s buffers when the call begins: after the host operations before it. -/
abbrev V (c : Dev nD) (b : Ref sig .tc) : Buf (Elt F) ((c : Thread nD τ).loc b) := StableHlo.after hostOps0 (fun b => m (c, b)) b

/-- No host operation asks for a fresh buffer. -/
theorem hostOps0_fresh : (hostOps0 : List (HloOp τ sig (Elt F))).Forall fun op => op.fresh = ∅ := by
  simp only [List.Forall]; repeat' constructor

set_option maxHeartbeats 800000 in
/-- The program up to the call: its host operations, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation writes is found as launched. -/
theorem V_of_not_written (c : Dev nD) (b : Ref sig .tc)
    (h : b ≠ main_v0 ∧ b ≠ main_v1 ∧ b ≠ main_v2 ∧ b ≠ main_v3 ∧ b ≠ main_v4 ∧ b ≠ main_v5) : V m c b = m ((c : Thread nD τ).loc b) :=
  StableHlo.after_of_forall_not_mem (b := Proc.devRef .tc b) _ _ (List.forall_iff_forall_mem.mp (by
    obtain ⟨h0, h1, h2, h3, h4, h5⟩ := h
    simp only [hostOps0, List.Forall, StableHlo.unary_writes, StableHlo.reshape_writes, Finset.mem_singleton]
    repeat' apply And.intro
    all_goals exact StableHlo.devRef_ne_of_ne (by assumption)))

/-- The table's contents when the call begins. -/
def tbl : pre0.Contents (Elt F) := fun j => V m (0 : Dev nD) (pre0.ref j)
/-- The table holds them on every device, of which there is one. -/
theorem V_pre (c : Dev nD) (j : Fin 1) : V m c (pre0.ref j) = tbl m j := by
  obtain rfl : c = 0 := Subsingleton.elim _ _; rfl
/-- What the call asks of the table's contents: every block it names lies inside its array. -/
abbrev Ok : Prop := ok0 (F := F) (tbl m)
/-- The table's contents as the call takes them, and the call at them. -/
abbrev adm (hO : Ok m) : (pcfg0 (F := F)).Adm := ⟨tbl m, hO⟩
abbrev cfgM (hO : Ok m) : Pipeline.Cfg sig Λ₀ := cfg0 (adm m hO)

/-- The half of the table that the body is handed. -/
theorem PhiT_eq (c : Dev nD) : (Pipeline.ΦT pre0 (tbl m) c : sProp 𝕄) = iprop(tabPt c (tbl m 0)) := by
  unfold Pipeline.ΦT Pipeline.prefHeld
  rw [show (Finset.univ : Finset (Fin 1)) = {(0 : Fin 1)} from by decide, bigSep_singleton]
  rfl

/-- The scratch buffers of the two cast weights. -/
abbrev sc0 : Memref sig .tc .vmem S1024x2048 .bf16 := Memref.whole cc0_scratch0
abbrev sc1 : Memref sig .tc .vmem S1024x1024 .bf16 := Memref.whole cc0_scratch1

/-- What the call keeps beside its windows: the two scratch buffers and the generator's register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What the call's buffers hold -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The cast weights of the expert at point `t`, and the block of rows of point `t`. -/
def up (hO : Ok m) (c : Dev nD) (t : Fin (cfgM m hO).N) : Vec F S1024x2048 .bf16 := k0_pay2 (iblk m hO c 1 t)
def down (hO : Ok m) (c : Dev nD) (t : Fin (cfgM m hO).N) : Vec F S1024x1024 .bf16 := k0_pay3 (iblk m hO c 3 t)
def rows (hO : Ok m) (c : Dev nD) (t : Fin (cfgM m hO).N) : Vec F S512x1024 .f32 :=
  outBlock (iblk m hO c 0 t) (up m hO c t) (iblk m hO c 2 t) (down m hO c t) (iblk m hO c 4 t)

/-- What the scratch holds before point `n`: the cast weights of the point before it, if there is one. -/
def Cast (hO : Ok m) (c : Dev nD) (n : ℕ) (d0 : Vec F S1024x2048 .bf16) (d1 : Vec F S1024x1024 .bf16) : Prop :=
  ∀ t : Fin (cfgM m hO).N, t.val + 1 = n → d0 = up m hO c t ∧ d1 = down m hO c t

/-- The invariant between points. -/
def Inv (hO : Ok m) (c : Dev nD) (n : ℕ) : sProp 𝕄 :=
  iprop(iprop((∃ d0, ∃ d1, ⌜Cast m hO c n d0 d1⌝ ∗ owns (c : Thread nD τ) sc0 fullShare d0 ∗ owns (c : Thread nD τ) sc1 fullShare d1) ∗ (∃ r, prngReg c r)) ∗ tabPt c (tbl m 0))

/-- The contents at every point: each input its block, the output the block of rows. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => rows m hO c t
  Φ t := Inv m hO c t.val
  q _ := fullShare
  owed _ := 0

/-- The arrays are those of the region's entry. -/
theorem A_eq (hO : Ok m) (c : Dev nD) (w : Fin (cfgM m hO).W) : (dats m hO 0 c).A w = V m c (Pipeline.arrRef spec0 w) := by
  dsimp only [dats]

/-- What the body leaves in each window, what is fetched into it, and what it finds there. -/
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = rows m hO c t := by dsimp only [dats]; try rfl
theorem fetched_0 (hO : Ok m) (c : Dev nD) (t : Fin (cfgM m hO).N) (d) : (dats m hO 0 c).fetched 0 t d = iblk m hO c 0 t := by
  unfold Dat.fetched Dat.blockOf iblk; rw [A_eq]; try rfl
theorem fetched_1 (hO : Ok m) (c : Dev nD) (t : Fin (cfgM m hO).N) (d) : (dats m hO 0 c).fetched 1 t d = iblk m hO c 1 t := by
  unfold Dat.fetched Dat.blockOf iblk; rw [A_eq]; try rfl
theorem fetched_2 (hO : Ok m) (c : Dev nD) (t : Fin (cfgM m hO).N) (d) : (dats m hO 0 c).fetched 2 t d = iblk m hO c 2 t := by
  unfold Dat.fetched Dat.blockOf iblk; rw [A_eq]; try rfl
theorem fetched_3 (hO : Ok m) (c : Dev nD) (t : Fin (cfgM m hO).N) (d) : (dats m hO 0 c).fetched 3 t d = iblk m hO c 3 t := by
  unfold Dat.fetched Dat.blockOf iblk; rw [A_eq]; try rfl
theorem fetched_4 (hO : Ok m) (c : Dev nD) (t : Fin (cfgM m hO).N) (d) : (dats m hO 0 c).fetched 4 t d = iblk m hO c 4 t := by
  unfold Dat.fetched Dat.blockOf iblk; rw [A_eq]; try rfl
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (fetched_0 m hO c t d)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (fetched_1 m hO c t d)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (fetched_2 m hO c t d)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (fetched_3 m hO c t d)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (fetched_4 m hO c t d)

/-! ## Two points of the same expert -/

theorem point_lt (hO : Ok m) (t : Fin (cfgM m hO).N) : t.val < 289 := lt_of_lt_of_eq t.isLt N_0
theorem coord_val (hO : Ok m) (t : Fin (cfgM m hO).N) : ((grid0.coords t) 0).val = t.val := by
  rw [Pipeline.Grid.coords_val (G := grid0) (S := 1) (B := 289) t 0 (by decide) rfl]
  have := point_lt m hO t; omega
theorem coord_eq (hO : Ok m) (t : Fin (cfgM m hO).N) : (grid0.coords t) 0 = ⟨t.val, point_lt m hO t⟩ := Fin.ext (coord_val m hO t)

/-- The table's word at `n`. -/
def word (n : Fin 289) : BitVec 32 := (tbl m 0 : S289.Idx → BitVec 32) (slot n)

/-- The weights' windows stand at the word's block. -/
theorem index_1 (hO : Ok m) (t : Fin (cfgM m hO).N) : ((cfgM m hO).win 1).index t = ![(word m ⟨t.val, point_lt m hO t⟩).toNat, 0, 0] := by
  have h := wordHere_eq (0 : Dev nD) (grid0.coords t) (tbl m 0)
  rw [coord_eq m hO t] at h
  have h' : wordHere (0 : Dev nD) (grid0.coords t) (tbl m 0) = word m ⟨t.val, point_lt m hO t⟩ := h
  rw [← h']; rfl
theorem index_3 (hO : Ok m) (t : Fin (cfgM m hO).N) : ((cfgM m hO).win 3).index t = ![(word m ⟨t.val, point_lt m hO t⟩).toNat, 0, 0] := by
  have h := wordHere_eq (0 : Dev nD) (grid0.coords t) (tbl m 0)
  rw [coord_eq m hO t] at h
  have h' : wordHere (0 : Dev nD) (grid0.coords t) (tbl m 0) = word m ⟨t.val, point_lt m hO t⟩ := h
  rw [← h']; rfl

/-- Two points of the same word have the same cast weights. -/
theorem up_congr (hO : Ok m) (c : Dev nD) (t t' : Fin (cfgM m hO).N) (h : word m ⟨t.val, point_lt m hO t⟩ = word m ⟨t'.val, point_lt m hO t'⟩) :
    up m hO c t = up m hO c t' := by
  have hi : ((cfgM m hO).win 1).index t = ((cfgM m hO).win 1).index t' := by rw [index_1, index_1, h]
  have e := (dats m hO 0 c).fetched_congr 1 hi rfl (iblk m hO c 1 t)
  rw [fetched_1, fetched_1] at e
  unfold up
  exact congrArg k0_pay2 e
theorem down_congr (hO : Ok m) (c : Dev nD) (t t' : Fin (cfgM m hO).N) (h : word m ⟨t.val, point_lt m hO t⟩ = word m ⟨t'.val, point_lt m hO t'⟩) :
    down m hO c t = down m hO c t' := by
  have hi : ((cfgM m hO).win 3).index t = ((cfgM m hO).win 3).index t' := by rw [index_3, index_3, h]
  have e := (dats m hO 0 c).fetched_congr 3 hi rfl (iblk m hO c 3 t)
  rw [fetched_3, fetched_3] at e
  unfold down
  exact congrArg k0_pay3 e

/-- Where the weights are not cast anew, the scratch already holds this point's. -/
theorem kept (hO : Ok m) (c : Dev nD) (t : Fin (cfgM m hO).N) (d0 : Vec F S1024x2048 .bf16) (d1 : Vec F S1024x1024 .bf16) (hd : Cast m hO c t.val d0 d1)
    (hc : ¬recast (grid0.coords t) (wordHere c (grid0.coords t) (tbl m 0)) (wordBefore c (grid0.coords t) (tbl m 0))) :
    d0 = up m hO c t ∧ d1 = down m hO c t := by
  obtain ⟨hn, he⟩ := of_not_recast _ _ _ hc
  rw [coord_val m hO t] at hn
  have hlt := point_lt m hO t
  let t' : Fin (cfgM m hO).N := ⟨t.val - 1, by omega⟩
  have hw : word m ⟨t'.val, point_lt m hO t'⟩ = word m ⟨t.val, point_lt m hO t⟩ := by
    have e1 := wordHere_eq c (grid0.coords t) (tbl m 0)
    have e2 := wordBefore_eq c (grid0.coords t) (tbl m 0) ⟨t.val - 1, by omega⟩ (by rw [coord_val m hO t]; show t.val - 1 + 1 = t.val; omega)
    rw [coord_eq m hO t] at e1
    exact e2.symm.trans (he.symm.trans e1)
  obtain ⟨h0, h1⟩ := hd t' (by show t.val - 1 + 1 = t.val; omega)
  exact ⟨h0.trans (up_congr m hO c t' t hw), h1.trans (down_congr m hO c t' t hw)⟩

/-- After point `t` the scratch holds its cast weights. -/
theorem cast_succ (hO : Ok m) (c : Dev nD) (t : Fin (cfgM m hO).N) : Cast m hO c (t.val + 1) (up m hO c t) (down m hO c t) := by
  intro t' h
  obtain rfl : t' = t := Fin.ext (by omega)
  exact ⟨rfl, rfl⟩

/-! ## The body at a point -/

/-- The windows' staging buffers at point `t`. -/
abbrev ms0 (hO : Ok m) (t : Fin (cfgM m hO).N) : Memref sig .tc .vmem S512x1024 .f32 := spec0_0.stage ((cfgM m hO).slots t 0)
abbrev ms1 (hO : Ok m) (t : Fin (cfgM m hO).N) : Memref sig .tc .vmem S1x1024x2048 .f32 := spec0_1.stage ((cfgM m hO).slots t 1)
abbrev ms2 (hO : Ok m) (t : Fin (cfgM m hO).N) : Memref sig .tc .vmem S1x1x2048 .f32 := spec0_2.stage ((cfgM m hO).slots t 2)
abbrev ms3 (hO : Ok m) (t : Fin (cfgM m hO).N) : Memref sig .tc .vmem S1x1024x1024 .f32 := spec0_3.stage ((cfgM m hO).slots t 3)
abbrev ms4 (hO : Ok m) (t : Fin (cfgM m hO).N) : Memref sig .tc .vmem S1x1x1024 .f32 := spec0_4.stage ((cfgM m hO).slots t 4)
abbrev ms5 (hO : Ok m) (t : Fin (cfgM m hO).N) : Memref sig .tc .vmem S512x1024 .f32 := spec0_5.stage ((cfgM m hO).slots t 5)

/-- The body as the call runs it at point `t`. -/
abbrev bodyAt (hO : Ok m) (t : Fin (cfgM m hO).N) : Prog (TpuEff nD τ sig (Elt F) Λ₀ .tc) PUnit :=
  cc0_experts (grid0.coords t) (Memref.whole main_arg0) (Memref.isWhole_whole _) (ms0 m hO t) (hstage0_0 (((cfgM m hO).slots t 0).cast nbuf0_0)) (ms1 m hO t) (hstage0_1 (((cfgM m hO).slots t 1).cast nbuf0_1)) (ms2 m hO t) (hstage0_2 (((cfgM m hO).slots t 2).cast nbuf0_2)) (ms3 m hO t) (hstage0_3 (((cfgM m hO).slots t 3).cast nbuf0_3)) (ms4 m hO t) (hstage0_4 (((cfgM m hO).slots t 4).cast nbuf0_4)) (ms5 m hO t) (hstage0_5 (((cfgM m hO).slots t 5).cast nbuf0_5)) (Memref.whole cc0_scratch0) (Memref.isWhole_whole _) (Memref.whole cc0_scratch1) (Memref.isWhole_whole _)

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d)) ∗ (∃ d, owns (c : Thread nD τ) (ms1 m hO t) fullShare ((dats m hO 0 c).before 1 t d)) ∗ (∃ d, owns (c : Thread nD τ) (ms2 m hO t) fullShare ((dats m hO 0 c).before 2 t d)) ∗ (∃ d, owns (c : Thread nD τ) (ms3 m hO t) fullShare ((dats m hO 0 c).before 3 t d)) ∗ (∃ d, owns (c : Thread nD τ) (ms4 m hO t) fullShare ((dats m hO 0 c).before 4 t d)) ∗ (∃ d, owns (c : Thread nD τ) (ms5 m hO t) fullShare ((dats m hO 0 c).before 5 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t) ∗ owns (c : Thread nD τ) (ms1 m hO t) fullShare ((dats m hO 0 c).after 1 t) ∗ owns (c : Thread nD τ) (ms2 m hO t) fullShare ((dats m hO 0 c).after 2 t) ∗ owns (c : Thread nD τ) (ms3 m hO t) fullShare ((dats m hO 0 c).after 3 t) ∗ owns (c : Thread nD τ) (ms4 m hO t) fullShare ((dats m hO 0 c).after 4 t) ∗ owns (c : Thread nD τ) (ms5 m hO t) fullShare ((dats m hO 0 c).after 5 t))

set_option maxHeartbeats 1600000 in
/-- The body at any point, by whether the weights are cast anew. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).Φ t.succ = Inv m hO c (t.val + 1) from rfl,
    show (dats m hO 0 c).Φ t.castSucc = Inv m hO c t.val from rfl,
    show (dats m hO 0 c).owesAt () t.succ = (dats m hO 0 c).owesAt () t.castSucc from rfl,
    after_0, after_1, after_2, after_3, after_4, after_5]
  unfold Inv
  by_cases h0 : recast (grid0.coords t) (wordHere c (grid0.coords t) (tbl m 0)) (wordBefore c (grid0.coords t) (tbl m 0))
  · iintro ⟨⟨⟨⟨%s0, %s1, %hs, HS0, HS1⟩, Hg⟩, HT0⟩, Ho, ⟨%d0, H0⟩, ⟨%d1, H1⟩, ⟨%d2, H2⟩, ⟨%d3, H3⟩, ⟨%d4, H4⟩, ⟨%d5, H5⟩⟩
    iapply (run_recast c (grid0.coords t) _ _ _ _ _ _ _ _ _ _ _ _ _ _ _ _ (iblk m hO c 0 t) (iblk m hO c 1 t) (iblk m hO c 2 t) (iblk m hO c 3 t) (iblk m hO c 4 t) (tbl m 0) h0 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    isplitl [HT0]; · iexact HT0
    iintro ⟨H0, H1, H2, H3, H4, H5, HS0, HS1, HT0⟩
    isplitl [HS0 HS1 Hg HT0]
    · isplitl [HS0 HS1 Hg]
      · isplitl [HS0 HS1]
        · iexists (up m hO c t); iexists (down m hO c t)
          isplitr; · ipureintro; exact cast_succ m hO c t
          isplitl [HS0]
          · iexact HS0
          iexact HS1
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨⟨%s0, %s1, %hs, HS0, HS1⟩, Hg⟩, HT0⟩, Ho, ⟨%d0, H0⟩, ⟨%d1, H1⟩, ⟨%d2, H2⟩, ⟨%d3, H3⟩, ⟨%d4, H4⟩, ⟨%d5, H5⟩⟩
    obtain ⟨rfl, rfl⟩ := kept m hO c t s0 s1 hs h0
    iapply (run_keep c (grid0.coords t) _ _ _ _ _ _ _ _ _ _ _ _ _ _ _ _ (iblk m hO c 0 t) (iblk m hO c 1 t) (iblk m hO c 2 t) (iblk m hO c 3 t) (iblk m hO c 4 t) (up m hO c t) (down m hO c t) (tbl m 0) h0 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    iintro ⟨H0, H1, H2, H3, H4, H5, HS0, HS1, HT0⟩
    isplitl [HS0 HS1 Hg HT0]
    · isplitl [HS0 HS1 Hg]
      · isplitl [HS0 HS1]
        · iexists (up m hO c t); iexists (down m hO c t)
          isplitr; · ipureintro; exact cast_succ m hO c t
          isplitl [HS0]
          · iexact HS0
          iexact HS1
        iexact Hg
      iexact HT0
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body as `bodyAt` spells it. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body's obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

/-- Before the first point the scratch may hold anything. -/
theorem inv_start (hO : Ok m) (c : Dev nD) : iprop(Pipeline.ΦA spec0 c ∗ Pipeline.ΦT pre0 (tbl m) c) ⊢ (Inv m hO c 0 : sProp 𝕄) := by
  rw [PhiA_eq, PhiT_eq]; unfold Inv
  iintro ⟨⟨⟨⟨%s0, HS0⟩, ⟨%s1, HS1⟩⟩, Hg⟩, HT0⟩
  isplitl [HS0 HS1 Hg]
  · isplitl [HS0 HS1]
    · iexists s0; iexists s1
      isplitr; · ipureintro; intro t h; omega
      isplitl [HS0]
      · iexact HS0
      iexact HS1
    iexact Hg
  iexact HT0

/-- After the last point what the scratch holds is forgotten. -/
theorem inv_end (hO : Ok m) (c : Dev nD) (n : ℕ) : (Inv m hO c n : sProp 𝕄) ⊢ Pipeline.ΦA spec0 c := by
  rw [PhiA_eq]; unfold Inv
  iintro ⟨⟨⟨%s0, %s1, %hs, HS0, HS1⟩, Hg⟩, HT0⟩
  isplitl [HS0 HS1]
  · isplitl [HS0]
    · iexists s0; iexact HS0
    iexists s1; iexact HS1
  iexact Hg

set_option backward.isDefEq.respectTransparency.types false in
/-- The run: it ends, with every array as `dats` says and every counter at zero. -/
theorem run_main_quiescent (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => inv_start m hO c) (hout := fun c => inv_end m hO c _)

/-- The run's end, without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they were, and every counter at zero. -/
theorem frame_here (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (by decide : main_arg0 ∈ Pipeline.restRefs sig spec0)).trans (V_of_not_written m c main_arg0 (by decide)),
      (Pipeline.FramePost.in_eq h.1 c 0 rfl).trans ((A_eq m hO c 0).trans (V_of_not_written m c main_arg1 (by decide))),
      ((h.1 c).2 main_arg2 (by decide : main_arg2 ∈ Pipeline.restRefs sig spec0)).trans (V_of_not_written m c main_arg2 (by decide)),
      ((h.1 c).2 main_arg3 (by decide : main_arg3 ∈ Pipeline.restRefs sig spec0)).trans (V_of_not_written m c main_arg3 (by decide)),
      ((h.1 c).2 main_arg4 (by decide : main_arg4 ∈ Pipeline.restRefs sig spec0)).trans (V_of_not_written m c main_arg4 (by decide)),
      ((h.1 c).2 main_arg5 (by decide : main_arg5 ∈ Pipeline.restRefs sig spec0)).trans (V_of_not_written m c main_arg5 (by decide))⟩, h.2⟩)
    (run_main_quiescent m ρ hO)

end Cert.Experts

end
-- ==== Proof.ExpertsOk.lean ====
module

public import proofs.«01_k».proof.Proof.ExpertsRun
public import proofs.«01_k».proof.Proof.Gen.Pre_experts_in_range
public import Idealize.ShloMosaic.Lib.ReduceAll
public import Idealize.ShloMosaic.Lib.Affine

@[expose] public section

set_option maxRecDepth 16384

noncomputable section

namespace Cert.Experts

open Idealize.ShloMosaic Idealize.ShloMosaic.TcCoe

/-- Where the precondition holds, every word of the table is below 32. -/
theorem words_lt {F : FTy → Type} [FloatOps F] (a0 : IVec Cert.Pre_experts_in_range.S289 32) (a1 a2 a3 a4 a5)
    (h : Cert.Pre_experts_in_range.fn (F := F) a0 a1 a2 a3 a4 a5 = fun _ => 1#1) (y : Cert.Pre_experts_in_range.S289.Idx) : (a0 y).toNat < 32 := by
  have : Subsingleton Cert.Pre_experts_in_range.S_.Idx := ⟨fun a b => funext fun i => i.elim0⟩
  have h1 := congrFun h (fun i => i.elim0)
  dsimp only [Cert.Pre_experts_in_range.fn] at h1
  have h2 := Host.reduce_andi_all _ _ _ _ _ h1 y
  have h3 : IntOp.andi (IntOp.cmpi .sge (a0 y) 0#32) (IntOp.cmpi .slt (a0 y) 32#32) = 1#1 := h2
  rw [IntOp.andi_eq_one, IntOp.cmpi_sge, IntOp.cmpi_slt] at h3
  have h4 : (0#32).toInt = 0 := rfl
  have h5 : (32#32).toInt = 32 := rfl
  have h6 := BitVec.toInt_eq_toNat_cond (a0 y)
  have h7 := (a0 y).isLt
  split at h6 <;> omega

/-- A block that is one matrix of a stack of 32 lies inside the stack. -/
theorem inside_stack (k A B : ℕ) (hk : k < 32) : ∀ a : Fin 3, ((![k, 0, 0] : Fin 3 → ℕ) a + 1) * (![1, A, B] : Fin 3 → ℕ) a ≤ (![32, A, B] : Fin 3 → ℕ) a := fun a => by
  match a with
  | ⟨0, _⟩ => show (k + 1) * 1 ≤ 32; omega
  | ⟨1, _⟩ => show (0 + 1) * A ≤ A; omega
  | ⟨2, _⟩ => show (0 + 1) * B ≤ B; omega

/-- The call's blocks lie inside their arrays where the words are below 32. -/
theorem ok_ideal {F : FTy → Type} [FloatOps F] (m : (ℓ : Loc Cert.KernelIdeal.nD Cert.KernelIdeal.τ Cert.KernelIdeal.sig) → Buf (Elt F) ℓ)
    (h : ∀ y : Cert.KernelIdeal.S289.Idx, ((tbl m 0 : Cert.KernelIdeal.S289.Idx → BitVec 32) y).toNat < 32) : Ok m := by
  refine ⟨?_, ?_, ?_, ?_⟩ <;> intro i
  · exact ⟨inside_stack _ 1024 2048 (h _), .inl rfl⟩
  · exact ⟨inside_stack _ 1 2048 (h _), .inl rfl⟩
  · exact ⟨inside_stack _ 1024 1024 (h _), .inl rfl⟩
  · exact ⟨inside_stack _ 1 1024 (h _), .inl rfl⟩

end Cert.Experts

end
-- ==== Proof.ExpertsRef.lean ====
module

public import proofs.«01_k».proof.Defs
public import proofs.«01_k».proof.Proof.Gen.ReferenceIdeal
public import Idealize.ShloMosaic.Lib.Pointwise

@[expose] public section

set_option maxRecDepth 16384

noncomputable section

namespace Cert.Experts

open Cert.ReferenceIdeal Cert.ReferenceIdeal.Gen
open Idealize.ShloMosaic

/-! ## Whole rows taken from a stack, by a column of start indices -/

/-- Matrices taken from a stack of `N`: result matrix `i` is the stack's at start index `i`, read signed and clamped. -/
theorem gather_stack_apply {α : Type} {w N R A B : ℕ} (d : GatherDims ⟨3, ![N, A, B]⟩ ⟨2, ![R, 1]⟩ ⟨3, ![R, A, B]⟩)
    (h1 : d.offsetDims = [1, 2]) (h2 : d.collapsedSliceDims = [0]) (h3 : d.operandBatchingDims = []) (h4 : d.startIndicesBatchingDims = [])
    (h5 : d.startIndexMap = [0]) (h6 : d.indexVectorDim = 1) (h7 : d.sliceSizes = ![1, A, B]) (hN : 0 < N)
    (x : (⟨3, ![N, A, B]⟩ : Shape).Idx → α) (idx : IVec ⟨2, ![R, 1]⟩ w) (r : Fin R) (a : Fin A) (b : Fin B) :
    Host.gather d x idx (ix3 r a b) = x (ix3 ⟨min (idx (ix2 r 0)).toInt.toNat (N - 1), by omega⟩ a b) := by
  obtain ⟨od, cd, ob, sb, sm, iv, sz, wf⟩ := d
  simp only at h1 h2 h3 h4 h5 h6 h7
  subst h1 h2 h3 h4 h5 h6 h7
  unfold Host.gather
  congr 1
  funext p
  refine Fin.ext ?_
  show GatherDims.start _ (ix3 r a b) idx p + GatherDims.batchCoord _ (ix3 r a b) p + GatherDims.offCoord _ (ix3 r a b) p = _
  rw [GatherDims.batchCoord_eq_zero _ _ _ List.not_mem_nil, Nat.add_zero]
  match p with
  | ⟨0, _⟩ =>
    rw [GatherDims.offCoord_eq_zero _ _ _ (fun h => ((GatherDims.mem_sKept _ _).mp h).1 (List.mem_singleton.mpr rfl)), Nat.add_zero]
    unfold GatherDims.start
    rw [dif_pos (by exact List.mem_singleton.mpr rfl)]
    show min (idx (GatherDims.siIdx _ _ _)).toInt.toNat _ = _
    have hsi : ∀ k : Fin 1, GatherDims.siIdx (⟨[1, 2], [0], [], [], [0], 1, ![1, A, B], wf⟩ : GatherDims ⟨3, ![N, A, B]⟩ ⟨2, ![R, 1]⟩ ⟨3, ![R, A, B]⟩) (ix3 r a b) k = ix2 r 0 := fun k => by
      funext q; refine Fin.ext ?_
      match q with
      | ⟨0, _⟩ => rfl
      | ⟨1, _⟩ => obtain rfl : k = 0 := Subsingleton.elim _ _; rfl
    exact congrArg (fun z => min (idx z).toInt.toNat (N - 1)) (hsi _)
  | ⟨1, _⟩ =>
    unfold GatherDims.start
    rw [dif_neg (fun h => absurd (congrArg Fin.val (List.mem_singleton.mp h)) (by dsimp; omega))]
    exact Nat.zero_add _
  | ⟨2, _⟩ =>
    unfold GatherDims.start
    rw [dif_neg (fun h => absurd (congrArg Fin.val (List.mem_singleton.mp h)) (by dsimp; omega))]
    exact Nat.zero_add _

/-- Rows taken from a matrix of `N` rows, likewise. -/
theorem gather_rows_apply {α : Type} {w N R A : ℕ} (d : GatherDims ⟨2, ![N, A]⟩ ⟨2, ![R, 1]⟩ ⟨2, ![R, A]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, A]) (hN : 0 < N)
    (x : (⟨2, ![N, A]⟩ : Shape).Idx → α) (idx : IVec ⟨2, ![R, 1]⟩ w) (r : Fin R) (a : Fin A) :
    Host.gather d x idx (ix2 r a) = x (ix2 ⟨min (idx (ix2 r 0)).toInt.toNat (N - 1), by omega⟩ a) := by
  obtain ⟨od, cd, ob, sb, sm, iv, sz, wf⟩ := d
  simp only at h1 h2 h3 h4 h5 h6 h7
  subst h1 h2 h3 h4 h5 h6 h7
  unfold Host.gather
  congr 1
  funext p
  refine Fin.ext ?_
  show GatherDims.start _ (ix2 r a) idx p + GatherDims.batchCoord _ (ix2 r a) p + GatherDims.offCoord _ (ix2 r a) p = _
  rw [GatherDims.batchCoord_eq_zero _ _ _ List.not_mem_nil, Nat.add_zero]
  match p with
  | ⟨0, _⟩ =>
    rw [GatherDims.offCoord_eq_zero _ _ _ (fun h => ((GatherDims.mem_sKept _ _).mp h).1 (List.mem_singleton.mpr rfl)), Nat.add_zero]
    unfold GatherDims.start
    rw [dif_pos (by exact List.mem_singleton.mpr rfl)]
    show min (idx (GatherDims.siIdx _ _ _)).toInt.toNat _ = _
    have hsi : ∀ k : Fin 1, GatherDims.siIdx (⟨[1], [0], [], [], [0], 1, ![1, A], wf⟩ : GatherDims ⟨2, ![N, A]⟩ ⟨2, ![R, 1]⟩ ⟨2, ![R, A]⟩) (ix2 r a) k = ix2 r 0 := fun k => by
      funext q; refine Fin.ext ?_
      match q with
      | ⟨0, _⟩ => rfl
      | ⟨1, _⟩ => obtain rfl : k = 0 := Subsingleton.elim _ _; rfl
    exact congrArg (fun z => min (idx z).toInt.toNat (N - 1)) (hsi _)
  | ⟨1, _⟩ =>
    unfold GatherDims.start
    rw [dif_neg (fun h => absurd (congrArg Fin.val (List.mem_singleton.mp h)) (by dsimp; omega))]
    exact Nat.zero_add _

/-! ## The reference's term, in its steps -/

/-- The start indices: each word, with 32 added where it is negative, as a column. -/
def startOf (blk : IVec S289 32) : IVec S289x1 32 :=
  broadcastInDim S289x1 ![0] bcast_S289_S289x1_0
    (select (cmpi .slt blk (broadcastInDim S289 ![] bcast_S_S289 (constantI S_ 32 0#32)))
      (addi blk (broadcastInDim S289 ![] bcast_S_S289 (constantI S_ 32 32#32))) blk)

/-- A word below 32 is its own start index, and picks its own place. -/
theorem startOf_pick (blk : IVec S289 32) (n : Fin 289) (h : (blk (ix1 n)).toNat < 32) :
    min (startOf blk (ix2 n 0)).toInt.toNat (32 - 1) = (blk (ix1 n)).toNat := by
  have e : startOf blk (ix2 n 0) = blk (ix1 n) := by
    pointwise [startOf]
    have h1 : ¬IntOp.cmpi .slt (blk (ix1 n)) 0#32 = 1#1 := by
      rw [IntOp.cmpi_slt, BitVec.toInt_eq_toNat_of_lt (by omega)]
      show ¬((blk (ix1 n)).toNat : ℤ) < 0
      omega
    exact if_neg h1
  rw [e, BitVec.toInt_eq_toNat_of_lt (by omega)]
  omega

variable (blk : IVec S289 32) (x : FVec Ideal S147968x1024 .f32) (wu : FVec Ideal S1x32x1024x2048 .f32) (bu : FVec Ideal S1x32x2048 .f32)
  (wd : FVec Ideal S1x32x1024x1024 .f32) (bd : FVec Ideal S1x32x1024 .f32)

/-- The first product with its bias, before the activation. -/
def refHidden : FVec Ideal S289x512x2048 .f32 :=
  addf (Host.dotGeneral dot_S289x512x1024_S289x1024x2048_S289x512x2048_2_1_1_2_0_0 none (shapeCast S289x512x1024 x shapeCasts_S147968x1024_S289x512x1024)
      (Host.gather gather_S32x1024x2048_S289x1_S289x1024x2048_12_0_n_n_0_1_110242048 (shapeCast S32x1024x2048 wu shapeCasts_S1x32x1024x2048_S32x1024x2048) (startOf blk)))
    (broadcastInDim S289x512x2048 ![0, 1, 2] bcast_S289x1x2048_S289x512x2048_0_1_2
      (broadcastInDim S289x1x2048 ![0, 2] bcast_S289x2048_S289x1x2048_0_2
        (Host.gather gather_S32x2048_S289x1_S289x2048_1_0_n_n_0_1_12048 (shapeCast S32x2048 bu shapeCasts_S1x32x2048_S32x2048) (startOf blk))))

/-- A number at every place. -/
abbrev fill (v : BitVec 32) : FVec Ideal S289x512x1024 .f32 := broadcastInDim S289x512x1024 ![] bcast_S_S289x512x1024 (constant S_ .f32 v)

/-- The gate, at most 7. -/
def refGate (h : FVec Ideal S289x512x2048 .f32) : FVec Ideal S289x512x1024 .f32 :=
  minimumf (extractStridedSlice S289x512x1024 ![0, 0, 0] h slices_S289x512x2048_S289x512x1024_0_0_0) (fill 0x40E00000#32)

/-- The activation: the clipped other half and one, by the gate, by the gate's logistic function. -/
def refAct (h : FVec Ideal S289x512x2048 .f32) : FVec Ideal S289x512x1024 .f32 :=
  mulf (mulf (addf (minimumf (fill 0x40E00000#32) (maximumf (fill 0xC0E00000#32)
      (extractStridedSlice S289x512x1024 ![0, 0, 1024] h slices_S289x512x2048_S289x512x1024_0_0_1024))) (fill 0x3F800000#32)) (refGate h))
    (Host.divf (fill 0x3F800000#32) (addf (fill 0x3F800000#32) (Host.exp (Host.negf (mulf (fill 0x3FD9DB23#32) (refGate h))))))

/-- The reference's result. -/
def refOut : FVec Ideal S147968x1024 .f32 :=
  shapeCast S147968x1024
    (addf (Host.dotGeneral dot_S289x512x1024_S289x1024x1024_S289x512x1024_2_1_1_2_0_0 none (refAct (refHidden blk x wu bu))
        (Host.gather gather_S32x1024x1024_S289x1_S289x1024x1024_12_0_n_n_0_1_110241024 (shapeCast S32x1024x1024 wd shapeCasts_S1x32x1024x1024_S32x1024x1024) (startOf blk)))
      (broadcastInDim S289x512x1024 ![0, 1, 2] bcast_S289x1x1024_S289x512x1024_0_1_2
        (broadcastInDim S289x1x1024 ![0, 2] bcast_S289x1024_S289x1x1024_0_2
          (Host.gather gather_S32x1024_S289x1_S289x1024_1_0_n_n_0_1_11024 (shapeCast S32x1024 bd shapeCasts_S1x32x1024_S32x1024) (startOf blk)))))
    shapeCasts_S289x512x1024_S147968x1024

/-! ## The same at an index -/

variable (hblk : ∀ n, (blk (ix1 n)).toNat < 32)

/-- The expert of block `n`. -/
abbrev expertOf (n : Fin 289) : Fin 32 := ⟨(blk (ix1 n)).toNat, hblk n⟩

/-- Row `r` of block `n` among all the rows. -/
abbrev rowOf (n : Fin 289) (r : Fin 512) : Fin 147968 := ⟨n.val * 512 + r.val, by omega⟩

include hblk in
/-- The first product of a row of block `n`: with the weights of the block's expert. -/
theorem refHidden_apply (n : Fin 289) (r : Fin 512) (f : Fin 2048) :
    refHidden blk x wu bu (ix3 n r f)
      = (∑ k : Fin 1024, x (ix2 (rowOf n r) k) * wu (ix4 0 (expertOf blk hblk n) k f)) + bu (ix3 0 (expertOf blk hblk n) f) := by
  have e1 : ∀ k, Host.gather gather_S32x1024x2048_S289x1_S289x1024x2048_12_0_n_n_0_1_110242048 (shapeCast S32x1024x2048 wu shapeCasts_S1x32x1024x2048_S32x1024x2048) (startOf blk) (ix3 n k f)
      = wu (ix4 0 (expertOf blk hblk n) k f) := fun k => by
    rw [gather_stack_apply _ rfl rfl rfl rfl rfl rfl rfl (by decide)]
    simp only [startOf_pick blk n (hblk n)]
    pointwise
  have e2 : Host.gather gather_S32x2048_S289x1_S289x2048_1_0_n_n_0_1_12048 (shapeCast S32x2048 bu shapeCasts_S1x32x2048_S32x2048) (startOf blk) (ix2 n f)
      = bu (ix3 0 (expertOf blk hblk n) f) := by
    rw [gather_rows_apply _ rfl rfl rfl rfl rfl rfl rfl (by decide)]
    simp only [startOf_pick blk n (hblk n)]
    pointwise
  pointwise [refHidden]
  simp only [e1, e2]

/-- The activation at one place, of the two halves there. -/
def actOf (g u : EReal) : EReal :=
  (min (Ideal.ofBits .f32 0x40E00000#32) (max (Ideal.ofBits .f32 0xC0E00000#32) u) + Ideal.ofBits .f32 0x3F800000#32) * min g (Ideal.ofBits .f32 0x40E00000#32)
    * Ideal.div (Ideal.ofBits .f32 0x3F800000#32) (Ideal.ofBits .f32 0x3F800000#32 + Ideal.exp (-(Ideal.ofBits .f32 0x3FD9DB23#32 * min g (Ideal.ofBits .f32 0x40E00000#32))))

theorem refAct_apply (h : FVec Ideal S289x512x2048 .f32) (n : Fin 289) (r : Fin 512) (f : Fin 1024) :
    refAct h (ix3 n r f) = actOf (h (ix3 n r ⟨f.val, by omega⟩)) (h (ix3 n r ⟨1024 + f.val, by omega⟩)) := by
  pointwise [refAct, refGate, actOf]

/-- A row's hidden value at `f`, of the row, and the weights and biases of expert `e`. -/
def hidden (row : Fin 1024 → EReal) (wu : FVec Ideal S1x32x1024x2048 .f32) (bu : FVec Ideal S1x32x2048 .f32) (e : Fin 32) (f : Fin 2048) : EReal :=
  (∑ k : Fin 1024, row k * wu (ix4 0 e k f)) + bu (ix3 0 e f)

/-- THE VALUE: what expert `e` makes of a row, at column `j`. -/
def expertRow (row : Fin 1024 → EReal) (e : Fin 32) (j : Fin 1024) : EReal :=
  (∑ f : Fin 1024, actOf (hidden row wu bu e ⟨f.val, by omega⟩) (hidden row wu bu e ⟨1024 + f.val, by omega⟩) * wd (ix4 0 e f j)) + bd (ix3 0 e j)

include hblk in
/-- The reference at a row of block `n`: the block's expert's value of the row. -/
theorem refOut_apply (n : Fin 289) (r : Fin 512) (j : Fin 1024) :
    refOut blk x wu bu wd bd (ix2 (rowOf n r) j) = expertRow wu bu wd bd (fun k => x (ix2 (rowOf n r) k)) (expertOf blk hblk n) j := by
  have e1 : ∀ k, Host.gather gather_S32x1024x1024_S289x1_S289x1024x1024_12_0_n_n_0_1_110241024 (shapeCast S32x1024x1024 wd shapeCasts_S1x32x1024x1024_S32x1024x1024) (startOf blk) (ix3 n k j)
      = wd (ix4 0 (expertOf blk hblk n) k j) := fun k => by
    rw [gather_stack_apply _ rfl rfl rfl rfl rfl rfl rfl (by decide)]
    simp only [startOf_pick blk n (hblk n)]
    pointwise
  have e2 : Host.gather gather_S32x1024_S289x1_S289x1024_1_0_n_n_0_1_11024 (shapeCast S32x1024 bd shapeCasts_S1x32x1024_S32x1024) (startOf blk) (ix2 n j)
      = bd (ix3 0 (expertOf blk hblk n) j) := by
    rw [gather_rows_apply _ rfl rfl rfl rfl rfl rfl rfl (by decide)]
    simp only [startOf_pick blk n (hblk n)]
    pointwise
  have e0 : shapeCast S147968x1024
    (addf (Host.dotGeneral dot_S289x512x1024_S289x1024x1024_S289x512x1024_2_1_1_2_0_0 none (refAct (refHidden blk x wu bu))
        (Host.gather gather_S32x1024x1024_S289x1_S289x1024x1024_12_0_n_n_0_1_110241024 (shapeCast S32x1024x1024 wd shapeCasts_S1x32x1024x1024_S32x1024x1024) (startOf blk)))
      (broadcastInDim S289x512x1024 ![0, 1, 2] bcast_S289x1x1024_S289x512x1024_0_1_2
        (broadcastInDim S289x1x1024 ![0, 2] bcast_S289x1024_S289x1x1024_0_2
          (Host.gather gather_S32x1024_S289x1_S289x1024_1_0_n_n_0_1_11024 (shapeCast S32x1024 bd shapeCasts_S1x32x1024_S32x1024) (startOf blk)))))
    shapeCasts_S289x512x1024_S147968x1024 (ix2 (rowOf n r) j) = (∑ f : Fin 1024, refAct (refHidden blk x wu bu) (ix3 n r f) *
      Host.gather gather_S32x1024x1024_S289x1_S289x1024x1024_12_0_n_n_0_1_110241024 (shapeCast S32x1024x1024 wd shapeCasts_S1x32x1024x1024_S32x1024x1024) (startOf blk) (ix3 n f j))
       + Host.gather gather_S32x1024_S289x1_S289x1024_1_0_n_n_0_1_11024 (shapeCast S32x1024 bd shapeCasts_S1x32x1024_S32x1024) (startOf blk) (ix2 n j) := by
    pointwise
    have q1 : ∀ h, (⟨(n.val * 512 + r.val) / 512, h⟩ : Fin 289) = n := fun h => Fin.ext (by dsimp only; omega)
    have q2 : ∀ h, (⟨(n.val * 512 + r.val) % 512, h⟩ : Fin 512) = r := fun h => Fin.ext (by dsimp only; omega)
    simp only [q1, q2]
  unfold refOut
  rw [e0, e2]
  simp only [e1, refAct_apply, refHidden_apply blk x wu bu hblk]
  rfl

end Cert.Experts

end
-- ==== Proof.ExpertsValue.lean ====
module

public import proofs.«01_k».proof.Proof.ExpertsRun
public import proofs.«01_k».proof.Proof.ExpertsRef
public import Idealize.ShloMosaic.Lib.Pipeline.Covers
public import Idealize.ShloMosaic.Lib.Pipeline.ValueKit

@[expose] public section

set_option maxRecDepth 16384

noncomputable section

namespace Cert.Experts

open Cert.KernelIdeal Cert.KernelIdeal.Gen
open Idealize.ShloMosaic Idealize.ShloMosaic.TcCoe Idealize.SL.Sem

/-- The slope of the logistic function, and its opposite as the kernel writes it. -/
theorem slope_neg : Ideal.ofBits .f32 0xBFD9DB23#32 = -Ideal.ofBits .f32 0x3FD9DB23#32 := by
  simp [Ideal.ofBits, Ideal.ieee, -EReal.coe_mul, -EReal.coe_neg]
  exact EReal.coe_neg _

/-- The block that the body leaves, at an index: the value of the row under the weights it is handed. -/
theorem outBlock_apply (x0 : FVec Ideal S512x1024 .f32) (x1 : FVec Ideal S1x1024x2048 .f32) (x2 : FVec Ideal S1x1x2048 .f32) (x3 : FVec Ideal S1x1024x1024 .f32)
    (x4 : FVec Ideal S1x1x1024 .f32) (r : Fin 512) (j : Fin 1024) :
    outBlock (F := Ideal) x0 (k0_pay2 (F := Ideal) x1) x2 (k0_pay3 (F := Ideal) x3) x4 (ix2 r j)
      = (∑ f : Fin 1024, actOf ((∑ k : Fin 1024, x0 (ix2 r k) * x1 (ix3 0 k ⟨f.val, by omega⟩)) + x2 (ix3 0 0 ⟨f.val, by omega⟩))
            ((∑ k : Fin 1024, x0 (ix2 r k) * x1 (ix3 0 k ⟨1024 + f.val, by omega⟩)) + x2 (ix3 0 0 ⟨1024 + f.val, by omega⟩)) * x3 (ix3 0 f j))
          + x4 (ix3 0 0 j) := by
  have e : ∀ g : EReal, Ideal.ofBits .f32 0xBFD9DB23#32 * g = -(Ideal.ofBits .f32 0x3FD9DB23#32 * g) := fun g => by rw [slope_neg, EReal.neg_mul]
  pointwise [outBlock, k0_pay1, k0_pay2, k0_pay3, k0_pay4, actOf, e]

variable (m : (ℓ : Loc nD τ sig) → Buf (Elt Ideal) ℓ) (hO : Ok m)

/-- The arguments as launched. -/
abbrev argBlk (c : Dev nD) : IVec S289 32 := m ((c : Thread nD τ).loc main_arg0)
abbrev argRows (c : Dev nD) : FVec Ideal S147968x1024 .f32 := m ((c : Thread nD τ).loc main_arg1)
abbrev argWu (c : Dev nD) : FVec Ideal S1x32x1024x2048 .f32 := m ((c : Thread nD τ).loc main_arg2)
abbrev argBu (c : Dev nD) : FVec Ideal S1x32x2048 .f32 := m ((c : Thread nD τ).loc main_arg3)
abbrev argWd (c : Dev nD) : FVec Ideal S1x32x1024x1024 .f32 := m ((c : Thread nD τ).loc main_arg4)
abbrev argBd (c : Dev nD) : FVec Ideal S1x32x1024 .f32 := m ((c : Thread nD τ).loc main_arg5)

/-- The table is the first argument. -/
theorem word_eq (c : Dev nD) (n : Fin 289) : word m n = argBlk m c (ix1 n) := by
  obtain rfl : c = 0 := Subsingleton.elim _ _
  exact congrFun (V_of_not_written m 0 main_arg0 (by decide)) (ix1 n)

variable (hblk : ∀ (c : Dev nD) (n : Fin 289), (argBlk m c (ix1 n)).toNat < 32)

/-- The point's block number. -/
abbrev pt (t : Fin (cfgM m hO).N) : Fin 289 := ⟨t.val, point_lt m hO t⟩

/-- What the call finds in the weights' and biases' arrays: the arguments, reshaped. -/
theorem V_wu (c : Dev nD) : (V m c main_v0 : FVec Ideal S32x1024x2048 .f32) = shapeCast S32x1024x2048 (argWu m c) shapeCasts_S1x32x1024x2048_S32x1024x2048 := by
  unfold V; entry_read; rfl
theorem V_bu (c : Dev nD) : (V m c main_v2 : FVec Ideal S32x1x2048 .f32)
    = broadcastInDim S32x1x2048 ![0, 2] bcast_S32x2048_S32x1x2048_0_2 (shapeCast S32x2048 (argBu m c) shapeCasts_S1x32x2048_S32x2048) := by
  unfold V; entry_read; rfl
theorem V_wd (c : Dev nD) : (V m c main_v3 : FVec Ideal S32x1024x1024 .f32) = shapeCast S32x1024x1024 (argWd m c) shapeCasts_S1x32x1024x1024_S32x1024x1024 := by
  unfold V; entry_read; rfl
theorem V_bd (c : Dev nD) : (V m c main_v5 : FVec Ideal S32x1x1024 .f32)
    = broadcastInDim S32x1x1024 ![0, 2] bcast_S32x1024_S32x1x1024_0_2 (shapeCast S32x1024 (argBd m c) shapeCasts_S1x32x1024_S32x1024) := by
  unfold V; entry_read; rfl

/-- The expert of point `t`. -/
abbrev expertAt (c : Dev nD) (t : Fin (cfgM m hO).N) : Fin 32 := expertOf (argBlk m c) (hblk c) (pt m hO t)

/-- A coordinate of a block's place, the block's index known. -/
theorem place_at {n a : ℕ} (h : n = a) (s y z : ℕ) (hz : a * s + y = z) : n * s + y = z := by rw [h, hz]

/-- Where each window's block lies. -/
theorem place_0 (t : Fin (cfgM m hO).N) : (pcfg0.win (adm m hO) 0).index t = ![t.val, 0] := by
  have e : (pcfg0.win (adm m hO) 0).index t = ![(BitVec.ofNat 32 ((grid0.coords t) 0).val).toNat, 0] := rfl
  have := point_lt m hO t
  rw [e, coord_val m hO t, BitVec.toNat_ofNat, Nat.mod_eq_of_lt (by omega)]
theorem place_5 (t : Fin (cfgM m hO).N) : (pcfg0.win (adm m hO) 5).index t = ![t.val, 0] := place_0 m hO t
theorem place_1 (c : Dev nD) (t : Fin (cfgM m hO).N) : (pcfg0.win (adm m hO) 1).index t = ![(expertAt m hO hblk c t).val, 0, 0] := by
  have e := index_1 m hO t
  rw [word_eq m c] at e
  exact e
theorem place_2 (c : Dev nD) (t : Fin (cfgM m hO).N) : (pcfg0.win (adm m hO) 2).index t = ![(expertAt m hO hblk c t).val, 0, 0] := place_1 m hO hblk c t
theorem place_3 (c : Dev nD) (t : Fin (cfgM m hO).N) : (pcfg0.win (adm m hO) 3).index t = ![(expertAt m hO hblk c t).val, 0, 0] := place_1 m hO hblk c t
theorem place_4 (c : Dev nD) (t : Fin (cfgM m hO).N) : (pcfg0.win (adm m hO) 4).index t = ![(expertAt m hO hblk c t).val, 0, 0] := place_1 m hO hblk c t

/-- The blocks at an index: the rows of the block, and the weights and biases of the block's expert. -/
theorem iblk_0 (c : Dev nD) (t : Fin (cfgM m hO).N) (r : Fin 512) (k : Fin 1024) :
    (iblk m hO c 0 t : FVec Ideal S512x1024 .f32) (ix2 r k) = argRows m c (ix2 (rowOf (pt m hO t) r) k) := by
  refine Eq.trans ?_ (congrFun (V_of_not_written m c main_arg1 (by decide)) _)
  blk_ext [iblk]
  · exact place_at (congrFun (place_0 m hO t) 0) 512 _ _ rfl
  · exact place_at (congrFun (place_0 m hO t) 1) 1024 _ _ (by show 0 * _ + _ = _; omega)
theorem iblk_1 (c : Dev nD) (t : Fin (cfgM m hO).N) (k : Fin 1024) (f : Fin 2048) :
    (iblk m hO c 1 t : FVec Ideal S1x1024x2048 .f32) (ix3 0 k f) = argWu m c (ix4 0 (expertAt m hO hblk c t) k f) := by
  have e : (iblk m hO c 1 t : FVec Ideal S1x1024x2048 .f32) (ix3 0 k f) = (V m c main_v0 : FVec Ideal S32x1024x2048 .f32) (ix3 (expertAt m hO hblk c t) k f) := by
    blk_ext [iblk]
    · exact congrFun (place_1 m hO hblk c t) 0
    · exact place_at (congrFun (place_1 m hO hblk c t) 1) 1024 _ _ (by show 0 * _ + _ = _; omega)
    · exact place_at (congrFun (place_1 m hO hblk c t) 2) 2048 _ _ (by show 0 * _ + _ = _; omega)
  rw [e, V_wu]; pointwise
theorem iblk_2 (c : Dev nD) (t : Fin (cfgM m hO).N) (f : Fin 2048) :
    (iblk m hO c 2 t : FVec Ideal S1x1x2048 .f32) (ix3 0 0 f) = argBu m c (ix3 0 (expertAt m hO hblk c t) f) := by
  have e : (iblk m hO c 2 t : FVec Ideal S1x1x2048 .f32) (ix3 0 0 f) = (V m c main_v2 : FVec Ideal S32x1x2048 .f32) (ix3 (expertAt m hO hblk c t) 0 f) := by
    blk_ext [iblk]
    · exact congrFun (place_2 m hO hblk c t) 0
    · exact congrFun (place_2 m hO hblk c t) 1
    · exact place_at (congrFun (place_2 m hO hblk c t) 2) 2048 _ _ (by show 0 * _ + _ = _; omega)
  rw [e, V_bu]; pointwise
theorem iblk_3 (c : Dev nD) (t : Fin (cfgM m hO).N) (k : Fin 1024) (f : Fin 1024) :
    (iblk m hO c 3 t : FVec Ideal S1x1024x1024 .f32) (ix3 0 k f) = argWd m c (ix4 0 (expertAt m hO hblk c t) k f) := by
  have e : (iblk m hO c 3 t : FVec Ideal S1x1024x1024 .f32) (ix3 0 k f) = (V m c main_v3 : FVec Ideal S32x1024x1024 .f32) (ix3 (expertAt m hO hblk c t) k f) := by
    blk_ext [iblk]
    · exact congrFun (place_3 m hO hblk c t) 0
    · exact place_at (congrFun (place_3 m hO hblk c t) 1) 1024 _ _ (by show 0 * _ + _ = _; omega)
    · exact place_at (congrFun (place_3 m hO hblk c t) 2) 1024 _ _ (by show 0 * _ + _ = _; omega)
  rw [e, V_wd]; pointwise
theorem iblk_4 (c : Dev nD) (t : Fin (cfgM m hO).N) (f : Fin 1024) :
    (iblk m hO c 4 t : FVec Ideal S1x1x1024 .f32) (ix3 0 0 f) = argBd m c (ix3 0 (expertAt m hO hblk c t) f) := by
  have e : (iblk m hO c 4 t : FVec Ideal S1x1x1024 .f32) (ix3 0 0 f) = (V m c main_v5 : FVec Ideal S32x1x1024 .f32) (ix3 (expertAt m hO hblk c t) 0 f) := by
    blk_ext [iblk]
    · exact congrFun (place_4 m hO hblk c t) 0
    · exact congrFun (place_4 m hO hblk c t) 1
    · exact place_at (congrFun (place_4 m hO hblk c t) 2) 1024 _ _ (by show 0 * _ + _ = _; omega)
  rw [e, V_bd]; pointwise

/-- The block of rows at an index: the block's expert's value of the row. -/
theorem rows_apply (c : Dev nD) (t : Fin (cfgM m hO).N) (r : Fin 512) (j : Fin 1024) :
    rows m hO c t (ix2 r j) = expertRow (argWu m c) (argBu m c) (argWd m c) (argBd m c) (fun k => argRows m c (ix2 (rowOf (pt m hO t) r) k)) (expertAt m hO hblk c t) j := by
  refine (outBlock_apply (iblk m hO c 0 t) (iblk m hO c 1 t) (iblk m hO c 2 t) (iblk m hO c 3 t) (iblk m hO c 4 t) r j).trans ?_
  simp only [iblk_0 m hO c t, iblk_1 m hO hblk c t, iblk_2 m hO hblk c t, iblk_3 m hO hblk c t, iblk_4 m hO hblk c t]
  rfl

include hO hblk in
/-- THE RESULT ARRAY after the run is the reference's. -/
theorem final (c : Dev nD) : (dats m hO 0 c).arrAt 5 (cfgM m hO).N
    = (refOut (argBlk m c) (argRows m c) (argWu m c) (argBu m c) (argWd m c) (argBd m c) : FVec Ideal S147968x1024 .f32) := by
  have hcov : ((cfgM m hO).win 5).Covers := ((cfgM m hO).win 5).covers_of_indexMap_surj rfl
    (by show ∀ a : Fin 2, 0 < S512x1024.size a; decide) fun β => by
    have h0 : (β (0 : Fin 2)).val < 289 := lt_of_lt_of_eq (β (0 : Fin 2)).isLt (by show (147968 + 512 - 1) / 512 = 289; norm_num)
    have h1 : (β (1 : Fin 2)).val < 1 := lt_of_lt_of_eq (β (1 : Fin 2)).isLt (by show (1024 + 1024 - 1) / 1024 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m hO 0 c).arrAt_eq_of_covers 5 _ hcov fun t hf y => ?_
  blk_simp
  rw [after_5]
  obtain ⟨r, j, rfl⟩ : ∃ (r : Fin 512) (j : Fin 1024), y = (ix2 r j : S512x1024.Idx) := ⟨y (0 : Fin 2), y (1 : Fin 2), by funext a; match a with | ⟨0, _⟩ => rfl | ⟨1, _⟩ => rfl⟩
  have e : ((((cfgM m hO).win 5).blk t).view.emb (ix2 r j) : S147968x1024.Idx) = ix2 (rowOf (pt m hO t) r) j := by
    blk_ext []
    · exact place_at (congrFun (place_5 m hO t) 0) 512 _ _ rfl
    · exact place_at (congrFun (place_5 m hO t) 1) 1024 _ _ (by show 0 * _ + _ = _; omega)
  exact (rows_apply m hO hblk c t r j).trans ((refOut_apply _ _ _ _ _ _ (hblk c) (pt m hO t) r j).symm.trans (congrArg _ e.symm))

include hO hblk in
/-- The run: the result is the reference's, the arguments as they were. -/
theorem value_here (ρ : Dev nD → PrngReg) : θ_run defs (onTc (τ := τ) (main (F := Ideal))) ⟨m, fun _ => 0, ρ⟩ (fun r => ∀ c : Dev nD,
      r.2.mem ((c.tc : Thread nD τ).loc main_v6) = (refOut (argBlk m c) (argRows m c) (argWu m c) (argBu m c) (argWd m c) (argBd m c) : FVec Ideal S147968x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(Pipeline.FramePost.out_eq h c 5).trans (final m hO hblk c),
      ((h c).2 main_arg0 (by decide : main_arg0 ∈ Pipeline.restRefs sig spec0)).trans (V_of_not_written m c main_arg0 (by decide)),
      (Pipeline.FramePost.in_eq h c 0 rfl).trans ((A_eq m hO c 0).trans (V_of_not_written m c main_arg1 (by decide))),
      ((h c).2 main_arg2 (by decide : main_arg2 ∈ Pipeline.restRefs sig spec0)).trans (V_of_not_written m c main_arg2 (by decide)),
      ((h c).2 main_arg3 (by decide : main_arg3 ∈ Pipeline.restRefs sig spec0)).trans (V_of_not_written m c main_arg3 (by decide)),
      ((h c).2 main_arg4 (by decide : main_arg4 ∈ Pipeline.restRefs sig spec0)).trans (V_of_not_written m c main_arg4 (by decide)),
      ((h c).2 main_arg5 (by decide : main_arg5 ∈ Pipeline.restRefs sig spec0)).trans (V_of_not_written m c main_arg5 (by decide))⟩)
    (run_main m ρ hO)

end Cert.Experts

end
-- ==== Proof.ExpertsRefRun.lean ====
module

public import proofs.«01_k».proof.Proof.ExpertsRef
public import Idealize.ShloMosaic.Lib.Claim

@[expose] public section

set_option maxRecDepth 16384

noncomputable section

namespace Cert.Experts

open Cert.ReferenceIdeal Cert.ReferenceIdeal.Gen
open Idealize.ShloMosaic Idealize.ShloMosaic.TcCoe Idealize.SL.Sem

set_option maxHeartbeats 4000000 in
/-- The reference's run: its result is its term, its arguments as they were. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v58) = (refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) : FVec Ideal S147968x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  rfl

end Cert.Experts

end
-- ==== Proof.ExpertsSame.lean ====
module

public import proofs.«01_k».proof.Defs
public import proofs.«01_k».proof.Proof.Gen.Kernel
public import proofs.«01_k».proof.Proof.Gen.KernelIdeal

@[expose] public section

set_option maxRecDepth 16384
set_option maxHeartbeats 1000000

namespace Cert.Experts

open Idealize.ShloMosaic

/-- The two programs' body tables are one: their texts are the same. -/
theorem bodies_same : Cert.Kernel.defs₀ (F := Bits) = Cert.KernelIdeal.defs₀ (F := Bits) := by
  unfold Cert.Kernel.defs₀ Cert.KernelIdeal.defs₀
  congr 1
  funext l a
  match l, a with
  | ⟨0, _⟩, (t, s) => rfl
  | ⟨_ + 1, h⟩, _ => exact absurd h (Nat.not_lt.2 (Nat.le_add_left _ _))

/-- So are their tables with the pipelines. -/
theorem defs_same : Cert.Kernel.defs (F := Bits) = Cert.KernelIdeal.defs (F := Bits) :=
  congrArg (Pipeline.defs (Cert.KernelIdeal.pcfgs (F := Bits))) bodies_same

/-- And their host programs. -/
theorem main_same : Cert.Kernel.main (F := Bits) = Cert.KernelIdeal.main (F := Bits) := rfl

end Cert.Experts

end
-- ==== Proof.InProjParts.lean ====
module

public import Idealize.ShloMosaic.Lib.Pipeline.Frame
public import Idealize.ShloMosaic.Lib.Pipeline.FrameBody
public import Idealize.ShloMosaic.Lib.Pipeline.ValueKit
public import Idealize.ShloMosaic.Lib.Pipeline.ReadBack
public import Idealize.ShloMosaic.Lib.Pointwise
public import Idealize.ShloMosaic.Lib.Pipeline.Value

@[expose] public section

noncomputable section

namespace Cert.Proj

open Idealize.ShloMosaic Idealize.SL.Sem

/-! ## Blocks cut into heads

A row of `H` heads of `D` columns each becomes `H` rows of `D` columns: row `n` of head `h` is row `n * H + h`. -/

variable {α : Type} {N M W H D : ℕ}

/-- The heads that start at column `o` of the rows `y`, each a row of its own. -/
def heads (o H : ℕ) (hH : 0 < H) (hM : M = N * H) (hW : o + H * D ≤ W) (y : (⟨2, ![N, W]⟩ : Shape).Idx → α) :
    (⟨2, ![M, D]⟩ : Shape).Idx → α := fun i =>
  y (ix2 ⟨(i (0 : Fin 2)).val / H, by
      have h : (i (0 : Fin 2)).val < M := (i (0 : Fin 2)).isLt
      rw [Nat.div_lt_iff_lt_mul hH]; omega⟩
    ⟨o + ((i (0 : Fin 2)).val % H) * D + (i (1 : Fin 2)).val, by
      have h1 : (i (1 : Fin 2)).val < D := (i (1 : Fin 2)).isLt
      have h0 := Nat.mod_lt (i (0 : Fin 2)).val hH
      have h2 : ((i (0 : Fin 2)).val % H + 1) * D ≤ H * D := Nat.mul_le_mul_right _ h0
      rw [Nat.add_mul, one_mul] at h2
      omega⟩)

/-- The heads at the place of row `n` of head `h`. -/
theorem heads_at (o H : ℕ) (hH : 0 < H) (hM : M = N * H) (hW : o + H * D ≤ W) (y : (⟨2, ![N, W]⟩ : Shape).Idx → α)
    (i : (⟨2, ![M, D]⟩ : Shape).Idx) (j : (⟨2, ![N, W]⟩ : Shape).Idx) (h : ℕ) (hh : h < H)
    (e0 : (i (0 : Fin 2)).val = h + H * (j (0 : Fin 2)).val) (e1 : (j (1 : Fin 2)).val = o + (h * D + (i (1 : Fin 2)).val)) :
    y j = heads o H hH hM hW y i := by
  unfold heads
  refine congrArg y (funext fun a => Fin.ext ?_)
  match a with
  | ⟨0, _⟩ =>
    show (j (0 : Fin 2)).val = (i (0 : Fin 2)).val / H
    rw [e0, Nat.add_mul_div_left _ _ hH, Nat.div_eq_of_lt hh, Nat.zero_add]
  | ⟨1, _⟩ =>
    show (j (1 : Fin 2)).val = o + ((i (0 : Fin 2)).val % H) * D + (i (1 : Fin 2)).val
    rw [e1, e0, Nat.add_mul_mod_self_left, Nat.mod_eq_of_lt hh]; omega

/-- A head cut out of the rows is the head's rows of `heads`. -/
theorem slice_eq_heads (o H : ℕ) (hH : 0 < H) (hM : M = N * H) (hW : o + H * D ≤ W) (y : (⟨2, ![N, W]⟩ : Shape).Idx → α)
    (h c : ℕ) (hh : h < H) (hc : c = h * D) (W' : ℕ)
    (s1 : (⟨2, ![N, W]⟩ : Shape).Slices ![0, o] ⟨2, ![N, W']⟩) (s2 : (⟨2, ![N, W']⟩ : Shape).Slices ![0, c] ⟨2, ![N, D]⟩)
    (x : (⟨2, ![N, D]⟩ : Shape).Idx) (i : (⟨2, ![M, D]⟩ : Shape).Idx)
    (e0 : (i (0 : Fin 2)).val = h + H * (x (0 : Fin 2)).val) (e1 : (i (1 : Fin 2)).val = 0 + 1 * (x (1 : Fin 2)).val) :
    extractStridedSlice ⟨2, ![N, D]⟩ ![0, c] (extractStridedSlice ⟨2, ![N, W']⟩ ![0, o] y s1) s2 x = heads o H hH hM hW y i := by
  subst hc
  refine heads_at o H hH hM hW y i _ h hh ?_ ?_
  · rw [e0]
    show h + H * (x (0 : Fin 2)).val = h + H * (0 + (0 + (x (0 : Fin 2)).val))
    rw [Nat.zero_add, Nat.zero_add]
  · rw [e1]
    show o + (h * D + (x (1 : Fin 2)).val) = _
    omega

/-- Every place lies in the rows of its head. -/
theorem mem_head (H : ℕ) (hM : M = N * H) (r : Rect (⟨2, ![M, D]⟩ : Shape)) (h : ℕ)
    (hoff : r.off = ![h, 0]) (hsize : r.size = ![N, D]) (hstride : r.stride = ![H, 1])
    (y : (⟨2, ![M, D]⟩ : Shape).Idx) (hy : (y (0 : Fin 2)).val % H = h) : y ∈ r.set := by
  rw [LoadRect.mem_set, hoff, hsize, hstride]
  have hlt : (y (0 : Fin 2)).val < M := (y (0 : Fin 2)).isLt
  intro a
  match a with
  | ⟨0, _⟩ =>
    have hH : 0 < H := Nat.pos_of_ne_zero fun h0 => by subst h0; omega
    refine ⟨(y (0 : Fin 2)).val / H, ?_, ?_⟩
    · show (y (0 : Fin 2)).val / H < N
      rw [Nat.div_lt_iff_lt_mul hH]; omega
    · show (y (0 : Fin 2)).val = h + H * ((y (0 : Fin 2)).val / H)
      rw [← hy]; exact (Nat.mod_add_div _ _).symm
  | ⟨1, _⟩ => exact ⟨(y (1 : Fin 2)).val, (y (1 : Fin 2)).isLt, by show (y (1 : Fin 2)).val = 0 + 1 * (y (1 : Fin 2)).val; omega⟩

/-- Writes that are blocks of `G` and cover leave `G`. -/
theorem read_writes_of_pieces {sig : RefSig} {sp : Space} {S : Shape} {e : EltTy} {Val : EltTy → Type} [∀ e, Nonempty (Val e)] (v : View sig .tc sp S e)
    (f : v.ty.Contents Val) (G : S.Idx → Val e) (L : List (View.Piece Val S e)) (hG : View.PiecesOf G L) (hc : ∀ y, ∃ p ∈ L, y ∈ p.1.set) :
    v.read Val (v.writes Val f L) = G := by
  rw [View.read_writes_eq_canon v f L hc]
  exact funext fun y => View.canon_apply_of_pieces G L hG.mem y (hc y)

/-! ## Rows gathered from a batch

The rows of `A` sequences of `B` positions, one after the other: row `n * B + s` is position `s` of sequence `n`. -/

variable {A B : ℕ}

/-- There is a position where there is a row. -/
theorem pos_of_row {n : ℕ} (hN : N = A * B) (h : n < N) : 0 < B :=
  Nat.pos_of_ne_zero fun h0 => by subst h0; subst hN; exact absurd h (Nat.not_lt_zero n)

/-- The batch's rows, one after the other. -/
def flat (hN : N = A * B) (y : (⟨3, ![A, B, W]⟩ : Shape).Idx → α) : (⟨2, ![N, W]⟩ : Shape).Idx → α := fun i =>
  have hB : 0 < B := pos_of_row hN (i (0 : Fin 2)).isLt
  y (ix3 ⟨(i (0 : Fin 2)).val / B, by
      have h : (i (0 : Fin 2)).val < N := (i (0 : Fin 2)).isLt
      rw [Nat.div_lt_iff_lt_mul hB]; omega⟩
    ⟨(i (0 : Fin 2)).val % B, Nat.mod_lt _ hB⟩ (i (1 : Fin 2)))

/-- A row of the batch, at a column. -/
theorem flat_apply (hN : N = A * B) (y : (⟨3, ![A, B, W]⟩ : Shape).Idx → α) (n : Fin N) (j : Fin W) :
    flat hN y (ix2 n j) = y (ix3 ⟨n.val / B, by have h := n.isLt; rw [Nat.div_lt_iff_lt_mul (pos_of_row hN h)]; omega⟩ ⟨n.val % B, Nat.mod_lt _ (pos_of_row hN n.isLt)⟩ j) := rfl

/-- A reshape of a batch to its rows. -/
theorem reshape_flat (hN : N = A * B) (y : (⟨3, ![A, B, W]⟩ : Shape).Idx → α) (hs : (⟨3, ![A, B, W]⟩ : Shape).ShapeCasts ⟨2, ![N, W]⟩) :
    shapeCast ⟨2, ![N, W]⟩ y hs = flat hN y := by
  funext i
  unfold flat
  refine shapeCast_apply _ _ _ _ ?_
  rw [Shape.rowMajor_val_three, Shape.rowMajor_val_two]
  show ((i (0 : Fin 2)).val / B * B + (i (0 : Fin 2)).val % B) * W + (i (1 : Fin 2)).val = (i (0 : Fin 2)).val * W + (i (1 : Fin 2)).val
  rw [Nat.div_add_mod']

/-- A slice of a batch's columns reshaped to heads is the heads of the batch's rows. -/
theorem reshape_heads (o H : ℕ) (hH : 0 < H) (hM : M = N * H) (hW : o + H * D ≤ W) (hN : N = A * B) (W' : ℕ) (hW' : W' = H * D)
    (y : (⟨3, ![A, B, W]⟩ : Shape).Idx → α) (s1 : (⟨3, ![A, B, W]⟩ : Shape).Slices ![0, 0, o] ⟨3, ![A, B, W']⟩)
    (hs : (⟨3, ![A, B, W']⟩ : Shape).ShapeCasts ⟨2, ![M, D]⟩) :
    shapeCast ⟨2, ![M, D]⟩ (extractStridedSlice ⟨3, ![A, B, W']⟩ ![0, 0, o] y s1) hs = heads o H hH hM hW (flat hN y) := by
  funext i
  have h0 : (i (0 : Fin 2)).val < M := (i (0 : Fin 2)).isLt
  have h1 : (i (1 : Fin 2)).val < D := (i (1 : Fin 2)).isLt
  have hn : (i (0 : Fin 2)).val / H < N := by rw [Nat.div_lt_iff_lt_mul hH]; omega
  have hB : 0 < B := pos_of_row hN hn
  have hm := Nat.mod_lt (i (0 : Fin 2)).val hH
  have h2 : ((i (0 : Fin 2)).val % H + 1) * D ≤ H * D := Nat.mul_le_mul_right _ hm
  rw [Nat.add_mul, one_mul] at h2
  refine (shapeCast_apply _ _ i (ix3 ⟨(i (0 : Fin 2)).val / H / B, by rw [Nat.div_lt_iff_lt_mul hB]; omega⟩
    ⟨(i (0 : Fin 2)).val / H % B, Nat.mod_lt _ hB⟩ ⟨(i (0 : Fin 2)).val % H * D + (i (1 : Fin 2)).val, by omega⟩) ?_).trans ?_
  · rw [Shape.rowMajor_val_three, Shape.rowMajor_val_two]
    show ((i (0 : Fin 2)).val / H / B * B + (i (0 : Fin 2)).val / H % B) * W' + ((i (0 : Fin 2)).val % H * D + (i (1 : Fin 2)).val) = (i (0 : Fin 2)).val * D + (i (1 : Fin 2)).val
    rw [Nat.div_add_mod', hW', ← Nat.mul_assoc, ← Nat.add_assoc, ← Nat.add_mul, Nat.div_add_mod']
  · unfold heads flat
    refine extractStridedSlice_apply _ _ _ _ _ fun a => ?_
    match a with
    | ⟨0, _⟩ => exact (Nat.zero_add _).symm
    | ⟨1, _⟩ => exact (Nat.zero_add _).symm
    | ⟨2, _⟩ => exact Nat.add_assoc _ _ _

/-- The place of a block's row among all the heads' rows. -/
theorem place_block {M' N' H t x : ℕ} (h : M' = N' * H) : t * M' + x = x + H * (t * N') := by rw [h]; ring

/-- The heads of a block of rows are the block's places of the heads of all the rows. -/
theorem heads_block {N' M' : ℕ} (o H : ℕ) (hH : 0 < H) (hM : M = N * H) (hM' : M' = N' * H) (hW : o + H * D ≤ W)
    (y : (⟨2, ![N, W]⟩ : Shape).Idx → α) (z : (⟨2, ![N', W]⟩ : Shape).Idx → α) (t : ℕ)
    (hz : ∀ (r : Fin N') (n : Fin N) (j : Fin W), n.val = t * N' + r.val → z (ix2 r j) = y (ix2 n j))
    (x : (⟨2, ![M', D]⟩ : Shape).Idx) (i : (⟨2, ![M, D]⟩ : Shape).Idx)
    (e0 : (i (0 : Fin 2)).val = t * M' + (x (0 : Fin 2)).val) (e1 : (i (1 : Fin 2)).val = (x (1 : Fin 2)).val) :
    heads o H hH hM' hW z x = heads o H hH hM hW y i := by
  have e2 : (i (0 : Fin 2)).val = (x (0 : Fin 2)).val + H * (t * N') := e0.trans (place_block hM')
  have hd : (i (0 : Fin 2)).val / H = t * N' + (x (0 : Fin 2)).val / H := by rw [e2, Nat.add_mul_div_left _ _ hH, Nat.add_comm]
  have hm : (i (0 : Fin 2)).val % H = (x (0 : Fin 2)).val % H := by rw [e2, Nat.add_mul_mod_self_left]
  unfold heads
  refine (hz _ ⟨(i (0 : Fin 2)).val / H, _⟩ _ hd).trans (congrArg y (congrArg (ix2 _) (Fin.ext ?_)))
  show o + (x (0 : Fin 2)).val % H * D + (x (1 : Fin 2)).val = o + (i (0 : Fin 2)).val % H * D + (i (1 : Fin 2)).val
  rw [hm, e1]

/-! ## The projected rows as they are kept -/

section Kept

/-- The narrower type has fewer bits. -/
theorem bits_lt : FTy.bits .bf16 < FTy.bits .f32 := by decide

variable {F : FTy → Type} [FloatOps F]

/-- The projected rows as they are kept for the attention: the queries' columns scaled, all rounded. -/
def qkvOf (y : FVec F ⟨2, ![N, 3072]⟩ .f32) : FVec F ⟨2, ![N, 3072]⟩ .bf16 := fun i =>
  if (i (1 : Fin 2)).val < 512 ∨ (1536 ≤ (i (1 : Fin 2)).val ∧ (i (1 : Fin 2)).val < 2048) then
    truncf .bf16 (mulf y (broadcast (⟨2, ![N, 3072]⟩ : Shape) (Scalar.ofBits .f32 0x3E000000#32))) bits_lt i
  else truncf .bf16 y bits_lt i

/-- A place that a later piece of the list holds. -/
theorem holds_skip {S : Shape} {e : EltTy} {p : View.Piece (Elt F) S e} {L : List (View.Piece (Elt F) S e)} {z : S.Idx}
    (h : ∃ q ∈ L, z ∈ q.1.set) : ∃ q ∈ p :: L, z ∈ q.1.set :=
  let ⟨q, hq, hz⟩ := h; ⟨q, .tail _ hq, hz⟩

/-- A piece of the projected rows: scaled and rounded, or rounded. -/
theorem scaled_piece (y : FVec F ⟨2, ![N, 3072]⟩ .f32) (o W : ℕ) (s : (⟨2, ![N, 3072]⟩ : Shape).Slices ![0, o] ⟨2, ![N, W]⟩) (ho : W = 512 ∧ (o = 0 ∨ o = 1536))
    (x : (⟨2, ![N, W]⟩ : Shape).Idx) (i : (⟨2, ![N, 3072]⟩ : Shape).Idx) (e0 : (i (0 : Fin 2)).val = 0 + 1 * (x (0 : Fin 2)).val) (e1 : (i (1 : Fin 2)).val = o + 1 * (x (1 : Fin 2)).val) :
    truncf .bf16 (mulf (extractStridedSlice ⟨2, ![N, W]⟩ ![0, o] y s) (broadcast ⟨2, ![N, W]⟩ (Scalar.ofBits .f32 0x3E000000#32))) bits_lt x = qkvOf y i := by
  have hx : (x (1 : Fin 2)).val < W := (x (1 : Fin 2)).isLt
  unfold qkvOf
  rw [if_pos (by omega)]
  refine congrArg (truncf .bf16 (mulf y (broadcast (⟨2, ![N, 3072]⟩ : Shape) (Scalar.ofBits .f32 0x3E000000#32))) bits_lt) (?_ : _ = i)
  funext a; apply Fin.ext
  match a with
  | ⟨0, _⟩ => show 0 + (x (0 : Fin 2)).val = (i (0 : Fin 2)).val; omega
  | ⟨1, _⟩ => show o + (x (1 : Fin 2)).val = (i (1 : Fin 2)).val; omega
theorem rounded_piece (y : FVec F ⟨2, ![N, 3072]⟩ .f32) (o W : ℕ) (s : (⟨2, ![N, 3072]⟩ : Shape).Slices ![0, o] ⟨2, ![N, W]⟩) (ho : W = 1024 ∧ (o = 512 ∨ o = 2048))
    (x : (⟨2, ![N, W]⟩ : Shape).Idx) (i : (⟨2, ![N, 3072]⟩ : Shape).Idx) (e0 : (i (0 : Fin 2)).val = 0 + 1 * (x (0 : Fin 2)).val) (e1 : (i (1 : Fin 2)).val = o + 1 * (x (1 : Fin 2)).val) :
    truncf .bf16 (extractStridedSlice ⟨2, ![N, W]⟩ ![0, o] y s) bits_lt x = qkvOf y i := by
  have hx : (x (1 : Fin 2)).val < W := (x (1 : Fin 2)).isLt
  unfold qkvOf
  rw [if_neg (by omega)]
  refine congrArg (truncf .bf16 y bits_lt) (?_ : _ = i)
  funext a; apply Fin.ext
  match a with
  | ⟨0, _⟩ => show 0 + (x (0 : Fin 2)).val = (i (0 : Fin 2)).val; omega
  | ⟨1, _⟩ => show o + (x (1 : Fin 2)).val = (i (1 : Fin 2)).val; omega

/-- A place among the columns `o` to `o + W` of the rows. -/
theorem mem_columns (o W : ℕ) (inb : ∀ a, (![0, o] : Fin 2 → ℕ) a + (![N, W] : Fin 2 → ℕ) a ≤ (⟨2, ![N, 3072]⟩ : Shape).size a) (z : (⟨2, ![N, 3072]⟩ : Shape).Idx)
    (h : o ≤ (z (1 : Fin 2)).val ∧ (z (1 : Fin 2)).val < o + W) : z ∈ (Rect.unit (s := (⟨2, ![N, 3072]⟩ : Shape)) ![0, o] ![N, W] inb).set := by
  rw [Rect.mem_set_unit]
  intro a
  match a with
  | ⟨0, _⟩ => exact ⟨Nat.zero_le _, by have h0 : (z (0 : Fin 2)).val < N := (z (0 : Fin 2)).isLt; show (z (0 : Fin 2)).val < 0 + N; omega⟩
  | ⟨1, _⟩ => exact h

end Kept

/-- A coordinate of a block's place, the block's index known. -/
theorem place_at {n a : ℕ} (h : n = a) (s y z : ℕ) (hz : a * s + y = z) : n * s + y = z := by rw [h, hz]

/-! ## A row normalized and projected -/

/-- The mean of a row. -/
def meanOf (row : Fin 1024 → EReal) : EReal := Ideal.div (∑ k, row k) (Ideal.ofBits .f32 0x44800000#32)

/-- A row less its mean, over the root of its variance. -/
def normOf (row : Fin 1024 → EReal) (k : Fin 1024) : EReal :=
  (row k - meanOf row) * Ideal.rsqrt (Ideal.div (∑ k, (row k - meanOf row) * (row k - meanOf row)) (Ideal.ofBits .f32 0x44800000#32) + Ideal.ofBits .f32 0x3727C5AC#32)

/-- A row normalized, scaled and shifted, against a column of the weights. -/
def projOf (row g b w : Fin 1024 → EReal) : EReal := ∑ k, (normOf row k * g k + b k) * w k

/-! ## Pieces joined

The six pieces of the projected rows, the queries' scaled, and what their join has at a column. -/

/-- The queries' columns scaled. -/
def scaled (hb : (⟨0, ![]⟩ : Shape).BroadcastsInDim (⟨3, ![A, B, 512]⟩ : Shape) (![] : Fin 0 → Fin (⟨3, ![A, B, 512]⟩ : Shape).rank)) (y : FVec Ideal ⟨3, ![A, B, 512]⟩ .f32) : FVec Ideal ⟨3, ![A, B, 512]⟩ .f32 :=
  mulf y (broadcastInDim ⟨3, ![A, B, 512]⟩ ![] hb (constant ⟨0, ![]⟩ .f32 0x3E000000#32))

/-- The six pieces the queries, keys and values are joined of. -/
def pieces (y : FVec Ideal ⟨3, ![A, B, 3072]⟩ .f32) (hb : (⟨0, ![]⟩ : Shape).BroadcastsInDim (⟨3, ![A, B, 512]⟩ : Shape) (![] : Fin 0 → Fin (⟨3, ![A, B, 512]⟩ : Shape).rank))
    (s0 : (⟨3, ![A, B, 3072]⟩ : Shape).Slices ![0, 0, 0] ⟨3, ![A, B, 512]⟩) (s1 : (⟨3, ![A, B, 3072]⟩ : Shape).Slices ![0, 0, 512] ⟨3, ![A, B, 512]⟩) (s2 : (⟨3, ![A, B, 3072]⟩ : Shape).Slices ![0, 0, 1024] ⟨3, ![A, B, 512]⟩) (s3 : (⟨3, ![A, B, 3072]⟩ : Shape).Slices ![0, 0, 1536] ⟨3, ![A, B, 512]⟩) (s4 : (⟨3, ![A, B, 3072]⟩ : Shape).Slices ![0, 0, 2048] ⟨3, ![A, B, 512]⟩) (s5 : (⟨3, ![A, B, 3072]⟩ : Shape).Slices ![0, 0, 2560] ⟨3, ![A, B, 512]⟩) :
    List ((s : Shape) × (s.Idx → EReal)) :=
  [⟨⟨3, ![A, B, 512]⟩, scaled hb (extractStridedSlice ⟨3, ![A, B, 512]⟩ ![0, 0, 0] y s0)⟩,
   ⟨⟨3, ![A, B, 512]⟩, extractStridedSlice ⟨3, ![A, B, 512]⟩ ![0, 0, 512] y s1⟩,
   ⟨⟨3, ![A, B, 512]⟩, extractStridedSlice ⟨3, ![A, B, 512]⟩ ![0, 0, 1024] y s2⟩,
   ⟨⟨3, ![A, B, 512]⟩, scaled hb (extractStridedSlice ⟨3, ![A, B, 512]⟩ ![0, 0, 1536] y s3)⟩,
   ⟨⟨3, ![A, B, 512]⟩, extractStridedSlice ⟨3, ![A, B, 512]⟩ ![0, 0, 2048] y s4⟩,
   ⟨⟨3, ![A, B, 512]⟩, extractStridedSlice ⟨3, ![A, B, 512]⟩ ![0, 0, 2560] y s5⟩]

variable (y : FVec Ideal ⟨3, ![A, B, 3072]⟩ .f32) (hb : (⟨0, ![]⟩ : Shape).BroadcastsInDim (⟨3, ![A, B, 512]⟩ : Shape) (![] : Fin 0 → Fin (⟨3, ![A, B, 512]⟩ : Shape).rank))
  (s0 : (⟨3, ![A, B, 3072]⟩ : Shape).Slices ![0, 0, 0] ⟨3, ![A, B, 512]⟩) (s1 : (⟨3, ![A, B, 3072]⟩ : Shape).Slices ![0, 0, 512] ⟨3, ![A, B, 512]⟩) (s2 : (⟨3, ![A, B, 3072]⟩ : Shape).Slices ![0, 0, 1024] ⟨3, ![A, B, 512]⟩) (s3 : (⟨3, ![A, B, 3072]⟩ : Shape).Slices ![0, 0, 1536] ⟨3, ![A, B, 512]⟩) (s4 : (⟨3, ![A, B, 3072]⟩ : Shape).Slices ![0, 0, 2048] ⟨3, ![A, B, 512]⟩) (s5 : (⟨3, ![A, B, 3072]⟩ : Shape).Slices ![0, 0, 2560] ⟨3, ![A, B, 512]⟩)
  (hc : Shape.Concatenates [⟨3, ![A, B, 512]⟩, ⟨3, ![A, B, 512]⟩, ⟨3, ![A, B, 512]⟩, ⟨3, ![A, B, 512]⟩, ⟨3, ![A, B, 512]⟩, ⟨3, ![A, B, 512]⟩] ⟨3, ![A, B, 3072]⟩ 2)

/-- A piece at a column is the rows' at the piece's place. -/
theorem cut_at (o : ℕ) (hs : (⟨3, ![A, B, 3072]⟩ : Shape).Slices ![0, 0, o] ⟨3, ![A, B, 512]⟩) (n : Fin A) (s : Fin B) (j : Fin 3072) (j' : Fin 512) (hj : o + j'.val = j.val) :
    extractStridedSlice ⟨3, ![A, B, 512]⟩ ![0, 0, o] y hs (ix3 n s j') = y (ix3 n s j) :=
  extractStridedSlice_apply _ _ _ _ _ fun a => by
    match a with
    | ⟨0, _⟩ => exact (Nat.zero_add _).symm
    | ⟨1, _⟩ => exact (Nat.zero_add _).symm
    | ⟨2, _⟩ => exact hj.symm

/-- The columns a piece of the join gives. -/
theorem piece_at (k : ℕ) (hk : k < (pieces y hb s0 s1 s2 s3 s4 s5).length) (x₁ : FVec Ideal ⟨3, ![A, B, 512]⟩ .f32)
    (hxk : (pieces y hb s0 s1 s2 s3 s4 s5)[k] = ⟨⟨3, ![A, B, 512]⟩, x₁⟩) (pre : ℕ)
    (hpre : ((((pieces y hb s0 s1 s2 s3 s4 s5).take k).map (·.1)).map fun s => if h : s.rank = (⟨3, ![A, B, 3072]⟩ : Shape).rank then s.size ((2 : Fin 3).cast h.symm) else 0).sum = pre)
    (n : Fin A) (s : Fin B) (j : Fin 3072) (j' : Fin 512) (hj : pre + j'.val = j.val) :
    (concatenate ⟨3, ![A, B, 3072]⟩ 2 (pieces y hb s0 s1 s2 s3 s4 s5) hc : FVec Ideal ⟨3, ![A, B, 3072]⟩ .f32) (ix3 n s j) = x₁ (ix3 n s j') :=
  concatenate_apply_piece (t := (⟨3, ![A, B, 3072]⟩ : Shape)) (2 : Fin 3) (pieces y hb s0 s1 s2 s3 s4 s5) _ (ix3 n s j) k hk (⟨3, ![A, B, 512]⟩ : Shape) x₁ hxk rfl pre hpre (ix3 n s j')
    (fun b hb => match b, hb with
      | ⟨0, _⟩, _ => rfl
      | ⟨1, _⟩, _ => rfl
      | ⟨2, _⟩, hb => absurd rfl hb) hj

/-- The join at a column: the projected row's, the queries' columns scaled. -/
theorem joined_apply (n : Fin A) (s : Fin B) (j : Fin 3072) :
    (concatenate ⟨3, ![A, B, 3072]⟩ 2 (pieces y hb s0 s1 s2 s3 s4 s5) hc : FVec Ideal ⟨3, ![A, B, 3072]⟩ .f32) (ix3 n s j)
      = if j.val < 512 ∨ (1536 ≤ j.val ∧ j.val < 2048) then y (ix3 n s j) * Ideal.ofBits .f32 0x3E000000#32 else y (ix3 n s j) := by
  have hj := j.isLt
  by_cases c0 : j.val < 512
  · rw [if_pos (.inl c0)]
    exact (piece_at y hb s0 s1 s2 s3 s4 s5 hc 0 (by show _ < 6; omega) _ rfl 0 rfl n s j ⟨j.val, c0⟩ (Nat.zero_add _)).trans
      (congrArg (· * Ideal.ofBits .f32 0x3E000000#32) (cut_at y 0 s0 n s j ⟨j.val, c0⟩ (Nat.zero_add _)))
  by_cases c1 : j.val < 1024
  · rw [if_neg (by omega)]
    exact (piece_at y hb s0 s1 s2 s3 s4 s5 hc 1 (by show _ < 6; omega) _ rfl 512 rfl n s j ⟨j.val - 512, by omega⟩ (by show 512 + (j.val - 512) = _; omega)).trans
      (cut_at y 512 s1 n s j ⟨j.val - 512, by omega⟩ (by show 512 + (j.val - 512) = _; omega))
  by_cases c2 : j.val < 1536
  · rw [if_neg (by omega)]
    exact (piece_at y hb s0 s1 s2 s3 s4 s5 hc 2 (by show _ < 6; omega) _ rfl 1024 rfl n s j ⟨j.val - 1024, by omega⟩ (by show 1024 + (j.val - 1024) = _; omega)).trans
      (cut_at y 1024 s2 n s j ⟨j.val - 1024, by omega⟩ (by show 1024 + (j.val - 1024) = _; omega))
  by_cases c3 : j.val < 2048
  · rw [if_pos (.inr ⟨by omega, c3⟩)]
    exact (piece_at y hb s0 s1 s2 s3 s4 s5 hc 3 (by show _ < 6; omega) _ rfl 1536 rfl n s j ⟨j.val - 1536, by omega⟩ (by show 1536 + (j.val - 1536) = _; omega)).trans
      (congrArg (· * Ideal.ofBits .f32 0x3E000000#32) (cut_at y 1536 s3 n s j ⟨j.val - 1536, by omega⟩ (by show 1536 + (j.val - 1536) = _; omega)))
  by_cases c4 : j.val < 2560
  · rw [if_neg (by omega)]
    exact (piece_at y hb s0 s1 s2 s3 s4 s5 hc 4 (by show _ < 6; omega) _ rfl 2048 rfl n s j ⟨j.val - 2048, by omega⟩ (by show 2048 + (j.val - 2048) = _; omega)).trans
      (cut_at y 2048 s4 n s j ⟨j.val - 2048, by omega⟩ (by show 2048 + (j.val - 2048) = _; omega))
  · rw [if_neg (by omega)]
    exact (piece_at y hb s0 s1 s2 s3 s4 s5 hc 5 (by show _ < 6; omega) _ rfl 2560 rfl n s j ⟨j.val - 2560, by omega⟩ (by show 2560 + (j.val - 2560) = _; omega)).trans
      (cut_at y 2560 s5 n s j ⟨j.val - 2560, by omega⟩ (by show 2560 + (j.val - 2560) = _; omega))

end Cert.Proj

end
-- ==== Proof.InProjBody.lean ====
module

public import proofs.«01_k».proof.Defs
public import proofs.«01_k».proof.Proof.InProjParts
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import Idealize.ShloMosaic.Lib.Tactic
public import Idealize.ShloMosaic.Lib.Claim

@[expose] public section

set_option maxRecDepth 16384

noncomputable section

namespace Cert.Proj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four blocks of heads. -/
def kmOf (y : FVec F S256x3072 .f32) : FVec F S2048x64 .f32 := heads 512 8 (by decide) (N := 256) (by decide) (by decide) y
def vmOf (y : FVec F S256x3072 .f32) : FVec F S2048x64 .f32 := heads 1024 8 (by decide) (N := 256) (by decide) (by decide) y
def kdOf (y : FVec F S256x3072 .f32) : FVec F S1024x128 .f32 := heads 2048 4 (by decide) (N := 256) (by decide) (by decide) y
def vdOf (y : FVec F S256x3072 .f32) : FVec F S1024x128 .f32 := heads 2560 4 (by decide) (N := 256) (by decide) (by decide) y

set_option maxHeartbeats 4000000 in
/-- The body: it leaves the rows projected, in the five forms. -/
theorem run_body (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S256x3072 .bf16) (harg5 : arg5.IsWhole) (arg6 : Memref sig .tc .vmem S2048x64 .f32) (harg6 : arg6.IsWhole) (arg7 : Memref sig .tc .vmem S2048x64 .f32) (harg7 : arg7.IsWhole) (arg8 : Memref sig .tc .vmem S1024x128 .f32) (harg8 : arg8.IsWhole) (arg9 : Memref sig .tc .vmem S1024x128 .f32) (harg9 : arg9.IsWhole)
    (x : Vec F S256x1024 .f32) (g : Vec F S1x1024 .f32) (b : Vec F S1x1024 .f32) (w : Vec F S1024x3072 .bf16) (E : Set ℕ) (K : PUnit → sProp 𝕄) :
    iprop(owns (c : Thread nD τ) arg1 fullShare x ∗ owns (c : Thread nD τ) arg2 fullShare g ∗ owns (c : Thread nD τ) arg3 fullShare b ∗ owns (c : Thread nD τ) arg4 fullShare w ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x ∗ owns (c : Thread nD τ) arg2 fullShare g ∗ owns (c : Thread nD τ) arg3 fullShare b ∗ owns (c : Thread nD τ) arg4 fullShare w ∗ owns (c : Thread nD τ) arg5 fullShare (qkvOf (k0_pay7 x g b w)) ∗ owns (c : Thread nD τ) arg6 fullShare (kmOf (k0_pay7 x g b w)) ∗ owns (c : Thread nD τ) arg7 fullShare (vmOf (k0_pay7 x g b w)) ∗ owns (c : Thread nD τ) arg8 fullShare (kdOf (k0_pay7 x g b w)) ∗ owns (c : Thread nD τ) arg9 fullShare (vdOf (k0_pay7 x g b w))) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9) K := by
  simp only [cc0_in_proj_eq_skeleton]; unfold cc0_in_proj_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_run_names
    simp (disch := decide) only [View.ld_unit_lit', View.readAt_eq_ld, Memref.IsWhole.read_unread]
    unfold k0_pay8 k0_pay9
    generalize k0_pay7 x g b w = y
    refine read_writes_of_pieces _ _ _ _ ?_ fun z => ?_
    · exact ⟨fun z => rounded_piece y 2048 1024 _ (by decide) z _ rfl rfl, fun z => scaled_piece y 1536 512 _ (by decide) z _ rfl rfl, fun z => rounded_piece y 512 1024 _ (by decide) z _ rfl rfl, fun z => scaled_piece y 0 512 _ (by decide) z _ rfl rfl, trivial⟩
    have hlt : (z (1 : Fin 2)).val < 3072 := (z (1 : Fin 2)).isLt
    rcases (by omega : ((z (1 : Fin 2)).val < 512) ∨ (512 ≤ (z (1 : Fin 2)).val ∧ (z (1 : Fin 2)).val < 1536) ∨ (1536 ≤ (z (1 : Fin 2)).val ∧ (z (1 : Fin 2)).val < 2048) ∨ 2048 ≤ (z (1 : Fin 2)).val) with hz | hz | hz | hz
    · exact holds_skip (holds_skip (holds_skip ⟨_, .head _, mem_columns 0 512 (by decide) z (by omega)⟩))
    · exact holds_skip (holds_skip ⟨_, .head _, mem_columns 512 1024 (by decide) z (by omega)⟩)
    · exact holds_skip ⟨_, .head _, mem_columns 1536 512 (by decide) z (by omega)⟩
    · exact ⟨_, .head _, mem_columns 2048 1024 (by decide) z (by omega)⟩
  isplitl [H6]
  · iexists _; isplitr; swap; · iexact H6
    ipureintro
    sl_unfold_run_names
    simp (disch := decide) only [View.ld_unit_lit', View.readAt_eq_ld, Memref.IsWhole.read_unread]
    generalize k0_pay7 x g b w = y
    refine read_writes_of_pieces _ _ _ _ ?_ fun z => ?_
    · exact ⟨fun z => slice_eq_heads 512 8 (by decide) (by decide) (by decide) y 7 448 (by decide) rfl 512 (by decide) (by decide) z _ rfl rfl, fun z => slice_eq_heads 512 8 (by decide) (by decide) (by decide) y 6 384 (by decide) rfl 512 (by decide) (by decide) z _ rfl rfl, fun z => slice_eq_heads 512 8 (by decide) (by decide) (by decide) y 5 320 (by decide) rfl 512 (by decide) (by decide) z _ rfl rfl, fun z => slice_eq_heads 512 8 (by decide) (by decide) (by decide) y 4 256 (by decide) rfl 512 (by decide) (by decide) z _ rfl rfl, fun z => slice_eq_heads 512 8 (by decide) (by decide) (by decide) y 3 192 (by decide) rfl 512 (by decide) (by decide) z _ rfl rfl, fun z => slice_eq_heads 512 8 (by decide) (by decide) (by decide) y 2 128 (by decide) rfl 512 (by decide) (by decide) z _ rfl rfl, fun z => slice_eq_heads 512 8 (by decide) (by decide) (by decide) y 1 64 (by decide) rfl 512 (by decide) (by decide) z _ rfl rfl, fun z => slice_eq_heads 512 8 (by decide) (by decide) (by decide) y 0 0 (by decide) rfl 512 (by decide) (by decide) z _ rfl rfl, trivial⟩
    have hz : (z (0 : Fin 2)).val % 8 = 0 ∨ (z (0 : Fin 2)).val % 8 = 1 ∨ (z (0 : Fin 2)).val % 8 = 2 ∨ (z (0 : Fin 2)).val % 8 = 3 ∨ (z (0 : Fin 2)).val % 8 = 4 ∨ (z (0 : Fin 2)).val % 8 = 5 ∨ (z (0 : Fin 2)).val % 8 = 6 ∨ (z (0 : Fin 2)).val % 8 = 7 := by omega
    rcases hz with hz | hz | hz | hz | hz | hz | hz | hz <;>
      repeat (first | exact ⟨_, .head _, mem_head 8 (N := 256) (by decide) _ _ rfl rfl rfl z hz⟩ | refine holds_skip ?_)
  isplitl [H7]
  · iexists _; isplitr; swap; · iexact H7
    ipureintro
    sl_unfold_run_names
    simp (disch := decide) only [View.ld_unit_lit', View.readAt_eq_ld, Memref.IsWhole.read_unread]
    generalize k0_pay7 x g b w = y
    refine read_writes_of_pieces _ _ _ _ ?_ fun z => ?_
    · exact ⟨fun z => slice_eq_heads 1024 8 (by decide) (by decide) (by decide) y 7 448 (by decide) rfl 512 (by decide) (by decide) z _ rfl rfl, fun z => slice_eq_heads 1024 8 (by decide) (by decide) (by decide) y 6 384 (by decide) rfl 512 (by decide) (by decide) z _ rfl rfl, fun z => slice_eq_heads 1024 8 (by decide) (by decide) (by decide) y 5 320 (by decide) rfl 512 (by decide) (by decide) z _ rfl rfl, fun z => slice_eq_heads 1024 8 (by decide) (by decide) (by decide) y 4 256 (by decide) rfl 512 (by decide) (by decide) z _ rfl rfl, fun z => slice_eq_heads 1024 8 (by decide) (by decide) (by decide) y 3 192 (by decide) rfl 512 (by decide) (by decide) z _ rfl rfl, fun z => slice_eq_heads 1024 8 (by decide) (by decide) (by decide) y 2 128 (by decide) rfl 512 (by decide) (by decide) z _ rfl rfl, fun z => slice_eq_heads 1024 8 (by decide) (by decide) (by decide) y 1 64 (by decide) rfl 512 (by decide) (by decide) z _ rfl rfl, fun z => slice_eq_heads 1024 8 (by decide) (by decide) (by decide) y 0 0 (by decide) rfl 512 (by decide) (by decide) z _ rfl rfl, trivial⟩
    have hz : (z (0 : Fin 2)).val % 8 = 0 ∨ (z (0 : Fin 2)).val % 8 = 1 ∨ (z (0 : Fin 2)).val % 8 = 2 ∨ (z (0 : Fin 2)).val % 8 = 3 ∨ (z (0 : Fin 2)).val % 8 = 4 ∨ (z (0 : Fin 2)).val % 8 = 5 ∨ (z (0 : Fin 2)).val % 8 = 6 ∨ (z (0 : Fin 2)).val % 8 = 7 := by omega
    rcases hz with hz | hz | hz | hz | hz | hz | hz | hz <;>
      repeat (first | exact ⟨_, .head _, mem_head 8 (N := 256) (by decide) _ _ rfl rfl rfl z hz⟩ | refine holds_skip ?_)
  isplitl [H8]
  · iexists _; isplitr; swap; · iexact H8
    ipureintro
    sl_unfold_run_names
    simp (disch := decide) only [View.ld_unit_lit', View.readAt_eq_ld, Memref.IsWhole.read_unread]
    generalize k0_pay7 x g b w = y
    refine read_writes_of_pieces _ _ _ _ ?_ fun z => ?_
    · exact ⟨fun z => slice_eq_heads 2048 4 (by decide) (by decide) (by decide) y 3 384 (by decide) rfl 512 (by decide) (by decide) z _ rfl rfl, fun z => slice_eq_heads 2048 4 (by decide) (by decide) (by decide) y 2 256 (by decide) rfl 512 (by decide) (by decide) z _ rfl rfl, fun z => slice_eq_heads 2048 4 (by decide) (by decide) (by decide) y 1 128 (by decide) rfl 512 (by decide) (by decide) z _ rfl rfl, fun z => slice_eq_heads 2048 4 (by decide) (by decide) (by decide) y 0 0 (by decide) rfl 512 (by decide) (by decide) z _ rfl rfl, trivial⟩
    have hz : (z (0 : Fin 2)).val % 4 = 0 ∨ (z (0 : Fin 2)).val % 4 = 1 ∨ (z (0 : Fin 2)).val % 4 = 2 ∨ (z (0 : Fin 2)).val % 4 = 3 := by omega
    rcases hz with hz | hz | hz | hz <;>
      repeat (first | exact ⟨_, .head _, mem_head 4 (N := 256) (by decide) _ _ rfl rfl rfl z hz⟩ | refine holds_skip ?_)
  · iexists _; isplitr; swap; · iexact H9
    ipureintro
    sl_unfold_run_names
    simp (disch := decide) only [View.ld_unit_lit', View.readAt_eq_ld, Memref.IsWhole.read_unread]
    generalize k0_pay7 x g b w = y
    refine read_writes_of_pieces _ _ _ _ ?_ fun z => ?_
    · exact ⟨fun z => slice_eq_heads 2560 4 (by decide) (by decide) (by decide) y 3 384 (by decide) rfl 512 (by decide) (by decide) z _ rfl rfl, fun z => slice_eq_heads 2560 4 (by decide) (by decide) (by decide) y 2 256 (by decide) rfl 512 (by decide) (by decide) z _ rfl rfl, fun z => slice_eq_heads 2560 4 (by decide) (by decide) (by decide) y 1 128 (by decide) rfl 512 (by decide) (by decide) z _ rfl rfl, fun z => slice_eq_heads 2560 4 (by decide) (by decide) (by decide) y 0 0 (by decide) rfl 512 (by decide) (by decide) z _ rfl rfl, trivial⟩
    have hz : (z (0 : Fin 2)).val % 4 = 0 ∨ (z (0 : Fin 2)).val % 4 = 1 ∨ (z (0 : Fin 2)).val % 4 = 2 ∨ (z (0 : Fin 2)).val % 4 = 3 := by omega
    rcases hz with hz | hz | hz | hz <;>
      repeat (first | exact ⟨_, .head _, mem_head 4 (N := 256) (by decide) _ _ rfl rfl rfl z hz⟩ | refine holds_skip ?_)

end Cert.Proj

end
-- ==== Proof.InProjRun.lean ====
module

public import proofs.«01_k».proof.Proof.InProjBody

@[expose] public section

set_option maxRecDepth 16384

noncomputable section

namespace Cert.Proj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The projected rows of point `t`. -/
def rows (c : Dev nD) (t : Fin cfg0.N) : FVec F S256x3072 .f32 :=
  k0_pay7 (iblk m c 0 t) (iblk m c 1 t) (iblk m c 2 t) (iblk m c 3 t)

/-- The contents at every point: each input its block, each output its form of the projected rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => qkvOf (rows m c t)
    | ⟨5, _⟩ => kmOf (rows m c t)
    | ⟨6, _⟩ => vmOf (rows m c t)
    | ⟨7, _⟩ => kdOf (rows m c t)
    | ⟨8, _⟩ => vdOf (rows m c t)
  Φ _ := Pipeline.ΦA spec0 c
  q _ := fullShare
  owed _ := 0

/-- The arrays are those of the region's entry. -/
theorem A_eq (c : Dev nD) (w : Fin cfg0.W) : (dats m 0 c).A w = V m c (Pipeline.arrRef spec0 w) := by dsimp only [dats]

/-- What the body leaves in each window, and what it finds in the inputs'. -/
theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = qkvOf (rows m c t) := by dsimp only [dats]; try rfl
theorem after_5 (c : Dev nD) (t : Fin cfg0.N) : (dats m 0 c).after 5 t = kmOf (rows m c t) := by dsimp only [dats]; try rfl
theorem after_6 (c : Dev nD) (t : Fin cfg0.N) : (dats m 0 c).after 6 t = vmOf (rows m c t) := by dsimp only [dats]; try rfl
theorem after_7 (c : Dev nD) (t : Fin cfg0.N) : (dats m 0 c).after 7 t = kdOf (rows m c t) := by dsimp only [dats]; try rfl
theorem after_8 (c : Dev nD) (t : Fin cfg0.N) : (dats m 0 c).after 8 t = vdOf (rows m c t) := by dsimp only [dats]; try rfl
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-! ## The body at a point -/

/-- The windows' staging buffers at point `t`. -/
abbrev ms0 (t : Fin cfg0.N) : Memref sig .tc .vmem S256x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x3072 .bf16 := win0_3.stage (cfg0.slots t 3)
abbrev ms4 (t : Fin cfg0.N) : Memref sig .tc .vmem S256x3072 .bf16 := win0_4.stage (cfg0.slots t 4)
abbrev ms5 (t : Fin cfg0.N) : Memref sig .tc .vmem S2048x64 .f32 := win0_5.stage (cfg0.slots t 5)
abbrev ms6 (t : Fin cfg0.N) : Memref sig .tc .vmem S2048x64 .f32 := win0_6.stage (cfg0.slots t 6)
abbrev ms7 (t : Fin cfg0.N) : Memref sig .tc .vmem S1024x128 .f32 := win0_7.stage (cfg0.slots t 7)
abbrev ms8 (t : Fin cfg0.N) : Memref sig .tc .vmem S1024x128 .f32 := win0_8.stage (cfg0.slots t 8)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after_0, after_1, after_2, after_3, after_4, after_5, after_6, after_7, after_8]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body c (grid0.coords t) _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation at every point. -/
theorem body_obligation (c : Dev nD) : BodyObligation (dats (F := F) m 0 c) (defs₀ (F := F)) Variants.none () Set.univ := fun t => by
  rw [bigSep_W0, bigSep_W0]
  exact triple_restated (sound_body m c t) rfl .rfl fun _ => .rfl

/-! ## The run -/

set_option backward.isDefEq.respectTransparency.types false in
/-- The run: it ends, with every array as `dats` says and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's end, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame_here : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c)⟩, h.2⟩)
    (run_main_quiescent m ρ)

end Cert.Proj

end
-- ==== Proof.InProjRef.lean ====
module

public import proofs.«01_k».proof.Defs
public import proofs.«01_k».proof.Proof.Gen.InProjReferenceIdeal
public import proofs.«01_k».proof.Proof.InProjParts
public import Idealize.ShloMosaic.Lib.Pointwise

@[expose] public section

set_option maxRecDepth 16384

noncomputable section

namespace Cert.Proj

open Cert.InProjReferenceIdeal Cert.InProjReferenceIdeal.Gen
open Idealize.ShloMosaic

/-! ## The reference's term, in its steps -/

variable (x : FVec Ideal S16x2048x1024 .f32) (g : FVec Ideal S1024 .f32) (b : FVec Ideal S1024 .f32) (w : FVec Ideal S1x1024x3072 .f32)

/-- The mean over the last axis, as a column. -/
def refMean (x : FVec Ideal S16x2048x1024 .f32) : FVec Ideal S16x2048x1 .f32 :=
  Host.divf (broadcastInDim S16x2048x1 ![0, 1] bcast_S16x2048_S16x2048x1_0_1 (Host.reduceAdd x (constant S_ .f32 0x00000000#32) reducesTo_S16x2048x1024_S16x2048_d2 h_S_))
    (broadcastInDim S16x2048x1 ![] bcast_S_S16x2048x1 (constant S_ .f32 0x44800000#32))

/-- The rows less their means. -/
def refCentred : FVec Ideal S16x2048x1024 .f32 :=
  subf x (broadcastInDim S16x2048x1024 ![0, 1, 2] bcast_S16x2048x1_S16x2048x1024_0_1_2 (refMean x))

/-- The rows normalized, scaled and shifted. -/
def refNormed : FVec Ideal S16x2048x1024 .f32 :=
  addf (mulf (mulf (refCentred x)
      (broadcastInDim S16x2048x1024 ![0, 1, 2] bcast_S16x2048x1_S16x2048x1024_0_1_2
        (Host.rsqrt (addf (refMean (mulf (refCentred x) (refCentred x))) (broadcastInDim S16x2048x1 ![] bcast_S_S16x2048x1 (constant S_ .f32 0x3727C5AC#32))))))
      (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 b))

/-- The rows projected. -/
def refProj : FVec Ideal S16x2048x3072 .f32 :=
  Host.dotGeneral dot_S16x2048x1024_S1024x3072_S16x2048x3072_2_0_01_1_n_n none (refNormed x g b) (shapeCast S1024x3072 w shapeCasts_S1x1024x3072_S1024x3072)

/-- The six pieces joined. -/
def refCat (y : FVec Ideal S16x2048x3072 .f32) : FVec Ideal S16x2048x3072 .f32 :=
  concatenate S16x2048x3072 2 (pieces y bcast_S_S16x2048x512 slices_S16x2048x3072_S16x2048x512_0_0_0 slices_S16x2048x3072_S16x2048x512_0_0_512
      slices_S16x2048x3072_S16x2048x512_0_0_1024 slices_S16x2048x3072_S16x2048x512_0_0_1536 slices_S16x2048x3072_S16x2048x512_0_0_2048 slices_S16x2048x3072_S16x2048x512_0_0_2560)
    concatenates_S16x2048x512_S16x2048x512_S16x2048x512_S16x2048x512_S16x2048x512_S16x2048x512_S16x2048x3072_d2

/-- The five results, of the rows projected. -/
def refQkv (y : FVec Ideal S16x2048x3072 .f32) : FVec Ideal S32768x3072 .bf16 :=
  truncf .bf16 (shapeCast S32768x3072 (refCat y) shapeCasts_S16x2048x3072_S32768x3072) bitsLt_bf16_f32
def refKm (y : FVec Ideal S16x2048x3072 .f32) : FVec Ideal S262144x64 .f32 :=
  shapeCast S262144x64 (extractStridedSlice S16x2048x512 ![0, 0, 512] y slices_S16x2048x3072_S16x2048x512_0_0_512) shapeCasts_S16x2048x512_S262144x64
def refVm (y : FVec Ideal S16x2048x3072 .f32) : FVec Ideal S262144x64 .f32 :=
  shapeCast S262144x64 (extractStridedSlice S16x2048x512 ![0, 0, 1024] y slices_S16x2048x3072_S16x2048x512_0_0_1024) shapeCasts_S16x2048x512_S262144x64
def refKd (y : FVec Ideal S16x2048x3072 .f32) : FVec Ideal S131072x128 .f32 :=
  shapeCast S131072x128 (extractStridedSlice S16x2048x512 ![0, 0, 2048] y slices_S16x2048x3072_S16x2048x512_0_0_2048) shapeCasts_S16x2048x512_S131072x128
def refVd (y : FVec Ideal S16x2048x3072 .f32) : FVec Ideal S131072x128 .f32 :=
  shapeCast S131072x128 (extractStridedSlice S16x2048x512 ![0, 0, 2560] y slices_S16x2048x3072_S16x2048x512_0_0_2560) shapeCasts_S16x2048x512_S131072x128

/-! ## The same at an index -/

/-- The rows projected, at an index. -/
theorem refProj_apply (n : Fin 16) (s : Fin 2048) (j : Fin 3072) :
    refProj x g b w (ix3 n s j) = projOf (fun k => x (ix3 n s k)) (fun k => g (ix1 k)) (fun k => b (ix1 k)) (fun k => w (ix3 0 k j)) := by
  pointwise [refProj, refNormed, refCentred, refMean, projOf, normOf, meanOf]

/-- The reference's head results are the heads of its projected rows. -/
theorem refKm_eq (y : FVec Ideal S16x2048x3072 .f32) : refKm y = heads 512 8 (by decide) (N := 32768) (by decide) (by decide) (flat (A := 16) (B := 2048) (by decide) y) :=
  reshape_heads 512 8 _ _ _ _ 512 (by decide) y _ _
theorem refVm_eq (y : FVec Ideal S16x2048x3072 .f32) : refVm y = heads 1024 8 (by decide) (N := 32768) (by decide) (by decide) (flat (A := 16) (B := 2048) (by decide) y) :=
  reshape_heads 1024 8 _ _ _ _ 512 (by decide) y _ _
theorem refKd_eq (y : FVec Ideal S16x2048x3072 .f32) : refKd y = heads 2048 4 (by decide) (N := 32768) (by decide) (by decide) (flat (A := 16) (B := 2048) (by decide) y) :=
  reshape_heads 2048 4 _ _ _ _ 512 (by decide) y _ _
theorem refVd_eq (y : FVec Ideal S16x2048x3072 .f32) : refVd y = heads 2560 4 (by decide) (N := 32768) (by decide) (by decide) (flat (A := 16) (B := 2048) (by decide) y) :=
  reshape_heads 2560 4 _ _ _ _ 512 (by decide) y _ _

/-- The reference's first result at an index: the projected row, the queries' columns scaled. -/
theorem refQkv_apply (y : FVec Ideal S16x2048x3072 .f32) (i : Fin 32768) (j : Fin 3072) :
    refQkv y (ix2 i j) = if j.val < 512 ∨ (1536 ≤ j.val ∧ j.val < 2048) then flat (A := 16) (B := 2048) (N := 32768) (by decide) y (ix2 i j) * Ideal.ofBits .f32 0x3E000000#32
      else flat (A := 16) (B := 2048) (N := 32768) (by decide) y (ix2 i j) := by
  unfold refQkv
  rw [reshape_flat (A := 16) (B := 2048) (by decide) (refCat y)]
  exact joined_apply y bcast_S_S16x2048x512 slices_S16x2048x3072_S16x2048x512_0_0_0 slices_S16x2048x3072_S16x2048x512_0_0_512
    slices_S16x2048x3072_S16x2048x512_0_0_1024 slices_S16x2048x3072_S16x2048x512_0_0_1536 slices_S16x2048x3072_S16x2048x512_0_0_2048 slices_S16x2048x3072_S16x2048x512_0_0_2560
    concatenates_S16x2048x512_S16x2048x512_S16x2048x512_S16x2048x512_S16x2048x512_S16x2048x512_S16x2048x3072_d2 _ _ j

end Cert.Proj

end
-- ==== Proof.InProjPay.lean ====
module

public import proofs.«01_k».proof.Proof.InProjRun
public import proofs.«01_k».proof.Proof.InProjRef

@[expose] public section

set_option maxRecDepth 16384

noncomputable section

namespace Cert.Proj

open Cert.InProjIdeal Cert.InProjIdeal.Gen
open Idealize.ShloMosaic Idealize.ShloMosaic.TcCoe Idealize.SL.Sem

/-- The body's projected rows at an index. -/
theorem pay_apply (x : FVec Ideal S256x1024 .f32) (g : FVec Ideal S1x1024 .f32) (b : FVec Ideal S1x1024 .f32) (w : FVec Ideal S1024x3072 .bf16) (r : Fin 256) (j : Fin 3072) :
    k0_pay7 (F := Ideal) x g b w (ix2 r j) = projOf (fun k => x (ix2 r k)) (fun k => g (ix2 0 k)) (fun k => b (ix2 0 k)) (fun k => w (ix2 k j)) := by
  pointwise [k0_pay7, projOf, normOf, meanOf]

end Cert.Proj

end
-- ==== Proof.InProjValue.lean ====
module

public import proofs.«01_k».proof.Proof.InProjPay
public import Idealize.ShloMosaic.Lib.Pipeline.Covers
public import Idealize.ShloMosaic.Lib.Pipeline.ValueKit

@[expose] public section

set_option maxRecDepth 16384

noncomputable section

namespace Cert.Proj

open Cert.InProjIdeal Cert.InProjIdeal.Gen
open Idealize.ShloMosaic Idealize.ShloMosaic.TcCoe Idealize.SL.Sem

variable (m : (ℓ : Loc nD τ sig) → Buf (Elt Ideal) ℓ)

/-- The arguments as launched. -/
abbrev argX (c : Dev nD) : FVec Ideal S16x2048x1024 .f32 := m ((c : Thread nD τ).loc main_arg0)
abbrev argG (c : Dev nD) : FVec Ideal S1024 .f32 := m ((c : Thread nD τ).loc main_arg1)
abbrev argB (c : Dev nD) : FVec Ideal S1024 .f32 := m ((c : Thread nD τ).loc main_arg2)
abbrev argW (c : Dev nD) : FVec Ideal S1x1024x3072 .f32 := m ((c : Thread nD τ).loc main_arg3)

/-- The reference's projected rows, and the same rows one after the other. -/
abbrev projected (c : Dev nD) : FVec Ideal Cert.InProjReferenceIdeal.S16x2048x3072 .f32 := refProj (argX m c) (argG m c) (argB m c) (argW m c)
abbrev allRows (c : Dev nD) : FVec Ideal S32768x3072 .f32 := flat (A := 16) (B := 2048) (by decide) (projected m c)

/-- What the call finds in its arrays: the arguments, reshaped. -/
theorem V_x (c : Dev nD) : (V m c main_v0 : FVec Ideal S32768x1024 .f32) = shapeCast S32768x1024 (argX m c) shapeCasts_S16x2048x1024_S32768x1024 := by
  unfold V; entry_read; rfl
theorem V_g (c : Dev nD) : (V m c main_v1 : FVec Ideal S1x1024 .f32) = shapeCast S1x1024 (argG m c) shapeCasts_S1024_S1x1024 := by
  unfold V; entry_read; rfl
theorem V_b (c : Dev nD) : (V m c main_v2 : FVec Ideal S1x1024 .f32) = shapeCast S1x1024 (argB m c) shapeCasts_S1024_S1x1024 := by
  unfold V; entry_read; rfl
theorem V_w (c : Dev nD) : (V m c main_v4 : FVec Ideal S1024x3072 .bf16) = truncf .bf16 (shapeCast S1024x3072 (argW m c) shapeCasts_S1x1024x3072_S1024x3072) bitsLt_bf16_f32 := by
  unfold V; entry_read; rfl

/-- The points are the blocks of rows. -/
theorem point_lt (t : Fin cfg0.N) : t.val < 128 := lt_of_lt_of_eq t.isLt N_0
theorem coord_val (t : Fin cfg0.N) : ((grid0.coords t) 0).val = t.val := by
  rw [Pipeline.Grid.coords_val (G := grid0) (S := 1) (B := 128) t 0 (by decide) rfl]
  have := point_lt t; omega

/-- Where each window's block lies: the rows' and the results' at the point's, the weights' whole. -/
theorem place_0 (t : Fin cfg0.N) : (cfg0.win 0).index t = ![t.val, 0] := by
  have e : (cfg0.win 0).index t = ![(BitVec.ofNat 32 ((grid0.coords t) 0).val).toNat, 0] := rfl
  have := point_lt t
  rw [e, coord_val t, BitVec.toNat_ofNat, Nat.mod_eq_of_lt (by omega)]
theorem place_4 (t : Fin cfg0.N) : (cfg0.win 4).index t = ![t.val, 0] := place_0 t
theorem place_5 (t : Fin cfg0.N) : (cfg0.win 5).index t = ![t.val, 0] := place_0 t
theorem place_6 (t : Fin cfg0.N) : (cfg0.win 6).index t = ![t.val, 0] := place_0 t
theorem place_7 (t : Fin cfg0.N) : (cfg0.win 7).index t = ![t.val, 0] := place_0 t
theorem place_8 (t : Fin cfg0.N) : (cfg0.win 8).index t = ![t.val, 0] := place_0 t

/-- The row of point `t` and place `r`. -/
abbrev rowAt (t : Fin cfg0.N) (r : Fin 256) : Fin 32768 := ⟨t.val * 256 + r.val, by have := point_lt t; omega⟩

/-- The blocks at an index. -/
theorem iblk_0 (c : Dev nD) (t : Fin cfg0.N) (r : Fin 256) (k : Fin 1024) :
    (iblk m c 0 t : FVec Ideal S256x1024 .f32) (ix2 r k) = flat (A := 16) (B := 2048) (N := 32768) (by decide) (argX m c) (ix2 (rowAt t r) k) := by
  have e : (iblk m c 0 t : FVec Ideal S256x1024 .f32) (ix2 r k) = (V m c main_v0 : FVec Ideal S32768x1024 .f32) (ix2 (rowAt t r) k) := by
    blk_ext [iblk]
    · exact place_at (congrFun (place_0 t) 0) 256 _ _ rfl
    · exact place_at (congrFun (place_0 t) 1) 1024 _ _ (by show 0 * _ + _ = _; omega)
  rw [e, V_x, reshape_flat (A := 16) (B := 2048) (by decide) (argX m c)]
theorem iblk_1 (c : Dev nD) (t : Fin cfg0.N) (k : Fin 1024) : (iblk m c 1 t : FVec Ideal S1x1024 .f32) (ix2 0 k) = argG m c (ix1 k) := by
  have e : (iblk m c 1 t : FVec Ideal S1x1024 .f32) (ix2 0 k) = (V m c main_v1 : FVec Ideal S1x1024 .f32) (ix2 0 k) := by
    blk_ext [iblk]
    · rfl
    · exact place_at (a := 0) rfl 1024 _ _ (by omega)
  rw [e, V_g]; pointwise
theorem iblk_2 (c : Dev nD) (t : Fin cfg0.N) (k : Fin 1024) : (iblk m c 2 t : FVec Ideal S1x1024 .f32) (ix2 0 k) = argB m c (ix1 k) := by
  have e : (iblk m c 2 t : FVec Ideal S1x1024 .f32) (ix2 0 k) = (V m c main_v2 : FVec Ideal S1x1024 .f32) (ix2 0 k) := by
    blk_ext [iblk]
    · rfl
    · exact place_at (a := 0) rfl 1024 _ _ (by omega)
  rw [e, V_b]; pointwise
theorem iblk_3 (c : Dev nD) (t : Fin cfg0.N) (k : Fin 1024) (j : Fin 3072) : (iblk m c 3 t : FVec Ideal S1024x3072 .bf16) (ix2 k j) = argW m c (ix3 0 k j) := by
  have e : (iblk m c 3 t : FVec Ideal S1024x3072 .bf16) (ix2 k j) = (V m c main_v4 : FVec Ideal S1024x3072 .bf16) (ix2 k j) := by
    blk_ext [iblk]
    · exact place_at (a := 0) rfl 1024 _ _ (by omega)
    · exact place_at (a := 0) rfl 3072 _ _ (by omega)
  rw [e, V_w]; pointwise

/-- The projected rows of a point are the reference's rows of its block. -/
theorem rows_apply (c : Dev nD) (t : Fin cfg0.N) (r : Fin 256) (j : Fin 3072) : rows m c t (ix2 r j) = allRows m c (ix2 (rowAt t r) j) := by
  refine (pay_apply (iblk m c 0 t) (iblk m c 1 t) (iblk m c 2 t) (iblk m c 3 t) r j).trans ?_
  simp only [iblk_0 m c t, iblk_1 m c t, iblk_2 m c t, iblk_3 m c t]
  simp only [flat_apply]
  exact (refProj_apply (argX m c) (argG m c) (argB m c) (argW m c) _ _ j).symm
theorem rows_block (c : Dev nD) (t : Fin cfg0.N) (r : Fin 256) (n : Fin 32768) (j : Fin 3072) (h : n.val = t.val * 256 + r.val) :
    rows m c t (ix2 r j) = allRows m c (ix2 n j) := by
  obtain rfl : n = rowAt t r := Fin.ext h
  exact rows_apply m c t r j

/-- The heads of a point's rows are the reference's heads at the point's block. -/
theorem heads_point (o H : ℕ) (hH : 0 < H) {M M' D : ℕ} (hM : M = 32768 * H) (hM' : M' = 256 * H) (hW : o + H * D ≤ 3072)
    (c : Dev nD) (t : Fin cfg0.N) (r : Fin M') (j : Fin D) (n : Fin M) (hn : n.val = t.val * M' + r.val) :
    heads (α := EReal) o H hH hM' hW (rows m c t) (ix2 r j) = heads (α := EReal) o H hH hM hW (allRows m c) (ix2 n j) :=
  heads_block (α := EReal) o H hH hM hM' hW (allRows m c) (rows m c t) t.val (rows_block m c t) (ix2 r j) (ix2 n j) hn rfl

/-- The result array of window 4 after the run is the reference's. -/
theorem final_4 (c : Dev nD) : (dats m 0 c).arrAt 4 cfg0.N = (refQkv (projected m c) : FVec Ideal S32768x3072 .bf16) := by
  have hcov : (cfg0.win 4).Covers := (cfg0.win 4).covers_of_indexMap_surj rfl
    (by show ∀ a : Fin 2, 0 < S256x3072.size a; decide) fun β => by
    have h0 : (β (0 : Fin 2)).val < 128 := lt_of_lt_of_eq (β (0 : Fin 2)).isLt (by show (32768 + 256 - 1) / 256 = 128; norm_num)
    have h1 : (β (1 : Fin 2)).val < 1 := lt_of_lt_of_eq (β (1 : Fin 2)).isLt (by show (3072 + 3072 - 1) / 3072 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 4 _ hcov fun t hf y => ?_
  blk_simp
  rw [after_4]
  obtain ⟨r, j, rfl⟩ : ∃ (r : Fin 256) (j : Fin 3072), y = (ix2 r j : S256x3072.Idx) := ⟨y (0 : Fin 2), y (1 : Fin 2), by funext a; match a with | ⟨0, _⟩ => rfl | ⟨1, _⟩ => rfl⟩
  have e : (((cfg0.win 4).blk t).view.emb (ix2 r j) : S32768x3072.Idx) = ix2 (rowAt t r) j := by
    blk_ext []
    · exact place_at (congrFun (place_4 t) 0) 256 _ _ rfl
    · exact place_at (congrFun (place_4 t) 1) 3072 _ _ (by show 0 * _ + _ = _; omega)
  refine Eq.trans ?_ ((refQkv_apply (projected m c) (rowAt t r) j).symm.trans (congrArg _ e.symm))
  show qkvOf (rows m c t) (ix2 r j) = if j.val < 512 ∨ (1536 ≤ j.val ∧ j.val < 2048) then allRows m c (ix2 (rowAt t r) j) * Ideal.ofBits .f32 0x3E000000#32 else allRows m c (ix2 (rowAt t r) j)
  rw [← rows_apply m c t r j]
  rfl

/-- The result array of window 5 after the run is the reference's. -/
theorem final_5 (c : Dev nD) : (dats m 0 c).arrAt 5 cfg0.N = (refKm (projected m c) : FVec Ideal S262144x64 .f32) := by
  have hcov : (cfg0.win 5).Covers := (cfg0.win 5).covers_of_indexMap_surj rfl
    (by show ∀ a : Fin 2, 0 < S2048x64.size a; decide) fun β => by
    have h0 : (β (0 : Fin 2)).val < 128 := lt_of_lt_of_eq (β (0 : Fin 2)).isLt (by show (262144 + 2048 - 1) / 2048 = 128; norm_num)
    have h1 : (β (1 : Fin 2)).val < 1 := lt_of_lt_of_eq (β (1 : Fin 2)).isLt (by show (64 + 64 - 1) / 64 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 5 _ hcov fun t hf y => ?_
  blk_simp
  rw [after_5]
  have hlt := point_lt t
  obtain ⟨r, j, rfl⟩ : ∃ (r : Fin 2048) (j : Fin 64), y = (ix2 r j : S2048x64.Idx) := ⟨y (0 : Fin 2), y (1 : Fin 2), by funext a; match a with | ⟨0, _⟩ => rfl | ⟨1, _⟩ => rfl⟩
  have e : (((cfg0.win 5).blk t).view.emb (ix2 r j) : S262144x64.Idx) = ix2 ⟨t.val * 2048 + r.val, by omega⟩ j := by
    blk_ext []
    · exact place_at (congrFun (place_5 t) 0) 2048 _ _ rfl
    · exact place_at (congrFun (place_5 t) 1) 64 _ _ (by show 0 * _ + _ = _; omega)
  exact (heads_point m 512 8 (by decide) (by decide) (by decide) (by decide) c t r j ⟨t.val * 2048 + r.val, by omega⟩ rfl).trans
    ((congrFun (refKm_eq (projected m c)) _).symm.trans (congrArg (refKm (projected m c)) e.symm))

/-- The result array of window 6 after the run is the reference's. -/
theorem final_6 (c : Dev nD) : (dats m 0 c).arrAt 6 cfg0.N = (refVm (projected m c) : FVec Ideal S262144x64 .f32) := by
  have hcov : (cfg0.win 6).Covers := (cfg0.win 6).covers_of_indexMap_surj rfl
    (by show ∀ a : Fin 2, 0 < S2048x64.size a; decide) fun β => by
    have h0 : (β (0 : Fin 2)).val < 128 := lt_of_lt_of_eq (β (0 : Fin 2)).isLt (by show (262144 + 2048 - 1) / 2048 = 128; norm_num)
    have h1 : (β (1 : Fin 2)).val < 1 := lt_of_lt_of_eq (β (1 : Fin 2)).isLt (by show (64 + 64 - 1) / 64 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 6 _ hcov fun t hf y => ?_
  blk_simp
  rw [after_6]
  have hlt := point_lt t
  obtain ⟨r, j, rfl⟩ : ∃ (r : Fin 2048) (j : Fin 64), y = (ix2 r j : S2048x64.Idx) := ⟨y (0 : Fin 2), y (1 : Fin 2), by funext a; match a with | ⟨0, _⟩ => rfl | ⟨1, _⟩ => rfl⟩
  have e : (((cfg0.win 6).blk t).view.emb (ix2 r j) : S262144x64.Idx) = ix2 ⟨t.val * 2048 + r.val, by omega⟩ j := by
    blk_ext []
    · exact place_at (congrFun (place_6 t) 0) 2048 _ _ rfl
    · exact place_at (congrFun (place_6 t) 1) 64 _ _ (by show 0 * _ + _ = _; omega)
  exact (heads_point m 1024 8 (by decide) (by decide) (by decide) (by decide) c t r j ⟨t.val * 2048 + r.val, by omega⟩ rfl).trans
    ((congrFun (refVm_eq (projected m c)) _).symm.trans (congrArg (refVm (projected m c)) e.symm))

/-- The result array of window 7 after the run is the reference's. -/
theorem final_7 (c : Dev nD) : (dats m 0 c).arrAt 7 cfg0.N = (refKd (projected m c) : FVec Ideal S131072x128 .f32) := by
  have hcov : (cfg0.win 7).Covers := (cfg0.win 7).covers_of_indexMap_surj rfl
    (by show ∀ a : Fin 2, 0 < S1024x128.size a; decide) fun β => by
    have h0 : (β (0 : Fin 2)).val < 128 := lt_of_lt_of_eq (β (0 : Fin 2)).isLt (by show (131072 + 1024 - 1) / 1024 = 128; norm_num)
    have h1 : (β (1 : Fin 2)).val < 1 := lt_of_lt_of_eq (β (1 : Fin 2)).isLt (by show (128 + 128 - 1) / 128 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 7 _ hcov fun t hf y => ?_
  blk_simp
  rw [after_7]
  have hlt := point_lt t
  obtain ⟨r, j, rfl⟩ : ∃ (r : Fin 1024) (j : Fin 128), y = (ix2 r j : S1024x128.Idx) := ⟨y (0 : Fin 2), y (1 : Fin 2), by funext a; match a with | ⟨0, _⟩ => rfl | ⟨1, _⟩ => rfl⟩
  have e : (((cfg0.win 7).blk t).view.emb (ix2 r j) : S131072x128.Idx) = ix2 ⟨t.val * 1024 + r.val, by omega⟩ j := by
    blk_ext []
    · exact place_at (congrFun (place_7 t) 0) 1024 _ _ rfl
    · exact place_at (congrFun (place_7 t) 1) 128 _ _ (by show 0 * _ + _ = _; omega)
  exact (heads_point m 2048 4 (by decide) (by decide) (by decide) (by decide) c t r j ⟨t.val * 1024 + r.val, by omega⟩ rfl).trans
    ((congrFun (refKd_eq (projected m c)) _).symm.trans (congrArg (refKd (projected m c)) e.symm))

/-- The result array of window 8 after the run is the reference's. -/
theorem final_8 (c : Dev nD) : (dats m 0 c).arrAt 8 cfg0.N = (refVd (projected m c) : FVec Ideal S131072x128 .f32) := by
  have hcov : (cfg0.win 8).Covers := (cfg0.win 8).covers_of_indexMap_surj rfl
    (by show ∀ a : Fin 2, 0 < S1024x128.size a; decide) fun β => by
    have h0 : (β (0 : Fin 2)).val < 128 := lt_of_lt_of_eq (β (0 : Fin 2)).isLt (by show (131072 + 1024 - 1) / 1024 = 128; norm_num)
    have h1 : (β (1 : Fin 2)).val < 1 := lt_of_lt_of_eq (β (1 : Fin 2)).isLt (by show (128 + 128 - 1) / 128 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 8 _ hcov fun t hf y => ?_
  blk_simp
  rw [after_8]
  have hlt := point_lt t
  obtain ⟨r, j, rfl⟩ : ∃ (r : Fin 1024) (j : Fin 128), y = (ix2 r j : S1024x128.Idx) := ⟨y (0 : Fin 2), y (1 : Fin 2), by funext a; match a with | ⟨0, _⟩ => rfl | ⟨1, _⟩ => rfl⟩
  have e : (((cfg0.win 8).blk t).view.emb (ix2 r j) : S131072x128.Idx) = ix2 ⟨t.val * 1024 + r.val, by omega⟩ j := by
    blk_ext []
    · exact place_at (congrFun (place_8 t) 0) 1024 _ _ rfl
    · exact place_at (congrFun (place_8 t) 1) 128 _ _ (by show 0 * _ + _ = _; omega)
  exact (heads_point m 2560 4 (by decide) (by decide) (by decide) (by decide) c t r j ⟨t.val * 1024 + r.val, by omega⟩ rfl).trans
    ((congrFun (refVd_eq (projected m c)) _).symm.trans (congrArg (refVd (projected m c)) e.symm))

/-- The run: the results are the reference's, the arguments as they were. -/
theorem value_here (ρ : Dev nD → PrngReg) : θ_run defs (onTc (τ := τ) (main (F := Ideal))) ⟨m, fun _ => 0, ρ⟩ (fun r => ∀ c : Dev nD,
      r.2.mem ((c.tc : Thread nD τ).loc main_v5_0) = (refQkv (projected m c) : FVec Ideal S32768x3072 .bf16)
      ∧ r.2.mem ((c.tc : Thread nD τ).loc main_v5_1) = (refKm (projected m c) : FVec Ideal S262144x64 .f32)
      ∧ r.2.mem ((c.tc : Thread nD τ).loc main_v5_2) = (refVm (projected m c) : FVec Ideal S262144x64 .f32)
      ∧ r.2.mem ((c.tc : Thread nD τ).loc main_v5_3) = (refKd (projected m c) : FVec Ideal S131072x128 .f32)
      ∧ r.2.mem ((c.tc : Thread nD τ).loc main_v5_4) = (refVd (projected m c) : FVec Ideal S131072x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.FramePost.out_eq h c 4).trans (final_4 m c), (Pipeline.FramePost.out_eq h c 5).trans (final_5 m c), (Pipeline.FramePost.out_eq h c 6).trans (final_6 m c),
      (Pipeline.FramePost.out_eq h c 7).trans (final_7 m c), (Pipeline.FramePost.out_eq h c 8).trans (final_8 m c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ)

end Cert.Proj

end
-- ==== Proof.InProjRefRun.lean ====
module

public import proofs.«01_k».proof.Proof.InProjRef
public import Idealize.ShloMosaic.Lib.Claim

@[expose] public section

set_option maxRecDepth 16384

noncomputable section

namespace Cert.Proj

open Cert.InProjReferenceIdeal Cert.InProjReferenceIdeal.Gen
open Idealize.ShloMosaic Idealize.ShloMosaic.TcCoe Idealize.SL.Sem

/-! ## The reference's operations, in two runs -/

/-- The operations up to the projected rows. -/
def opsProj {F : FTy → Type} [FloatOps F] : List (HloOp τ sig (Elt F)) := [
  StableHlo.nullary main_cst (constant S_ .f32 0x00000000#32),
  StableHlo.binary main_arg0 main_cst main_v0 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
  StableHlo.unary main_v0 main_v1 (broadcastInDim S16x2048x1 ![0, 1] bcast_S16x2048_S16x2048x1_0_1 : (⟨S16x2048, .f32⟩ : BufTy).Contents (Elt F) → (⟨S16x2048x1, .f32⟩ : BufTy).Contents (Elt F)),
  StableHlo.nullary main_cst_0 (constant S_ .f32 0x44800000#32),
  StableHlo.unary main_cst_0 main_v2 (broadcastInDim S16x2048x1 ![] bcast_S_S16x2048x1 : (⟨S_, .f32⟩ : BufTy).Contents (Elt F) → (⟨S16x2048x1, .f32⟩ : BufTy).Contents (Elt F)),
  StableHlo.binary main_v1 main_v2 main_v3 (Host.divf : (⟨S16x2048x1, .f32⟩ : BufTy).Contents (Elt F) → (⟨S16x2048x1, .f32⟩ : BufTy).Contents (Elt F) → (⟨S16x2048x1, .f32⟩ : BufTy).Contents (Elt F)),
  StableHlo.unary main_v3 main_v4 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
  StableHlo.binary main_arg0 main_v4 main_v5 (subf : (⟨S16x2048x1024, .f32⟩ : BufTy).Contents (Elt F) → (⟨S16x2048x1024, .f32⟩ : BufTy).Contents (Elt F) → (⟨S16x2048x1024, .f32⟩ : BufTy).Contents (Elt F)),
  StableHlo.binary main_v5 main_v5 main_v6 (mulf : (⟨S16x2048x1024, .f32⟩ : BufTy).Contents (Elt F) → (⟨S16x2048x1024, .f32⟩ : BufTy).Contents (Elt F) → (⟨S16x2048x1024, .f32⟩ : BufTy).Contents (Elt F)),
  StableHlo.nullary main_cst_1 (constant S_ .f32 0x00000000#32),
  StableHlo.binary main_v6 main_cst_1 main_v7 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
  StableHlo.unary main_v7 main_v8 (broadcastInDim S16x2048x1 ![0, 1] bcast_S16x2048_S16x2048x1_0_1 : (⟨S16x2048, .f32⟩ : BufTy).Contents (Elt F) → (⟨S16x2048x1, .f32⟩ : BufTy).Contents (Elt F)),
  StableHlo.nullary main_cst_2 (constant S_ .f32 0x44800000#32),
  StableHlo.unary main_cst_2 main_v9 (broadcastInDim S16x2048x1 ![] bcast_S_S16x2048x1 : (⟨S_, .f32⟩ : BufTy).Contents (Elt F) → (⟨S16x2048x1, .f32⟩ : BufTy).Contents (Elt F)),
  StableHlo.binary main_v8 main_v9 main_v10 (Host.divf : (⟨S16x2048x1, .f32⟩ : BufTy).Contents (Elt F) → (⟨S16x2048x1, .f32⟩ : BufTy).Contents (Elt F) → (⟨S16x2048x1, .f32⟩ : BufTy).Contents (Elt F)),
  StableHlo.unary main_v3 main_v11 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
  StableHlo.binary main_arg0 main_v11 main_v12 (subf : (⟨S16x2048x1024, .f32⟩ : BufTy).Contents (Elt F) → (⟨S16x2048x1024, .f32⟩ : BufTy).Contents (Elt F) → (⟨S16x2048x1024, .f32⟩ : BufTy).Contents (Elt F)),
  StableHlo.nullary main_cst_3 (constant S_ .f32 0x3727C5AC#32),
  StableHlo.unary main_cst_3 main_v13 (broadcastInDim S16x2048x1 ![] bcast_S_S16x2048x1 : (⟨S_, .f32⟩ : BufTy).Contents (Elt F) → (⟨S16x2048x1, .f32⟩ : BufTy).Contents (Elt F)),
  StableHlo.binary main_v10 main_v13 main_v14 (addf : (⟨S16x2048x1, .f32⟩ : BufTy).Contents (Elt F) → (⟨S16x2048x1, .f32⟩ : BufTy).Contents (Elt F) → (⟨S16x2048x1, .f32⟩ : BufTy).Contents (Elt F)),
  StableHlo.unary main_v14 main_v15 (Host.rsqrt : (⟨S16x2048x1, .f32⟩ : BufTy).Contents (Elt F) → (⟨S16x2048x1, .f32⟩ : BufTy).Contents (Elt F)),
  StableHlo.unary main_v15 main_v16 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
  StableHlo.binary main_v12 main_v16 main_v17 (mulf : (⟨S16x2048x1024, .f32⟩ : BufTy).Contents (Elt F) → (⟨S16x2048x1024, .f32⟩ : BufTy).Contents (Elt F) → (⟨S16x2048x1024, .f32⟩ : BufTy).Contents (Elt F)),
  StableHlo.unary main_arg1 main_v18 (broadcastInDim S1x1x1024 ![2] bcast_S1024_S1x1x1024_2 : (⟨S1024, .f32⟩ : BufTy).Contents (Elt F) → (⟨S1x1x1024, .f32⟩ : BufTy).Contents (Elt F)),
  StableHlo.unary main_v18 main_v19 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
  StableHlo.binary main_v17 main_v19 main_v20 (mulf : (⟨S16x2048x1024, .f32⟩ : BufTy).Contents (Elt F) → (⟨S16x2048x1024, .f32⟩ : BufTy).Contents (Elt F) → (⟨S16x2048x1024, .f32⟩ : BufTy).Contents (Elt F)),
  StableHlo.unary main_arg2 main_v21 (broadcastInDim S1x1x1024 ![2] bcast_S1024_S1x1x1024_2 : (⟨S1024, .f32⟩ : BufTy).Contents (Elt F) → (⟨S1x1x1024, .f32⟩ : BufTy).Contents (Elt F)),
  StableHlo.unary main_v21 main_v22 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
  StableHlo.binary main_v20 main_v22 main_v23 (addf : (⟨S16x2048x1024, .f32⟩ : BufTy).Contents (Elt F) → (⟨S16x2048x1024, .f32⟩ : BufTy).Contents (Elt F) → (⟨S16x2048x1024, .f32⟩ : BufTy).Contents (Elt F)),
  StableHlo.reshape main_arg3 main_v24 (rfl : (.f32 : EltTy) = .f32) shapeCasts_S1x1024x3072_S1024x3072,
  StableHlo.binary main_v23 main_v24 main_v25 ((fun l r => Host.dotGeneral dot_S16x2048x1024_S1024x3072_S16x2048x3072_2_0_01_1_n_n none l r) : (⟨S16x2048x1024, .f32⟩ : BufTy).Contents (Elt F) → (⟨S1024x3072, .f32⟩ : BufTy).Contents (Elt F) → (⟨S16x2048x3072, .f32⟩ : BufTy).Contents (Elt F))]

/-- The operations that cut the projected rows into the pieces. -/
def opsPieces {F : FTy → Type} [FloatOps F] : List (HloOp τ sig (Elt F)) := [
  StableHlo.unary main_v25 main_v26 ((extractStridedSlice S16x2048x512 ![0, 0, 0] · slices_S16x2048x3072_S16x2048x512_0_0_0) : (⟨S16x2048x3072, .f32⟩ : BufTy).Contents (Elt F) → (⟨S16x2048x512, .f32⟩ : BufTy).Contents (Elt F)),
  StableHlo.unary main_v25 main_v27 ((extractStridedSlice S16x2048x512 ![0, 0, 512] · slices_S16x2048x3072_S16x2048x512_0_0_512) : (⟨S16x2048x3072, .f32⟩ : BufTy).Contents (Elt F) → (⟨S16x2048x512, .f32⟩ : BufTy).Contents (Elt F)),
  StableHlo.unary main_v25 main_v28 ((extractStridedSlice S16x2048x512 ![0, 0, 1024] · slices_S16x2048x3072_S16x2048x512_0_0_1024) : (⟨S16x2048x3072, .f32⟩ : BufTy).Contents (Elt F) → (⟨S16x2048x512, .f32⟩ : BufTy).Contents (Elt F)),
  StableHlo.unary main_v25 main_v29 ((extractStridedSlice S16x2048x512 ![0, 0, 1536] · slices_S16x2048x3072_S16x2048x512_0_0_1536) : (⟨S16x2048x3072, .f32⟩ : BufTy).Contents (Elt F) → (⟨S16x2048x512, .f32⟩ : BufTy).Contents (Elt F)),
  StableHlo.unary main_v25 main_v30 ((extractStridedSlice S16x2048x512 ![0, 0, 2048] · slices_S16x2048x3072_S16x2048x512_0_0_2048) : (⟨S16x2048x3072, .f32⟩ : BufTy).Contents (Elt F) → (⟨S16x2048x512, .f32⟩ : BufTy).Contents (Elt F)),
  StableHlo.unary main_v25 main_v31 ((extractStridedSlice S16x2048x512 ![0, 0, 2560] · slices_S16x2048x3072_S16x2048x512_0_0_2560) : (⟨S16x2048x3072, .f32⟩ : BufTy).Contents (Elt F) → (⟨S16x2048x512, .f32⟩ : BufTy).Contents (Elt F)),
  StableHlo.nullary main_cst_4 (constant S_ .f32 0x3E000000#32),
  StableHlo.unary main_cst_4 main_v32 (broadcastInDim S16x2048x512 ![] bcast_S_S16x2048x512 : (⟨S_, .f32⟩ : BufTy).Contents (Elt F) → (⟨S16x2048x512, .f32⟩ : BufTy).Contents (Elt F)),
  StableHlo.binary main_v26 main_v32 main_v33 (mulf : (⟨S16x2048x512, .f32⟩ : BufTy).Contents (Elt F) → (⟨S16x2048x512, .f32⟩ : BufTy).Contents (Elt F) → (⟨S16x2048x512, .f32⟩ : BufTy).Contents (Elt F)),
  StableHlo.nullary main_cst_5 (constant S_ .f32 0x3E000000#32),
  StableHlo.unary main_cst_5 main_v34 (broadcastInDim S16x2048x512 ![] bcast_S_S16x2048x512 : (⟨S_, .f32⟩ : BufTy).Contents (Elt F) → (⟨S16x2048x512, .f32⟩ : BufTy).Contents (Elt F)),
  StableHlo.binary main_v29 main_v34 main_v35 (mulf : (⟨S16x2048x512, .f32⟩ : BufTy).Contents (Elt F) → (⟨S16x2048x512, .f32⟩ : BufTy).Contents (Elt F) → (⟨S16x2048x512, .f32⟩ : BufTy).Contents (Elt F))]

/-- The operation that joins the queries, keys and values. -/
def opJoin {F : FTy → Type} [FloatOps F] : HloOp τ sig (Elt F) :=
  StableHlo.nary ![main_v33, main_v27, main_v28, main_v35, main_v30, main_v31] main_v36 (fun u => (concatenate S16x2048x3072 2 [⟨S16x2048x512, (u 0 : (⟨S16x2048x512, .f32⟩ : BufTy).Contents (Elt F))⟩, ⟨S16x2048x512, (u 1 : (⟨S16x2048x512, .f32⟩ : BufTy).Contents (Elt F))⟩, ⟨S16x2048x512, (u 2 : (⟨S16x2048x512, .f32⟩ : BufTy).Contents (Elt F))⟩, ⟨S16x2048x512, (u 3 : (⟨S16x2048x512, .f32⟩ : BufTy).Contents (Elt F))⟩, ⟨S16x2048x512, (u 4 : (⟨S16x2048x512, .f32⟩ : BufTy).Contents (Elt F))⟩, ⟨S16x2048x512, (u 5 : (⟨S16x2048x512, .f32⟩ : BufTy).Contents (Elt F))⟩] concatenates_S16x2048x512_S16x2048x512_S16x2048x512_S16x2048x512_S16x2048x512_S16x2048x512_S16x2048x3072_d2 : (⟨S16x2048x3072, .f32⟩ : BufTy).Contents (Elt F)))

/-- The operations that make the results of the pieces. -/
def opsRest {F : FTy → Type} [FloatOps F] : List (HloOp τ sig (Elt F)) := [
  StableHlo.reshape main_v36 main_v37 (rfl : (.f32 : EltTy) = .f32) shapeCasts_S16x2048x3072_S32768x3072,
  StableHlo.unary main_v37 main_v38 ((truncf .bf16 · bitsLt_bf16_f32) : (⟨S32768x3072, .f32⟩ : BufTy).Contents (Elt F) → (⟨S32768x3072, .bf16⟩ : BufTy).Contents (Elt F)),
  StableHlo.reshape main_v27 main_v39 (rfl : (.f32 : EltTy) = .f32) shapeCasts_S16x2048x512_S262144x64,
  StableHlo.reshape main_v28 main_v40 (rfl : (.f32 : EltTy) = .f32) shapeCasts_S16x2048x512_S262144x64,
  StableHlo.reshape main_v30 main_v41 (rfl : (.f32 : EltTy) = .f32) shapeCasts_S16x2048x512_S131072x128,
  StableHlo.reshape main_v31 main_v42 (rfl : (.f32 : EltTy) = .f32) shapeCasts_S16x2048x512_S131072x128]

/-- The operations that cut the projected rows into the results. -/
def opsOut {F : FTy → Type} [FloatOps F] : List (HloOp τ sig (Elt F)) := opsPieces ++ opJoin :: opsRest

/-- The reference is the one list and then the other. -/
theorem main_ops (d : Dev nD) : StableHlo.IsSeq (main (F := Ideal) d) (opsProj ++ opsOut) := by
  unfold opsProj opsOut opsPieces opJoin opsRest
  simp only [List.cons_append, List.nil_append]
  hlo_seq

variable (V : Valuation τ sig (Elt Ideal))

set_option maxHeartbeats 4000000 in
/-- The first list leaves the projected rows. -/
theorem proj_read : StableHlo.after opsProj V (Proc.devRef .tc main_v25)
    = (refProj (V (Proc.devRef .tc main_arg0)) (V (Proc.devRef .tc main_arg1)) (V (Proc.devRef .tc main_arg2)) (V (Proc.devRef .tc main_arg3)) : FVec Ideal S16x2048x3072 .f32) := by
  unfold opsProj
  after_results_simp
  rfl

/-- The second list cuts them into the results. -/
theorem piece_v33 : StableHlo.after opsPieces V (Proc.devRef .tc main_v33) = (scaled bcast_S_S16x2048x512 (extractStridedSlice S16x2048x512 ![0, 0, 0] (V (Proc.devRef .tc main_v25)) slices_S16x2048x3072_S16x2048x512_0_0_0) : FVec Ideal S16x2048x512 .f32) := by
  unfold opsPieces; after_results_simp; rfl
theorem piece_v27 : StableHlo.after opsPieces V (Proc.devRef .tc main_v27) = (extractStridedSlice S16x2048x512 ![0, 0, 512] (V (Proc.devRef .tc main_v25)) slices_S16x2048x3072_S16x2048x512_0_0_512 : FVec Ideal S16x2048x512 .f32) := by
  unfold opsPieces; after_results_simp
theorem piece_v28 : StableHlo.after opsPieces V (Proc.devRef .tc main_v28) = (extractStridedSlice S16x2048x512 ![0, 0, 1024] (V (Proc.devRef .tc main_v25)) slices_S16x2048x3072_S16x2048x512_0_0_1024 : FVec Ideal S16x2048x512 .f32) := by
  unfold opsPieces; after_results_simp
theorem piece_v35 : StableHlo.after opsPieces V (Proc.devRef .tc main_v35) = (scaled bcast_S_S16x2048x512 (extractStridedSlice S16x2048x512 ![0, 0, 1536] (V (Proc.devRef .tc main_v25)) slices_S16x2048x3072_S16x2048x512_0_0_1536) : FVec Ideal S16x2048x512 .f32) := by
  unfold opsPieces; after_results_simp; rfl
theorem piece_v30 : StableHlo.after opsPieces V (Proc.devRef .tc main_v30) = (extractStridedSlice S16x2048x512 ![0, 0, 2048] (V (Proc.devRef .tc main_v25)) slices_S16x2048x3072_S16x2048x512_0_0_2048 : FVec Ideal S16x2048x512 .f32) := by
  unfold opsPieces; after_results_simp
theorem piece_v31 : StableHlo.after opsPieces V (Proc.devRef .tc main_v31) = (extractStridedSlice S16x2048x512 ![0, 0, 2560] (V (Proc.devRef .tc main_v25)) slices_S16x2048x3072_S16x2048x512_0_0_2560 : FVec Ideal S16x2048x512 .f32) := by
  unfold opsPieces; after_results_simp

/-- What the join leaves. -/
theorem join_read :
    opJoin.result (StableHlo.after opsPieces V) (Proc.devRef .tc main_v36) = (refCat (V (Proc.devRef .tc main_v25)) : FVec Ideal S16x2048x3072 .f32) := by
  unfold opJoin
  rw [StableHlo.nary_result]
  show (concatenate S16x2048x3072 2
      [⟨S16x2048x512, (StableHlo.after opsPieces V (Proc.devRef .tc main_v33) : FVec Ideal S16x2048x512 .f32)⟩, ⟨S16x2048x512, (StableHlo.after opsPieces V (Proc.devRef .tc main_v27) : FVec Ideal S16x2048x512 .f32)⟩,
       ⟨S16x2048x512, (StableHlo.after opsPieces V (Proc.devRef .tc main_v28) : FVec Ideal S16x2048x512 .f32)⟩, ⟨S16x2048x512, (StableHlo.after opsPieces V (Proc.devRef .tc main_v35) : FVec Ideal S16x2048x512 .f32)⟩,
       ⟨S16x2048x512, (StableHlo.after opsPieces V (Proc.devRef .tc main_v30) : FVec Ideal S16x2048x512 .f32)⟩, ⟨S16x2048x512, (StableHlo.after opsPieces V (Proc.devRef .tc main_v31) : FVec Ideal S16x2048x512 .f32)⟩]
      concatenates_S16x2048x512_S16x2048x512_S16x2048x512_S16x2048x512_S16x2048x512_S16x2048x512_S16x2048x3072_d2 : FVec Ideal S16x2048x3072 .f32) = _
  rw [piece_v33, piece_v27, piece_v28, piece_v35, piece_v30, piece_v31]
  rfl
theorem rest_v38 : StableHlo.after opsRest V (Proc.devRef .tc main_v38)
    = (truncf .bf16 (shapeCast S32768x3072 (V (Proc.devRef .tc main_v36) : FVec Ideal S16x2048x3072 .f32) shapeCasts_S16x2048x3072_S32768x3072) bitsLt_bf16_f32 : FVec Ideal S32768x3072 .bf16) := by
  unfold opsRest; after_results_simp; rfl
theorem out_Qkv : StableHlo.after opsOut V (Proc.devRef .tc main_v38) = (refQkv (V (Proc.devRef .tc main_v25)) : FVec Ideal S32768x3072 .bf16) := by
  unfold opsOut
  rw [StableHlo.after_append, StableHlo.after_cons, rest_v38, join_read]
  rfl
theorem out_Km : StableHlo.after opsOut V (Proc.devRef .tc main_v39) = (refKm (V (Proc.devRef .tc main_v25)) : FVec Ideal S262144x64 .f32) := by
  unfold opsOut opsPieces opJoin opsRest
  simp only [List.cons_append, List.nil_append]
  after_results_simp
  rfl
theorem out_Vm : StableHlo.after opsOut V (Proc.devRef .tc main_v40) = (refVm (V (Proc.devRef .tc main_v25)) : FVec Ideal S262144x64 .f32) := by
  unfold opsOut opsPieces opJoin opsRest
  simp only [List.cons_append, List.nil_append]
  after_results_simp
  rfl
theorem out_Kd : StableHlo.after opsOut V (Proc.devRef .tc main_v41) = (refKd (V (Proc.devRef .tc main_v25)) : FVec Ideal S131072x128 .f32) := by
  unfold opsOut opsPieces opJoin opsRest
  simp only [List.cons_append, List.nil_append]
  after_results_simp
  rfl
theorem out_Vd : StableHlo.after opsOut V (Proc.devRef .tc main_v42) = (refVd (V (Proc.devRef .tc main_v25)) : FVec Ideal S131072x128 .f32) := by
  unfold opsOut opsPieces opJoin opsRest
  simp only [List.cons_append, List.nil_append]
  after_results_simp
  rfl

/-- Neither writes an argument. -/
theorem keeps_0 : StableHlo.after (opsProj ++ opsOut) V (Proc.devRef .tc main_arg0) = V (Proc.devRef .tc main_arg0) := by
  unfold opsProj opsOut opsPieces opJoin opsRest; simp only [List.cons_append, List.nil_append]; after_results_simp
theorem keeps_1 : StableHlo.after (opsProj ++ opsOut) V (Proc.devRef .tc main_arg1) = V (Proc.devRef .tc main_arg1) := by
  unfold opsProj opsOut opsPieces opJoin opsRest; simp only [List.cons_append, List.nil_append]; after_results_simp
theorem keeps_2 : StableHlo.after (opsProj ++ opsOut) V (Proc.devRef .tc main_arg2) = V (Proc.devRef .tc main_arg2) := by
  unfold opsProj opsOut opsPieces opJoin opsRest; simp only [List.cons_append, List.nil_append]; after_results_simp
theorem keeps_3 : StableHlo.after (opsProj ++ opsOut) V (Proc.devRef .tc main_arg3) = V (Proc.devRef .tc main_arg3) := by
  unfold opsProj opsOut opsPieces opJoin opsRest; simp only [List.cons_append, List.nil_append]; after_results_simp

variable (m : (ℓ : Loc nD τ sig) → Buf (Elt Ideal) ℓ)

/-- The reference's projected rows of its own arguments. -/
abbrev refRows (c : Dev nD) : FVec Ideal S16x2048x3072 .f32 :=
  refProj (m ((c.tc : Thread nD τ).loc main_arg0)) (m ((c.tc : Thread nD τ).loc main_arg1)) (m ((c.tc : Thread nD τ).loc main_arg2)) (m ((c.tc : Thread nD τ).loc main_arg3))

/-- The projected rows after the first list, from the launch. -/
theorem launch_read (c : Dev nD) : StableHlo.after opsProj (StableHlo.launchContents m c) (Proc.devRef .tc main_v25) = refRows m c := proj_read _

/-- The reference's run: its results are its terms, its arguments as they were. -/
theorem ref_run (g : Dev nD → PrngReg) :
    θ_run (defs (F := Ideal)) (onTc (τ := τ) (main (F := Ideal))) ⟨m, fun _ => 0, g⟩ (fun r => ∀ c : Dev nD,
      r.2.mem ((c.tc : Thread nD τ).loc main_v38) = (refQkv (refRows m c) : FVec Ideal S32768x3072 .bf16)
      ∧ r.2.mem ((c.tc : Thread nD τ).loc main_v39) = (refKm (refRows m c) : FVec Ideal S262144x64 .f32)
      ∧ r.2.mem ((c.tc : Thread nD τ).loc main_v40) = (refVm (refRows m c) : FVec Ideal S262144x64 .f32)
      ∧ r.2.mem ((c.tc : Thread nD τ).loc main_v41) = (refKd (refRows m c) : FVec Ideal S131072x128 .f32)
      ∧ r.2.mem ((c.tc : Thread nD τ).loc main_v42) = (refVd (refRows m c) : FVec Ideal S131072x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c main_v38).trans (congrFun (StableHlo.after_append _ _ _) _)).trans ((out_Qkv _).trans (congrArg refQkv (launch_read m c))),
      ((h c main_v39).trans (congrFun (StableHlo.after_append _ _ _) _)).trans ((out_Km _).trans (congrArg refKm (launch_read m c))),
      ((h c main_v40).trans (congrFun (StableHlo.after_append _ _ _) _)).trans ((out_Vm _).trans (congrArg refVm (launch_read m c))),
      ((h c main_v41).trans (congrFun (StableHlo.after_append _ _ _) _)).trans ((out_Kd _).trans (congrArg refKd (launch_read m c))),
      ((h c main_v42).trans (congrFun (StableHlo.after_append _ _ _) _)).trans ((out_Vd _).trans (congrArg refVd (launch_read m c))),
      (h c main_arg0).trans (keeps_0 _),
      (h c main_arg1).trans (keeps_1 _),
      (h c main_arg2).trans (keeps_2 _),
      (h c main_arg3).trans (keeps_3 _)⟩)
    (StableHlo.run_hlo defs main main_ops (by decide) (by decide) (by simp [opsProj, opsOut, opsPieces, opJoin, opsRest])
      (by intro _ h; unfold opsProj opsOut opsPieces opJoin opsRest at h; simp only [List.cons_append, List.nil_append] at h; (repeat (cases h with | head => rfl | tail _ h => ?_)); exact nomatch h) m g)

end Cert.Proj

end
-- ==== Proof.InProjSame.lean ====
module

public import proofs.«01_k».proof.Defs
public import proofs.«01_k».proof.Proof.Gen.InProj
public import proofs.«01_k».proof.Proof.Gen.InProjIdeal

@[expose] public section

set_option maxRecDepth 16384
set_option maxHeartbeats 1000000

namespace Cert.Proj

open Idealize.ShloMosaic

/-- The two programs' body tables are one: their texts are the same. -/
theorem bodies_same : Cert.InProj.defs₀ (F := Bits) = Cert.InProjIdeal.defs₀ (F := Bits) := by
  unfold Cert.InProj.defs₀ Cert.InProjIdeal.defs₀
  congr 1
  funext l a
  match l, a with
  | ⟨0, _⟩, (t, s) => rfl
  | ⟨_ + 1, h⟩, _ => exact absurd h (Nat.not_lt.2 (Nat.le_add_left _ _))

/-- So are their tables with the pipelines. -/
theorem defs_same : Cert.InProj.defs (F := Bits) = Cert.InProjIdeal.defs (F := Bits) :=
  congrArg (Pipeline.defs (Cert.InProjIdeal.pcfgs (F := Bits))) bodies_same

/-- And their host programs. -/
theorem main_same : Cert.InProj.main (F := Bits) = Cert.InProjIdeal.main (F := Bits) := rfl

end Cert.Proj

end
-- ==== Proof.SampleBody.lean ====
module

public import proofs.«01_k».proof.Defs
public import proofs.«01_k».proof.Proof.InProjParts
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import Idealize.ShloMosaic.Lib.Tactic
public import Idealize.ShloMosaic.Lib.Claim

@[expose] public section

set_option maxRecDepth 16384

noncomputable section

namespace Cert.ProjSample

open Cert.Proj Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four blocks of heads. -/
def kmOf (y : FVec F S128x3072 .f32) : FVec F S1024x64 .f32 := heads 512 8 (by decide) (N := 128) (by decide) (by decide) y
def vmOf (y : FVec F S128x3072 .f32) : FVec F S1024x64 .f32 := heads 1024 8 (by decide) (N := 128) (by decide) (by decide) y
def kdOf (y : FVec F S128x3072 .f32) : FVec F S512x128 .f32 := heads 2048 4 (by decide) (N := 128) (by decide) (by decide) y
def vdOf (y : FVec F S128x3072 .f32) : FVec F S512x128 .f32 := heads 2560 4 (by decide) (N := 128) (by decide) (by decide) y

set_option maxHeartbeats 4000000 in
/-- The body: it leaves the rows projected, in the five forms. -/
theorem run_body (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S128x3072 .bf16) (harg5 : arg5.IsWhole) (arg6 : Memref sig .tc .vmem S1024x64 .f32) (harg6 : arg6.IsWhole) (arg7 : Memref sig .tc .vmem S1024x64 .f32) (harg7 : arg7.IsWhole) (arg8 : Memref sig .tc .vmem S512x128 .f32) (harg8 : arg8.IsWhole) (arg9 : Memref sig .tc .vmem S512x128 .f32) (harg9 : arg9.IsWhole)
    (x : Vec F S128x1024 .f32) (g : Vec F S1x1024 .f32) (b : Vec F S1x1024 .f32) (w : Vec F S1024x3072 .bf16) (E : Set ℕ) (K : PUnit → sProp 𝕄) :
    iprop(owns (c : Thread nD τ) arg1 fullShare x ∗ owns (c : Thread nD τ) arg2 fullShare g ∗ owns (c : Thread nD τ) arg3 fullShare b ∗ owns (c : Thread nD τ) arg4 fullShare w ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x ∗ owns (c : Thread nD τ) arg2 fullShare g ∗ owns (c : Thread nD τ) arg3 fullShare b ∗ owns (c : Thread nD τ) arg4 fullShare w ∗ owns (c : Thread nD τ) arg5 fullShare (qkvOf (k0_pay7 x g b w)) ∗ owns (c : Thread nD τ) arg6 fullShare (kmOf (k0_pay7 x g b w)) ∗ owns (c : Thread nD τ) arg7 fullShare (vmOf (k0_pay7 x g b w)) ∗ owns (c : Thread nD τ) arg8 fullShare (kdOf (k0_pay7 x g b w)) ∗ owns (c : Thread nD τ) arg9 fullShare (vdOf (k0_pay7 x g b w))) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9) K := by
  simp only [cc0_in_proj_eq_skeleton]; unfold cc0_in_proj_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_run_names
    simp (disch := decide) only [View.ld_unit_lit', View.readAt_eq_ld, Memref.IsWhole.read_unread]
    unfold k0_pay8 k0_pay9
    generalize k0_pay7 x g b w = y
    refine read_writes_of_pieces _ _ _ _ ?_ fun z => ?_
    · exact ⟨fun z => rounded_piece y 2048 1024 _ (by decide) z _ rfl rfl, fun z => scaled_piece y 1536 512 _ (by decide) z _ rfl rfl, fun z => rounded_piece y 512 1024 _ (by decide) z _ rfl rfl, fun z => scaled_piece y 0 512 _ (by decide) z _ rfl rfl, trivial⟩
    have hlt : (z (1 : Fin 2)).val < 3072 := (z (1 : Fin 2)).isLt
    rcases (by omega : ((z (1 : Fin 2)).val < 512) ∨ (512 ≤ (z (1 : Fin 2)).val ∧ (z (1 : Fin 2)).val < 1536) ∨ (1536 ≤ (z (1 : Fin 2)).val ∧ (z (1 : Fin 2)).val < 2048) ∨ 2048 ≤ (z (1 : Fin 2)).val) with hz | hz | hz | hz
    · exact holds_skip (holds_skip (holds_skip ⟨_, .head _, mem_columns 0 512 (by decide) z (by omega)⟩))
    · exact holds_skip (holds_skip ⟨_, .head _, mem_columns 512 1024 (by decide) z (by omega)⟩)
    · exact holds_skip ⟨_, .head _, mem_columns 1536 512 (by decide) z (by omega)⟩
    · exact ⟨_, .head _, mem_columns 2048 1024 (by decide) z (by omega)⟩
  isplitl [H6]
  · iexists _; isplitr; swap; · iexact H6
    ipureintro
    sl_unfold_run_names
    simp (disch := decide) only [View.ld_unit_lit', View.readAt_eq_ld, Memref.IsWhole.read_unread]
    generalize k0_pay7 x g b w = y
    refine read_writes_of_pieces _ _ _ _ ?_ fun z => ?_
    · exact ⟨fun z => slice_eq_heads 512 8 (by decide) (by decide) (by decide) y 7 448 (by decide) rfl 512 (by decide) (by decide) z _ rfl rfl, fun z => slice_eq_heads 512 8 (by decide) (by decide) (by decide) y 6 384 (by decide) rfl 512 (by decide) (by decide) z _ rfl rfl, fun z => slice_eq_heads 512 8 (by decide) (by decide) (by decide) y 5 320 (by decide) rfl 512 (by decide) (by decide) z _ rfl rfl, fun z => slice_eq_heads 512 8 (by decide) (by decide) (by decide) y 4 256 (by decide) rfl 512 (by decide) (by decide) z _ rfl rfl, fun z => slice_eq_heads 512 8 (by decide) (by decide) (by decide) y 3 192 (by decide) rfl 512 (by decide) (by decide) z _ rfl rfl, fun z => slice_eq_heads 512 8 (by decide) (by decide) (by decide) y 2 128 (by decide) rfl 512 (by decide) (by decide) z _ rfl rfl, fun z => slice_eq_heads 512 8 (by decide) (by decide) (by decide) y 1 64 (by decide) rfl 512 (by decide) (by decide) z _ rfl rfl, fun z => slice_eq_heads 512 8 (by decide) (by decide) (by decide) y 0 0 (by decide) rfl 512 (by decide) (by decide) z _ rfl rfl, trivial⟩
    have hz : (z (0 : Fin 2)).val % 8 = 0 ∨ (z (0 : Fin 2)).val % 8 = 1 ∨ (z (0 : Fin 2)).val % 8 = 2 ∨ (z (0 : Fin 2)).val % 8 = 3 ∨ (z (0 : Fin 2)).val % 8 = 4 ∨ (z (0 : Fin 2)).val % 8 = 5 ∨ (z (0 : Fin 2)).val % 8 = 6 ∨ (z (0 : Fin 2)).val % 8 = 7 := by omega
    rcases hz with hz | hz | hz | hz | hz | hz | hz | hz <;>
      repeat (first | exact ⟨_, .head _, mem_head 8 (N := 128) (by decide) _ _ rfl rfl rfl z hz⟩ | refine holds_skip ?_)
  isplitl [H7]
  · iexists _; isplitr; swap; · iexact H7
    ipureintro
    sl_unfold_run_names
    simp (disch := decide) only [View.ld_unit_lit', View.readAt_eq_ld, Memref.IsWhole.read_unread]
    generalize k0_pay7 x g b w = y
    refine read_writes_of_pieces _ _ _ _ ?_ fun z => ?_
    · exact ⟨fun z => slice_eq_heads 1024 8 (by decide) (by decide) (by decide) y 7 448 (by decide) rfl 512 (by decide) (by decide) z _ rfl rfl, fun z => slice_eq_heads 1024 8 (by decide) (by decide) (by decide) y 6 384 (by decide) rfl 512 (by decide) (by decide) z _ rfl rfl, fun z => slice_eq_heads 1024 8 (by decide) (by decide) (by decide) y 5 320 (by decide) rfl 512 (by decide) (by decide) z _ rfl rfl, fun z => slice_eq_heads 1024 8 (by decide) (by decide) (by decide) y 4 256 (by decide) rfl 512 (by decide) (by decide) z _ rfl rfl, fun z => slice_eq_heads 1024 8 (by decide) (by decide) (by decide) y 3 192 (by decide) rfl 512 (by decide) (by decide) z _ rfl rfl, fun z => slice_eq_heads 1024 8 (by decide) (by decide) (by decide) y 2 128 (by decide) rfl 512 (by decide) (by decide) z _ rfl rfl, fun z => slice_eq_heads 1024 8 (by decide) (by decide) (by decide) y 1 64 (by decide) rfl 512 (by decide) (by decide) z _ rfl rfl, fun z => slice_eq_heads 1024 8 (by decide) (by decide) (by decide) y 0 0 (by decide) rfl 512 (by decide) (by decide) z _ rfl rfl, trivial⟩
    have hz : (z (0 : Fin 2)).val % 8 = 0 ∨ (z (0 : Fin 2)).val % 8 = 1 ∨ (z (0 : Fin 2)).val % 8 = 2 ∨ (z (0 : Fin 2)).val % 8 = 3 ∨ (z (0 : Fin 2)).val % 8 = 4 ∨ (z (0 : Fin 2)).val % 8 = 5 ∨ (z (0 : Fin 2)).val % 8 = 6 ∨ (z (0 : Fin 2)).val % 8 = 7 := by omega
    rcases hz with hz | hz | hz | hz | hz | hz | hz | hz <;>
      repeat (first | exact ⟨_, .head _, mem_head 8 (N := 128) (by decide) _ _ rfl rfl rfl z hz⟩ | refine holds_skip ?_)
  isplitl [H8]
  · iexists _; isplitr; swap; · iexact H8
    ipureintro
    sl_unfold_run_names
    simp (disch := decide) only [View.ld_unit_lit', View.readAt_eq_ld, Memref.IsWhole.read_unread]
    generalize k0_pay7 x g b w = y
    refine read_writes_of_pieces _ _ _ _ ?_ fun z => ?_
    · exact ⟨fun z => slice_eq_heads 2048 4 (by decide) (by decide) (by decide) y 3 384 (by decide) rfl 512 (by decide) (by decide) z _ rfl rfl, fun z => slice_eq_heads 2048 4 (by decide) (by decide) (by decide) y 2 256 (by decide) rfl 512 (by decide) (by decide) z _ rfl rfl, fun z => slice_eq_heads 2048 4 (by decide) (by decide) (by decide) y 1 128 (by decide) rfl 512 (by decide) (by decide) z _ rfl rfl, fun z => slice_eq_heads 2048 4 (by decide) (by decide) (by decide) y 0 0 (by decide) rfl 512 (by decide) (by decide) z _ rfl rfl, trivial⟩
    have hz : (z (0 : Fin 2)).val % 4 = 0 ∨ (z (0 : Fin 2)).val % 4 = 1 ∨ (z (0 : Fin 2)).val % 4 = 2 ∨ (z (0 : Fin 2)).val % 4 = 3 := by omega
    rcases hz with hz | hz | hz | hz <;>
      repeat (first | exact ⟨_, .head _, mem_head 4 (N := 128) (by decide) _ _ rfl rfl rfl z hz⟩ | refine holds_skip ?_)
  · iexists _; isplitr; swap; · iexact H9
    ipureintro
    sl_unfold_run_names
    simp (disch := decide) only [View.ld_unit_lit', View.readAt_eq_ld, Memref.IsWhole.read_unread]
    generalize k0_pay7 x g b w = y
    refine read_writes_of_pieces _ _ _ _ ?_ fun z => ?_
    · exact ⟨fun z => slice_eq_heads 2560 4 (by decide) (by decide) (by decide) y 3 384 (by decide) rfl 512 (by decide) (by decide) z _ rfl rfl, fun z => slice_eq_heads 2560 4 (by decide) (by decide) (by decide) y 2 256 (by decide) rfl 512 (by decide) (by decide) z _ rfl rfl, fun z => slice_eq_heads 2560 4 (by decide) (by decide) (by decide) y 1 128 (by decide) rfl 512 (by decide) (by decide) z _ rfl rfl, fun z => slice_eq_heads 2560 4 (by decide) (by decide) (by decide) y 0 0 (by decide) rfl 512 (by decide) (by decide) z _ rfl rfl, trivial⟩
    have hz : (z (0 : Fin 2)).val % 4 = 0 ∨ (z (0 : Fin 2)).val % 4 = 1 ∨ (z (0 : Fin 2)).val % 4 = 2 ∨ (z (0 : Fin 2)).val % 4 = 3 := by omega
    rcases hz with hz | hz | hz | hz <;>
      repeat (first | exact ⟨_, .head _, mem_head 4 (N := 128) (by decide) _ _ rfl rfl rfl z hz⟩ | refine holds_skip ?_)

end Cert.ProjSample

end
-- ==== Proof.SampleRun.lean ====
module

public import proofs.«01_k».proof.Proof.SampleBody

@[expose] public section

set_option maxRecDepth 16384

noncomputable section

namespace Cert.ProjSample

open Cert.Proj Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The projected rows of point `t`. -/
def rows (c : Dev nD) (t : Fin cfg0.N) : FVec F S128x3072 .f32 :=
  k0_pay7 (iblk m c 0 t) (iblk m c 1 t) (iblk m c 2 t) (iblk m c 3 t)

/-- The contents at every point: each input its block, each output its form of the projected rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => qkvOf (rows m c t)
    | ⟨5, _⟩ => kmOf (rows m c t)
    | ⟨6, _⟩ => vmOf (rows m c t)
    | ⟨7, _⟩ => kdOf (rows m c t)
    | ⟨8, _⟩ => vdOf (rows m c t)
  Φ _ := Pipeline.ΦA spec0 c
  q _ := fullShare
  owed _ := 0

/-- The arrays are those of the region's entry. -/
theorem A_eq (c : Dev nD) (w : Fin cfg0.W) : (dats m 0 c).A w = V m c (Pipeline.arrRef spec0 w) := by dsimp only [dats]

/-- What the body leaves in each window, and what it finds in the inputs'. -/
theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = qkvOf (rows m c t) := by dsimp only [dats]; try rfl
theorem after_5 (c : Dev nD) (t : Fin cfg0.N) : (dats m 0 c).after 5 t = kmOf (rows m c t) := by dsimp only [dats]; try rfl
theorem after_6 (c : Dev nD) (t : Fin cfg0.N) : (dats m 0 c).after 6 t = vmOf (rows m c t) := by dsimp only [dats]; try rfl
theorem after_7 (c : Dev nD) (t : Fin cfg0.N) : (dats m 0 c).after 7 t = kdOf (rows m c t) := by dsimp only [dats]; try rfl
theorem after_8 (c : Dev nD) (t : Fin cfg0.N) : (dats m 0 c).after 8 t = vdOf (rows m c t) := by dsimp only [dats]; try rfl
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-! ## The body at a point -/

/-- The windows' staging buffers at point `t`. -/
abbrev ms0 (t : Fin cfg0.N) : Memref sig .tc .vmem S128x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x3072 .bf16 := win0_3.stage (cfg0.slots t 3)
abbrev ms4 (t : Fin cfg0.N) : Memref sig .tc .vmem S128x3072 .bf16 := win0_4.stage (cfg0.slots t 4)
abbrev ms5 (t : Fin cfg0.N) : Memref sig .tc .vmem S1024x64 .f32 := win0_5.stage (cfg0.slots t 5)
abbrev ms6 (t : Fin cfg0.N) : Memref sig .tc .vmem S1024x64 .f32 := win0_6.stage (cfg0.slots t 6)
abbrev ms7 (t : Fin cfg0.N) : Memref sig .tc .vmem S512x128 .f32 := win0_7.stage (cfg0.slots t 7)
abbrev ms8 (t : Fin cfg0.N) : Memref sig .tc .vmem S512x128 .f32 := win0_8.stage (cfg0.slots t 8)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after_0, after_1, after_2, after_3, after_4, after_5, after_6, after_7, after_8]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body c (grid0.coords t) _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation at every point. -/
theorem body_obligation (c : Dev nD) : BodyObligation (dats (F := F) m 0 c) (defs₀ (F := F)) Variants.none () Set.univ := fun t => by
  rw [bigSep_W0, bigSep_W0]
  exact triple_restated (sound_body m c t) rfl .rfl fun _ => .rfl

/-! ## The run -/

set_option backward.isDefEq.respectTransparency.types false in
/-- The run: it ends, with every array as `dats` says and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's end, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame_here : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c)⟩, h.2⟩)
    (run_main_quiescent m ρ)

end Cert.ProjSample

end
-- ==== Proof.SampleRef.lean ====
module

public import proofs.«01_k».proof.Defs
public import proofs.«01_k».proof.Proof.Gen.SampleReferenceIdeal
public import proofs.«01_k».proof.Proof.InProjParts
public import Idealize.ShloMosaic.Lib.Pointwise

@[expose] public section

set_option maxRecDepth 16384

noncomputable section

namespace Cert.ProjSample

open Cert.Proj Cert.SampleReferenceIdeal Cert.SampleReferenceIdeal.Gen
open Idealize.ShloMosaic

/-! ## The reference's term, in its steps -/

variable (x : FVec Ideal S32x4x1024 .f32) (g : FVec Ideal S1024 .f32) (b : FVec Ideal S1024 .f32) (w : FVec Ideal S1x1024x3072 .f32)

/-- The mean over the last axis, as a column. -/
def refMean (x : FVec Ideal S32x4x1024 .f32) : FVec Ideal S32x4x1 .f32 :=
  Host.divf (broadcastInDim S32x4x1 ![0, 1] bcast_S32x4_S32x4x1_0_1 (Host.reduceAdd x (constant S_ .f32 0x00000000#32) reducesTo_S32x4x1024_S32x4_d2 h_S_))
    (broadcastInDim S32x4x1 ![] bcast_S_S32x4x1 (constant S_ .f32 0x44800000#32))

/-- The rows less their means. -/
def refCentred : FVec Ideal S32x4x1024 .f32 :=
  subf x (broadcastInDim S32x4x1024 ![0, 1, 2] bcast_S32x4x1_S32x4x1024_0_1_2 (refMean x))

/-- The rows normalized, scaled and shifted. -/
def refNormed : FVec Ideal S32x4x1024 .f32 :=
  addf (mulf (mulf (refCentred x)
      (broadcastInDim S32x4x1024 ![0, 1, 2] bcast_S32x4x1_S32x4x1024_0_1_2
        (Host.rsqrt (addf (refMean (mulf (refCentred x) (refCentred x))) (broadcastInDim S32x4x1 ![] bcast_S_S32x4x1 (constant S_ .f32 0x3727C5AC#32))))))
      (broadcastInDim S32x4x1024 ![0, 1, 2] bcast_S1x1x1024_S32x4x1024_0_1_2 (broadcastInDim S1x1x1024 ![2] bcast_S1024_S1x1x1024_2 g)))
    (broadcastInDim S32x4x1024 ![0, 1, 2] bcast_S1x1x1024_S32x4x1024_0_1_2 (broadcastInDim S1x1x1024 ![2] bcast_S1024_S1x1x1024_2 b))

/-- The rows projected. -/
def refProj : FVec Ideal S32x4x3072 .f32 :=
  Host.dotGeneral dot_S32x4x1024_S1024x3072_S32x4x3072_2_0_01_1_n_n none (refNormed x g b) (shapeCast S1024x3072 w shapeCasts_S1x1024x3072_S1024x3072)

/-- The six pieces joined. -/
def refCat (y : FVec Ideal S32x4x3072 .f32) : FVec Ideal S32x4x3072 .f32 :=
  concatenate S32x4x3072 2 (pieces y bcast_S_S32x4x512 slices_S32x4x3072_S32x4x512_0_0_0 slices_S32x4x3072_S32x4x512_0_0_512
      slices_S32x4x3072_S32x4x512_0_0_1024 slices_S32x4x3072_S32x4x512_0_0_1536 slices_S32x4x3072_S32x4x512_0_0_2048 slices_S32x4x3072_S32x4x512_0_0_2560)
    concatenates_S32x4x512_S32x4x512_S32x4x512_S32x4x512_S32x4x512_S32x4x512_S32x4x3072_d2

/-- The five results, of the rows projected. -/
def refQkv (y : FVec Ideal S32x4x3072 .f32) : FVec Ideal S128x3072 .bf16 :=
  truncf .bf16 (shapeCast S128x3072 (refCat y) shapeCasts_S32x4x3072_S128x3072) bitsLt_bf16_f32
def refKm (y : FVec Ideal S32x4x3072 .f32) : FVec Ideal S1024x64 .f32 :=
  shapeCast S1024x64 (extractStridedSlice S32x4x512 ![0, 0, 512] y slices_S32x4x3072_S32x4x512_0_0_512) shapeCasts_S32x4x512_S1024x64
def refVm (y : FVec Ideal S32x4x3072 .f32) : FVec Ideal S1024x64 .f32 :=
  shapeCast S1024x64 (extractStridedSlice S32x4x512 ![0, 0, 1024] y slices_S32x4x3072_S32x4x512_0_0_1024) shapeCasts_S32x4x512_S1024x64
def refKd (y : FVec Ideal S32x4x3072 .f32) : FVec Ideal S512x128 .f32 :=
  shapeCast S512x128 (extractStridedSlice S32x4x512 ![0, 0, 2048] y slices_S32x4x3072_S32x4x512_0_0_2048) shapeCasts_S32x4x512_S512x128
def refVd (y : FVec Ideal S32x4x3072 .f32) : FVec Ideal S512x128 .f32 :=
  shapeCast S512x128 (extractStridedSlice S32x4x512 ![0, 0, 2560] y slices_S32x4x3072_S32x4x512_0_0_2560) shapeCasts_S32x4x512_S512x128

/-! ## The same at an index -/

/-- The rows projected, at an index. -/
theorem refProj_apply (n : Fin 32) (s : Fin 4) (j : Fin 3072) :
    refProj x g b w (ix3 n s j) = projOf (fun k => x (ix3 n s k)) (fun k => g (ix1 k)) (fun k => b (ix1 k)) (fun k => w (ix3 0 k j)) := by
  pointwise [refProj, refNormed, refCentred, refMean, projOf, normOf, meanOf]

/-- The reference's head results are the heads of its projected rows. -/
theorem refKm_eq (y : FVec Ideal S32x4x3072 .f32) : refKm y = heads 512 8 (by decide) (N := 128) (by decide) (by decide) (flat (A := 32) (B := 4) (by decide) y) :=
  reshape_heads 512 8 _ _ _ _ 512 (by decide) y _ _
theorem refVm_eq (y : FVec Ideal S32x4x3072 .f32) : refVm y = heads 1024 8 (by decide) (N := 128) (by decide) (by decide) (flat (A := 32) (B := 4) (by decide) y) :=
  reshape_heads 1024 8 _ _ _ _ 512 (by decide) y _ _
theorem refKd_eq (y : FVec Ideal S32x4x3072 .f32) : refKd y = heads 2048 4 (by decide) (N := 128) (by decide) (by decide) (flat (A := 32) (B := 4) (by decide) y) :=
  reshape_heads 2048 4 _ _ _ _ 512 (by decide) y _ _
theorem refVd_eq (y : FVec Ideal S32x4x3072 .f32) : refVd y = heads 2560 4 (by decide) (N := 128) (by decide) (by decide) (flat (A := 32) (B := 4) (by decide) y) :=
  reshape_heads 2560 4 _ _ _ _ 512 (by decide) y _ _

/-- The reference's first result at an index: the projected row, the queries' columns scaled. -/
theorem refQkv_apply (y : FVec Ideal S32x4x3072 .f32) (i : Fin 128) (j : Fin 3072) :
    refQkv y (ix2 i j) = if j.val < 512 ∨ (1536 ≤ j.val ∧ j.val < 2048) then flat (A := 32) (B := 4) (N := 128) (by decide) y (ix2 i j) * Ideal.ofBits .f32 0x3E000000#32
      else flat (A := 32) (B := 4) (N := 128) (by decide) y (ix2 i j) := by
  unfold refQkv
  rw [reshape_flat (A := 32) (B := 4) (by decide) (refCat y)]
  exact joined_apply y bcast_S_S32x4x512 slices_S32x4x3072_S32x4x512_0_0_0 slices_S32x4x3072_S32x4x512_0_0_512
    slices_S32x4x3072_S32x4x512_0_0_1024 slices_S32x4x3072_S32x4x512_0_0_1536 slices_S32x4x3072_S32x4x512_0_0_2048 slices_S32x4x3072_S32x4x512_0_0_2560
    concatenates_S32x4x512_S32x4x512_S32x4x512_S32x4x512_S32x4x512_S32x4x512_S32x4x3072_d2 _ _ j

end Cert.ProjSample

end
-- ==== Proof.SamplePay.lean ====
module

public import proofs.«01_k».proof.Proof.SampleRun
public import proofs.«01_k».proof.Proof.SampleRef

@[expose] public section

set_option maxRecDepth 16384

noncomputable section

namespace Cert.ProjSample

open Cert.Proj Cert.SampleIdeal Cert.SampleIdeal.Gen
open Idealize.ShloMosaic Idealize.ShloMosaic.TcCoe Idealize.SL.Sem

/-- The body's projected rows at an index. -/
theorem pay_apply (x : FVec Ideal S128x1024 .f32) (g : FVec Ideal S1x1024 .f32) (b : FVec Ideal S1x1024 .f32) (w : FVec Ideal S1024x3072 .bf16) (r : Fin 128) (j : Fin 3072) :
    k0_pay7 (F := Ideal) x g b w (ix2 r j) = projOf (fun k => x (ix2 r k)) (fun k => g (ix2 0 k)) (fun k => b (ix2 0 k)) (fun k => w (ix2 k j)) := by
  pointwise [k0_pay7, projOf, normOf, meanOf]

end Cert.ProjSample

end
-- ==== Proof.SampleValue.lean ====
module

public import proofs.«01_k».proof.Proof.SamplePay
public import Idealize.ShloMosaic.Lib.Pipeline.Covers
public import Idealize.ShloMosaic.Lib.Pipeline.ValueKit

@[expose] public section

set_option maxRecDepth 16384

noncomputable section

namespace Cert.ProjSample

open Cert.Proj Cert.SampleIdeal Cert.SampleIdeal.Gen
open Idealize.ShloMosaic Idealize.ShloMosaic.TcCoe Idealize.SL.Sem

variable (m : (ℓ : Loc nD τ sig) → Buf (Elt Ideal) ℓ)

/-- The arguments as launched. -/
abbrev argX (c : Dev nD) : FVec Ideal S32x4x1024 .f32 := m ((c : Thread nD τ).loc main_arg0)
abbrev argG (c : Dev nD) : FVec Ideal S1024 .f32 := m ((c : Thread nD τ).loc main_arg1)
abbrev argB (c : Dev nD) : FVec Ideal S1024 .f32 := m ((c : Thread nD τ).loc main_arg2)
abbrev argW (c : Dev nD) : FVec Ideal S1x1024x3072 .f32 := m ((c : Thread nD τ).loc main_arg3)

/-- The reference's projected rows, and the same rows one after the other. -/
abbrev projected (c : Dev nD) : FVec Ideal Cert.SampleReferenceIdeal.S32x4x3072 .f32 := refProj (argX m c) (argG m c) (argB m c) (argW m c)
abbrev allRows (c : Dev nD) : FVec Ideal S128x3072 .f32 := flat (A := 32) (B := 4) (by decide) (projected m c)

/-- What the call finds in its arrays: the arguments, reshaped. -/
theorem V_x (c : Dev nD) : (V m c main_v0 : FVec Ideal S128x1024 .f32) = shapeCast S128x1024 (argX m c) shapeCasts_S32x4x1024_S128x1024 := by
  unfold V; entry_read; rfl
theorem V_g (c : Dev nD) : (V m c main_v1 : FVec Ideal S1x1024 .f32) = shapeCast S1x1024 (argG m c) shapeCasts_S1024_S1x1024 := by
  unfold V; entry_read; rfl
theorem V_b (c : Dev nD) : (V m c main_v2 : FVec Ideal S1x1024 .f32) = shapeCast S1x1024 (argB m c) shapeCasts_S1024_S1x1024 := by
  unfold V; entry_read; rfl
theorem V_w (c : Dev nD) : (V m c main_v4 : FVec Ideal S1024x3072 .bf16) = truncf .bf16 (shapeCast S1024x3072 (argW m c) shapeCasts_S1x1024x3072_S1024x3072) bitsLt_bf16_f32 := by
  unfold V; entry_read; rfl

/-- The points are the blocks of rows. -/
theorem point_lt (t : Fin cfg0.N) : t.val < 1 := lt_of_lt_of_eq t.isLt N_0
theorem coord_val (t : Fin cfg0.N) : ((grid0.coords t) 0).val = t.val := by
  rw [Pipeline.Grid.coords_val (G := grid0) (S := 1) (B := 1) t 0 (by decide) rfl]
  have := point_lt t; omega

/-- Where each window's block lies: the rows' and the results' at the point's, the weights' whole. -/
theorem place_0 (t : Fin cfg0.N) : (cfg0.win 0).index t = ![t.val, 0] := by
  have e : (cfg0.win 0).index t = ![(BitVec.ofNat 32 ((grid0.coords t) 0).val).toNat, 0] := rfl
  have := point_lt t
  rw [e, coord_val t, BitVec.toNat_ofNat, Nat.mod_eq_of_lt (by omega)]
theorem place_4 (t : Fin cfg0.N) : (cfg0.win 4).index t = ![t.val, 0] := place_0 t
theorem place_5 (t : Fin cfg0.N) : (cfg0.win 5).index t = ![t.val, 0] := place_0 t
theorem place_6 (t : Fin cfg0.N) : (cfg0.win 6).index t = ![t.val, 0] := place_0 t
theorem place_7 (t : Fin cfg0.N) : (cfg0.win 7).index t = ![t.val, 0] := place_0 t
theorem place_8 (t : Fin cfg0.N) : (cfg0.win 8).index t = ![t.val, 0] := place_0 t

/-- The row of point `t` and place `r`. -/
abbrev rowAt (t : Fin cfg0.N) (r : Fin 128) : Fin 128 := ⟨t.val * 128 + r.val, by have := point_lt t; omega⟩

/-- The blocks at an index. -/
theorem iblk_0 (c : Dev nD) (t : Fin cfg0.N) (r : Fin 128) (k : Fin 1024) :
    (iblk m c 0 t : FVec Ideal S128x1024 .f32) (ix2 r k) = flat (A := 32) (B := 4) (N := 128) (by decide) (argX m c) (ix2 (rowAt t r) k) := by
  have e : (iblk m c 0 t : FVec Ideal S128x1024 .f32) (ix2 r k) = (V m c main_v0 : FVec Ideal S128x1024 .f32) (ix2 (rowAt t r) k) := by
    blk_ext [iblk]
    · exact place_at (congrFun (place_0 t) 0) 128 _ _ rfl
    · exact place_at (congrFun (place_0 t) 1) 1024 _ _ (by show 0 * _ + _ = _; omega)
  rw [e, V_x, reshape_flat (A := 32) (B := 4) (by decide) (argX m c)]
theorem iblk_1 (c : Dev nD) (t : Fin cfg0.N) (k : Fin 1024) : (iblk m c 1 t : FVec Ideal S1x1024 .f32) (ix2 0 k) = argG m c (ix1 k) := by
  have e : (iblk m c 1 t : FVec Ideal S1x1024 .f32) (ix2 0 k) = (V m c main_v1 : FVec Ideal S1x1024 .f32) (ix2 0 k) := by
    blk_ext [iblk]
    · rfl
    · exact place_at (a := 0) rfl 1024 _ _ (by omega)
  rw [e, V_g]; pointwise
theorem iblk_2 (c : Dev nD) (t : Fin cfg0.N) (k : Fin 1024) : (iblk m c 2 t : FVec Ideal S1x1024 .f32) (ix2 0 k) = argB m c (ix1 k) := by
  have e : (iblk m c 2 t : FVec Ideal S1x1024 .f32) (ix2 0 k) = (V m c main_v2 : FVec Ideal S1x1024 .f32) (ix2 0 k) := by
    blk_ext [iblk]
    · rfl
    · exact place_at (a := 0) rfl 1024 _ _ (by omega)
  rw [e, V_b]; pointwise
theorem iblk_3 (c : Dev nD) (t : Fin cfg0.N) (k : Fin 1024) (j : Fin 3072) : (iblk m c 3 t : FVec Ideal S1024x3072 .bf16) (ix2 k j) = argW m c (ix3 0 k j) := by
  have e : (iblk m c 3 t : FVec Ideal S1024x3072 .bf16) (ix2 k j) = (V m c main_v4 : FVec Ideal S1024x3072 .bf16) (ix2 k j) := by
    blk_ext [iblk]
    · exact place_at (a := 0) rfl 1024 _ _ (by omega)
    · exact place_at (a := 0) rfl 3072 _ _ (by omega)
  rw [e, V_w]; pointwise

/-- The projected rows of a point are the reference's rows of its block. -/
theorem rows_apply (c : Dev nD) (t : Fin cfg0.N) (r : Fin 128) (j : Fin 3072) : rows m c t (ix2 r j) = allRows m c (ix2 (rowAt t r) j) := by
  refine (pay_apply (iblk m c 0 t) (iblk m c 1 t) (iblk m c 2 t) (iblk m c 3 t) r j).trans ?_
  simp only [iblk_0 m c t, iblk_1 m c t, iblk_2 m c t, iblk_3 m c t]
  simp only [flat_apply]
  exact (refProj_apply (argX m c) (argG m c) (argB m c) (argW m c) _ _ j).symm
theorem rows_block (c : Dev nD) (t : Fin cfg0.N) (r : Fin 128) (n : Fin 128) (j : Fin 3072) (h : n.val = t.val * 128 + r.val) :
    rows m c t (ix2 r j) = allRows m c (ix2 n j) := by
  obtain rfl : n = rowAt t r := Fin.ext h
  exact rows_apply m c t r j

/-- The heads of a point's rows are the reference's heads at the point's block. -/
theorem heads_point (o H : ℕ) (hH : 0 < H) {M M' D : ℕ} (hM : M = 128 * H) (hM' : M' = 128 * H) (hW : o + H * D ≤ 3072)
    (c : Dev nD) (t : Fin cfg0.N) (r : Fin M') (j : Fin D) (n : Fin M) (hn : n.val = t.val * M' + r.val) :
    heads (α := EReal) o H hH hM' hW (rows m c t) (ix2 r j) = heads (α := EReal) o H hH hM hW (allRows m c) (ix2 n j) :=
  heads_block (α := EReal) o H hH hM hM' hW (allRows m c) (rows m c t) t.val (rows_block m c t) (ix2 r j) (ix2 n j) hn rfl

/-- The result array of window 4 after the run is the reference's. -/
theorem final_4 (c : Dev nD) : (dats m 0 c).arrAt 4 cfg0.N = (refQkv (projected m c) : FVec Ideal S128x3072 .bf16) := by
  have hcov : (cfg0.win 4).Covers := (cfg0.win 4).covers_of_indexMap_surj rfl
    (by show ∀ a : Fin 2, 0 < S128x3072.size a; decide) fun β => by
    have h0 : (β (0 : Fin 2)).val < 1 := lt_of_lt_of_eq (β (0 : Fin 2)).isLt (by show (128 + 128 - 1) / 128 = 1; norm_num)
    have h1 : (β (1 : Fin 2)).val < 1 := lt_of_lt_of_eq (β (1 : Fin 2)).isLt (by show (3072 + 3072 - 1) / 3072 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 4 _ hcov fun t hf y => ?_
  blk_simp
  rw [after_4]
  obtain ⟨r, j, rfl⟩ : ∃ (r : Fin 128) (j : Fin 3072), y = (ix2 r j : S128x3072.Idx) := ⟨y (0 : Fin 2), y (1 : Fin 2), by funext a; match a with | ⟨0, _⟩ => rfl | ⟨1, _⟩ => rfl⟩
  have e : (((cfg0.win 4).blk t).view.emb (ix2 r j) : S128x3072.Idx) = ix2 (rowAt t r) j := by
    blk_ext []
    · exact place_at (congrFun (place_4 t) 0) 128 _ _ rfl
    · exact place_at (congrFun (place_4 t) 1) 3072 _ _ (by show 0 * _ + _ = _; omega)
  refine Eq.trans ?_ ((refQkv_apply (projected m c) (rowAt t r) j).symm.trans (congrArg _ e.symm))
  show qkvOf (rows m c t) (ix2 r j) = if j.val < 512 ∨ (1536 ≤ j.val ∧ j.val < 2048) then allRows m c (ix2 (rowAt t r) j) * Ideal.ofBits .f32 0x3E000000#32 else allRows m c (ix2 (rowAt t r) j)
  rw [← rows_apply m c t r j]
  rfl

/-- The result array of window 5 after the run is the reference's. -/
theorem final_5 (c : Dev nD) : (dats m 0 c).arrAt 5 cfg0.N = (refKm (projected m c) : FVec Ideal S1024x64 .f32) := by
  have hcov : (cfg0.win 5).Covers := (cfg0.win 5).covers_of_indexMap_surj rfl
    (by show ∀ a : Fin 2, 0 < S1024x64.size a; decide) fun β => by
    have h0 : (β (0 : Fin 2)).val < 1 := lt_of_lt_of_eq (β (0 : Fin 2)).isLt (by show (1024 + 1024 - 1) / 1024 = 1; norm_num)
    have h1 : (β (1 : Fin 2)).val < 1 := lt_of_lt_of_eq (β (1 : Fin 2)).isLt (by show (64 + 64 - 1) / 64 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 5 _ hcov fun t hf y => ?_
  blk_simp
  rw [after_5]
  have hlt := point_lt t
  obtain ⟨r, j, rfl⟩ : ∃ (r : Fin 1024) (j : Fin 64), y = (ix2 r j : S1024x64.Idx) := ⟨y (0 : Fin 2), y (1 : Fin 2), by funext a; match a with | ⟨0, _⟩ => rfl | ⟨1, _⟩ => rfl⟩
  have e : (((cfg0.win 5).blk t).view.emb (ix2 r j) : S1024x64.Idx) = ix2 ⟨t.val * 1024 + r.val, by omega⟩ j := by
    blk_ext []
    · exact place_at (congrFun (place_5 t) 0) 1024 _ _ (by show t.val * 1024 + r.val = r.val; omega)
    · exact place_at (congrFun (place_5 t) 1) 64 _ _ (by show 0 * _ + _ = _; omega)
  exact (heads_point m 512 8 (by decide) (by decide) (by decide) (by decide) c t r j ⟨t.val * 1024 + r.val, by omega⟩ rfl).trans
    ((congrFun (refKm_eq (projected m c)) _).symm.trans (congrArg (refKm (projected m c)) e.symm))

/-- The result array of window 6 after the run is the reference's. -/
theorem final_6 (c : Dev nD) : (dats m 0 c).arrAt 6 cfg0.N = (refVm (projected m c) : FVec Ideal S1024x64 .f32) := by
  have hcov : (cfg0.win 6).Covers := (cfg0.win 6).covers_of_indexMap_surj rfl
    (by show ∀ a : Fin 2, 0 < S1024x64.size a; decide) fun β => by
    have h0 : (β (0 : Fin 2)).val < 1 := lt_of_lt_of_eq (β (0 : Fin 2)).isLt (by show (1024 + 1024 - 1) / 1024 = 1; norm_num)
    have h1 : (β (1 : Fin 2)).val < 1 := lt_of_lt_of_eq (β (1 : Fin 2)).isLt (by show (64 + 64 - 1) / 64 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 6 _ hcov fun t hf y => ?_
  blk_simp
  rw [after_6]
  have hlt := point_lt t
  obtain ⟨r, j, rfl⟩ : ∃ (r : Fin 1024) (j : Fin 64), y = (ix2 r j : S1024x64.Idx) := ⟨y (0 : Fin 2), y (1 : Fin 2), by funext a; match a with | ⟨0, _⟩ => rfl | ⟨1, _⟩ => rfl⟩
  have e : (((cfg0.win 6).blk t).view.emb (ix2 r j) : S1024x64.Idx) = ix2 ⟨t.val * 1024 + r.val, by omega⟩ j := by
    blk_ext []
    · exact place_at (congrFun (place_6 t) 0) 1024 _ _ (by show t.val * 1024 + r.val = r.val; omega)
    · exact place_at (congrFun (place_6 t) 1) 64 _ _ (by show 0 * _ + _ = _; omega)
  exact (heads_point m 1024 8 (by decide) (by decide) (by decide) (by decide) c t r j ⟨t.val * 1024 + r.val, by omega⟩ rfl).trans
    ((congrFun (refVm_eq (projected m c)) _).symm.trans (congrArg (refVm (projected m c)) e.symm))

/-- The result array of window 7 after the run is the reference's. -/
theorem final_7 (c : Dev nD) : (dats m 0 c).arrAt 7 cfg0.N = (refKd (projected m c) : FVec Ideal S512x128 .f32) := by
  have hcov : (cfg0.win 7).Covers := (cfg0.win 7).covers_of_indexMap_surj rfl
    (by show ∀ a : Fin 2, 0 < S512x128.size a; decide) fun β => by
    have h0 : (β (0 : Fin 2)).val < 1 := lt_of_lt_of_eq (β (0 : Fin 2)).isLt (by show (512 + 512 - 1) / 512 = 1; norm_num)
    have h1 : (β (1 : Fin 2)).val < 1 := lt_of_lt_of_eq (β (1 : Fin 2)).isLt (by show (128 + 128 - 1) / 128 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 7 _ hcov fun t hf y => ?_
  blk_simp
  rw [after_7]
  have hlt := point_lt t
  obtain ⟨r, j, rfl⟩ : ∃ (r : Fin 512) (j : Fin 128), y = (ix2 r j : S512x128.Idx) := ⟨y (0 : Fin 2), y (1 : Fin 2), by funext a; match a with | ⟨0, _⟩ => rfl | ⟨1, _⟩ => rfl⟩
  have e : (((cfg0.win 7).blk t).view.emb (ix2 r j) : S512x128.Idx) = ix2 ⟨t.val * 512 + r.val, by omega⟩ j := by
    blk_ext []
    · exact place_at (congrFun (place_7 t) 0) 512 _ _ (by show t.val * 512 + r.val = r.val; omega)
    · exact place_at (congrFun (place_7 t) 1) 128 _ _ (by show 0 * _ + _ = _; omega)
  exact (heads_point m 2048 4 (by decide) (by decide) (by decide) (by decide) c t r j ⟨t.val * 512 + r.val, by omega⟩ rfl).trans
    ((congrFun (refKd_eq (projected m c)) _).symm.trans (congrArg (refKd (projected m c)) e.symm))

/-- The result array of window 8 after the run is the reference's. -/
theorem final_8 (c : Dev nD) : (dats m 0 c).arrAt 8 cfg0.N = (refVd (projected m c) : FVec Ideal S512x128 .f32) := by
  have hcov : (cfg0.win 8).Covers := (cfg0.win 8).covers_of_indexMap_surj rfl
    (by show ∀ a : Fin 2, 0 < S512x128.size a; decide) fun β => by
    have h0 : (β (0 : Fin 2)).val < 1 := lt_of_lt_of_eq (β (0 : Fin 2)).isLt (by show (512 + 512 - 1) / 512 = 1; norm_num)
    have h1 : (β (1 : Fin 2)).val < 1 := lt_of_lt_of_eq (β (1 : Fin 2)).isLt (by show (128 + 128 - 1) / 128 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 8 _ hcov fun t hf y => ?_
  blk_simp
  rw [after_8]
  have hlt := point_lt t
  obtain ⟨r, j, rfl⟩ : ∃ (r : Fin 512) (j : Fin 128), y = (ix2 r j : S512x128.Idx) := ⟨y (0 : Fin 2), y (1 : Fin 2), by funext a; match a with | ⟨0, _⟩ => rfl | ⟨1, _⟩ => rfl⟩
  have e : (((cfg0.win 8).blk t).view.emb (ix2 r j) : S512x128.Idx) = ix2 ⟨t.val * 512 + r.val, by omega⟩ j := by
    blk_ext []
    · exact place_at (congrFun (place_8 t) 0) 512 _ _ (by show t.val * 512 + r.val = r.val; omega)
    · exact place_at (congrFun (place_8 t) 1) 128 _ _ (by show 0 * _ + _ = _; omega)
  exact (heads_point m 2560 4 (by decide) (by decide) (by decide) (by decide) c t r j ⟨t.val * 512 + r.val, by omega⟩ rfl).trans
    ((congrFun (refVd_eq (projected m c)) _).symm.trans (congrArg (refVd (projected m c)) e.symm))

/-- The run: the results are the reference's, the arguments as they were. -/
theorem value_here (ρ : Dev nD → PrngReg) : θ_run defs (onTc (τ := τ) (main (F := Ideal))) ⟨m, fun _ => 0, ρ⟩ (fun r => ∀ c : Dev nD,
      r.2.mem ((c.tc : Thread nD τ).loc main_v5_0) = (refQkv (projected m c) : FVec Ideal S128x3072 .bf16)
      ∧ r.2.mem ((c.tc : Thread nD τ).loc main_v5_1) = (refKm (projected m c) : FVec Ideal S1024x64 .f32)
      ∧ r.2.mem ((c.tc : Thread nD τ).loc main_v5_2) = (refVm (projected m c) : FVec Ideal S1024x64 .f32)
      ∧ r.2.mem ((c.tc : Thread nD τ).loc main_v5_3) = (refKd (projected m c) : FVec Ideal S512x128 .f32)
      ∧ r.2.mem ((c.tc : Thread nD τ).loc main_v5_4) = (refVd (projected m c) : FVec Ideal S512x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.FramePost.out_eq h c 4).trans (final_4 m c), (Pipeline.FramePost.out_eq h c 5).trans (final_5 m c), (Pipeline.FramePost.out_eq h c 6).trans (final_6 m c),
      (Pipeline.FramePost.out_eq h c 7).trans (final_7 m c), (Pipeline.FramePost.out_eq h c 8).trans (final_8 m c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ)

end Cert.ProjSample

end
-- ==== Proof.SampleRefRun.lean ====
module

public import proofs.«01_k».proof.Proof.SampleRef
public import Idealize.ShloMosaic.Lib.Claim

@[expose] public section

set_option maxRecDepth 16384

noncomputable section

namespace Cert.ProjSample

open Cert.Proj Cert.SampleReferenceIdeal Cert.SampleReferenceIdeal.Gen
open Idealize.ShloMosaic Idealize.ShloMosaic.TcCoe Idealize.SL.Sem

/-! ## The reference's operations, in two runs -/

/-- The operations up to the projected rows. -/
def opsProj {F : FTy → Type} [FloatOps F] : List (HloOp τ sig (Elt F)) := [
  StableHlo.nullary main_cst (constant S_ .f32 0x00000000#32),
  StableHlo.binary main_arg0 main_cst main_v0 ((fun x v => Host.reduceAdd x v reducesTo_S32x4x1024_S32x4_d2 h_S_) : (⟨S32x4x1024, .f32⟩ : BufTy).Contents (Elt F) → (⟨S_, .f32⟩ : BufTy).Contents (Elt F) → (⟨S32x4, .f32⟩ : BufTy).Contents (Elt F)),
  StableHlo.unary main_v0 main_v1 (broadcastInDim S32x4x1 ![0, 1] bcast_S32x4_S32x4x1_0_1 : (⟨S32x4, .f32⟩ : BufTy).Contents (Elt F) → (⟨S32x4x1, .f32⟩ : BufTy).Contents (Elt F)),
  StableHlo.nullary main_cst_0 (constant S_ .f32 0x44800000#32),
  StableHlo.unary main_cst_0 main_v2 (broadcastInDim S32x4x1 ![] bcast_S_S32x4x1 : (⟨S_, .f32⟩ : BufTy).Contents (Elt F) → (⟨S32x4x1, .f32⟩ : BufTy).Contents (Elt F)),
  StableHlo.binary main_v1 main_v2 main_v3 (Host.divf : (⟨S32x4x1, .f32⟩ : BufTy).Contents (Elt F) → (⟨S32x4x1, .f32⟩ : BufTy).Contents (Elt F) → (⟨S32x4x1, .f32⟩ : BufTy).Contents (Elt F)),
  StableHlo.unary main_v3 main_v4 (broadcastInDim S32x4x1024 ![0, 1, 2] bcast_S32x4x1_S32x4x1024_0_1_2 : (⟨S32x4x1, .f32⟩ : BufTy).Contents (Elt F) → (⟨S32x4x1024, .f32⟩ : BufTy).Contents (Elt F)),
  StableHlo.binary main_arg0 main_v4 main_v5 (subf : (⟨S32x4x1024, .f32⟩ : BufTy).Contents (Elt F) → (⟨S32x4x1024, .f32⟩ : BufTy).Contents (Elt F) → (⟨S32x4x1024, .f32⟩ : BufTy).Contents (Elt F)),
  StableHlo.binary main_v5 main_v5 main_v6 (mulf : (⟨S32x4x1024, .f32⟩ : BufTy).Contents (Elt F) → (⟨S32x4x1024, .f32⟩ : BufTy).Contents (Elt F) → (⟨S32x4x1024, .f32⟩ : BufTy).Contents (Elt F)),
  StableHlo.nullary main_cst_1 (constant S_ .f32 0x00000000#32),
  StableHlo.binary main_v6 main_cst_1 main_v7 ((fun x v => Host.reduceAdd x v reducesTo_S32x4x1024_S32x4_d2 h_S_) : (⟨S32x4x1024, .f32⟩ : BufTy).Contents (Elt F) → (⟨S_, .f32⟩ : BufTy).Contents (Elt F) → (⟨S32x4, .f32⟩ : BufTy).Contents (Elt F)),
  StableHlo.unary main_v7 main_v8 (broadcastInDim S32x4x1 ![0, 1] bcast_S32x4_S32x4x1_0_1 : (⟨S32x4, .f32⟩ : BufTy).Contents (Elt F) → (⟨S32x4x1, .f32⟩ : BufTy).Contents (Elt F)),
  StableHlo.nullary main_cst_2 (constant S_ .f32 0x44800000#32),
  StableHlo.unary main_cst_2 main_v9 (broadcastInDim S32x4x1 ![] bcast_S_S32x4x1 : (⟨S_, .f32⟩ : BufTy).Contents (Elt F) → (⟨S32x4x1, .f32⟩ : BufTy).Contents (Elt F)),
  StableHlo.binary main_v8 main_v9 main_v10 (Host.divf : (⟨S32x4x1, .f32⟩ : BufTy).Contents (Elt F) → (⟨S32x4x1, .f32⟩ : BufTy).Contents (Elt F) → (⟨S32x4x1, .f32⟩ : BufTy).Contents (Elt F)),
  StableHlo.unary main_v3 main_v11 (broadcastInDim S32x4x1024 ![0, 1, 2] bcast_S32x4x1_S32x4x1024_0_1_2 : (⟨S32x4x1, .f32⟩ : BufTy).Contents (Elt F) → (⟨S32x4x1024, .f32⟩ : BufTy).Contents (Elt F)),
  StableHlo.binary main_arg0 main_v11 main_v12 (subf : (⟨S32x4x1024, .f32⟩ : BufTy).Contents (Elt F) → (⟨S32x4x1024, .f32⟩ : BufTy).Contents (Elt F) → (⟨S32x4x1024, .f32⟩ : BufTy).Contents (Elt F)),
  StableHlo.nullary main_cst_3 (constant S_ .f32 0x3727C5AC#32),
  StableHlo.unary main_cst_3 main_v13 (broadcastInDim S32x4x1 ![] bcast_S_S32x4x1 : (⟨S_, .f32⟩ : BufTy).Contents (Elt F) → (⟨S32x4x1, .f32⟩ : BufTy).Contents (Elt F)),
  StableHlo.binary main_v10 main_v13 main_v14 (addf : (⟨S32x4x1, .f32⟩ : BufTy).Contents (Elt F) → (⟨S32x4x1, .f32⟩ : BufTy).Contents (Elt F) → (⟨S32x4x1, .f32⟩ : BufTy).Contents (Elt F)),
  StableHlo.unary main_v14 main_v15 (Host.rsqrt : (⟨S32x4x1, .f32⟩ : BufTy).Contents (Elt F) → (⟨S32x4x1, .f32⟩ : BufTy).Contents (Elt F)),
  StableHlo.unary main_v15 main_v16 (broadcastInDim S32x4x1024 ![0, 1, 2] bcast_S32x4x1_S32x4x1024_0_1_2 : (⟨S32x4x1, .f32⟩ : BufTy).Contents (Elt F) → (⟨S32x4x1024, .f32⟩ : BufTy).Contents (Elt F)),
  StableHlo.binary main_v12 main_v16 main_v17 (mulf : (⟨S32x4x1024, .f32⟩ : BufTy).Contents (Elt F) → (⟨S32x4x1024, .f32⟩ : BufTy).Contents (Elt F) → (⟨S32x4x1024, .f32⟩ : BufTy).Contents (Elt F)),
  StableHlo.unary main_arg1 main_v18 (broadcastInDim S1x1x1024 ![2] bcast_S1024_S1x1x1024_2 : (⟨S1024, .f32⟩ : BufTy).Contents (Elt F) → (⟨S1x1x1024, .f32⟩ : BufTy).Contents (Elt F)),
  StableHlo.unary main_v18 main_v19 (broadcastInDim S32x4x1024 ![0, 1, 2] bcast_S1x1x1024_S32x4x1024_0_1_2 : (⟨S1x1x1024, .f32⟩ : BufTy).Contents (Elt F) → (⟨S32x4x1024, .f32⟩ : BufTy).Contents (Elt F)),
  StableHlo.binary main_v17 main_v19 main_v20 (mulf : (⟨S32x4x1024, .f32⟩ : BufTy).Contents (Elt F) → (⟨S32x4x1024, .f32⟩ : BufTy).Contents (Elt F) → (⟨S32x4x1024, .f32⟩ : BufTy).Contents (Elt F)),
  StableHlo.unary main_arg2 main_v21 (broadcastInDim S1x1x1024 ![2] bcast_S1024_S1x1x1024_2 : (⟨S1024, .f32⟩ : BufTy).Contents (Elt F) → (⟨S1x1x1024, .f32⟩ : BufTy).Contents (Elt F)),
  StableHlo.unary main_v21 main_v22 (broadcastInDim S32x4x1024 ![0, 1, 2] bcast_S1x1x1024_S32x4x1024_0_1_2 : (⟨S1x1x1024, .f32⟩ : BufTy).Contents (Elt F) → (⟨S32x4x1024, .f32⟩ : BufTy).Contents (Elt F)),
  StableHlo.binary main_v20 main_v22 main_v23 (addf : (⟨S32x4x1024, .f32⟩ : BufTy).Contents (Elt F) → (⟨S32x4x1024, .f32⟩ : BufTy).Contents (Elt F) → (⟨S32x4x1024, .f32⟩ : BufTy).Contents (Elt F)),
  StableHlo.reshape main_arg3 main_v24 (rfl : (.f32 : EltTy) = .f32) shapeCasts_S1x1024x3072_S1024x3072,
  StableHlo.binary main_v23 main_v24 main_v25 ((fun l r => Host.dotGeneral dot_S32x4x1024_S1024x3072_S32x4x3072_2_0_01_1_n_n none l r) : (⟨S32x4x1024, .f32⟩ : BufTy).Contents (Elt F) → (⟨S1024x3072, .f32⟩ : BufTy).Contents (Elt F) → (⟨S32x4x3072, .f32⟩ : BufTy).Contents (Elt F))]

/-- The operations that cut the projected rows into the pieces. -/
def opsPieces {F : FTy → Type} [FloatOps F] : List (HloOp τ sig (Elt F)) := [
  StableHlo.unary main_v25 main_v26 ((extractStridedSlice S32x4x512 ![0, 0, 0] · slices_S32x4x3072_S32x4x512_0_0_0) : (⟨S32x4x3072, .f32⟩ : BufTy).Contents (Elt F) → (⟨S32x4x512, .f32⟩ : BufTy).Contents (Elt F)),
  StableHlo.unary main_v25 main_v27 ((extractStridedSlice S32x4x512 ![0, 0, 512] · slices_S32x4x3072_S32x4x512_0_0_512) : (⟨S32x4x3072, .f32⟩ : BufTy).Contents (Elt F) → (⟨S32x4x512, .f32⟩ : BufTy).Contents (Elt F)),
  StableHlo.unary main_v25 main_v28 ((extractStridedSlice S32x4x512 ![0, 0, 1024] · slices_S32x4x3072_S32x4x512_0_0_1024) : (⟨S32x4x3072, .f32⟩ : BufTy).Contents (Elt F) → (⟨S32x4x512, .f32⟩ : BufTy).Contents (Elt F)),
  StableHlo.unary main_v25 main_v29 ((extractStridedSlice S32x4x512 ![0, 0, 1536] · slices_S32x4x3072_S32x4x512_0_0_1536) : (⟨S32x4x3072, .f32⟩ : BufTy).Contents (Elt F) → (⟨S32x4x512, .f32⟩ : BufTy).Contents (Elt F)),
  StableHlo.unary main_v25 main_v30 ((extractStridedSlice S32x4x512 ![0, 0, 2048] · slices_S32x4x3072_S32x4x512_0_0_2048) : (⟨S32x4x3072, .f32⟩ : BufTy).Contents (Elt F) → (⟨S32x4x512, .f32⟩ : BufTy).Contents (Elt F)),
  StableHlo.unary main_v25 main_v31 ((extractStridedSlice S32x4x512 ![0, 0, 2560] · slices_S32x4x3072_S32x4x512_0_0_2560) : (⟨S32x4x3072, .f32⟩ : BufTy).Contents (Elt F) → (⟨S32x4x512, .f32⟩ : BufTy).Contents (Elt F)),
  StableHlo.nullary main_cst_4 (constant S_ .f32 0x3E000000#32),
  StableHlo.unary main_cst_4 main_v32 (broadcastInDim S32x4x512 ![] bcast_S_S32x4x512 : (⟨S_, .f32⟩ : BufTy).Contents (Elt F) → (⟨S32x4x512, .f32⟩ : BufTy).Contents (Elt F)),
  StableHlo.binary main_v26 main_v32 main_v33 (mulf : (⟨S32x4x512, .f32⟩ : BufTy).Contents (Elt F) → (⟨S32x4x512, .f32⟩ : BufTy).Contents (Elt F) → (⟨S32x4x512, .f32⟩ : BufTy).Contents (Elt F)),
  StableHlo.nullary main_cst_5 (constant S_ .f32 0x3E000000#32),
  StableHlo.unary main_cst_5 main_v34 (broadcastInDim S32x4x512 ![] bcast_S_S32x4x512 : (⟨S_, .f32⟩ : BufTy).Contents (Elt F) → (⟨S32x4x512, .f32⟩ : BufTy).Contents (Elt F)),
  StableHlo.binary main_v29 main_v34 main_v35 (mulf : (⟨S32x4x512, .f32⟩ : BufTy).Contents (Elt F) → (⟨S32x4x512, .f32⟩ : BufTy).Contents (Elt F) → (⟨S32x4x512, .f32⟩ : BufTy).Contents (Elt F))]

/-- The operation that joins the queries, keys and values. -/
def opJoin {F : FTy → Type} [FloatOps F] : HloOp τ sig (Elt F) :=
  StableHlo.nary ![main_v33, main_v27, main_v28, main_v35, main_v30, main_v31] main_v36 (fun u => (concatenate S32x4x3072 2 [⟨S32x4x512, (u 0 : (⟨S32x4x512, .f32⟩ : BufTy).Contents (Elt F))⟩, ⟨S32x4x512, (u 1 : (⟨S32x4x512, .f32⟩ : BufTy).Contents (Elt F))⟩, ⟨S32x4x512, (u 2 : (⟨S32x4x512, .f32⟩ : BufTy).Contents (Elt F))⟩, ⟨S32x4x512, (u 3 : (⟨S32x4x512, .f32⟩ : BufTy).Contents (Elt F))⟩, ⟨S32x4x512, (u 4 : (⟨S32x4x512, .f32⟩ : BufTy).Contents (Elt F))⟩, ⟨S32x4x512, (u 5 : (⟨S32x4x512, .f32⟩ : BufTy).Contents (Elt F))⟩] concatenates_S32x4x512_S32x4x512_S32x4x512_S32x4x512_S32x4x512_S32x4x512_S32x4x3072_d2 : (⟨S32x4x3072, .f32⟩ : BufTy).Contents (Elt F)))

/-- The operations that make the results of the pieces. -/
def opsRest {F : FTy → Type} [FloatOps F] : List (HloOp τ sig (Elt F)) := [
  StableHlo.reshape main_v36 main_v37 (rfl : (.f32 : EltTy) = .f32) shapeCasts_S32x4x3072_S128x3072,
  StableHlo.unary main_v37 main_v38 ((truncf .bf16 · bitsLt_bf16_f32) : (⟨S128x3072, .f32⟩ : BufTy).Contents (Elt F) → (⟨S128x3072, .bf16⟩ : BufTy).Contents (Elt F)),
  StableHlo.reshape main_v27 main_v39 (rfl : (.f32 : EltTy) = .f32) shapeCasts_S32x4x512_S1024x64,
  StableHlo.reshape main_v28 main_v40 (rfl : (.f32 : EltTy) = .f32) shapeCasts_S32x4x512_S1024x64,
  StableHlo.reshape main_v30 main_v41 (rfl : (.f32 : EltTy) = .f32) shapeCasts_S32x4x512_S512x128,
  StableHlo.reshape main_v31 main_v42 (rfl : (.f32 : EltTy) = .f32) shapeCasts_S32x4x512_S512x128]

/-- The operations that cut the projected rows into the results. -/
def opsOut {F : FTy → Type} [FloatOps F] : List (HloOp τ sig (Elt F)) := opsPieces ++ opJoin :: opsRest

/-- The reference is the one list and then the other. -/
theorem main_ops (d : Dev nD) : StableHlo.IsSeq (main (F := Ideal) d) (opsProj ++ opsOut) := by
  unfold opsProj opsOut opsPieces opJoin opsRest
  simp only [List.cons_append, List.nil_append]
  hlo_seq

variable (V : Valuation τ sig (Elt Ideal))

set_option maxHeartbeats 4000000 in
/-- The first list leaves the projected rows. -/
theorem proj_read : StableHlo.after opsProj V (Proc.devRef .tc main_v25)
    = (refProj (V (Proc.devRef .tc main_arg0)) (V (Proc.devRef .tc main_arg1)) (V (Proc.devRef .tc main_arg2)) (V (Proc.devRef .tc main_arg3)) : FVec Ideal S32x4x3072 .f32) := by
  unfold opsProj
  after_results_simp
  rfl

/-- The second list cuts them into the results. -/
theorem piece_v33 : StableHlo.after opsPieces V (Proc.devRef .tc main_v33) = (scaled bcast_S_S32x4x512 (extractStridedSlice S32x4x512 ![0, 0, 0] (V (Proc.devRef .tc main_v25)) slices_S32x4x3072_S32x4x512_0_0_0) : FVec Ideal S32x4x512 .f32) := by
  unfold opsPieces; after_results_simp; rfl
theorem piece_v27 : StableHlo.after opsPieces V (Proc.devRef .tc main_v27) = (extractStridedSlice S32x4x512 ![0, 0, 512] (V (Proc.devRef .tc main_v25)) slices_S32x4x3072_S32x4x512_0_0_512 : FVec Ideal S32x4x512 .f32) := by
  unfold opsPieces; after_results_simp
theorem piece_v28 : StableHlo.after opsPieces V (Proc.devRef .tc main_v28) = (extractStridedSlice S32x4x512 ![0, 0, 1024] (V (Proc.devRef .tc main_v25)) slices_S32x4x3072_S32x4x512_0_0_1024 : FVec Ideal S32x4x512 .f32) := by
  unfold opsPieces; after_results_simp
theorem piece_v35 : StableHlo.after opsPieces V (Proc.devRef .tc main_v35) = (scaled bcast_S_S32x4x512 (extractStridedSlice S32x4x512 ![0, 0, 1536] (V (Proc.devRef .tc main_v25)) slices_S32x4x3072_S32x4x512_0_0_1536) : FVec Ideal S32x4x512 .f32) := by
  unfold opsPieces; after_results_simp; rfl
theorem piece_v30 : StableHlo.after opsPieces V (Proc.devRef .tc main_v30) = (extractStridedSlice S32x4x512 ![0, 0, 2048] (V (Proc.devRef .tc main_v25)) slices_S32x4x3072_S32x4x512_0_0_2048 : FVec Ideal S32x4x512 .f32) := by
  unfold opsPieces; after_results_simp
theorem piece_v31 : StableHlo.after opsPieces V (Proc.devRef .tc main_v31) = (extractStridedSlice S32x4x512 ![0, 0, 2560] (V (Proc.devRef .tc main_v25)) slices_S32x4x3072_S32x4x512_0_0_2560 : FVec Ideal S32x4x512 .f32) := by
  unfold opsPieces; after_results_simp

/-- What the join leaves. -/
theorem join_read :
    opJoin.result (StableHlo.after opsPieces V) (Proc.devRef .tc main_v36) = (refCat (V (Proc.devRef .tc main_v25)) : FVec Ideal S32x4x3072 .f32) := by
  unfold opJoin
  rw [StableHlo.nary_result]
  show (concatenate S32x4x3072 2
      [⟨S32x4x512, (StableHlo.after opsPieces V (Proc.devRef .tc main_v33) : FVec Ideal S32x4x512 .f32)⟩, ⟨S32x4x512, (StableHlo.after opsPieces V (Proc.devRef .tc main_v27) : FVec Ideal S32x4x512 .f32)⟩,
       ⟨S32x4x512, (StableHlo.after opsPieces V (Proc.devRef .tc main_v28) : FVec Ideal S32x4x512 .f32)⟩, ⟨S32x4x512, (StableHlo.after opsPieces V (Proc.devRef .tc main_v35) : FVec Ideal S32x4x512 .f32)⟩,
       ⟨S32x4x512, (StableHlo.after opsPieces V (Proc.devRef .tc main_v30) : FVec Ideal S32x4x512 .f32)⟩, ⟨S32x4x512, (StableHlo.after opsPieces V (Proc.devRef .tc main_v31) : FVec Ideal S32x4x512 .f32)⟩]
      concatenates_S32x4x512_S32x4x512_S32x4x512_S32x4x512_S32x4x512_S32x4x512_S32x4x3072_d2 : FVec Ideal S32x4x3072 .f32) = _
  rw [piece_v33, piece_v27, piece_v28, piece_v35, piece_v30, piece_v31]
  rfl
theorem rest_v38 : StableHlo.after opsRest V (Proc.devRef .tc main_v38)
    = (truncf .bf16 (shapeCast S128x3072 (V (Proc.devRef .tc main_v36) : FVec Ideal S32x4x3072 .f32) shapeCasts_S32x4x3072_S128x3072) bitsLt_bf16_f32 : FVec Ideal S128x3072 .bf16) := by
  unfold opsRest; after_results_simp; rfl
theorem out_Qkv : StableHlo.after opsOut V (Proc.devRef .tc main_v38) = (refQkv (V (Proc.devRef .tc main_v25)) : FVec Ideal S128x3072 .bf16) := by
  unfold opsOut
  rw [StableHlo.after_append, StableHlo.after_cons, rest_v38, join_read]
  rfl
theorem out_Km : StableHlo.after opsOut V (Proc.devRef .tc main_v39) = (refKm (V (Proc.devRef .tc main_v25)) : FVec Ideal S1024x64 .f32) := by
  unfold opsOut opsPieces opJoin opsRest
  simp only [List.cons_append, List.nil_append]
  after_results_simp
  rfl
theorem out_Vm : StableHlo.after opsOut V (Proc.devRef .tc main_v40) = (refVm (V (Proc.devRef .tc main_v25)) : FVec Ideal S1024x64 .f32) := by
  unfold opsOut opsPieces opJoin opsRest
  simp only [List.cons_append, List.nil_append]
  after_results_simp
  rfl
theorem out_Kd : StableHlo.after opsOut V (Proc.devRef .tc main_v41) = (refKd (V (Proc.devRef .tc main_v25)) : FVec Ideal S512x128 .f32) := by
  unfold opsOut opsPieces opJoin opsRest
  simp only [List.cons_append, List.nil_append]
  after_results_simp
  rfl
theorem out_Vd : StableHlo.after opsOut V (Proc.devRef .tc main_v42) = (refVd (V (Proc.devRef .tc main_v25)) : FVec Ideal S512x128 .f32) := by
  unfold opsOut opsPieces opJoin opsRest
  simp only [List.cons_append, List.nil_append]
  after_results_simp
  rfl

/-- Neither writes an argument. -/
theorem keeps_0 : StableHlo.after (opsProj ++ opsOut) V (Proc.devRef .tc main_arg0) = V (Proc.devRef .tc main_arg0) := by
  unfold opsProj opsOut opsPieces opJoin opsRest; simp only [List.cons_append, List.nil_append]; after_results_simp
theorem keeps_1 : StableHlo.after (opsProj ++ opsOut) V (Proc.devRef .tc main_arg1) = V (Proc.devRef .tc main_arg1) := by
  unfold opsProj opsOut opsPieces opJoin opsRest; simp only [List.cons_append, List.nil_append]; after_results_simp
theorem keeps_2 : StableHlo.after (opsProj ++ opsOut) V (Proc.devRef .tc main_arg2) = V (Proc.devRef .tc main_arg2) := by
  unfold opsProj opsOut opsPieces opJoin opsRest; simp only [List.cons_append, List.nil_append]; after_results_simp
theorem keeps_3 : StableHlo.after (opsProj ++ opsOut) V (Proc.devRef .tc main_arg3) = V (Proc.devRef .tc main_arg3) := by
  unfold opsProj opsOut opsPieces opJoin opsRest; simp only [List.cons_append, List.nil_append]; after_results_simp

variable (m : (ℓ : Loc nD τ sig) → Buf (Elt Ideal) ℓ)

/-- The reference's projected rows of its own arguments. -/
abbrev refRows (c : Dev nD) : FVec Ideal S32x4x3072 .f32 :=
  refProj (m ((c.tc : Thread nD τ).loc main_arg0)) (m ((c.tc : Thread nD τ).loc main_arg1)) (m ((c.tc : Thread nD τ).loc main_arg2)) (m ((c.tc : Thread nD τ).loc main_arg3))

/-- The projected rows after the first list, from the launch. -/
theorem launch_read (c : Dev nD) : StableHlo.after opsProj (StableHlo.launchContents m c) (Proc.devRef .tc main_v25) = refRows m c := proj_read _

/-- The reference's run: its results are its terms, its arguments as they were. -/
theorem ref_run (g : Dev nD → PrngReg) :
    θ_run (defs (F := Ideal)) (onTc (τ := τ) (main (F := Ideal))) ⟨m, fun _ => 0, g⟩ (fun r => ∀ c : Dev nD,
      r.2.mem ((c.tc : Thread nD τ).loc main_v38) = (refQkv (refRows m c) : FVec Ideal S128x3072 .bf16)
      ∧ r.2.mem ((c.tc : Thread nD τ).loc main_v39) = (refKm (refRows m c) : FVec Ideal S1024x64 .f32)
      ∧ r.2.mem ((c.tc : Thread nD τ).loc main_v40) = (refVm (refRows m c) : FVec Ideal S1024x64 .f32)
      ∧ r.2.mem ((c.tc : Thread nD τ).loc main_v41) = (refKd (refRows m c) : FVec Ideal S512x128 .f32)
      ∧ r.2.mem ((c.tc : Thread nD τ).loc main_v42) = (refVd (refRows m c) : FVec Ideal S512x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c main_v38).trans (congrFun (StableHlo.after_append _ _ _) _)).trans ((out_Qkv _).trans (congrArg refQkv (launch_read m c))),
      ((h c main_v39).trans (congrFun (StableHlo.after_append _ _ _) _)).trans ((out_Km _).trans (congrArg refKm (launch_read m c))),
      ((h c main_v40).trans (congrFun (StableHlo.after_append _ _ _) _)).trans ((out_Vm _).trans (congrArg refVm (launch_read m c))),
      ((h c main_v41).trans (congrFun (StableHlo.after_append _ _ _) _)).trans ((out_Kd _).trans (congrArg refKd (launch_read m c))),
      ((h c main_v42).trans (congrFun (StableHlo.after_append _ _ _) _)).trans ((out_Vd _).trans (congrArg refVd (launch_read m c))),
      (h c main_arg0).trans (keeps_0 _),
      (h c main_arg1).trans (keeps_1 _),
      (h c main_arg2).trans (keeps_2 _),
      (h c main_arg3).trans (keeps_3 _)⟩)
    (StableHlo.run_hlo defs main main_ops (by decide) (by decide) (by simp [opsProj, opsOut, opsPieces, opJoin, opsRest])
      (by intro _ h; unfold opsProj opsOut opsPieces opJoin opsRest at h; simp only [List.cons_append, List.nil_append] at h; (repeat (cases h with | head => rfl | tail _ h => ?_)); exact nomatch h) m g)

end Cert.ProjSample

end
-- ==== Proof.SampleSame.lean ====
module

public import proofs.«01_k».proof.Defs
public import proofs.«01_k».proof.Proof.Gen.Sample
public import proofs.«01_k».proof.Proof.Gen.SampleIdeal

@[expose] public section

set_option maxRecDepth 16384
set_option maxHeartbeats 1000000

namespace Cert.ProjSample

open Idealize.ShloMosaic

/-- The two programs' body tables are one: their texts are the same. -/
theorem bodies_same : Cert.Sample.defs₀ (F := Bits) = Cert.SampleIdeal.defs₀ (F := Bits) := by
  unfold Cert.Sample.defs₀ Cert.SampleIdeal.defs₀
  congr 1
  funext l a
  match l, a with
  | ⟨0, _⟩, (t, s) => rfl
  | ⟨_ + 1, h⟩, _ => exact absurd h (Nat.not_lt.2 (Nat.le_add_left _ _))

/-- So are their tables with the pipelines. -/
theorem defs_same : Cert.Sample.defs (F := Bits) = Cert.SampleIdeal.defs (F := Bits) :=
  congrArg (Pipeline.defs (Cert.SampleIdeal.pcfgs (F := Bits))) bodies_same

/-- And their host programs. -/
theorem main_same : Cert.Sample.main (F := Bits) = Cert.SampleIdeal.main (F := Bits) := rfl

end Cert.ProjSample

end
-- ==== Proof.PostTop.lean ====
module

public import Idealize.ShloMosaic.Lib.SortPrefix
public import Idealize.ShloMosaic.Lib.Pointwise

@[expose] public section

noncomputable section

namespace Cert.Post

open Idealize.ShloMosaic

/-! ## The greatest lane, its place, and the lanes after it is struck out -/

variable (v : Fin 128 → EReal)

/-- The greatest lane's value. -/
def best : EReal := Finset.univ.fold max ⊥ v

/-- The least place of the greatest lane, as a word: a minimum over the lanes, 128 at the lanes below the greatest. -/
def word : BitVec 32 := Finset.univ.fold IntOp.minsi (2147483647#32) fun x : Fin 128 => if v x = best v then BitVec.ofNat 32 x.val else 128#32

/-- The lanes with the greatest struck out. -/
def next (j : Fin 128) : EReal := Scalar.select (IntOp.cmpi .eq (BitVec.ofNat 32 j.val) (word v)) ⊥ (v j)

theorem le_best (j : Fin 128) : v j ≤ best v := (Finset.fold_max_le (c := best v)).1 le_rfl |>.2 j (Finset.mem_univ j)

theorem exists_best : ∃ j, v j = best v := by
  rcases (Finset.le_fold_max (s := Finset.univ) (f := v) (b := ⊥) (best v)).1 le_rfl with h | ⟨j, _, h⟩
  · exact ⟨0, le_antisymm (le_best v 0) (h.trans bot_le)⟩
  · exact ⟨j, le_antisymm (le_best v j) h⟩

/-- The least place of the greatest lane. -/
def pick : Fin 128 := (Finset.univ.filter fun j => v j = best v).min' (by
  obtain ⟨j, h⟩ := exists_best v
  exact ⟨j, Finset.mem_filter.2 ⟨Finset.mem_univ j, h⟩⟩)

theorem at_pick : v (pick v) = best v := (Finset.mem_filter.1 (Finset.min'_mem (Finset.univ.filter fun j => v j = best v) _)).2

theorem pick_le (j : Fin 128) (h : v j = best v) : pick v ≤ j := Finset.min'_le _ _ (Finset.mem_filter.2 ⟨Finset.mem_univ j, h⟩)

/-- A minimum of words that are small naturals is the word of the naturals' minimum. -/
theorem fold_minsi {ι : Type} [DecidableEq ι] (s : Finset ι) (g : ι → ℕ) (b : ℕ) (hb : b < 2 ^ 31) (hg : ∀ x, g x < 2 ^ 31) :
    s.fold IntOp.minsi (BitVec.ofNat 32 b) (fun x => BitVec.ofNat 32 (g x)) = BitVec.ofNat 32 (s.fold min b g) ∧ s.fold min b g < 2 ^ 31 := by
  induction s using Finset.induction_on with
  | empty => exact ⟨rfl, hb⟩
  | insert a s ha ih =>
    rw [Finset.fold_insert ha, Finset.fold_insert ha, ih.1]
    refine ⟨?_, lt_of_le_of_lt (min_le_left _ _) (hg a)⟩
    have h1 : (BitVec.ofNat 32 (g a)).toInt = (g a : Int) := by
      rw [BitVec.toInt_ofNat']
      have := hg a
      exact Int.bmod_eq_of_le (by omega) (by omega)
    have h2 : (BitVec.ofNat 32 (s.fold min b g)).toInt = ((s.fold min b g : ℕ) : Int) := by
      rw [BitVec.toInt_ofNat']
      have := ih.2
      exact Int.bmod_eq_of_le (by omega) (by omega)
    rcases lt_or_ge (g a) (s.fold min b g) with h | h
    · have hs : (BitVec.ofNat 32 (g a)).slt (BitVec.ofNat 32 (s.fold min b g)) = true := by
        unfold BitVec.slt; rw [h1, h2]; exact decide_eq_true (by omega)
      rw [min_eq_left h.le]; unfold IntOp.minsi; rw [if_pos hs]
    · have hs : ¬(BitVec.ofNat 32 (g a)).slt (BitVec.ofNat 32 (s.fold min b g)) = true := by
        unfold BitVec.slt; rw [h1, h2, decide_eq_true_eq]; omega
      rw [min_eq_right h]; unfold IntOp.minsi; rw [if_neg hs]

/-- The word is the place's. -/
theorem word_eq : word v = BitVec.ofNat 32 (pick v).val := by
  have e : (fun x : Fin 128 => if v x = best v then BitVec.ofNat 32 x.val else 128#32) = fun x => BitVec.ofNat 32 (if v x = best v then x.val else 128) := by
    funext x; split <;> rfl
  unfold word
  rw [e]
  have h := (fold_minsi Finset.univ (fun x : Fin 128 => if v x = best v then x.val else 128) 2147483647 (by norm_num) (fun x => by
    have := x.isLt
    show (if v x = best v then x.val else 128) < 2 ^ 31
    split <;> omega)).1
  refine h.trans (congrArg (BitVec.ofNat 32) (le_antisymm ?_ ?_))
  · refine (Finset.fold_min_le _).2 (Or.inr ⟨pick v, Finset.mem_univ _, ?_⟩)
    rw [if_pos (at_pick v)]
  · refine (Finset.le_fold_min _).2 ⟨by have := (pick v).isLt; omega, fun x _ => ?_⟩
    split
    · rename_i hx; exact pick_le v x hx
    · have := (pick v).isLt; omega

theorem next_eq (j : Fin 128) : next v j = if j = pick v then ⊥ else v j := by
  unfold next
  rw [word_eq]
  have e : IntOp.cmpi .eq (BitVec.ofNat 32 j.val) (BitVec.ofNat 32 (pick v).val) = if j = pick v then 1#1 else 0#1 := by
    by_cases h : j = pick v
    · subst h; simp [IntOp.cmpi]
    · rw [if_neg h]
      have hne : BitVec.ofNat 32 j.val ≠ BitVec.ofNat 32 (pick v).val := fun e => h (Fin.ext (by
        have := congrArg BitVec.toNat e
        rw [BitVec.toNat_ofNat, BitVec.toNat_ofNat, Nat.mod_eq_of_lt (by have := j.isLt; omega), Nat.mod_eq_of_lt (by have := (pick v).isLt; omega)] at this
        exact this))
      have hb : (BitVec.ofNat 32 j.val == BitVec.ofNat 32 (pick v).val) = false := beq_eq_false_iff_ne.2 hne
      show BitVec.ofBool (BitVec.ofNat 32 j.val == BitVec.ofNat 32 (pick v).val) = 0#1
      rw [hb]; rfl
  rw [e]
  by_cases h : j = pick v
  · rw [if_pos h, if_pos h]; rfl
  · rw [if_neg h, if_neg h]; rfl

/-! ## The rounds -/

/-- The lanes after `k` rounds. -/
def after : ℕ → Fin 128 → EReal
  | 0 => v
  | k + 1 => next (after k)

/-- The place the round picks. -/
def place (k : ℕ) : Fin 128 := pick (after v k)

/-- A lane after `k` rounds: struck out if a round before picked it. -/
theorem after_eq (k : ℕ) (j : Fin 128) : after v k j = if ∃ i < k, place v i = j then ⊥ else v j := by
  induction k with
  | zero => rw [if_neg (by rintro ⟨i, h, _⟩; exact absurd h (Nat.not_lt_zero i))]; rfl
  | succ k ih =>
    show next (after v k) j = _
    rw [next_eq, ih]
    by_cases h : j = pick (after v k)
    · rw [if_pos h, if_pos ⟨k, Nat.lt_succ_self k, h.symm⟩]
    · rw [if_neg h]
      refine if_congr ⟨fun ⟨i, hi, e⟩ => ⟨i, Nat.lt_succ_of_lt hi, e⟩, fun ⟨i, hi, e⟩ => ⟨i, ?_, e⟩⟩ rfl rfl
      rcases Nat.lt_succ_iff_lt_or_eq.1 hi with h' | h'
      · exact h'
      · subst h'; exact absurd e.symm h

/-- The lanes of 32 numbers, the rest at the least. -/
def lanes (l : Fin 32 → EReal) (j : Fin 128) : EReal := if h : j.val < 32 then l ⟨j.val, h⟩ else ⊥

variable (l : Fin 32 → EReal) (hl : ∀ e, l e ≠ ⊥)
include hl

/-- Four rounds leave some of the 32 lanes. -/
theorem best_ne_bot (k : ℕ) (hk : k < 32) : best (after (lanes l) k) ≠ ⊥ := by
  intro hb
  have hf : Function.Injective fun e : Fin 32 => (⟨e.val, by omega⟩ : Fin 128) := fun a b h => Fin.ext (show a.val = b.val from congrArg (fun x : Fin 128 => x.val) h)
  have hsub : Finset.univ.image (fun e : Fin 32 => (⟨e.val, by omega⟩ : Fin 128)) ⊆ (Finset.range k).image fun i => place (lanes l) i := by
    intro j hj
    obtain ⟨e, _, rfl⟩ := Finset.mem_image.1 hj
    by_contra hn
    have h := le_best (after (lanes l) k) ⟨e.val, by omega⟩
    rw [hb, after_eq, if_neg fun ⟨i, hi, e'⟩ => hn (Finset.mem_image.2 ⟨i, Finset.mem_range.2 hi, e'⟩)] at h
    unfold lanes at h
    rw [dif_pos e.isLt] at h
    exact hl e (le_bot_iff.1 h)
  have hc := (Finset.card_le_card hsub).trans Finset.card_image_le
  rw [Finset.card_image_of_injective _ hf, Finset.card_range, Finset.card_univ, Fintype.card_fin] at hc
  omega

/-- A round picks one of the 32 that no round before it picked. -/
theorem place_lt (k : ℕ) (hk : k < 32) : (place (lanes l) k).val < 32 := by
  by_contra h
  refine best_ne_bot l hl k hk ?_
  rw [← at_pick, after_eq]
  show (if _ then ⊥ else lanes l (place (lanes l) k)) = ⊥
  split
  · rfl
  · exact dif_neg h
theorem place_new (k : ℕ) (hk : k < 32) (i : ℕ) (hi : i < k) : place (lanes l) i ≠ place (lanes l) k := fun e => by
  refine best_ne_bot l hl k hk ?_
  rw [← at_pick, after_eq]
  exact if_pos ⟨i, hi, e⟩

/-- The number a round picks. -/
def chosen (k : Fin 4) : Fin 32 := ⟨(place (lanes l) k).val, place_lt l hl k (by omega)⟩

omit hl in
theorem lanes_at (j : Fin 128) (e : Fin 32) (h : j.val = e.val) : lanes l j = l e := by
  unfold lanes
  rw [dif_pos (by rw [h]; exact e.isLt)]
  exact congrArg l (Fin.ext h)

/-- The round's greatest is the chosen number. -/
theorem best_eq (k : Fin 4) : best (after (lanes l) k.val) = l (chosen l hl k) := by
  rw [← at_pick, after_eq]
  have h : ¬∃ i < k.val, place (lanes l) i = pick (after (lanes l) k.val) := fun ⟨i, hi, e⟩ => place_new l hl k.val (by omega) i hi e
  rw [if_neg h]
  exact lanes_at l _ (chosen l hl k) rfl

/-- The order of the choice: the greater first, and of equal ones the one at the lesser place. -/
def before (a b : Fin 32) : Bool := (decide (l b < l a)) || (decide (l a = l b) && decide (a < b))

omit hl in
theorem before_total : StrictTotalBefore (before l) :=
  StrictTotalBefore.of_key_then_position (fun a b : EReal => decide (b < a)) l (fun a => by simp) (fun a b c hab hbc => by
    simp only [decide_eq_true_eq] at *; exact lt_trans hbc hab) (fun a b => by
    simp only [decide_eq_true_eq]
    rcases lt_trichotomy a b with h | h | h
    · exact Or.inr (Or.inr h)
    · exact Or.inr (Or.inl h)
    · exact Or.inl h)

/-- None left by the rounds before is before the round's choice. -/
theorem not_before (k : Fin 4) (p : Fin 32) (hp : ∀ i < k, chosen l hl i ≠ p) : before l p (chosen l hl k) = false := by
  have hn : ¬∃ i < k.val, place (lanes l) i = (⟨p.val, by omega⟩ : Fin 128) := fun ⟨i, hi, e⟩ =>
    hp ⟨i, by omega⟩ hi (Fin.ext (show (place (lanes l) i).val = p.val from congrArg Fin.val e))
  have ha : after (lanes l) k.val ⟨p.val, by omega⟩ = l p := by
    rw [after_eq, if_neg hn]; exact lanes_at l _ p rfl
  have hle : l p ≤ l (chosen l hl k) := by
    rw [← ha, ← best_eq l hl k]; exact le_best _ _
  unfold before
  rw [Bool.or_eq_false_iff, Bool.and_eq_false_iff, decide_eq_false_iff_not, decide_eq_false_iff_not, decide_eq_false_iff_not]
  refine ⟨not_lt.2 hle, ?_⟩
  by_cases e : l p = l (chosen l hl k)
  · refine Or.inr (not_lt.2 ?_)
    exact pick_le (after (lanes l) k.val) ⟨p.val, by omega⟩ (by rw [ha, e, best_eq l hl k])
  · exact Or.inl e

omit hl in
/-- Sorts with the same positions in the same order read alike. -/
theorem sortedFrom_of_positions {n : ℕ} (R R' : Fin n → Fin n → Bool) (h : sortPositions n R = sortPositions n R') : sortedFrom R = sortedFrom R' := by
  funext i
  unfold sortedFrom
  rw [List.get_of_eq h]
  rfl

/-- The rounds choose what a stable sort, the greater first, puts first. -/
theorem sortedFrom_eq (k : Fin 4) :
    sortedFrom (fun a b : Fin 32 => FloatOps.cmpfTotal (F := Ideal) (φ := .f32) .gt (l a) (l b) == 1#1) (k.castLE (by decide)) = chosen l hl k := by
  have e : ∀ a b : Fin 32, (FloatOps.cmpfTotal (F := Ideal) (φ := .f32) .gt (l a) (l b) == 1#1) = decide (l b < l a) := fun a b => by
    show (Ideal.cmp CmpDirection.gt.ordered (l a) (l b) == 1#1) = _
    by_cases h : l b < l a <;> simp [Ideal.cmp, CmpDirection.ordered, h]
  have hs : sortPositions 32 (fun a b : Fin 32 => FloatOps.cmpfTotal (F := Ideal) (φ := .f32) .gt (l a) (l b) == 1#1) = sortPositions 32 (before l) := by
    unfold sortPositions
    have key : ∀ L : List (Fin 32), L.Pairwise (· < ·) →
        stableSort (fun a b : Fin 32 => FloatOps.cmpfTotal (F := Ideal) (φ := .f32) .gt (l a) (l b) == 1#1) L = stableSort (before l) L := by
      intro L hL
      induction L with
      | nil => rfl
      | cons a L ih =>
        rw [List.pairwise_cons] at hL
        unfold stableSort
        rw [ih hL.2]
        refine insertBefore_congr _ _ a _ fun b hb => ?_
        have hlt : a < b := hL.1 b ((perm_stableSort (before l) L).mem_iff.1 hb)
        rw [e]
        unfold before
        have : decide (b < a) = false := decide_eq_false (not_lt.2 hlt.le)
        rw [this, Bool.and_false, Bool.or_false]
    exact key _ (List.pairwise_lt_finRange 32)
  have hsf : sortedFrom (fun a b : Fin 32 => FloatOps.cmpfTotal (F := Ideal) (φ := .f32) .gt (l a) (l b) == 1#1) = sortedFrom (before l) := sortedFrom_of_positions _ _ hs
  rw [hsf]
  have hne : ∀ i j : Fin 4, i < j → chosen l hl i ≠ chosen l hl j := fun i j h e =>
    place_new l hl j.val (by omega) i.val h (Fin.ext (show (place (lanes l) i.val).val = (place (lanes l) j.val).val from congrArg (fun x : Fin 32 => x.val) e))
  refine (before_total l).sortedFrom_eq_of_prefix (by decide) (chosen l hl) (fun i j h => ?_) (fun i j hij => ?_) (fun i p hp => ?_) k
  · rcases lt_trichotomy i j with h' | h' | h'
    · exact absurd h (hne i j h')
    · exact h'
    · exact absurd h.symm (hne j i h')
  · exact not_before l hl i _ fun a ha => hne a j (ha.trans hij)
  · exact not_before l hl i p fun a _ => hp a

end Cert.Post

end
-- ==== Proof.PostParts.lean ====
module

public import proofs.«01_k».proof.Proof.InProjParts
public import proofs.«01_k».proof.Proof.PostTop

@[expose] public section

noncomputable section

namespace Cert.Post

open Idealize.ShloMosaic
open Cert.Proj (meanOf normOf)

/-! ## A row's results -/

/-- A row normalized, scaled and shifted. -/
def lnOf (row g b : Fin 1024 → EReal) (k : Fin 1024) : EReal := normOf row k * g k + b k

/-- The normalized row, scaled, and the heads' row through its weights. -/
def mixOf (x g b a : Fin 1024 → EReal) (w : Fin 1024 → Fin 1024 → EReal) (k : Fin 1024) : EReal :=
  Ideal.ofBits .f32 0x3F9837F0#32 * lnOf x g b k + ∑ i, a i * w i k

/-- The row's router scores. -/
def scoreOf (h : Fin 1024 → EReal) (w : Fin 1024 → Fin 32 → EReal) (b : Fin 32 → EReal) (e : Fin 32) : EReal := (∑ k, h k * w k e) + b e

/-- The exponential of a score less the greatest. -/
def expOf (t : Fin 4 → EReal) (k : Fin 4) : EReal := Ideal.exp (t k - t 0)

/-- The sum of the four exponentials. -/
def totalOf (t : Fin 4 → EReal) : EReal := ((expOf t 0 + expOf t 1) + expOf t 2) + expOf t 3

/-! ## Numbers that are neither infinity -/

/-- A number that is neither infinity. -/
def Real' (x : EReal) : Prop := ∃ r : ℝ, x = (r : EReal)

theorem real_add {x y : EReal} (hx : Real' x) (hy : Real' y) : Real' (x + y) := by
  obtain ⟨a, rfl⟩ := hx; obtain ⟨b, rfl⟩ := hy; exact ⟨a + b, (EReal.coe_add a b).symm⟩
theorem real_sub {x y : EReal} (hx : Real' x) (hy : Real' y) : Real' (x - y) := by
  obtain ⟨a, rfl⟩ := hx; obtain ⟨b, rfl⟩ := hy; exact ⟨a - b, (EReal.coe_sub a b).symm⟩
theorem real_mul {x y : EReal} (hx : Real' x) (hy : Real' y) : Real' (x * y) := by
  obtain ⟨a, rfl⟩ := hx; obtain ⟨b, rfl⟩ := hy; exact ⟨a * b, (EReal.coe_mul a b).symm⟩
theorem real_sum {n : ℕ} (f : Fin n → EReal) (hf : ∀ k, Real' (f k)) : Real' (∑ k, f k) := by
  choose r hr using hf
  refine ⟨∑ k, r k, ?_⟩
  rw [show f = fun k => (r k : EReal) from funext hr]
  exact (map_sum (⟨⟨(fun x : ℝ => (x : EReal)), EReal.coe_zero⟩, EReal.coe_add⟩ : ℝ →+ EReal) r Finset.univ).symm
theorem real_ne_bot {x : EReal} (hx : Real' x) : x ≠ ⊥ := by obtain ⟨a, rfl⟩ := hx; exact EReal.coe_ne_bot a

/-- A number less itself is nothing. -/
theorem sub_self_of_real {x : EReal} (hx : Real' x) : x - x = 0 := by
  obtain ⟨a, rfl⟩ := hx; rw [← EReal.coe_sub, sub_self]; rfl

theorem bits_1024 : Ideal.ofBits .f32 0x44800000#32 = ((1024 : ℝ) : EReal) := by
  simp [Ideal.ofBits, Ideal.ieee]; norm_num; rw [← EReal.coe_mul]; norm_num
theorem bits_alpha : Real' (Ideal.ofBits .f32 0x3F9837F0#32) := by
  simp [Ideal.ofBits, Ideal.ieee]; rw [← EReal.coe_mul]; exact ⟨_, rfl⟩
theorem bits_eps : ∃ r : ℝ, 0 < r ∧ Ideal.ofBits .f32 0x3727C5AC#32 = (r : EReal) := by
  simp [Ideal.ofBits, Ideal.ieee]; rw [← EReal.coe_mul]; exact ⟨_, by norm_num, rfl⟩
theorem bits_least : Ideal.ofBits .f32 0xFF800000#32 = ⊥ := by
  simp [Ideal.ofBits, Ideal.ieee]

/-- A number over 1024. -/
theorem div_1024 (a : ℝ) : Ideal.div (a : EReal) (Ideal.ofBits .f32 0x44800000#32) = ((a * (1024 : ℝ)⁻¹ : ℝ) : EReal) := by
  rw [bits_1024]
  unfold Ideal.div
  rw [if_neg (by norm_cast), ← EReal.coe_inv, ← EReal.coe_mul]

theorem real_div_1024 {x : EReal} (hx : Real' x) : Real' (Ideal.div x (Ideal.ofBits .f32 0x44800000#32)) := by
  obtain ⟨a, rfl⟩ := hx; exact ⟨_, div_1024 a⟩

theorem real_mean {row : Fin 1024 → EReal} (h : ∀ k, Real' (row k)) : Real' (meanOf row) := real_div_1024 (real_sum row h)

/-- A root of a mean of squares, shifted by the small constant, is no infinity. -/
theorem real_rsqrt (d : Fin 1024 → EReal) (hd : ∀ k, Real' (d k)) :
    Real' (Ideal.rsqrt (Ideal.div (∑ k, d k * d k) (Ideal.ofBits .f32 0x44800000#32) + Ideal.ofBits .f32 0x3727C5AC#32)) := by
  choose r hr using hd
  obtain ⟨ε, hε, he⟩ := bits_eps
  have hs : (∑ k, d k * d k) = ((∑ k, r k * r k : ℝ) : EReal) := by
    rw [show (fun k => d k * d k) = fun k => ((r k * r k : ℝ) : EReal) from funext fun k => by rw [hr k, EReal.coe_mul]]
    exact (map_sum (⟨⟨(fun x : ℝ => (x : EReal)), EReal.coe_zero⟩, EReal.coe_add⟩ : ℝ →+ EReal) (fun k => r k * r k) Finset.univ).symm
  have hp : 0 < (∑ k, r k * r k) * (1024 : ℝ)⁻¹ + ε :=
    add_pos_of_nonneg_of_pos (mul_nonneg (Finset.sum_nonneg fun k _ => mul_self_nonneg (r k)) (by norm_num)) hε
  rw [hs, div_1024, he, ← EReal.coe_add]
  show Real' (if _ then ⊥ else if _ then ⊤ else _)
  rw [if_neg (not_lt.2 hp.le), if_neg hp.ne']
  exact ⟨_, rfl⟩

theorem real_ln {row g b : Fin 1024 → EReal} (h : ∀ k, Real' (row k)) (hg : ∀ k, Real' (g k)) (hb : ∀ k, Real' (b k)) (k : Fin 1024) :
    Real' (lnOf row g b k) :=
  real_add (real_mul (real_mul (real_sub (h k) (real_mean h)) (real_rsqrt (fun k => row k - meanOf row) fun k => real_sub (h k) (real_mean h))) (hg k)) (hb k)

theorem real_mix {x g b a : Fin 1024 → EReal} {w : Fin 1024 → Fin 1024 → EReal} (hx : ∀ k, Real' (x k)) (hg : ∀ k, Real' (g k)) (hb : ∀ k, Real' (b k))
    (ha : ∀ k, Real' (a k)) (hw : ∀ i k, Real' (w i k)) (k : Fin 1024) : Real' (mixOf x g b a w k) :=
  real_add (real_mul bits_alpha (real_ln hx hg hb k)) (real_sum _ fun i => real_mul (ha i) (hw i k))

theorem real_score {h : Fin 1024 → EReal} {w : Fin 1024 → Fin 32 → EReal} {b : Fin 32 → EReal} (hh : ∀ k, Real' (h k)) (hw : ∀ k e, Real' (w k e))
    (hb : ∀ e, Real' (b e)) (e : Fin 32) : Real' (scoreOf h w b e) :=
  real_add (real_sum _ fun k => real_mul (hh k) (hw k e)) (hb e)

/-! ## The weights of the chosen -/

theorem total_ne_zero (t : Fin 4 → EReal) (ht : ∀ k, Real' (t k)) : totalOf t ≠ 0 := by
  choose r hr using ht
  have he : ∀ k, expOf t k = ((Real.exp (r k - r 0) : ℝ) : EReal) := fun k => by
    unfold expOf; rw [hr k, hr 0, ← EReal.coe_sub]; rfl
  unfold totalOf
  rw [he, he, he, he, ← EReal.coe_add, ← EReal.coe_add, ← EReal.coe_add, ← EReal.coe_zero]
  intro h
  have := EReal.coe_injective h
  have h0 := Real.exp_pos (r 0 - r 0)
  have h1 := Real.exp_pos (r 1 - r 0)
  have h2 := Real.exp_pos (r 2 - r 0)
  have h3 := Real.exp_pos (r 3 - r 0)
  linarith

/-- A number times the inverse of the total is the number over the total. -/
theorem mul_inv_total (t : Fin 4 → EReal) (ht : ∀ k, Real' (t k)) (x : EReal) :
    x * Ideal.div (Ideal.ofBits .f32 0x3F800000#32) (totalOf t) = Ideal.div x (totalOf t) := by
  have h1 : Ideal.ofBits .f32 0x3F800000#32 = 1 := by simp [Ideal.ofBits, Ideal.ieee]; rw [← EReal.coe_mul]; norm_num
  unfold Ideal.div
  rw [if_neg (total_ne_zero t ht), if_neg (total_ne_zero t ht), h1, one_mul]

/-! ## The four best of a row's scores -/

/-- Four numbers in the first four lanes, the rest filled. -/
def inFour {α : Type} (z : α) (u : Fin 4 → α) (j : Fin 128) : α := if h : j.val < 4 then u ⟨j.val, h⟩ else z

/-- The greatest score of the round. -/
def topVal (l : Fin 32 → EReal) (k : Fin 4) : EReal := best (after (lanes l) k.val)

/-- Its place, as a word. -/
def topWord (l : Fin 32 → EReal) (k : Fin 4) : BitVec 32 := BitVec.ofNat 32 (place (lanes l) k.val).val

/-- Its weight among the four. -/
def gateOf (l : Fin 32 → EReal) (k : Fin 4) : EReal := Ideal.div (expOf (topVal l) k) (totalOf (topVal l))

/-- A round's greatest is one of the scores. -/
theorem real_top {l : Fin 32 → EReal} (hl : ∀ e, Real' (l e)) (k : Fin 4) : Real' (topVal l k) := by
  unfold topVal; rw [best_eq l (fun e => real_ne_bot (hl e)) k]; exact hl _

/-- No round's greatest passes the first's. -/
theorem top_le {l : Fin 32 → EReal} (hl : ∀ e, Real' (l e)) (k : Fin 4) : topVal l k ≤ topVal l 0 := by
  unfold topVal
  rw [best_eq l (fun e => real_ne_bot (hl e)) k, ← lanes_at l _ (chosen l (fun e => real_ne_bot (hl e)) k) rfl]
  exact le_best (lanes l) _

/-- The greatest of the four, from the least number up. -/
theorem fold_top {l : Fin 32 → EReal} (hl : ∀ e, Real' (l e)) : max (⊥ : EReal) (Finset.univ.fold max ⊥ (topVal l)) = topVal l 0 := by
  rw [max_eq_right bot_le]
  refine le_antisymm ((Finset.fold_max_le _).2 ⟨bot_le, fun k _ => top_le hl k⟩) ((Finset.le_fold_max _).2 (.inr ⟨0, Finset.mem_univ _, le_rfl⟩))

/-! ## A row through the layers -/

section
variable (x a gi bi : Fin 1024 → EReal) (wo : Fin 1024 → Fin 1024 → EReal) (g1 b1 : Fin 1024 → EReal) (wr : Fin 1024 → Fin 32 → EReal) (br : Fin 32 → EReal)

/-- The row normalized, mixed with the heads' row, and normalized again. -/
def hRow : Fin 1024 → EReal := lnOf (mixOf x gi bi a wo) g1 b1

/-- The row's scores. -/
def scoreRow : Fin 32 → EReal := scoreOf (hRow x a gi bi wo g1 b1) wr br

/-- The score as the kernel sums it is the score. -/
theorem three_sums {n : ℕ} (h w : Fin n → EReal) (hh : ∀ k, Real' (h k)) (hw : ∀ k, Real' (w k)) :
    ((∑ k, h k * w k) + ∑ k, h k * (w k - w k)) + ∑ k, (h k - h k) * w k = ∑ k, h k * w k := by
  have e1 : ∑ k, h k * (w k - w k) = 0 := Finset.sum_eq_zero fun k _ => by rw [sub_self_of_real (hw k), mul_zero]
  have e2 : ∑ k, (h k - h k) * w k = 0 := Finset.sum_eq_zero fun k _ => by rw [sub_self_of_real (hh k), zero_mul]
  rw [e1, e2, add_zero, add_zero]

end

end Cert.Post

end
-- ==== Proof.PostPay.lean ====
module

public import proofs.«01_k».proof.Proof.Gen.PostAttnIdeal.Frame
public import proofs.«01_k».proof.Proof.PostParts

@[expose] public section

set_option maxRecDepth 16384

noncomputable section

namespace Cert.Post

open Cert.PostAttnIdeal Cert.PostAttnIdeal.Gen
open Idealize.ShloMosaic Idealize.ShloMosaic.TcCoe Idealize.SL.Sem
open Cert.Proj (meanOf normOf)

/-! ## The body's values at an index -/

theorem pay3_apply (x : FVec Ideal S512x1024 .f32) (g b : FVec Ideal S1x1024 .f32) (a : FVec Ideal S512x1024 .bf16) (w : FVec Ideal S1024x1024 .bf16)
    (r : Fin 512) (k : Fin 1024) :
    k0_pay3 (F := Ideal) x g b a w (ix2 r k)
      = mixOf (fun k => x (ix2 r k)) (fun k => g (ix2 0 k)) (fun k => b (ix2 0 k)) (fun k => a (ix2 r k)) (fun i k => w (ix2 i k)) k := by
  pointwise [k0_pay3, mixOf, lnOf, normOf, meanOf]

theorem pay6_apply (x : FVec Ideal S512x1024 .f32) (g b : FVec Ideal S1x1024 .f32) (r : Fin 512) (k : Fin 1024) :
    k0_pay6 (F := Ideal) x g b (ix2 r k) = lnOf (fun k => x (ix2 r k)) (fun k => g (ix2 0 k)) (fun k => b (ix2 0 k)) k := by
  pointwise [k0_pay6, lnOf, normOf, meanOf]

theorem pay7_apply (x : FVec Ideal S512x1024 .f32) (g b : FVec Ideal S1x1024 .f32) (hi lo : FVec Ideal S1024x128 .bf16) (br : FVec Ideal S1x128 .f32)
    (r : Fin 512) (j : Fin 128) :
    k0_pay7 (F := Ideal) x g b hi lo br (ix2 r j)
      = (((∑ k, k0_pay6 (F := Ideal) x g b (ix2 r k) * hi (ix2 k j)) + ∑ k, k0_pay6 (F := Ideal) x g b (ix2 r k) * lo (ix2 k j))
        + ∑ k, (k0_pay6 (F := Ideal) x g b (ix2 r k) - k0_pay6 (F := Ideal) x g b (ix2 r k)) * hi (ix2 k j)) + br (ix2 0 j) := by
  pointwise [k0_pay7]

/-- A row of an array of lanes. -/
def lane (v : FVec Ideal S512x128 .f32) (r : Fin 512) (j : Fin 128) : EReal := v (ix2 r j)

abbrev io : IVec S512x128 32 := iota .tc S512x128 32 [1] iota_S512x128_d1_w32
abbrev least : Ideal .f32 := Scalar.ofBits .f32 0xFF800000#32

theorem lane_9 (v : FVec Ideal S512x128 .f32) (r : Fin 512) :
    lane (k0_pay9 (F := Ideal) v k0_pay8 least) r = lanes fun e => v (ix2 r ⟨e.val, by omega⟩) := by
  funext j
  unfold lane lanes
  have e : k0_pay9 (F := Ideal) v k0_pay8 least (ix2 r j) = Scalar.select (IntOp.cmpi .slt (BitVec.ofNat 32 j.val) 32#32) (v (ix2 r j)) ⊥ := by
    rw [← bits_least]; pointwise [k0_pay9, k0_pay8]
  rw [e]
  have hj := j.isLt
  have hc : IntOp.cmpi .slt (BitVec.ofNat 32 j.val) 32#32 = if j.val < 32 then 1#1 else 0#1 := by
    have h1 : (BitVec.ofNat 32 j.val).toInt = (j.val : Int) := by
      rw [BitVec.toInt_ofNat']; exact Int.bmod_eq_of_le (by omega) (by omega)
    show BitVec.ofBool ((BitVec.ofNat 32 j.val).slt 32#32) = _
    unfold BitVec.slt
    rw [h1]
    by_cases h : j.val < 32
    · rw [if_pos h, decide_eq_true (by show (j.val : Int) < 32; omega)]; rfl
    · rw [if_neg h, decide_eq_false (by show ¬(j.val : Int) < 32; omega)]; rfl
  rw [hc]
  by_cases h : j.val < 32
  · rw [if_pos h, dif_pos h]; rfl
  · rw [if_neg h, dif_neg h]; rfl

variable (v : FVec Ideal S512x128 .f32) (s : IVec S512x128 1) (r : Fin 512)

theorem pay10_apply : k0_pay10 (F := Ideal) v s least (ix2 r 0) = best (lane (k0_pay9 (F := Ideal) v s least) r) := by
  unfold best; rw [← bits_least]; pointwise [k0_pay10, lane]
theorem pay11_apply : k0_pay11 (F := Ideal) v io s least (ix2 r 0) = word (lane (k0_pay9 (F := Ideal) v s least) r) := by
  unfold word; rw [← pay10_apply]; pointwise [k0_pay11, lane]
theorem lane_12 : lane (k0_pay12 (F := Ideal) v io s least) r = next (lane (k0_pay9 (F := Ideal) v s least) r) := by
  funext j; unfold next; rw [← pay11_apply, ← bits_least]; pointwise [k0_pay12, lane]
theorem pay13_apply : k0_pay13 (F := Ideal) v io s least (ix2 r 0) = best (lane (k0_pay12 (F := Ideal) v io s least) r) := by
  unfold best; rw [← bits_least]; pointwise [k0_pay13, lane]
theorem pay14_apply : k0_pay14 (F := Ideal) v io s least (ix2 r 0) = word (lane (k0_pay12 (F := Ideal) v io s least) r) := by
  unfold word; rw [← pay13_apply]; pointwise [k0_pay14, lane]
theorem lane_15 : lane (k0_pay15 (F := Ideal) v io s least) r = next (lane (k0_pay12 (F := Ideal) v io s least) r) := by
  funext j; unfold next; rw [← pay14_apply, ← bits_least]; pointwise [k0_pay15, lane]
theorem pay16_apply : k0_pay16 (F := Ideal) v io s least (ix2 r 0) = best (lane (k0_pay15 (F := Ideal) v io s least) r) := by
  unfold best; rw [← bits_least]; pointwise [k0_pay16, lane]
theorem pay17_apply : k0_pay17 (F := Ideal) v io s least (ix2 r 0) = word (lane (k0_pay15 (F := Ideal) v io s least) r) := by
  unfold word; rw [← pay16_apply]; pointwise [k0_pay17, lane]
theorem lane_18 : lane (k0_pay18 (F := Ideal) v io s least) r = next (lane (k0_pay15 (F := Ideal) v io s least) r) := by
  funext j; unfold next; rw [← pay17_apply, ← bits_least]; pointwise [k0_pay18, lane]
theorem pay19_apply : k0_pay19 (F := Ideal) v io s least (ix2 r 0) = best (lane (k0_pay18 (F := Ideal) v io s least) r) := by
  unfold best; rw [← bits_least]; pointwise [k0_pay19, lane]
theorem pay21_apply : k0_pay21 (k0_pay20 (F := Ideal) v io s least) (ix2 r 0) = word (lane (k0_pay18 (F := Ideal) v io s least) r) := by
  unfold word; rw [← pay19_apply]; pointwise [k0_pay21, k0_pay20, lane]

theorem after_succ (u : Fin 128 → EReal) (k : ℕ) : after u (k + 1) = next (after u k) := rfl

/-- The lanes after each round. -/
theorem round_1 : lane (k0_pay12 (F := Ideal) v io s least) r = after (lane (k0_pay9 (F := Ideal) v s least) r) 1 := by
  rw [lane_12, after_succ, after]
theorem round_2 : lane (k0_pay15 (F := Ideal) v io s least) r = after (lane (k0_pay9 (F := Ideal) v s least) r) 2 := by
  rw [lane_15, round_1, after_succ _ 1]
theorem round_3 : lane (k0_pay18 (F := Ideal) v io s least) r = after (lane (k0_pay9 (F := Ideal) v s least) r) 3 := by
  rw [lane_18, round_2, after_succ _ 2]

/-- Four selections by the lane, one over the other. -/
theorem four_selects {α : Type} (z a b c d : α) (j : Fin 128) :
    Scalar.select (IntOp.cmpi .eq (BitVec.ofNat 32 j.val) 3#32) d (Scalar.select (IntOp.cmpi .eq (BitVec.ofNat 32 j.val) 2#32) c
      (Scalar.select (IntOp.cmpi .eq (BitVec.ofNat 32 j.val) 1#32) b (Scalar.select (IntOp.cmpi .eq (BitVec.ofNat 32 j.val) 0#32) a z)))
      = inFour z ![a, b, c, d] j := by
  have h : ∀ n : ℕ, n < 4 → IntOp.cmpi .eq (BitVec.ofNat 32 j.val) (BitVec.ofNat 32 n) = if j.val = n then 1#1 else 0#1 := fun n hn => by
    show BitVec.ofBool (BitVec.ofNat 32 j.val == BitVec.ofNat 32 n) = _
    by_cases h : j.val = n
    · rw [h, if_pos rfl, beq_self_eq_true]; rfl
    · rw [if_neg h, beq_eq_false_iff_ne.2 fun e => h (by
        have := congrArg BitVec.toNat e
        rw [BitVec.toNat_ofNat, BitVec.toNat_ofNat, Nat.mod_eq_of_lt (by have := j.isLt; omega), Nat.mod_eq_of_lt (by omega)] at this
        exact this)]; rfl
  rw [show (3#32 : BitVec 32) = BitVec.ofNat 32 3 from rfl, show (2#32 : BitVec 32) = BitVec.ofNat 32 2 from rfl,
    show (1#32 : BitVec 32) = BitVec.ofNat 32 1 from rfl, show (0#32 : BitVec 32) = BitVec.ofNat 32 0 from rfl,
    h 3 (by omega), h 2 (by omega), h 1 (by omega), h 0 (by omega)]
  have hj := j.isLt
  unfold inFour
  obtain ⟨n, hn⟩ := j
  match n, hn with
  | 0, _ => rfl
  | 1, _ => rfl
  | 2, _ => rfl
  | 3, _ => rfl
  | n + 4, _ =>
    show Scalar.select (if n + 4 = 3 then 1#1 else 0#1) d (Scalar.select (if n + 4 = 2 then 1#1 else 0#1) c
      (Scalar.select (if n + 4 = 1 then 1#1 else 0#1) b (Scalar.select (if n + 4 = 0 then 1#1 else 0#1) a z))) = _
    rw [if_neg (by omega), if_neg (by omega), if_neg (by omega), if_neg (by omega), dif_neg (by show ¬(n + 4 < 4); omega)]; rfl

theorem pay1_apply (a b c d : IVec S512x1 32) (j : Fin 128) :
    k0_pay1 io d (k0_pay27 io a b c) k0_pay29 (ix2 r j) = inFour 0#32 ![a (ix2 r 0), b (ix2 r 0), c (ix2 r 0), d (ix2 r 0)] j := by
  rw [← four_selects]; pointwise [k0_pay1, k0_pay27, k0_pay29]

theorem pay2_apply (a b c d : FVec Ideal S512x1 .f32) (j : Fin 128) :
    k0_pay2 (F := Ideal) io (k0_pay25 a d) (k0_pay26 a b c d) (k0_pay28 io a b c d) (ix2 r j)
      = inFour (0 : EReal) (fun k => expOf ![a (ix2 r 0), b (ix2 r 0), c (ix2 r 0), d (ix2 r 0)] k
          * Ideal.div (Ideal.ofBits .f32 0x3F800000#32) (totalOf ![a (ix2 r 0), b (ix2 r 0), c (ix2 r 0), d (ix2 r 0)])) j := by
  have e : (fun k => expOf ![a (ix2 r 0), b (ix2 r 0), c (ix2 r 0), d (ix2 r 0)] k
          * Ideal.div (Ideal.ofBits .f32 0x3F800000#32) (totalOf ![a (ix2 r 0), b (ix2 r 0), c (ix2 r 0), d (ix2 r 0)]))
      = ![Ideal.exp (a (ix2 r 0) - a (ix2 r 0)) * Ideal.div (Ideal.ofBits .f32 0x3F800000#32) (totalOf ![a (ix2 r 0), b (ix2 r 0), c (ix2 r 0), d (ix2 r 0)]),
        Ideal.exp (b (ix2 r 0) - a (ix2 r 0)) * Ideal.div (Ideal.ofBits .f32 0x3F800000#32) (totalOf ![a (ix2 r 0), b (ix2 r 0), c (ix2 r 0), d (ix2 r 0)]),
        Ideal.exp (c (ix2 r 0) - a (ix2 r 0)) * Ideal.div (Ideal.ofBits .f32 0x3F800000#32) (totalOf ![a (ix2 r 0), b (ix2 r 0), c (ix2 r 0), d (ix2 r 0)]),
        Ideal.exp (d (ix2 r 0) - a (ix2 r 0)) * Ideal.div (Ideal.ofBits .f32 0x3F800000#32) (totalOf ![a (ix2 r 0), b (ix2 r 0), c (ix2 r 0), d (ix2 r 0)])] := by
    funext k
    match k with
    | 0 => rfl
    | 1 => rfl
    | 2 => rfl
    | 3 => rfl
  have et : totalOf ![a (ix2 r 0), b (ix2 r 0), c (ix2 r 0), d (ix2 r 0)]
      = ((Ideal.exp (a (ix2 r 0) - a (ix2 r 0)) + Ideal.exp (b (ix2 r 0) - a (ix2 r 0))) + Ideal.exp (c (ix2 r 0) - a (ix2 r 0))) + Ideal.exp (d (ix2 r 0) - a (ix2 r 0)) := rfl
  rw [e, ← four_selects, et, ← Ideal.ofBits_zero_f32]
  pointwise [k0_pay2, k0_pay28, k0_pay26, k0_pay25, k0_pay24, k0_pay23, k0_pay22]

end Cert.Post

end
-- ==== Proof.PostOut.lean ====
module

public import proofs.«01_k».proof.Proof.PostPay

@[expose] public section

set_option maxRecDepth 16384

noncomputable section

namespace Cert.Post

open Cert.PostAttnIdeal Cert.PostAttnIdeal.Gen
open Idealize.ShloMosaic Idealize.ShloMosaic.TcCoe Idealize.SL.Sem

/-! ## The body's three results at an index, of what its windows hold -/

theorem zeros : (![0, 0] : Fin 2 → ℕ) = fun _ => 0 := by
  funext a; match a with | ⟨0, _⟩ => rfl | ⟨1, _⟩ => rfl

variable (x0 : FVec Ideal S512x1024 .bf16) (x1 : FVec Ideal S512x1024 .f32) (x2 x3 : FVec Ideal S1x1024 .f32) (x4 : FVec Ideal S1024x1024 .bf16)
  (x5 x6 : FVec Ideal S1x1024 .f32) (x7 x8 : FVec Ideal S1024x128 .bf16) (x9 : FVec Ideal S1x128 .f32)

theorem ld_0 (X : FVec Ideal S512x1024 .f32) : View.ld (Val := Elt Ideal) (e' := .f32) (S := S512x1024) X r0_0 = X := View.ld_unit_zero (Val := Elt Ideal) (S := S512x1024) (e := .f32) zeros inb_S512x1024_S512x1024_0_0 X
theorem ld_0b (X : FVec Ideal S512x1024 .bf16) : View.ld (Val := Elt Ideal) (e' := .bf16) (S := S512x1024) X r0_0 = X := View.ld_unit_zero (Val := Elt Ideal) (S := S512x1024) (e := .bf16) zeros inb_S512x1024_S512x1024_0_0 X
theorem ld_1 (X : FVec Ideal S1x1024 .f32) : View.ld (Val := Elt Ideal) (e' := .f32) (S := S1x1024) X r0_1 = X := View.ld_unit_zero (Val := Elt Ideal) (S := S1x1024) (e := .f32) zeros inb_S1x1024_S1x1024_0_0 X
theorem ld_2 (X : FVec Ideal S1024x1024 .bf16) : View.ld (Val := Elt Ideal) (e' := .bf16) (S := S1024x1024) X r0_2 = X := View.ld_unit_zero (Val := Elt Ideal) (S := S1024x1024) (e := .bf16) zeros inb_S1024x1024_S1024x1024_0_0 X
theorem ld_3 (X : FVec Ideal S1024x128 .bf16) : View.ld (Val := Elt Ideal) (e' := .bf16) (S := S1024x128) X r0_3 = X := View.ld_unit_zero (Val := Elt Ideal) (S := S1024x128) (e := .bf16) zeros inb_S1024x128_S1024x128_0_0 X
theorem ld_4 (X : FVec Ideal S1x128 .f32) : View.ld (Val := Elt Ideal) (e' := .f32) (S := S1x128) X r0_4 = X := View.ld_unit_zero (Val := Elt Ideal) (S := S1x128) (e := .f32) zeros inb_S1x128_S1x128_0_0 X

theorem same_4 (v : FVec Ideal S1x1024 .f32) : k0_pay4 (F := Ideal) v = v := by
  funext y; obtain ⟨i, k, rfl⟩ : ∃ (i : Fin 1) (k : Fin 1024), y = (ix2 i k : S1x1024.Idx) := ⟨y (0 : Fin 2), y (1 : Fin 2), by funext a; match a with | ⟨0, _⟩ => rfl | ⟨1, _⟩ => rfl⟩
  obtain rfl : i = 0 := Subsingleton.elim _ _
  pointwise [k0_pay4]
theorem same_5 (v : FVec Ideal S1x1024 .f32) : k0_pay5 (F := Ideal) v = v := same_4 v

/-- The rows before the second normalization. -/
abbrev mixed : FVec Ideal S512x1024 .f32 := k0_pay3 (F := Ideal) x1 x2 x3 x0 x4
/-- The row of the point as numbers. -/
abbrev hPoint (r : Fin 512) : Fin 1024 → EReal :=
  hRow (fun k => x1 (ix2 r k)) (fun k => x0 (ix2 r k)) (fun k => x2 (ix2 0 k)) (fun k => x3 (ix2 0 k)) (fun i k => x4 (ix2 i k)) (fun k => x5 (ix2 0 k)) (fun k => x6 (ix2 0 k))
/-- The router's lanes before the rounds. -/
abbrev lanesPay : FVec Ideal S512x128 .f32 := k0_pay7 (F := Ideal) (mixed x0 x1 x2 x3 x4) x5 x6 x7 x8 x9

theorem pay30_eq : k0_pay30 (F := Ideal) x0 x1 x2 x3 x4 x5 x6 x7 x8 x9 = mixed x0 x1 x2 x3 x4 := by
  unfold k0_pay30; rw [ld_0, ld_1, ld_1, ld_0b, ld_2]
theorem pay31_eq : k0_pay31 (F := Ideal) x0 x1 x2 x3 x4 x5 x6 x7 x8 x9 = x5 := by
  unfold k0_pay31; rw [ld_1, same_4]
theorem pay32_eq : k0_pay32 (F := Ideal) x0 x1 x2 x3 x4 x5 x6 x7 x8 x9 = x6 := by
  unfold k0_pay32; rw [ld_1, same_5]
theorem pay34_eq : k0_pay34 (F := Ideal) x0 x1 x2 x3 x4 x5 x6 x7 x8 x9 = lanesPay x0 x1 x2 x3 x4 x5 x6 x7 x8 x9 := by
  unfold k0_pay34; rw [pay30_eq, pay31_eq, pay32_eq, ld_3, ld_3, ld_4]

/-- The rows normalized again, at an index. -/
theorem row_apply (r : Fin 512) (k : Fin 1024) : k0_pay6 (F := Ideal) (mixed x0 x1 x2 x3 x4) x5 x6 (ix2 r k) = hPoint x0 x1 x2 x3 x4 x5 x6 r k := by
  rw [pay6_apply]
  unfold hPoint hRow
  exact congrArg (fun f => lnOf f (fun k => x5 (ix2 0 k)) (fun k => x6 (ix2 0 k)) k) (funext fun k => pay3_apply x1 x2 x3 x0 x4 r k)

/-- The first result. -/
theorem out_10 : out0_10 (F := Ideal) x0 x1 x2 x3 x4 x5 x6 x7 x8 x9 = k0_pay6 (F := Ideal) (mixed x0 x1 x2 x3 x4) x5 x6 := by
  unfold out0_10; rw [pay30_eq, pay31_eq, pay32_eq]
  exact View.canon_unit_zero (S := S512x1024) zeros _ _

/-- The scores of a row are the router's lanes, for numbers that are neither infinity. -/
theorem score_apply (r : Fin 512) (wr : Fin 1024 → Fin 32 → EReal) (br : Fin 32 → EReal)
    (h7 : ∀ k (e : Fin 32), x7 (ix2 k ⟨e.val, by omega⟩) = wr k e) (h8 : ∀ k (e : Fin 32), x8 (ix2 k ⟨e.val, by omega⟩) = wr k e - wr k e)
    (h9 : ∀ e : Fin 32, x9 (ix2 0 ⟨e.val, by omega⟩) = br e) (hw : ∀ k e, Real' (wr k e)) (hh : ∀ k, Real' (hPoint x0 x1 x2 x3 x4 x5 x6 r k)) (e : Fin 32) :
    lanesPay x0 x1 x2 x3 x4 x5 x6 x7 x8 x9 (ix2 r ⟨e.val, by omega⟩) = scoreOf (hPoint x0 x1 x2 x3 x4 x5 x6 r) wr br e := by
  refine (pay7_apply (mixed x0 x1 x2 x3 x4) x5 x6 x7 x8 x9 r _).trans ?_
  simp only [row_apply]
  simp only [h7, h8, h9]
  rw [three_sums _ (fun k => wr k e) hh fun k => hw k e]
  rfl

variable (v : FVec Ideal S512x128 .f32) (r : Fin 512) (l : Fin 32 → EReal) (hv : ∀ e : Fin 32, v (ix2 r ⟨e.val, by omega⟩) = l e)
include hv

theorem lane_scores : lane (k0_pay9 (F := Ideal) v k0_pay8 least) r = lanes l := by
  rw [lane_9]; exact congrArg lanes (funext hv)

/-- The four greatest of a row, and their places. -/
theorem greatest : (![k0_pay10 (F := Ideal) v k0_pay8 least (ix2 r 0), k0_pay13 (F := Ideal) v io k0_pay8 least (ix2 r 0), k0_pay16 (F := Ideal) v io k0_pay8 least (ix2 r 0),
    k0_pay19 (F := Ideal) v io k0_pay8 least (ix2 r 0)] : Fin 4 → EReal) = topVal l := by
  funext k
  rw [pay10_apply, pay13_apply, pay16_apply, pay19_apply, round_1, round_2, round_3, lane_scores v r l hv]
  match k with
  | 0 => rfl
  | 1 => rfl
  | 2 => rfl
  | 3 => rfl
theorem places : (![k0_pay11 (F := Ideal) v io k0_pay8 least (ix2 r 0), k0_pay14 (F := Ideal) v io k0_pay8 least (ix2 r 0), k0_pay17 (F := Ideal) v io k0_pay8 least (ix2 r 0),
    k0_pay21 (k0_pay20 (F := Ideal) v io k0_pay8 least) (ix2 r 0)] : Fin 4 → BitVec 32) = topWord l := by
  funext k
  rw [pay11_apply, pay14_apply, pay17_apply, pay21_apply, round_1, round_2, round_3, lane_scores v r l hv, word_eq, word_eq, word_eq, word_eq]
  match k with
  | 0 => rfl
  | 1 => rfl
  | 2 => rfl
  | 3 => rfl
omit hv

/-- The second result. -/
theorem out_11 (l : Fin 32 → EReal) (hv : ∀ e : Fin 32, lanesPay x0 x1 x2 x3 x4 x5 x6 x7 x8 x9 (ix2 r ⟨e.val, by omega⟩) = l e) (j : Fin 128) :
    (out0_11 (F := Ideal) x0 x1 x2 x3 x4 x5 x6 x7 x8 x9 : IVec S512x128 32) (ix2 r j) = inFour 0#32 (topWord l) j := by
  unfold out0_11
  rw [pay34_eq]
  refine (congrFun (View.canon_unit_zero (S := S512x128) zeros _ _) (ix2 r j)).trans ?_
  exact (pay1_apply r _ _ _ _ j).trans (congrArg (fun u => inFour 0#32 u j) (places _ r l hv))

/-- The third result. -/
theorem out_12 (l : Fin 32 → EReal) (hl : ∀ e, Real' (l e)) (hv : ∀ e : Fin 32, lanesPay x0 x1 x2 x3 x4 x5 x6 x7 x8 x9 (ix2 r ⟨e.val, by omega⟩) = l e) (j : Fin 128) :
    (out0_12 (F := Ideal) x0 x1 x2 x3 x4 x5 x6 x7 x8 x9 : FVec Ideal S512x128 .f32) (ix2 r j) = inFour (0 : EReal) (gateOf l) j := by
  unfold out0_12 k0_pay36 k0_pay37 k0_pay38 k0_pay39
  rw [pay34_eq]
  refine (congrFun (View.canon_unit_zero (S := S512x128) zeros _ _) (ix2 r j)).trans ?_
  refine (pay2_apply r _ _ _ _ j).trans ?_
  refine (congrArg (fun u => inFour (0 : EReal) (fun k => expOf u k * Ideal.div (Ideal.ofBits .f32 0x3F800000#32) (totalOf u)) j) (greatest _ r l hv)).trans ?_
  exact congrArg (fun u => inFour (0 : EReal) u j) (funext fun k => mul_inv_total (topVal l) (real_top hl) (expOf (topVal l) k))

end Cert.Post

end
-- ==== Proof.PostRef.lean ====
module

public import proofs.«01_k».proof.Defs
public import proofs.«01_k».proof.Proof.Gen.PostAttnReferenceIdeal
public import proofs.«01_k».proof.Proof.PostParts
public import Idealize.ShloMosaic.Lib.Pointwise

@[expose] public section

set_option maxRecDepth 16384

noncomputable section

namespace Cert.Post

open Cert.PostAttnReferenceIdeal Cert.PostAttnReferenceIdeal.Gen
open Idealize.ShloMosaic
open Cert.Proj (meanOf normOf flat flat_apply reshape_flat)

/-! ## The reference's term, in its steps -/

/-- The mean over the last axis, as a column. -/
def refMean (x : FVec Ideal S16x2048x1024 .f32) : FVec Ideal S16x2048x1 .f32 :=
  Host.divf (broadcastInDim S16x2048x1 ![0, 1] bcast_S16x2048_S16x2048x1_0_1 (Host.reduceAdd x (constant S_ .f32 0x00000000#32) reducesTo_S16x2048x1024_S16x2048_d2 h_S_))
    (broadcastInDim S16x2048x1 ![] bcast_S_S16x2048x1 (constant S_ .f32 0x44800000#32))

/-- The rows less their means. -/
def refCentred (x : FVec Ideal S16x2048x1024 .f32) : FVec Ideal S16x2048x1024 .f32 :=
  subf x (broadcastInDim S16x2048x1024 ![0, 1, 2] bcast_S16x2048x1_S16x2048x1024_0_1_2 (refMean x))

/-- The rows normalized, scaled and shifted. -/
def refNormed (x : FVec Ideal S16x2048x1024 .f32) (g b : FVec Ideal S1024 .f32) : FVec Ideal S16x2048x1024 .f32 :=
  addf (mulf (mulf (refCentred x)
      (broadcastInDim S16x2048x1024 ![0, 1, 2] bcast_S16x2048x1_S16x2048x1024_0_1_2
        (Host.rsqrt (addf (refMean (mulf (refCentred x) (refCentred x))) (broadcastInDim S16x2048x1 ![] bcast_S_S16x2048x1 (constant S_ .f32 0x3727C5AC#32))))))
      (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 b))

/-- The normalized rows, scaled, and the heads' rows through their weights. -/
def refMix (a : FVec Ideal S16x2048x1024 .bf16) (h : FVec Ideal S16x2048x1024 .f32) (wo : FVec Ideal S1x1024x1024 .f32) : FVec Ideal S16x2048x1024 .f32 :=
  addf (mulf (broadcastInDim S16x2048x1024 ![] bcast_S_S16x2048x1024 (constant S_ .f32 0x3F9837F0#32)) h)
    (Host.dotGeneral dot_S16x2048x1024_S1024x1024_S16x2048x1024_2_0_01_1_n_n none (extf .f32 a bitsLt_bf16_f32) (shapeCast S1024x1024 wo shapeCasts_S1x1024x1024_S1024x1024))
def refMixed (a : FVec Ideal S16x2048x1024 .bf16) (x : FVec Ideal S16x2048x1024 .f32) (gi bi : FVec Ideal S1024 .f32) (wo : FVec Ideal S1x1024x1024 .f32) :
    FVec Ideal S16x2048x1024 .f32 := refMix a (refNormed x gi bi) wo

/-- The first result, of the mixed rows. -/
def refH (y : FVec Ideal S16x2048x1024 .f32) (g1 b1 : FVec Ideal S1x1024 .f32) : FVec Ideal S32768x1024 .f32 :=
  shapeCast S32768x1024 (refNormed y (shapeCast S1024 g1 shapeCasts_S1x1024_S1024) (shapeCast S1024 b1 shapeCasts_S1x1024_S1024)) shapeCasts_S16x2048x1024_S32768x1024

/-- The router's scores, of the first result. -/
def refScores (h : FVec Ideal S32768x1024 .f32) (wr : FVec Ideal S1x1024x32 .f32) (br : FVec Ideal S1x32 .f32) : FVec Ideal S32768x32 .f32 :=
  addf (Host.dotGeneral dot_S32768x1024_S1024x32_S32768x32_1_0_0_1_n_n none h (shapeCast S1024x32 wr shapeCasts_S1x1024x32_S1024x32))
    (broadcastInDim S32768x32 ![0, 1] bcast_S1x32_S32768x32_0_1 (broadcastInDim S1x32 ![1] bcast_S32_S1x32_1 (shapeCast S32 br shapeCasts_S1x32_S32)))

/-- The four best scores of each row, and their places. -/
def refTopV (s : FVec Ideal S32768x32 .f32) : FVec Ideal S32768x4 .f32 := (Host.topK S32768x4 1 (FloatOps.cmpfTotal .gt) s sliceFits_S32768x32_S32768x4).1
def refTopE (s : FVec Ideal S32768x32 .f32) : IVec S32768x4 32 := (Host.topK S32768x4 1 (FloatOps.cmpfTotal .gt) s sliceFits_S32768x32_S32768x4).2

/-- The exponentials of the four less the greatest. -/
def refExp (v : FVec Ideal S32768x4 .f32) : FVec Ideal S32768x4 .f32 :=
  Host.exp (subf v (broadcastInDim S32768x4 ![0, 1] bcast_S32768x1_S32768x4_0_1 (broadcastInDim S32768x1 ![0] bcast_S32768_S32768x1_0
    (maximumf (broadcastInDim S32768 ![] bcast_S_S32768 (constant S_ .f32 0xFF800000#32))
      (Host.reduce FloatOps.maximumf v (constant S_ .f32 0xFF800000#32) reducesTo_S32768x4_S32768_d1 h_S_)))))

/-- The exponentials over their sum. -/
def refGate (e : FVec Ideal S32768x4 .f32) : FVec Ideal S32768x4 .f32 :=
  Host.divf e (broadcastInDim S32768x4 ![0, 1] bcast_S32768x1_S32768x4_0_1 (broadcastInDim S32768x1 ![0] bcast_S32768_S32768x1_0
    (Host.reduceAdd e (constant S_ .f32 0x00000000#32) reducesTo_S32768x4_S32768_d1 h_S_)))

/-- The second and third results: the places and the weights, in the first four of 128 lanes. -/
def refPlaces (t : IVec S32768x4 32) : IVec S32768x128 32 := pad S32768x128 ![0, 0] ![0, 124] ![0, 0] t (constantI S_ 32 0#32) pads_S32768x4_S32768x128_000_01240 h_S_
def refWeights (g : FVec Ideal S32768x4 .f32) : FVec Ideal S32768x128 .f32 :=
  pad S32768x128 ![0, 0] ![0, 124] ![0, 0] g (sitofp (F := Ideal) .f32 (constantI S_ 32 0#32)) pads_S32768x4_S32768x128_000_01240 h_S_

/-! ## The same at an index -/

theorem refMixed_apply (a : FVec Ideal S16x2048x1024 .bf16) (x : FVec Ideal S16x2048x1024 .f32) (gi bi : FVec Ideal S1024 .f32) (wo : FVec Ideal S1x1024x1024 .f32)
    (n : Fin 16) (s : Fin 2048) (k : Fin 1024) :
    refMixed a x gi bi wo (ix3 n s k)
      = mixOf (fun k => x (ix3 n s k)) (fun k => gi (ix1 k)) (fun k => bi (ix1 k)) (fun k => a (ix3 n s k)) (fun i k => wo (ix3 0 i k)) k := by
  pointwise [refMixed, refMix, refNormed, refCentred, refMean, mixOf, lnOf, normOf, meanOf]

theorem refNormed_apply (y : FVec Ideal S16x2048x1024 .f32) (g1 b1 : FVec Ideal S1x1024 .f32) (n : Fin 16) (s : Fin 2048) (k : Fin 1024) :
    refNormed y (shapeCast S1024 g1 shapeCasts_S1x1024_S1024) (shapeCast S1024 b1 shapeCasts_S1x1024_S1024) (ix3 n s k)
      = lnOf (fun k => y (ix3 n s k)) (fun k => g1 (ix2 0 k)) (fun k => b1 (ix2 0 k)) k := by
  pointwise [refNormed, refCentred, refMean, lnOf, normOf, meanOf]

/-- The first result is the row through the layers. -/
theorem refH_apply (a : FVec Ideal S16x2048x1024 .bf16) (x : FVec Ideal S16x2048x1024 .f32) (gi bi : FVec Ideal S1024 .f32) (wo : FVec Ideal S1x1024x1024 .f32)
    (g1 b1 : FVec Ideal S1x1024 .f32) (n : Fin 32768) (k : Fin 1024) :
    refH (refMixed a x gi bi wo) g1 b1 (ix2 n k)
      = hRow (fun k => flat (A := 16) (B := 2048) (N := 32768) (by decide) x (ix2 n k)) (fun k => flat (A := 16) (B := 2048) (N := 32768) (by decide) a (ix2 n k))
          (fun k => gi (ix1 k)) (fun k => bi (ix1 k)) (fun i k => wo (ix3 0 i k)) (fun k => g1 (ix2 0 k)) (fun k => b1 (ix2 0 k)) k := by
  unfold refH hRow
  rw [reshape_flat (A := 16) (B := 2048) (by decide), flat_apply, refNormed_apply]
  congr 1
  funext k
  rw [refMixed_apply]
  rfl

theorem refScores_apply (h : FVec Ideal S32768x1024 .f32) (wr : FVec Ideal S1x1024x32 .f32) (br : FVec Ideal S1x32 .f32) (n : Fin 32768) (e : Fin 32) :
    refScores h wr br (ix2 n e) = scoreOf (fun k => h (ix2 n k)) (fun k e => wr (ix3 0 k e)) (fun e => br (ix2 0 e)) e := by
  pointwise [refScores, scoreOf]

section
variable {N n K : ℕ}

/-- The position of the row's sort that a result reads. -/
theorem along_row (i : Fin N) (j e : Fin n) : Shape.Idx.along (s := ⟨2, ![N, n]⟩) (ix2 i j) (1 : Fin 2) e = ix2 i e := by
  funext a
  match a with
  | ⟨0, _⟩ => rfl
  | ⟨1, _⟩ => rfl

/-- A sort along the rows of a matrix and of its companion, at an index. -/
theorem sort2_row {α β : Type} (cmp : α × β → α × β → BitVec 1) (x : (⟨2, ![N, n]⟩ : Shape).Idx → α) (y : (⟨2, ![N, n]⟩ : Shape).Idx → β) (i : Fin N) (j : Fin n) :
    (Host.sort2 ⟨2, ![N, n]⟩ 1 cmp x y).1 (ix2 i j) = x (ix2 i (sortedFrom (fun a b : Fin n => cmp (x (ix2 i a), y (ix2 i a)) (x (ix2 i b), y (ix2 i b)) == 1#1) j))
    ∧ (Host.sort2 ⟨2, ![N, n]⟩ 1 cmp x y).2 (ix2 i j) = y (ix2 i (sortedFrom (fun a b : Fin n => cmp (x (ix2 i a), y (ix2 i a)) (x (ix2 i b), y (ix2 i b)) == 1#1) j)) := by
  have e : (fun a b : Fin n => cmp (x (Shape.Idx.along (s := ⟨2, ![N, n]⟩) (ix2 i j) (1 : Fin 2) a), y (Shape.Idx.along (s := ⟨2, ![N, n]⟩) (ix2 i j) (1 : Fin 2) a))
      (x (Shape.Idx.along (s := ⟨2, ![N, n]⟩) (ix2 i j) (1 : Fin 2) b), y (Shape.Idx.along (s := ⟨2, ![N, n]⟩) (ix2 i j) (1 : Fin 2) b)) == 1#1)
      = fun a b : Fin n => cmp (x (ix2 i a), y (ix2 i a)) (x (ix2 i b), y (ix2 i b)) == 1#1 := by
    funext a b; rw [along_row, along_row]
  rw [← e]
  exact ⟨congrArg x (along_row i j _), congrArg y (along_row i j _)⟩

/-- The first of a row, sorted, at an index: the values and their places. -/
theorem topK_row {α : Type} (gt : α → α → BitVec 1) (x : (⟨2, ![N, n]⟩ : Shape).Idx → α) (h : (⟨2, ![N, n]⟩ : Shape).Slices (fun _ => 0) ⟨2, ![N, K]⟩) (hK : K ≤ n)
    (i : Fin N) (k : Fin K) :
    (Host.topK ⟨2, ![N, K]⟩ 1 gt x h).1 (ix2 i k) = x (ix2 i (sortedFrom (fun a b : Fin n => gt (x (ix2 i a)) (x (ix2 i b)) == 1#1) (k.castLE hK)))
    ∧ (Host.topK ⟨2, ![N, K]⟩ 1 gt x h).2 (ix2 i k) = BitVec.ofNat 32 (sortedFrom (fun a b : Fin n => gt (x (ix2 i a)) (x (ix2 i b)) == 1#1) (k.castLE hK)).val := by
  have e : ∀ {β : Type} (z : (⟨2, ![N, n]⟩ : Shape).Idx → β), extractStridedSlice ⟨2, ![N, K]⟩ (fun _ => 0) z h (ix2 i k) = z (ix2 i (k.castLE hK)) := fun z => by
    refine congrArg z (funext fun a => ?_)
    match a with
    | ⟨0, _⟩ => exact Fin.ext (Nat.zero_add _)
    | ⟨1, _⟩ => exact Fin.ext (Nat.zero_add _)
  unfold Host.topK
  exact ⟨(e _).trans (sort2_row (fun l r => gt l.1 r.1) x (fun q => if hd : 1 < (⟨2, ![N, n]⟩ : Shape).rank then iotaInDim ⟨2, ![N, n]⟩ 32 ⟨1, hd⟩ q else 0#32) i _).1,
    (e _).trans (sort2_row (fun l r => gt l.1 r.1) x (fun q => if hd : 1 < (⟨2, ![N, n]⟩ : Shape).rank then iotaInDim ⟨2, ![N, n]⟩ 32 ⟨1, hd⟩ q else 0#32) i _).2⟩
end

section
variable (s : FVec Ideal S32768x32 .f32) (n : Fin 32768) (hs : ∀ e, Real' (s (ix2 n e)))
include hs

theorem refTopV_apply (k : Fin 4) : refTopV s (ix2 n k) = topVal (fun e => s (ix2 n e)) k := by
  refine ((topK_row _ s _ (by decide) n k).1.trans ?_).trans (best_eq (fun e => s (ix2 n e)) (fun e => real_ne_bot (hs e)) k).symm
  rw [sortedFrom_eq (fun e => s (ix2 n e)) (fun e => real_ne_bot (hs e)) k]

theorem refTopE_apply (k : Fin 4) : refTopE s (ix2 n k) = topWord (fun e => s (ix2 n e)) k := by
  refine (topK_row _ s _ (by decide) n k).2.trans ?_
  rw [sortedFrom_eq (fun e => s (ix2 n e)) (fun e => real_ne_bot (hs e)) k]
  rfl
end

theorem refExp_apply (v : FVec Ideal S32768x4 .f32) (n : Fin 32768) (k : Fin 4) :
    refExp v (ix2 n k) = Ideal.exp (v (ix2 n k) - max ⊥ (Finset.univ.fold max ⊥ fun k => v (ix2 n k))) := by
  rw [← bits_least]
  pointwise [refExp]

theorem refGate_apply (e : FVec Ideal S32768x4 .f32) (n : Fin 32768) (k : Fin 4) :
    refGate e (ix2 n k) = Ideal.div (e (ix2 n k)) (∑ k, e (ix2 n k)) := by
  pointwise [refGate]

theorem refPlaces_apply (t : IVec S32768x4 32) (n : Fin 32768) (j : Fin 128) : refPlaces t (ix2 n j) = inFour 0#32 (fun k => t (ix2 n k)) j := by
  unfold inFour
  pointwise [refPlaces]

theorem refWeights_apply (g : FVec Ideal S32768x4 .f32) (n : Fin 32768) (j : Fin 128) : refWeights g (ix2 n j) = inFour (0 : EReal) (fun k => g (ix2 n k)) j := by
  have z : (FloatOps.sitofp (F := Ideal) FTy.f32 (0#32 : BitVec 32)) = (0 : EReal) := by
    show (((0#32 : BitVec 32).toInt : ℝ) : EReal) = 0
    norm_num
  unfold inFour
  pointwise [refWeights]
  rw [z]

/-! ## The results at an index -/

section
variable (s : FVec Ideal S32768x32 .f32) (n : Fin 32768) (hs : ∀ e, Real' (s (ix2 n e))) (j : Fin 128)
include hs

theorem places_apply : refPlaces (refTopE s) (ix2 n j) = inFour 0#32 (topWord fun e => s (ix2 n e)) j := by
  rw [refPlaces_apply, funext (refTopE_apply s n hs)]

theorem weights_apply : refWeights (refGate (refExp (refTopV s))) (ix2 n j) = inFour (0 : EReal) (gateOf fun e => s (ix2 n e)) j := by
  have e : ∀ k, refExp (refTopV s) (ix2 n k) = expOf (topVal fun e => s (ix2 n e)) k := fun k => by
    rw [refExp_apply, funext (refTopV_apply s n hs), refTopV_apply s n hs k, fold_top hs]; rfl
  rw [refWeights_apply]
  refine congrArg (fun u => inFour (0 : EReal) u j) (funext fun k => ?_)
  have h : ∑ k, refExp (refTopV s) (ix2 n k) = totalOf (topVal fun e => s (ix2 n e)) := (Finset.sum_congr rfl fun k _ => e k).trans (Fin.sum_univ_four _)
  rw [refGate_apply, e, h]
  rfl
end

end Cert.Post

end
-- ==== Proof.PostValue.lean ====
module

public import proofs.«01_k».proof.Proof.PostOut
public import proofs.«01_k».proof.Proof.PostRef
public import Idealize.ShloMosaic.Lib.KernelVsHost
public import Idealize.ShloMosaic.Lib.Pipeline.Covers
public import Idealize.ShloMosaic.Lib.Pipeline.ValueKit

@[expose] public section

set_option maxRecDepth 16384

noncomputable section

namespace Cert.Post

open Cert.PostAttnIdeal Cert.PostAttnIdeal.Gen
open Idealize.ShloMosaic Idealize.ShloMosaic.TcCoe Idealize.SL.Sem
open Cert.Proj (flat flat_apply reshape_flat place_at)

variable (m : (ℓ : Loc nD τ sig) → Buf (Elt Ideal) ℓ)

/-- The arguments as launched. -/
abbrev argA (c : Dev nD) : FVec Ideal S16x2048x1024 .bf16 := m ((c : Thread nD τ).loc main_arg0)
abbrev argX (c : Dev nD) : FVec Ideal S16x2048x1024 .f32 := m ((c : Thread nD τ).loc main_arg1)
abbrev argGi (c : Dev nD) : FVec Ideal S1024 .f32 := m ((c : Thread nD τ).loc main_arg2)
abbrev argBi (c : Dev nD) : FVec Ideal S1024 .f32 := m ((c : Thread nD τ).loc main_arg3)
abbrev argWo (c : Dev nD) : FVec Ideal S1x1024x1024 .f32 := m ((c : Thread nD τ).loc main_arg4)
abbrev argG1 (c : Dev nD) : FVec Ideal S1x1024 .f32 := m ((c : Thread nD τ).loc main_arg5)
abbrev argB1 (c : Dev nD) : FVec Ideal S1x1024 .f32 := m ((c : Thread nD τ).loc main_arg6)
abbrev argWr (c : Dev nD) : FVec Ideal S1x1024x32 .f32 := m ((c : Thread nD τ).loc main_arg7)
abbrev argBr (c : Dev nD) : FVec Ideal S1x32 .f32 := m ((c : Thread nD τ).loc main_arg8)

/-- No entry of an argument is an infinity. -/
structure Fine (c : Dev nD) : Prop where
  a : ∀ i, Real' (argA m c i)
  x : ∀ i, Real' (argX m c i)
  gi : ∀ i, Real' (argGi m c i)
  bi : ∀ i, Real' (argBi m c i)
  wo : ∀ i, Real' (argWo m c i)
  g1 : ∀ i, Real' (argG1 m c i)
  b1 : ∀ i, Real' (argB1 m c i)
  wr : ∀ i, Real' (argWr m c i)
  br : ∀ i, Real' (argBr m c i)

/-- The reference's rows and scores of the arguments. -/
abbrev wantH (c : Dev nD) : FVec Ideal S32768x1024 .f32 := refH (refMixed (argA m c) (argX m c) (argGi m c) (argBi m c) (argWo m c)) (argG1 m c) (argB1 m c)
abbrev wantS (c : Dev nD) : FVec Ideal Cert.PostAttnReferenceIdeal.S32768x32 .f32 := refScores (wantH m c) (argWr m c) (argBr m c)
abbrev wantE (c : Dev nD) : IVec S32768x128 32 := refPlaces (refTopE (wantS m c))
abbrev wantG (c : Dev nD) : FVec Ideal S32768x128 .f32 := refWeights (refGate (refExp (refTopV (wantS m c))))

/-- The router's weights and its shift, widened to 128 columns. -/
abbrev padW (c : Dev nD) : FVec Ideal S1024x128 .f32 :=
  pad S1024x128 ![0, 0] ![0, 96] ![0, 0] (shapeCast S1024x32 (argWr m c) shapeCasts_S1x1024x32_S1024x32) (sitofp .f32 (constantI S_ 32 0#32)) pads_S1024x32_S1024x128_000_0960 h_S_
abbrev padB (c : Dev nD) : FVec Ideal S1x128 .f32 :=
  pad S1x128 ![0, 0] ![0, 96] ![0, 0] (shapeCast S1x32 (shapeCast S32 (argBr m c) shapeCasts_S1x32_S32) shapeCasts_S32_S1x32) (sitofp .f32 (constantI S_ 32 0#32)) pads_S1x32_S1x128_000_0960 h_S_

theorem padW_apply (c : Dev nD) (k : Fin 1024) (e : Fin 32) : padW m c (ix2 k ⟨e.val, by omega⟩) = argWr m c (ix3 0 k e) := by
  refine (pad_apply_of_inside _ _ _ _ _ _ _ _ (ix2 k e) fun a => ?_).trans ?_
  · match a with
    | ⟨0, _⟩ => show k.val = 0 + k.val * (0 + 1); omega
    | ⟨1, _⟩ => show e.val = 0 + e.val * (0 + 1); omega
  · pointwise
theorem padB_apply (c : Dev nD) (e : Fin 32) : padB m c (ix2 0 ⟨e.val, by omega⟩) = argBr m c (ix2 0 e) := by
  refine (pad_apply_of_inside _ _ _ _ _ _ _ _ (ix2 0 e) fun a => ?_).trans ?_
  · match a with
    | ⟨0, _⟩ => rfl
    | ⟨1, _⟩ => show e.val = 0 + e.val * (0 + 1); omega
  · pointwise

/-- What the call finds in its arrays. -/
theorem V_9 (c : Dev nD) : (V m c main_v9 : FVec Ideal S32768x1024 .bf16) = shapeCast S32768x1024 (argA m c) shapeCasts_S16x2048x1024_S32768x1024 := by
  unfold V; entry_read; rfl
theorem V_10 (c : Dev nD) : (V m c main_v10 : FVec Ideal S32768x1024 .f32) = shapeCast S32768x1024 (argX m c) shapeCasts_S16x2048x1024_S32768x1024 := by
  unfold V; entry_read; rfl
theorem V_11 (c : Dev nD) : (V m c main_v11 : FVec Ideal S1x1024 .f32) = shapeCast S1x1024 (argGi m c) shapeCasts_S1024_S1x1024 := by
  unfold V; entry_read; rfl
theorem V_12 (c : Dev nD) : (V m c main_v12 : FVec Ideal S1x1024 .f32) = shapeCast S1x1024 (argBi m c) shapeCasts_S1024_S1x1024 := by
  unfold V; entry_read; rfl
theorem V_14 (c : Dev nD) : (V m c main_v14 : FVec Ideal S1024x1024 .bf16) = truncf .bf16 (shapeCast S1024x1024 (argWo m c) shapeCasts_S1x1024x1024_S1024x1024) bitsLt_bf16_f32 := by
  unfold V; entry_read; rfl
theorem V_16 (c : Dev nD) : (V m c main_v16 : FVec Ideal S1x1024 .f32) = shapeCast S1x1024 (shapeCast S1024 (argG1 m c) shapeCasts_S1x1024_S1024) shapeCasts_S1024_S1x1024 := by
  unfold V; entry_read; rfl
theorem V_18 (c : Dev nD) : (V m c main_v18 : FVec Ideal S1x1024 .f32) = shapeCast S1x1024 (shapeCast S1024 (argB1 m c) shapeCasts_S1x1024_S1024) shapeCasts_S1024_S1x1024 := by
  unfold V; entry_read; rfl
theorem V_2 (c : Dev nD) : (V m c main_v2 : FVec Ideal S1024x128 .bf16) = truncf .bf16 (padW m c) bitsLt_bf16_f32 := by
  unfold V; entry_read; rfl
theorem V_5 (c : Dev nD) : (V m c main_v5 : FVec Ideal S1024x128 .bf16)
    = truncf .bf16 (subf (padW m c) (extf .f32 (truncf .bf16 (padW m c) bitsLt_bf16_f32) bitsLt_bf16_f32)) bitsLt_bf16_f32 := by
  unfold V; entry_read; rfl
theorem V_8 (c : Dev nD) : (V m c main_v8 : FVec Ideal S1x128 .f32) = padB m c := by
  unfold V; entry_read; rfl

/-- The points are the blocks of rows. -/
theorem point_lt (t : Fin cfg0.N) : t.val < 64 := lt_of_lt_of_eq t.isLt N_0
theorem coord_val (t : Fin cfg0.N) : ((grid0.coords t) 0).val = t.val := by
  rw [Pipeline.Grid.coords_val (G := grid0) (S := 1) (B := 64) t 0 (by decide) rfl]
  have := point_lt t; omega

/-- Where each window's block lies: the rows' and the results' at the point's, the others whole. -/
theorem place_0 (t : Fin cfg0.N) : (cfg0.win 0).index t = ![t.val, 0] := by
  have e : (cfg0.win 0).index t = ![(BitVec.ofNat 32 ((grid0.coords t) 0).val).toNat, 0] := rfl
  have := point_lt t
  rw [e, coord_val t, BitVec.toNat_ofNat, Nat.mod_eq_of_lt (by omega)]
theorem place_1 (t : Fin cfg0.N) : (cfg0.win 1).index t = ![t.val, 0] := place_0 t
theorem place_10 (t : Fin cfg0.N) : (cfg0.win 10).index t = ![t.val, 0] := place_0 t
theorem place_11 (t : Fin cfg0.N) : (cfg0.win 11).index t = ![t.val, 0] := place_0 t
theorem place_12 (t : Fin cfg0.N) : (cfg0.win 12).index t = ![t.val, 0] := place_0 t

/-- The row of point `t` and place `r`. -/
abbrev rowAt (t : Fin cfg0.N) (r : Fin 512) : Fin 32768 := ⟨t.val * 512 + r.val, by have := point_lt t; omega⟩

/-- The blocks at an index. -/

theorem iblk_0 (c : Dev nD) (t : Fin cfg0.N) (r : Fin 512) (k : Fin 1024) :
    (iblk m c 0 t : FVec Ideal S512x1024 .bf16) (ix2 r k) = flat (A := 16) (B := 2048) (N := 32768) (by decide) (argA m c) (ix2 (rowAt t r) k) := by
  have e : (iblk m c 0 t : FVec Ideal S512x1024 .bf16) (ix2 r k) = (V m c main_v9 : FVec Ideal S32768x1024 .bf16) (ix2 (rowAt t r) k) := by
    blk_ext [iblk]
    · exact place_at (congrFun (place_0 t) 0) 512 _ _ rfl
    · exact place_at (congrFun (place_0 t) 1) 1024 _ _ (by show 0 * _ + _ = _; omega)
  rw [e, V_9, reshape_flat (A := 16) (B := 2048) (by decide) (argA m c)]

theorem iblk_1 (c : Dev nD) (t : Fin cfg0.N) (r : Fin 512) (k : Fin 1024) :
    (iblk m c 1 t : FVec Ideal S512x1024 .f32) (ix2 r k) = flat (A := 16) (B := 2048) (N := 32768) (by decide) (argX m c) (ix2 (rowAt t r) k) := by
  have e : (iblk m c 1 t : FVec Ideal S512x1024 .f32) (ix2 r k) = (V m c main_v10 : FVec Ideal S32768x1024 .f32) (ix2 (rowAt t r) k) := by
    blk_ext [iblk]
    · exact place_at (congrFun (place_1 t) 0) 512 _ _ rfl
    · exact place_at (congrFun (place_1 t) 1) 1024 _ _ (by show 0 * _ + _ = _; omega)
  rw [e, V_10, reshape_flat (A := 16) (B := 2048) (by decide) (argX m c)]

theorem iblk_2 (c : Dev nD) (t : Fin cfg0.N) (k : Fin 1024) : (iblk m c 2 t : FVec Ideal S1x1024 .f32) (ix2 0 k) = argGi m c (ix1 k) := by
  have e : (iblk m c 2 t : FVec Ideal S1x1024 .f32) (ix2 0 k) = (V m c main_v11 : FVec Ideal S1x1024 .f32) (ix2 0 k) := by
    blk_ext [iblk]
    · rfl
    · exact place_at (a := 0) rfl 1024 _ _ (by omega)
  rw [e, V_11]; pointwise

theorem iblk_3 (c : Dev nD) (t : Fin cfg0.N) (k : Fin 1024) : (iblk m c 3 t : FVec Ideal S1x1024 .f32) (ix2 0 k) = argBi m c (ix1 k) := by
  have e : (iblk m c 3 t : FVec Ideal S1x1024 .f32) (ix2 0 k) = (V m c main_v12 : FVec Ideal S1x1024 .f32) (ix2 0 k) := by
    blk_ext [iblk]
    · rfl
    · exact place_at (a := 0) rfl 1024 _ _ (by omega)
  rw [e, V_12]; pointwise

theorem iblk_5 (c : Dev nD) (t : Fin cfg0.N) (k : Fin 1024) : (iblk m c 5 t : FVec Ideal S1x1024 .f32) (ix2 0 k) = argG1 m c (ix2 0 k) := by
  have e : (iblk m c 5 t : FVec Ideal S1x1024 .f32) (ix2 0 k) = (V m c main_v16 : FVec Ideal S1x1024 .f32) (ix2 0 k) := by
    blk_ext [iblk]
    · rfl
    · exact place_at (a := 0) rfl 1024 _ _ (by omega)
  rw [e, V_16]; pointwise

theorem iblk_6 (c : Dev nD) (t : Fin cfg0.N) (k : Fin 1024) : (iblk m c 6 t : FVec Ideal S1x1024 .f32) (ix2 0 k) = argB1 m c (ix2 0 k) := by
  have e : (iblk m c 6 t : FVec Ideal S1x1024 .f32) (ix2 0 k) = (V m c main_v18 : FVec Ideal S1x1024 .f32) (ix2 0 k) := by
    blk_ext [iblk]
    · rfl
    · exact place_at (a := 0) rfl 1024 _ _ (by omega)
  rw [e, V_18]; pointwise

theorem iblk_4 (c : Dev nD) (t : Fin cfg0.N) (k : Fin 1024) (j : Fin 1024) : (iblk m c 4 t : FVec Ideal S1024x1024 .bf16) (ix2 k j) = argWo m c (ix3 0 k j) := by
  have e : (iblk m c 4 t : FVec Ideal S1024x1024 .bf16) (ix2 k j) = (V m c main_v14 : FVec Ideal S1024x1024 .bf16) (ix2 k j) := by
    blk_ext [iblk]
    · exact place_at (a := 0) rfl 1024 _ _ (by omega)
    · exact place_at (a := 0) rfl 1024 _ _ (by omega)
  rw [e, V_14]; pointwise

theorem iblk_7 (c : Dev nD) (t : Fin cfg0.N) (k : Fin 1024) (j : Fin 128) : (iblk m c 7 t : FVec Ideal S1024x128 .bf16) (ix2 k j) = padW m c (ix2 k j) := by
  have e : (iblk m c 7 t : FVec Ideal S1024x128 .bf16) (ix2 k j) = (V m c main_v2 : FVec Ideal S1024x128 .bf16) (ix2 k j) := by
    blk_ext [iblk]
    · exact place_at (a := 0) rfl 1024 _ _ (by omega)
    · exact place_at (a := 0) rfl 128 _ _ (by omega)
  rw [e, V_2]; rfl

theorem iblk_8 (c : Dev nD) (t : Fin cfg0.N) (k : Fin 1024) (j : Fin 128) : (iblk m c 8 t : FVec Ideal S1024x128 .bf16) (ix2 k j) = padW m c (ix2 k j) - padW m c (ix2 k j) := by
  have e : (iblk m c 8 t : FVec Ideal S1024x128 .bf16) (ix2 k j) = (V m c main_v5 : FVec Ideal S1024x128 .bf16) (ix2 k j) := by
    blk_ext [iblk]
    · exact place_at (a := 0) rfl 1024 _ _ (by omega)
    · exact place_at (a := 0) rfl 128 _ _ (by omega)
  rw [e, V_5]; rfl

theorem iblk_9 (c : Dev nD) (t : Fin cfg0.N) (j : Fin 128) : (iblk m c 9 t : FVec Ideal S1x128 .f32) (ix2 0 j) = padB m c (ix2 0 j) := by
  have e : (iblk m c 9 t : FVec Ideal S1x128 .f32) (ix2 0 j) = (V m c main_v8 : FVec Ideal S1x128 .f32) (ix2 0 j) := by
    blk_ext [iblk]
    · rfl
    · exact place_at (a := 0) rfl 128 _ _ (by omega)
  rw [e, V_8]

/-- A row of a point is the reference's row. -/
theorem row_point (c : Dev nD) (t : Fin cfg0.N) (r : Fin 512) (k : Fin 1024) :
    hPoint (iblk m c 0 t) (iblk m c 1 t) (iblk m c 2 t) (iblk m c 3 t) (iblk m c 4 t) (iblk m c 5 t) (iblk m c 6 t) r k = wantH m c (ix2 (rowAt t r) k) := by
  refine Eq.trans ?_ (refH_apply (argA m c) (argX m c) (argGi m c) (argBi m c) (argWo m c) (argG1 m c) (argB1 m c) (rowAt t r) k).symm
  unfold hPoint
  simp only [iblk_0 m c t, iblk_1 m c t, iblk_2 m c t, iblk_3 m c t, iblk_4 m c t, iblk_5 m c t, iblk_6 m c t]

/-- The reference's rows and scores are no infinities. -/
theorem real_rows (c : Dev nD) (hf : Fine m c) (n : Fin 32768) (k : Fin 1024) : Real' (wantH m c (ix2 n k)) := by
  unfold wantH; rw [refH_apply]
  exact real_ln (real_mix (fun _ => hf.x _) (fun _ => hf.gi _) (fun _ => hf.bi _) (fun _ => hf.a _) (fun _ _ => hf.wo _)) (fun _ => hf.g1 _) (fun _ => hf.b1 _) k
theorem real_scores (c : Dev nD) (hf : Fine m c) (n : Fin 32768) (e : Fin 32) : Real' (wantS m c (ix2 n e)) := by
  unfold wantS; rw [refScores_apply]
  exact real_score (fun k => real_rows m c hf n k) (fun _ _ => hf.wr _) (fun _ => hf.br _) e

/-- The lanes of a row are the reference's scores. -/
theorem score_point (c : Dev nD) (hf : Fine m c) (t : Fin cfg0.N) (r : Fin 512) (e : Fin 32) :
    lanesPay (iblk m c 0 t) (iblk m c 1 t) (iblk m c 2 t) (iblk m c 3 t) (iblk m c 4 t) (iblk m c 5 t) (iblk m c 6 t) (iblk m c 7 t) (iblk m c 8 t) (iblk m c 9 t) (ix2 r ⟨e.val, by omega⟩)
      = wantS m c (ix2 (rowAt t r) e) := by
  refine (score_apply _ _ _ _ _ _ _ _ _ _ r (fun k e => argWr m c (ix3 0 k e)) (fun e => argBr m c (ix2 0 e)) (fun k e => (iblk_7 m c t k _).trans (padW_apply m c k e))
    (fun k e => (iblk_8 m c t k _).trans (by rw [padW_apply])) (fun e => (iblk_9 m c t _).trans (padB_apply m c e)) (fun k e => hf.wr _) (fun k => ?_) e).trans ?_
  · rw [row_point]; exact real_rows m c hf _ _
  · refine Eq.trans ?_ (refScores_apply (wantH m c) (argWr m c) (argBr m c) (rowAt t r) e).symm
    exact congrArg (fun h => scoreOf h (fun k e => argWr m c (ix3 0 k e)) (fun e => argBr m c (ix2 0 e)) e) (funext fun k => row_point m c t r k)

/-- The three results of a point at an index. -/
theorem point_10 (c : Dev nD) (t : Fin cfg0.N) (r : Fin 512) (j : Fin 1024) :
    (out0_10 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S512x1024 .f32) (ix2 r j) = wantH m c (ix2 (rowAt t r) j) :=
  (congrFun (out_10 (iblk m c 0 t) (iblk m c 1 t) (iblk m c 2 t) (iblk m c 3 t) (iblk m c 4 t) (iblk m c 5 t) (iblk m c 6 t) (iblk m c 7 t) (iblk m c 8 t) (iblk m c 9 t)) (ix2 r j)).trans ((row_apply (iblk m c 0 t) (iblk m c 1 t) (iblk m c 2 t) (iblk m c 3 t) (iblk m c 4 t) (iblk m c 5 t) (iblk m c 6 t) r j).trans (row_point m c t r j))
theorem point_11 (c : Dev nD) (hf : Fine m c) (t : Fin cfg0.N) (r : Fin 512) (j : Fin 128) :
    (out0_11 (F := Ideal) (iblk m c 0 t) (iblk m c 1 t) (iblk m c 2 t) (iblk m c 3 t) (iblk m c 4 t) (iblk m c 5 t) (iblk m c 6 t) (iblk m c 7 t) (iblk m c 8 t) (iblk m c 9 t) : IVec S512x128 32) (ix2 r j) = wantE m c (ix2 (rowAt t r) j) :=
  (out_11 (iblk m c 0 t) (iblk m c 1 t) (iblk m c 2 t) (iblk m c 3 t) (iblk m c 4 t) (iblk m c 5 t) (iblk m c 6 t) (iblk m c 7 t) (iblk m c 8 t) (iblk m c 9 t) r _ (score_point m c hf t r) j).trans (places_apply (wantS m c) (rowAt t r) (real_scores m c hf _) j).symm
theorem point_12 (c : Dev nD) (hf : Fine m c) (t : Fin cfg0.N) (r : Fin 512) (j : Fin 128) :
    (out0_12 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S512x128 .f32) (ix2 r j) = wantG m c (ix2 (rowAt t r) j) :=
  (out_12 (iblk m c 0 t) (iblk m c 1 t) (iblk m c 2 t) (iblk m c 3 t) (iblk m c 4 t) (iblk m c 5 t) (iblk m c 6 t) (iblk m c 7 t) (iblk m c 8 t) (iblk m c 9 t) r _ (real_scores m c hf _) (score_point m c hf t r) j).trans (weights_apply (wantS m c) (rowAt t r) (real_scores m c hf _) j).symm

/-- The result array of window 10 after the run is the reference's. -/
theorem final_10 (c : Dev nD) : (dats m 0 c).arrAt 10 cfg0.N = (wantH m c : FVec Ideal S32768x1024 .f32) := by
  have hcov : (cfg0.win 10).Covers := (cfg0.win 10).covers_of_indexMap_surj rfl
    (by show ∀ a : Fin 2, 0 < S512x1024.size a; decide) fun β => by
    have h0 : (β (0 : Fin 2)).val < 64 := lt_of_lt_of_eq (β (0 : Fin 2)).isLt (by show (32768 + 512 - 1) / 512 = 64; norm_num)
    have h1 : (β (1 : Fin 2)).val < 1 := lt_of_lt_of_eq (β (1 : Fin 2)).isLt (by show (1024 + 1024 - 1) / 1024 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 10 _ hcov fun t _ y => ?_
  blk_simp
  rw [after0_10]
  obtain ⟨r, j, rfl⟩ : ∃ (r : Fin 512) (j : Fin 1024), y = (ix2 r j : S512x1024.Idx) := ⟨y (0 : Fin 2), y (1 : Fin 2), by funext a; match a with | ⟨0, _⟩ => rfl | ⟨1, _⟩ => rfl⟩
  have e : (((cfg0.win 10).blk t).view.emb (ix2 r j) : S32768x1024.Idx) = ix2 (rowAt t r) j := by
    blk_ext []
    · exact place_at (congrFun (place_10 t) 0) 512 _ _ rfl
    · exact place_at (congrFun (place_10 t) 1) 1024 _ _ (by show 0 * _ + _ = _; omega)
  exact (point_10 m c t r j).trans (congrArg (wantH m c) e.symm)

/-- The result array of window 11 after the run is the reference's. -/
theorem final_11 (c : Dev nD) (hf : Fine m c) : (dats m 0 c).arrAt 11 cfg0.N = (wantE m c : IVec S32768x128 32) := by
  have hcov : (cfg0.win 11).Covers := (cfg0.win 11).covers_of_indexMap_surj rfl
    (by show ∀ a : Fin 2, 0 < S512x128.size a; decide) fun β => by
    have h0 : (β (0 : Fin 2)).val < 64 := lt_of_lt_of_eq (β (0 : Fin 2)).isLt (by show (32768 + 512 - 1) / 512 = 64; norm_num)
    have h1 : (β (1 : Fin 2)).val < 1 := lt_of_lt_of_eq (β (1 : Fin 2)).isLt (by show (128 + 128 - 1) / 128 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 11 _ hcov fun t _ y => ?_
  blk_simp
  rw [after0_11]
  obtain ⟨r, j, rfl⟩ : ∃ (r : Fin 512) (j : Fin 128), y = (ix2 r j : S512x128.Idx) := ⟨y (0 : Fin 2), y (1 : Fin 2), by funext a; match a with | ⟨0, _⟩ => rfl | ⟨1, _⟩ => rfl⟩
  have e : (((cfg0.win 11).blk t).view.emb (ix2 r j) : S32768x128.Idx) = ix2 (rowAt t r) j := by
    blk_ext []
    · exact place_at (congrFun (place_11 t) 0) 512 _ _ rfl
    · exact place_at (congrFun (place_11 t) 1) 128 _ _ (by show 0 * _ + _ = _; omega)
  exact (point_11 m c hf t r j).trans (congrArg (wantE m c) e.symm)

/-- The result array of window 12 after the run is the reference's. -/
theorem final_12 (c : Dev nD) (hf : Fine m c) : (dats m 0 c).arrAt 12 cfg0.N = (wantG m c : FVec Ideal S32768x128 .f32) := by
  have hcov : (cfg0.win 12).Covers := (cfg0.win 12).covers_of_indexMap_surj rfl
    (by show ∀ a : Fin 2, 0 < S512x128.size a; decide) fun β => by
    have h0 : (β (0 : Fin 2)).val < 64 := lt_of_lt_of_eq (β (0 : Fin 2)).isLt (by show (32768 + 512 - 1) / 512 = 64; norm_num)
    have h1 : (β (1 : Fin 2)).val < 1 := lt_of_lt_of_eq (β (1 : Fin 2)).isLt (by show (128 + 128 - 1) / 128 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 12 _ hcov fun t _ y => ?_
  blk_simp
  rw [after0_12]
  obtain ⟨r, j, rfl⟩ : ∃ (r : Fin 512) (j : Fin 128), y = (ix2 r j : S512x128.Idx) := ⟨y (0 : Fin 2), y (1 : Fin 2), by funext a; match a with | ⟨0, _⟩ => rfl | ⟨1, _⟩ => rfl⟩
  have e : (((cfg0.win 12).blk t).view.emb (ix2 r j) : S32768x128.Idx) = ix2 (rowAt t r) j := by
    blk_ext []
    · exact place_at (congrFun (place_12 t) 0) 512 _ _ rfl
    · exact place_at (congrFun (place_12 t) 1) 128 _ _ (by show 0 * _ + _ = _; omega)
  exact (point_12 m c hf t r j).trans (congrArg (wantG m c) e.symm)

/-- The call's results are the reference's of its arguments, which it leaves. -/
theorem value_here (hf : ∀ c, Fine m c) (ρ : Dev nD → PrngReg) : θ_run defs (onTc (τ := τ) (main (F := Ideal))) ⟨m, fun _ => 0, ρ⟩ (fun r => ∀ c : Dev nD,
      r.2.mem ((c.tc : Thread nD τ).loc main_v19_0) = wantH m c
      ∧ r.2.mem ((c.tc : Thread nD τ).loc main_v19_1) = wantE m c
      ∧ r.2.mem ((c.tc : Thread nD τ).loc main_v19_2) = wantG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(Pipeline.FramePost.out_eq h c 10).trans (final_10 m c), (Pipeline.FramePost.out_eq h c 11).trans (final_11 m c (hf c)),
      (Pipeline.FramePost.out_eq h c 12).trans (final_12 m c (hf c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.Post

end
-- ==== Proof.PostOk.lean ====
module

public import proofs.«01_k».proof.Defs
public import proofs.«01_k».proof.Proof.PostValue
public import proofs.«01_k».proof.Proof.Gen.Pre_all_finite
public import Idealize.ShloMosaic.Lib.ReduceAll

@[expose] public section

set_option maxRecDepth 16384

noncomputable section

namespace Cert.Post

open Idealize.ShloMosaic Idealize.ShloMosaic.TcCoe
open Cert.Pre_all_finite (S_)

/-- A number whose size is below infinity is no infinity. -/
theorem real_of_abs_lt (x : EReal) (h : Ideal.cmp .olt (max x (-x)) (Ideal.ofBits .f32 0x7F800000#32) = 1#1) : Real' x := by
  have ht : Ideal.ofBits .f32 0x7F800000#32 = ⊤ := by simp [Ideal.ofBits, Ideal.ieee]
  rw [ht] at h
  have hlt : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  induction x with
  | bot => exact absurd hlt (by simp)
  | top => exact absurd hlt (by simp)
  | coe r => exact ⟨r, rfl⟩

/-- An array whose entries are all found below infinity in size has none that is an infinity. -/
theorem real_of_all {s : Shape} {dims : List (Fin s.rank)} (x : FVec Ideal s .f32) (hb : S_.BroadcastsInDim s (![] : Fin 0 → Fin s.rank)) (hr : s.ReducesTo dims S_)
    (h : Host.reduce IntOp.andi (cmpf .olt (Host.absf x) (broadcastInDim s ![] hb (constant S_ .f32 0x7F800000#32))) (constantI S_ 1 1#1) hr Cert.Pre_all_finite.Gen.h_S_ (fun i => i.elim0) = 1#1)
    (y : s.Idx) : Real' (x y) := by
  have : Subsingleton S_.Idx := ⟨fun a b => funext fun i => i.elim0⟩
  exact real_of_abs_lt (x y) (Host.reduce_andi_all _ _ _ _ _ h y)

/-- Where the precondition holds no entry of an argument is an infinity. -/
theorem fine_of_pre (m : (ℓ : Loc Cert.PostAttnIdeal.nD Cert.PostAttnIdeal.τ Cert.PostAttnIdeal.sig) → Buf (Elt Ideal) ℓ) (h : Cert.Pre_PostAttnIdeal_all_finite m)
    (c : Dev Cert.PostAttnIdeal.nD) : Fine m c := by
  have h1 := congrFun (h c) (fun i => i.elim0)
  dsimp only [Cert.Pre_all_finite.fn, Cert.Pre_all_finite.fn_part1, Cert.Pre_all_finite.fn_part2] at h1
  replace h1 := IntOp.andi_eq_one.1 h1; obtain ⟨h1, r8⟩ := h1
  replace h1 := IntOp.andi_eq_one.1 h1; obtain ⟨h1, r7⟩ := h1
  replace h1 := IntOp.andi_eq_one.1 h1; obtain ⟨h1, r6⟩ := h1
  replace h1 := IntOp.andi_eq_one.1 h1; obtain ⟨h1, r5⟩ := h1
  replace h1 := IntOp.andi_eq_one.1 h1; obtain ⟨h1, r4⟩ := h1
  replace h1 := IntOp.andi_eq_one.1 h1; obtain ⟨h1, r3⟩ := h1
  replace h1 := IntOp.andi_eq_one.1 h1; obtain ⟨h1, r2⟩ := h1
  replace h1 := IntOp.andi_eq_one.1 h1; obtain ⟨r0, r1⟩ := h1
  constructor
  · exact fun y => real_of_all (extf .f32 (argA m c) Cert.Pre_all_finite.Gen.bitsLt_bf16_f32) _ _ r0 y
  · exact fun y => real_of_all (argX m c) _ _ r1 y
  · exact fun y => real_of_all (argGi m c) _ _ r2 y
  · exact fun y => real_of_all (argBi m c) _ _ r3 y
  · exact fun y => real_of_all (argWo m c) _ _ r4 y
  · exact fun y => real_of_all (argG1 m c) _ _ r5 y
  · exact fun y => real_of_all (argB1 m c) _ _ r6 y
  · exact fun y => real_of_all (argWr m c) _ _ r7 y
  · exact fun y => real_of_all (argBr m c) _ _ r8 y

end Cert.Post

end
-- ==== Proof.PostRefRun.lean ====
module

public import proofs.«01_k».proof.Proof.PostRef
public import Idealize.ShloMosaic.Lib.Claim
public import Idealize.ShloMosaic.Lib.StableHlo.RunRead

@[expose] public section

set_option maxRecDepth 16384

noncomputable section

namespace Cert.Post

open Cert.PostAttnReferenceIdeal Cert.PostAttnReferenceIdeal.Gen
open Idealize.ShloMosaic Idealize.ShloMosaic.TcCoe Idealize.SL.Sem

/-! ## The reference's operations, in eight runs -/

/-- The operations up to the normalized rows. -/
def opsNorm {F : FTy → Type} [FloatOps F] : List (HloOp τ sig (Elt F)) := [
  StableHlo.nullary main_cst (constant S_ .f32 0x00000000#32),
  StableHlo.binary main_arg1 main_cst main_v0 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
  StableHlo.unary main_v0 main_v1 (broadcastInDim S16x2048x1 ![0, 1] bcast_S16x2048_S16x2048x1_0_1 : (⟨S16x2048, .f32⟩ : BufTy).Contents (Elt F) → (⟨S16x2048x1, .f32⟩ : BufTy).Contents (Elt F)),
  StableHlo.nullary main_cst_0 (constant S_ .f32 0x44800000#32),
  StableHlo.unary main_cst_0 main_v2 (broadcastInDim S16x2048x1 ![] bcast_S_S16x2048x1 : (⟨S_, .f32⟩ : BufTy).Contents (Elt F) → (⟨S16x2048x1, .f32⟩ : BufTy).Contents (Elt F)),
  StableHlo.binary main_v1 main_v2 main_v3 (Host.divf : (⟨S16x2048x1, .f32⟩ : BufTy).Contents (Elt F) → (⟨S16x2048x1, .f32⟩ : BufTy).Contents (Elt F) → (⟨S16x2048x1, .f32⟩ : BufTy).Contents (Elt F)),
  StableHlo.unary main_v3 main_v4 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
  StableHlo.binary main_arg1 main_v4 main_v5 (subf : (⟨S16x2048x1024, .f32⟩ : BufTy).Contents (Elt F) → (⟨S16x2048x1024, .f32⟩ : BufTy).Contents (Elt F) → (⟨S16x2048x1024, .f32⟩ : BufTy).Contents (Elt F)),
  StableHlo.binary main_v5 main_v5 main_v6 (mulf : (⟨S16x2048x1024, .f32⟩ : BufTy).Contents (Elt F) → (⟨S16x2048x1024, .f32⟩ : BufTy).Contents (Elt F) → (⟨S16x2048x1024, .f32⟩ : BufTy).Contents (Elt F)),
  StableHlo.nullary main_cst_1 (constant S_ .f32 0x00000000#32),
  StableHlo.binary main_v6 main_cst_1 main_v7 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
  StableHlo.unary main_v7 main_v8 (broadcastInDim S16x2048x1 ![0, 1] bcast_S16x2048_S16x2048x1_0_1 : (⟨S16x2048, .f32⟩ : BufTy).Contents (Elt F) → (⟨S16x2048x1, .f32⟩ : BufTy).Contents (Elt F)),
  StableHlo.nullary main_cst_2 (constant S_ .f32 0x44800000#32),
  StableHlo.unary main_cst_2 main_v9 (broadcastInDim S16x2048x1 ![] bcast_S_S16x2048x1 : (⟨S_, .f32⟩ : BufTy).Contents (Elt F) → (⟨S16x2048x1, .f32⟩ : BufTy).Contents (Elt F)),
  StableHlo.binary main_v8 main_v9 main_v10 (Host.divf : (⟨S16x2048x1, .f32⟩ : BufTy).Contents (Elt F) → (⟨S16x2048x1, .f32⟩ : BufTy).Contents (Elt F) → (⟨S16x2048x1, .f32⟩ : BufTy).Contents (Elt F)),
  StableHlo.unary main_v3 main_v11 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
  StableHlo.binary main_arg1 main_v11 main_v12 (subf : (⟨S16x2048x1024, .f32⟩ : BufTy).Contents (Elt F) → (⟨S16x2048x1024, .f32⟩ : BufTy).Contents (Elt F) → (⟨S16x2048x1024, .f32⟩ : BufTy).Contents (Elt F)),
  StableHlo.nullary main_cst_3 (constant S_ .f32 0x3727C5AC#32),
  StableHlo.unary main_cst_3 main_v13 (broadcastInDim S16x2048x1 ![] bcast_S_S16x2048x1 : (⟨S_, .f32⟩ : BufTy).Contents (Elt F) → (⟨S16x2048x1, .f32⟩ : BufTy).Contents (Elt F)),
  StableHlo.binary main_v10 main_v13 main_v14 (addf : (⟨S16x2048x1, .f32⟩ : BufTy).Contents (Elt F) → (⟨S16x2048x1, .f32⟩ : BufTy).Contents (Elt F) → (⟨S16x2048x1, .f32⟩ : BufTy).Contents (Elt F)),
  StableHlo.unary main_v14 main_v15 (Host.rsqrt : (⟨S16x2048x1, .f32⟩ : BufTy).Contents (Elt F) → (⟨S16x2048x1, .f32⟩ : BufTy).Contents (Elt F)),
  StableHlo.unary main_v15 main_v16 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
  StableHlo.binary main_v12 main_v16 main_v17 (mulf : (⟨S16x2048x1024, .f32⟩ : BufTy).Contents (Elt F) → (⟨S16x2048x1024, .f32⟩ : BufTy).Contents (Elt F) → (⟨S16x2048x1024, .f32⟩ : BufTy).Contents (Elt F)),
  StableHlo.unary main_arg2 main_v18 (broadcastInDim S1x1x1024 ![2] bcast_S1024_S1x1x1024_2 : (⟨S1024, .f32⟩ : BufTy).Contents (Elt F) → (⟨S1x1x1024, .f32⟩ : BufTy).Contents (Elt F)),
  StableHlo.unary main_v18 main_v19 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
  StableHlo.binary main_v17 main_v19 main_v20 (mulf : (⟨S16x2048x1024, .f32⟩ : BufTy).Contents (Elt F) → (⟨S16x2048x1024, .f32⟩ : BufTy).Contents (Elt F) → (⟨S16x2048x1024, .f32⟩ : BufTy).Contents (Elt F)),
  StableHlo.unary main_arg3 main_v21 (broadcastInDim S1x1x1024 ![2] bcast_S1024_S1x1x1024_2 : (⟨S1024, .f32⟩ : BufTy).Contents (Elt F) → (⟨S1x1x1024, .f32⟩ : BufTy).Contents (Elt F)),
  StableHlo.unary main_v21 main_v22 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
  StableHlo.binary main_v20 main_v22 main_v23 (addf : (⟨S16x2048x1024, .f32⟩ : BufTy).Contents (Elt F) → (⟨S16x2048x1024, .f32⟩ : BufTy).Contents (Elt F) → (⟨S16x2048x1024, .f32⟩ : BufTy).Contents (Elt F))]

/-- The operations up to the mixed rows. -/
def opsMix {F : FTy → Type} [FloatOps F] : List (HloOp τ sig (Elt F)) := [
  StableHlo.unary main_arg0 main_v24 ((extf .f32 · bitsLt_bf16_f32) : (⟨S16x2048x1024, .bf16⟩ : BufTy).Contents (Elt F) → (⟨S16x2048x1024, .f32⟩ : BufTy).Contents (Elt F)),
  StableHlo.reshape main_arg4 main_v25 (rfl : (.f32 : EltTy) = .f32) shapeCasts_S1x1024x1024_S1024x1024,
  StableHlo.binary main_v24 main_v25 main_v26 ((fun l r => Host.dotGeneral dot_S16x2048x1024_S1024x1024_S16x2048x1024_2_0_01_1_n_n none l r) : (⟨S16x2048x1024, .f32⟩ : BufTy).Contents (Elt F) → (⟨S1024x1024, .f32⟩ : BufTy).Contents (Elt F) → (⟨S16x2048x1024, .f32⟩ : BufTy).Contents (Elt F)),
  StableHlo.nullary main_cst_4 (constant S_ .f32 0x3F9837F0#32),
  StableHlo.unary main_cst_4 main_v27 (broadcastInDim S16x2048x1024 ![] bcast_S_S16x2048x1024 : (⟨S_, .f32⟩ : BufTy).Contents (Elt F) → (⟨S16x2048x1024, .f32⟩ : BufTy).Contents (Elt F)),
  StableHlo.binary main_v27 main_v23 main_v28 (mulf : (⟨S16x2048x1024, .f32⟩ : BufTy).Contents (Elt F) → (⟨S16x2048x1024, .f32⟩ : BufTy).Contents (Elt F) → (⟨S16x2048x1024, .f32⟩ : BufTy).Contents (Elt F)),
  StableHlo.binary main_v28 main_v26 main_v29 (addf : (⟨S16x2048x1024, .f32⟩ : BufTy).Contents (Elt F) → (⟨S16x2048x1024, .f32⟩ : BufTy).Contents (Elt F) → (⟨S16x2048x1024, .f32⟩ : BufTy).Contents (Elt F))]

/-- The operations up to the mixed rows' means. -/
def opsMeans {F : FTy → Type} [FloatOps F] : List (HloOp τ sig (Elt F)) := [
  StableHlo.reshape main_arg5 main_v30 (rfl : (.f32 : EltTy) = .f32) shapeCasts_S1x1024_S1024,
  StableHlo.reshape main_arg6 main_v31 (rfl : (.f32 : EltTy) = .f32) shapeCasts_S1x1024_S1024,
  StableHlo.nullary main_cst_5 (constant S_ .f32 0x00000000#32),
  StableHlo.binary main_v29 main_cst_5 main_v32 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
  StableHlo.unary main_v32 main_v33 (broadcastInDim S16x2048x1 ![0, 1] bcast_S16x2048_S16x2048x1_0_1 : (⟨S16x2048, .f32⟩ : BufTy).Contents (Elt F) → (⟨S16x2048x1, .f32⟩ : BufTy).Contents (Elt F)),
  StableHlo.nullary main_cst_6 (constant S_ .f32 0x44800000#32),
  StableHlo.unary main_cst_6 main_v34 (broadcastInDim S16x2048x1 ![] bcast_S_S16x2048x1 : (⟨S_, .f32⟩ : BufTy).Contents (Elt F) → (⟨S16x2048x1, .f32⟩ : BufTy).Contents (Elt F)),
  StableHlo.binary main_v33 main_v34 main_v35 (Host.divf : (⟨S16x2048x1, .f32⟩ : BufTy).Contents (Elt F) → (⟨S16x2048x1, .f32⟩ : BufTy).Contents (Elt F) → (⟨S16x2048x1, .f32⟩ : BufTy).Contents (Elt F)),
  StableHlo.unary main_v35 main_v36 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
  StableHlo.binary main_v29 main_v36 main_v37 (subf : (⟨S16x2048x1024, .f32⟩ : BufTy).Contents (Elt F) → (⟨S16x2048x1024, .f32⟩ : BufTy).Contents (Elt F) → (⟨S16x2048x1024, .f32⟩ : BufTy).Contents (Elt F)),
  StableHlo.binary main_v37 main_v37 main_v38 (mulf : (⟨S16x2048x1024, .f32⟩ : BufTy).Contents (Elt F) → (⟨S16x2048x1024, .f32⟩ : BufTy).Contents (Elt F) → (⟨S16x2048x1024, .f32⟩ : BufTy).Contents (Elt F)),
  StableHlo.nullary main_cst_7 (constant S_ .f32 0x00000000#32),
  StableHlo.binary main_v38 main_cst_7 main_v39 ((fun x v => Host.reduceAdd x v reducesTo_S16x2048x1024_S16x2048_d2 h_S_) : (⟨S16x2048x1024, .f32⟩ : BufTy).Contents (Elt F) → (⟨S_, .f32⟩ : BufTy).Contents (Elt F) → (⟨S16x2048, .f32⟩ : BufTy).Contents (Elt F)),
  StableHlo.unary main_v39 main_v40 (broadcastInDim S16x2048x1 ![0, 1] bcast_S16x2048_S16x2048x1_0_1 : (⟨S16x2048, .f32⟩ : BufTy).Contents (Elt F) → (⟨S16x2048x1, .f32⟩ : BufTy).Contents (Elt F)),
  StableHlo.nullary main_cst_8 (constant S_ .f32 0x44800000#32),
  StableHlo.unary main_cst_8 main_v41 (broadcastInDim S16x2048x1 ![] bcast_S_S16x2048x1 : (⟨S_, .f32⟩ : BufTy).Contents (Elt F) → (⟨S16x2048x1, .f32⟩ : BufTy).Contents (Elt F)),
  StableHlo.binary main_v40 main_v41 main_v42 (Host.divf : (⟨S16x2048x1, .f32⟩ : BufTy).Contents (Elt F) → (⟨S16x2048x1, .f32⟩ : BufTy).Contents (Elt F) → (⟨S16x2048x1, .f32⟩ : BufTy).Contents (Elt F))]

/-- The operations of the first result, from the means. -/
def opsShift {F : FTy → Type} [FloatOps F] : List (HloOp τ sig (Elt F)) := [
  StableHlo.unary main_v35 main_v43 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
  StableHlo.binary main_v29 main_v43 main_v44 (subf : (⟨S16x2048x1024, .f32⟩ : BufTy).Contents (Elt F) → (⟨S16x2048x1024, .f32⟩ : BufTy).Contents (Elt F) → (⟨S16x2048x1024, .f32⟩ : BufTy).Contents (Elt F)),
  StableHlo.nullary main_cst_9 (constant S_ .f32 0x3727C5AC#32),
  StableHlo.unary main_cst_9 main_v45 (broadcastInDim S16x2048x1 ![] bcast_S_S16x2048x1 : (⟨S_, .f32⟩ : BufTy).Contents (Elt F) → (⟨S16x2048x1, .f32⟩ : BufTy).Contents (Elt F)),
  StableHlo.binary main_v42 main_v45 main_v46 (addf : (⟨S16x2048x1, .f32⟩ : BufTy).Contents (Elt F) → (⟨S16x2048x1, .f32⟩ : BufTy).Contents (Elt F) → (⟨S16x2048x1, .f32⟩ : BufTy).Contents (Elt F)),
  StableHlo.unary main_v46 main_v47 (Host.rsqrt : (⟨S16x2048x1, .f32⟩ : BufTy).Contents (Elt F) → (⟨S16x2048x1, .f32⟩ : BufTy).Contents (Elt F)),
  StableHlo.unary main_v47 main_v48 (broadcastInDim S16x2048x1024 ![0, 1, 2] bcast_S16x2048x1_S16x2048x1024_0_1_2 : (⟨S16x2048x1, .f32⟩ : BufTy).Contents (Elt F) → (⟨S16x2048x1024, .f32⟩ : BufTy).Contents (Elt F)),
  StableHlo.binary main_v44 main_v48 main_v49 (mulf : (⟨S16x2048x1024, .f32⟩ : BufTy).Contents (Elt F) → (⟨S16x2048x1024, .f32⟩ : BufTy).Contents (Elt F) → (⟨S16x2048x1024, .f32⟩ : BufTy).Contents (Elt F)),
  StableHlo.unary main_v30 main_v50 (broadcastInDim S1x1x1024 ![2] bcast_S1024_S1x1x1024_2 : (⟨S1024, .f32⟩ : BufTy).Contents (Elt F) → (⟨S1x1x1024, .f32⟩ : BufTy).Contents (Elt F)),
  StableHlo.unary main_v50 main_v51 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
  StableHlo.binary main_v49 main_v51 main_v52 (mulf : (⟨S16x2048x1024, .f32⟩ : BufTy).Contents (Elt F) → (⟨S16x2048x1024, .f32⟩ : BufTy).Contents (Elt F) → (⟨S16x2048x1024, .f32⟩ : BufTy).Contents (Elt F)),
  StableHlo.unary main_v31 main_v53 (broadcastInDim S1x1x1024 ![2] bcast_S1024_S1x1x1024_2 : (⟨S1024, .f32⟩ : BufTy).Contents (Elt F) → (⟨S1x1x1024, .f32⟩ : BufTy).Contents (Elt F)),
  StableHlo.unary main_v53 main_v54 (broadcastInDim S16x2048x1024 ![0, 1, 2] bcast_S1x1x1024_S16x2048x1024_0_1_2 : (⟨S1x1x1024, .f32⟩ : BufTy).Contents (Elt F) → (⟨S16x2048x1024, .f32⟩ : BufTy).Contents (Elt F)),
  StableHlo.binary main_v52 main_v54 main_v55 (addf : (⟨S16x2048x1024, .f32⟩ : BufTy).Contents (Elt F) → (⟨S16x2048x1024, .f32⟩ : BufTy).Contents (Elt F) → (⟨S16x2048x1024, .f32⟩ : BufTy).Contents (Elt F)),
  StableHlo.reshape main_v55 main_v56 (rfl : (.f32 : EltTy) = .f32) shapeCasts_S16x2048x1024_S32768x1024]

/-- The operations up to the first result. -/
def opsOut {F : FTy → Type} [FloatOps F] : List (HloOp τ sig (Elt F)) := opsMeans ++ opsShift

/-- The operations up to the router's scores. -/
def opsScore {F : FTy → Type} [FloatOps F] : List (HloOp τ sig (Elt F)) := [
  StableHlo.reshape main_arg7 main_v57 (rfl : (.f32 : EltTy) = .f32) shapeCasts_S1x1024x32_S1024x32,
  StableHlo.binary main_v56 main_v57 main_v58 ((fun l r => Host.dotGeneral dot_S32768x1024_S1024x32_S32768x32_1_0_0_1_n_n none l r) : (⟨S32768x1024, .f32⟩ : BufTy).Contents (Elt F) → (⟨S1024x32, .f32⟩ : BufTy).Contents (Elt F) → (⟨S32768x32, .f32⟩ : BufTy).Contents (Elt F)),
  StableHlo.reshape main_arg8 main_v59 (rfl : (.f32 : EltTy) = .f32) shapeCasts_S1x32_S32,
  StableHlo.unary main_v59 main_v60 (broadcastInDim S1x32 ![1] bcast_S32_S1x32_1 : (⟨S32, .f32⟩ : BufTy).Contents (Elt F) → (⟨S1x32, .f32⟩ : BufTy).Contents (Elt F)),
  StableHlo.unary main_v60 main_v61 (broadcastInDim S32768x32 ![0, 1] bcast_S1x32_S32768x32_0_1 : (⟨S1x32, .f32⟩ : BufTy).Contents (Elt F) → (⟨S32768x32, .f32⟩ : BufTy).Contents (Elt F)),
  StableHlo.binary main_v58 main_v61 main_v62 (addf : (⟨S32768x32, .f32⟩ : BufTy).Contents (Elt F) → (⟨S32768x32, .f32⟩ : BufTy).Contents (Elt F) → (⟨S32768x32, .f32⟩ : BufTy).Contents (Elt F))]

/-- The operations up to the four best scores. -/
def opsTop {F : FTy → Type} [FloatOps F] : List (HloOp τ sig (Elt F)) := [
  StableHlo.unary main_v62 main_values ((fun x => (Host.topK S32768x4 1 (FloatOps.cmpfTotal .gt) x sliceFits_S32768x32_S32768x4).1) : (⟨S32768x32, .f32⟩ : BufTy).Contents (Elt F) → (⟨S32768x4, .f32⟩ : BufTy).Contents (Elt F)),
  StableHlo.unary main_v62 main_indices ((fun x => (Host.topK S32768x4 1 (FloatOps.cmpfTotal .gt) x sliceFits_S32768x32_S32768x4).2) : (⟨S32768x32, .f32⟩ : BufTy).Contents (Elt F) → (⟨S32768x4, .i32⟩ : BufTy).Contents (Elt F))]

/-- The operations up to their exponentials. -/
def opsExp {F : FTy → Type} [FloatOps F] : List (HloOp τ sig (Elt F)) := [
  StableHlo.nullary main_cst_10 (constant S_ .f32 0xFF800000#32),
  StableHlo.binary main_values main_cst_10 main_v63 ((fun x v => Host.reduce FloatOps.maximumf x v reducesTo_S32768x4_S32768_d1 h_S_) : (⟨S32768x4, .f32⟩ : BufTy).Contents (Elt F) → (⟨S_, .f32⟩ : BufTy).Contents (Elt F) → (⟨S32768, .f32⟩ : BufTy).Contents (Elt F)),
  StableHlo.nullary main_cst_11 (constant S_ .f32 0xFF800000#32),
  StableHlo.unary main_cst_11 main_v64 (broadcastInDim S32768 ![] bcast_S_S32768 : (⟨S_, .f32⟩ : BufTy).Contents (Elt F) → (⟨S32768, .f32⟩ : BufTy).Contents (Elt F)),
  StableHlo.binary main_v64 main_v63 main_v65 (maximumf : (⟨S32768, .f32⟩ : BufTy).Contents (Elt F) → (⟨S32768, .f32⟩ : BufTy).Contents (Elt F) → (⟨S32768, .f32⟩ : BufTy).Contents (Elt F)),
  StableHlo.unary main_v65 main_v66 (broadcastInDim S32768x1 ![0] bcast_S32768_S32768x1_0 : (⟨S32768, .f32⟩ : BufTy).Contents (Elt F) → (⟨S32768x1, .f32⟩ : BufTy).Contents (Elt F)),
  StableHlo.unary main_v66 main_v67 (broadcastInDim S32768x4 ![0, 1] bcast_S32768x1_S32768x4_0_1 : (⟨S32768x1, .f32⟩ : BufTy).Contents (Elt F) → (⟨S32768x4, .f32⟩ : BufTy).Contents (Elt F)),
  StableHlo.binary main_values main_v67 main_v68 (subf : (⟨S32768x4, .f32⟩ : BufTy).Contents (Elt F) → (⟨S32768x4, .f32⟩ : BufTy).Contents (Elt F) → (⟨S32768x4, .f32⟩ : BufTy).Contents (Elt F)),
  StableHlo.unary main_v68 main_v69 (Host.exp : (⟨S32768x4, .f32⟩ : BufTy).Contents (Elt F) → (⟨S32768x4, .f32⟩ : BufTy).Contents (Elt F))]

/-- The operations up to their weights. -/
def opsGate {F : FTy → Type} [FloatOps F] : List (HloOp τ sig (Elt F)) := [
  StableHlo.nullary main_cst_12 (constant S_ .f32 0x00000000#32),
  StableHlo.binary main_v69 main_cst_12 main_v70 ((fun x v => Host.reduceAdd x v reducesTo_S32768x4_S32768_d1 h_S_) : (⟨S32768x4, .f32⟩ : BufTy).Contents (Elt F) → (⟨S_, .f32⟩ : BufTy).Contents (Elt F) → (⟨S32768, .f32⟩ : BufTy).Contents (Elt F)),
  StableHlo.unary main_v70 main_v71 (broadcastInDim S32768x1 ![0] bcast_S32768_S32768x1_0 : (⟨S32768, .f32⟩ : BufTy).Contents (Elt F) → (⟨S32768x1, .f32⟩ : BufTy).Contents (Elt F)),
  StableHlo.unary main_v71 main_v72 (broadcastInDim S32768x4 ![0, 1] bcast_S32768x1_S32768x4_0_1 : (⟨S32768x1, .f32⟩ : BufTy).Contents (Elt F) → (⟨S32768x4, .f32⟩ : BufTy).Contents (Elt F)),
  StableHlo.binary main_v69 main_v72 main_v73 (Host.divf : (⟨S32768x4, .f32⟩ : BufTy).Contents (Elt F) → (⟨S32768x4, .f32⟩ : BufTy).Contents (Elt F) → (⟨S32768x4, .f32⟩ : BufTy).Contents (Elt F))]

/-- The operations up to the other results. -/
def opsPad {F : FTy → Type} [FloatOps F] : List (HloOp τ sig (Elt F)) := [
  StableHlo.nullary main_c (constantI S_ 32 0#32),
  StableHlo.TRef.unary (.of main_c : StableHlo.TRef sig ⟨S_, .i32⟩) (.of main_call0_v0 : StableHlo.TRef sig ⟨S_, .i32⟩) id,
  StableHlo.TRef.binary (.of main_indices : StableHlo.TRef sig ⟨S32768x4, .i32⟩) (.of main_call0_v0 : StableHlo.TRef sig ⟨S_, .i32⟩) (.of main_v74 : StableHlo.TRef sig ⟨S32768x128, .i32⟩) (fun x v => pad S32768x128 ![0, 0] ![0, 124] ![0, 0] x v pads_S32768x4_S32768x128_000_01240 h_S_),
  StableHlo.nullary main_c_13 (constantI S_ 32 0#32),
  StableHlo.TRef.unary (.of main_c_13 : StableHlo.TRef sig ⟨S_, .i32⟩) (.of main_call1_v0 : StableHlo.TRef sig ⟨S_, .f32⟩) (sitofp .f32),
  StableHlo.TRef.binary (.of main_v73 : StableHlo.TRef sig ⟨S32768x4, .f32⟩) (.of main_call1_v0 : StableHlo.TRef sig ⟨S_, .f32⟩) (.of main_v75 : StableHlo.TRef sig ⟨S32768x128, .f32⟩) (fun x v => pad S32768x128 ![0, 0] ![0, 124] ![0, 0] x v pads_S32768x4_S32768x128_000_01240 h_S_)]

/-- All of them. -/
def opsAll {F : FTy → Type} [FloatOps F] : List (HloOp τ sig (Elt F)) := opsNorm ++ (opsMix ++ (opsOut ++ (opsScore ++ (opsTop ++ (opsExp ++ (opsGate ++ opsPad))))))

set_option maxHeartbeats 4000000 in
/-- The reference is the eight runs in turn. -/
theorem main_ops (d : Dev nD) : StableHlo.IsSeq (main (F := Ideal) d) opsAll := by
  unfold opsAll opsNorm opsMix opsOut opsMeans opsShift opsScore opsTop opsExp opsGate opsPad
  simp only [List.cons_append, List.nil_append]
  hlo_seq

variable (V : Valuation τ sig (Elt Ideal))

/-! ## What each run leaves -/

set_option maxHeartbeats 4000000 in
theorem norm_read : StableHlo.after opsNorm V (Proc.devRef .tc main_v23)
    = (refNormed (V (Proc.devRef .tc main_arg1)) (V (Proc.devRef .tc main_arg2)) (V (Proc.devRef .tc main_arg3)) : FVec Ideal S16x2048x1024 .f32) := by
  unfold opsNorm; after_results_simp; rfl
theorem mix_read : StableHlo.after opsMix V (Proc.devRef .tc main_v29)
    = (refMix (V (Proc.devRef .tc main_arg0)) (V (Proc.devRef .tc main_v23)) (V (Proc.devRef .tc main_arg4)) : FVec Ideal S16x2048x1024 .f32) := by
  unfold opsMix; after_results_simp; rfl
set_option maxHeartbeats 4000000 in
theorem out_read : StableHlo.after opsOut V (Proc.devRef .tc main_v56)
    = (refH (V (Proc.devRef .tc main_v29)) (V (Proc.devRef .tc main_arg5)) (V (Proc.devRef .tc main_arg6)) : FVec Ideal S32768x1024 .f32) := by
  unfold opsOut opsMeans opsShift; simp only [List.cons_append, List.nil_append]; after_results_simp; rfl
theorem score_read : StableHlo.after opsScore V (Proc.devRef .tc main_v62)
    = (refScores (V (Proc.devRef .tc main_v56)) (V (Proc.devRef .tc main_arg7)) (V (Proc.devRef .tc main_arg8)) : FVec Ideal S32768x32 .f32) := by
  unfold opsScore; after_results_simp; rfl
theorem topV_read : StableHlo.after opsTop V (Proc.devRef .tc main_values) = (refTopV (V (Proc.devRef .tc main_v62)) : FVec Ideal S32768x4 .f32) := by
  unfold opsTop; after_results_simp; rfl
theorem topE_read : StableHlo.after opsTop V (Proc.devRef .tc main_indices) = (refTopE (V (Proc.devRef .tc main_v62)) : IVec S32768x4 32) := by
  unfold opsTop; after_results_simp; rfl
theorem exp_read : StableHlo.after opsExp V (Proc.devRef .tc main_v69) = (refExp (V (Proc.devRef .tc main_values)) : FVec Ideal S32768x4 .f32) := by
  unfold opsExp; after_results_simp; rfl
theorem gate_read : StableHlo.after opsGate V (Proc.devRef .tc main_v73) = (refGate (V (Proc.devRef .tc main_v69)) : FVec Ideal S32768x4 .f32) := by
  unfold opsGate; after_results_simp; rfl
theorem places_read : StableHlo.after opsPad V (Proc.devRef .tc main_v74) = (refPlaces (V (Proc.devRef .tc main_indices)) : IVec S32768x128 32) := by
  unfold opsPad; after_results_simp; rfl
theorem weights_read : StableHlo.after opsPad V (Proc.devRef .tc main_v75) = (refWeights (V (Proc.devRef .tc main_v73)) : FVec Ideal S32768x128 .f32) := by
  unfold opsPad; after_results_simp; rfl

/-! ## What each run leaves as it was -/

/-- What the run of `opsNorm` writes. -/
def outNorm : List (Ref sig .tc) := [main_cst, main_v0, main_v1, main_cst_0, main_v2, main_v3, main_v4, main_v5, main_v6, main_cst_1, main_v7, main_v8, main_cst_2, main_v9, main_v10, main_v11, main_v12, main_cst_3, main_v13, main_v14, main_v15, main_v16, main_v17, main_v18, main_v19, main_v20, main_v21, main_v22, main_v23]
theorem keepNorm (r : Ref sig .tc) (hr : r ∉ outNorm) : StableHlo.after opsNorm V (Proc.devRef .tc r) = V (Proc.devRef .tc r) := StableHlo.after_unwritten outNorm rfl hr V
/-- What the run of `opsMix` writes. -/
def outMix : List (Ref sig .tc) := [main_v24, main_v25, main_v26, main_cst_4, main_v27, main_v28, main_v29]
theorem keepMix (r : Ref sig .tc) (hr : r ∉ outMix) : StableHlo.after opsMix V (Proc.devRef .tc r) = V (Proc.devRef .tc r) := StableHlo.after_unwritten outMix rfl hr V
/-- What the run of `opsOut` writes. -/
def outOut : List (Ref sig .tc) := [main_v30, main_v31, main_cst_5, main_v32, main_v33, main_cst_6, main_v34, main_v35, main_v36, main_v37, main_v38, main_cst_7, main_v39, main_v40, main_cst_8, main_v41, main_v42, main_v43, main_v44, main_cst_9, main_v45, main_v46, main_v47, main_v48, main_v49, main_v50, main_v51, main_v52, main_v53, main_v54, main_v55, main_v56]
theorem keepOut (r : Ref sig .tc) (hr : r ∉ outOut) : StableHlo.after opsOut V (Proc.devRef .tc r) = V (Proc.devRef .tc r) := StableHlo.after_unwritten outOut rfl hr V
/-- What the run of `opsScore` writes. -/
def outScore : List (Ref sig .tc) := [main_v57, main_v58, main_v59, main_v60, main_v61, main_v62]
theorem keepScore (r : Ref sig .tc) (hr : r ∉ outScore) : StableHlo.after opsScore V (Proc.devRef .tc r) = V (Proc.devRef .tc r) := StableHlo.after_unwritten outScore rfl hr V
/-- What the run of `opsTop` writes. -/
def outTop : List (Ref sig .tc) := [main_values, main_indices]
theorem keepTop (r : Ref sig .tc) (hr : r ∉ outTop) : StableHlo.after opsTop V (Proc.devRef .tc r) = V (Proc.devRef .tc r) := StableHlo.after_unwritten outTop rfl hr V
/-- What the run of `opsExp` writes. -/
def outExp : List (Ref sig .tc) := [main_cst_10, main_v63, main_cst_11, main_v64, main_v65, main_v66, main_v67, main_v68, main_v69]
theorem keepExp (r : Ref sig .tc) (hr : r ∉ outExp) : StableHlo.after opsExp V (Proc.devRef .tc r) = V (Proc.devRef .tc r) := StableHlo.after_unwritten outExp rfl hr V
/-- What the run of `opsGate` writes. -/
def outGate : List (Ref sig .tc) := [main_cst_12, main_v70, main_v71, main_v72, main_v73]
theorem keepGate (r : Ref sig .tc) (hr : r ∉ outGate) : StableHlo.after opsGate V (Proc.devRef .tc r) = V (Proc.devRef .tc r) := StableHlo.after_unwritten outGate rfl hr V
/-- What the run of `opsPad` writes. -/
def outPad : List (Ref sig .tc) := [main_c, main_call0_v0, main_v74, main_c_13, main_call1_v0, main_v75]
theorem keepPad (r : Ref sig .tc) (hr : r ∉ outPad) : StableHlo.after opsPad V (Proc.devRef .tc r) = V (Proc.devRef .tc r) := StableHlo.after_unwritten outPad rfl hr V

/-- What no run writes is as it was. -/
theorem keepAll (r : Ref sig .tc) (h : r ∉ outNorm ∧ r ∉ outMix ∧ r ∉ outOut ∧ r ∉ outScore ∧ r ∉ outTop ∧ r ∉ outExp ∧ r ∉ outGate ∧ r ∉ outPad) :
    StableHlo.after opsAll V (Proc.devRef .tc r) = V (Proc.devRef .tc r) := by
  obtain ⟨h0, h1, h2, h3, h4, h5, h6, h7⟩ := h
  unfold opsAll
  simp only [StableHlo.after_append]
  rw [keepPad _ r h7, keepGate _ r h6, keepExp _ r h5, keepTop _ r h4, keepScore _ r h3, keepOut _ r h2, keepMix _ r h1, keepNorm _ r h0]

/-- The first result of the arguments, and the scores. -/
abbrev refRows : FVec Ideal S32768x1024 .f32 :=
  refH (refMixed (V (Proc.devRef .tc main_arg0)) (V (Proc.devRef .tc main_arg1)) (V (Proc.devRef .tc main_arg2)) (V (Proc.devRef .tc main_arg3)) (V (Proc.devRef .tc main_arg4)))
    (V (Proc.devRef .tc main_arg5)) (V (Proc.devRef .tc main_arg6))
abbrev refAll : FVec Ideal S32768x32 .f32 := refScores (refRows V) (V (Proc.devRef .tc main_arg7)) (V (Proc.devRef .tc main_arg8))

/-- The first result, after the runs that make it. -/
theorem rows_read : StableHlo.after opsOut (StableHlo.after opsMix (StableHlo.after opsNorm V)) (Proc.devRef .tc main_v56) = refRows V := by
  rw [out_read, mix_read, norm_read, keepMix _ main_arg5 (by decide), keepNorm _ main_arg5 (by decide), keepMix _ main_arg6 (by decide), keepNorm _ main_arg6 (by decide),
    keepNorm _ main_arg0 (by decide), keepNorm _ main_arg4 (by decide)]
  rfl

/-- The scores, after the runs that make them. -/
theorem all_read : StableHlo.after opsScore (StableHlo.after opsOut (StableHlo.after opsMix (StableHlo.after opsNorm V))) (Proc.devRef .tc main_v62) = refAll V := by
  rw [score_read, rows_read, keepOut _ main_arg7 (by decide), keepMix _ main_arg7 (by decide), keepNorm _ main_arg7 (by decide),
    keepOut _ main_arg8 (by decide), keepMix _ main_arg8 (by decide), keepNorm _ main_arg8 (by decide)]

/-- The results, after all. -/
theorem read_0 : StableHlo.after opsAll V (Proc.devRef .tc main_v56) = refRows V := by
  unfold opsAll
  simp only [StableHlo.after_append]
  rw [keepPad _ main_v56 (by decide), keepGate _ main_v56 (by decide), keepExp _ main_v56 (by decide), keepTop _ main_v56 (by decide), keepScore _ main_v56 (by decide), rows_read]
theorem read_1 : StableHlo.after opsAll V (Proc.devRef .tc main_v74) = refPlaces (refTopE (refAll V)) := by
  unfold opsAll
  simp only [StableHlo.after_append]
  rw [places_read, keepGate _ main_indices (by decide), keepExp _ main_indices (by decide), topE_read, all_read]
theorem read_2 : StableHlo.after opsAll V (Proc.devRef .tc main_v75) = refWeights (refGate (refExp (refTopV (refAll V)))) := by
  unfold opsAll
  simp only [StableHlo.after_append]
  rw [weights_read, gate_read, exp_read, topV_read, all_read]

variable (m : (ℓ : Loc nD τ sig) → Buf (Elt Ideal) ℓ)

/-- The reference's run: its results are its terms, its arguments as they were. -/
theorem ref_run (g : Dev nD → PrngReg) :
    θ_run (defs (F := Ideal)) (onTc (τ := τ) (main (F := Ideal))) ⟨m, fun _ => 0, g⟩ (fun r => ∀ c : Dev nD,
      r.2.mem ((c.tc : Thread nD τ).loc main_v56) = (refRows (StableHlo.launchContents m c) : FVec Ideal S32768x1024 .f32)
      ∧ r.2.mem ((c.tc : Thread nD τ).loc main_v74) = (refPlaces (refTopE (refAll (StableHlo.launchContents m c))) : IVec S32768x128 32)
      ∧ r.2.mem ((c.tc : Thread nD τ).loc main_v75) = (refWeights (refGate (refExp (refTopV (refAll (StableHlo.launchContents m c))))) : FVec Ideal S32768x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_v56).trans (read_0 _), (h c main_v74).trans (read_1 _), (h c main_v75).trans (read_2 _),
      (h c main_arg0).trans (keepAll _ main_arg0 (by decide)),
      (h c main_arg1).trans (keepAll _ main_arg1 (by decide)),
      (h c main_arg2).trans (keepAll _ main_arg2 (by decide)),
      (h c main_arg3).trans (keepAll _ main_arg3 (by decide)),
      (h c main_arg4).trans (keepAll _ main_arg4 (by decide)),
      (h c main_arg5).trans (keepAll _ main_arg5 (by decide)),
      (h c main_arg6).trans (keepAll _ main_arg6 (by decide)),
      (h c main_arg7).trans (keepAll _ main_arg7 (by decide)),
      (h c main_arg8).trans (keepAll _ main_arg8 (by decide))⟩)
    (StableHlo.run_hlo defs main main_ops (by decide) (by decide) (by simp [opsAll, opsNorm, opsMix, opsOut, opsMeans, opsShift, opsScore, opsTop, opsExp, opsGate, opsPad])
      (by intro _ h; unfold opsAll opsNorm opsMix opsOut opsMeans opsShift opsScore opsTop opsExp opsGate opsPad at h; simp only [List.cons_append, List.nil_append] at h
          (repeat (cases h with | head => rfl | tail _ h => ?_)); exact nomatch h) m g)

/-- The reference's rows and scores, of arguments named otherwise. -/
theorem rows_of (c : Dev nD) (a : FVec Ideal S16x2048x1024 .bf16) (x : FVec Ideal S16x2048x1024 .f32) (gi bi : FVec Ideal S1024 .f32) (wo : FVec Ideal S1x1024x1024 .f32)
    (g1 b1 : FVec Ideal S1x1024 .f32) (h0 : m ((c.tc : Thread nD τ).loc main_arg0) = a) (h1 : m ((c.tc : Thread nD τ).loc main_arg1) = x) (h2 : m ((c.tc : Thread nD τ).loc main_arg2) = gi)
    (h3 : m ((c.tc : Thread nD τ).loc main_arg3) = bi) (h4 : m ((c.tc : Thread nD τ).loc main_arg4) = wo) (h5 : m ((c.tc : Thread nD τ).loc main_arg5) = g1)
    (h6 : m ((c.tc : Thread nD τ).loc main_arg6) = b1) : refRows (StableHlo.launchContents m c) = refH (refMixed a x gi bi wo) g1 b1 := by
  subst h0 h1 h2 h3 h4 h5 h6; rfl
theorem all_of (c : Dev nD) (h : FVec Ideal S32768x1024 .f32) (wr : FVec Ideal S1x1024x32 .f32) (br : FVec Ideal S1x32 .f32) (hp : refRows (StableHlo.launchContents m c) = h)
    (h7 : m ((c.tc : Thread nD τ).loc main_arg7) = wr) (h8 : m ((c.tc : Thread nD τ).loc main_arg8) = br) : refAll (StableHlo.launchContents m c) = refScores h wr br := by
  subst hp h7 h8; rfl

end Cert.Post

end
-- ==== Proof.PostSame.lean ====
module

public import proofs.«01_k».proof.Defs
public import proofs.«01_k».proof.Proof.Gen.PostAttn
public import proofs.«01_k».proof.Proof.Gen.PostAttnIdeal

@[expose] public section

set_option maxRecDepth 16384
set_option maxHeartbeats 1000000

namespace Cert.Post

open Idealize.ShloMosaic

/-- The two programs' body tables are one: their texts are the same. -/
theorem bodies_same : Cert.PostAttn.defs₀ (F := Bits) = Cert.PostAttnIdeal.defs₀ (F := Bits) := by
  unfold Cert.PostAttn.defs₀ Cert.PostAttnIdeal.defs₀
  congr 1
  funext l a
  match l, a with
  | ⟨0, _⟩, (t, s) => rfl
  | ⟨_ + 1, h⟩, _ => exact absurd h (Nat.not_lt.2 (Nat.le_add_left _ _))

/-- So are their tables with the pipelines. -/
theorem defs_same : Cert.PostAttn.defs (F := Bits) = Cert.PostAttnIdeal.defs (F := Bits) :=
  congrArg (Pipeline.defs (Cert.PostAttnIdeal.pcfgs (F := Bits))) bodies_same

/-- And their host programs. -/
theorem main_same : Cert.PostAttn.main (F := Bits) = Cert.PostAttnIdeal.main (F := Bits) := rfl

end Cert.Post

end
-- ==== Proof.PostSamplePay.lean ====
module

public import proofs.«01_k».proof.Proof.Gen.PostSampleIdeal.Frame
public import proofs.«01_k».proof.Proof.PostPay

@[expose] public section

set_option maxRecDepth 16384

noncomputable section

namespace Cert.SamplePost

open Cert.PostSampleIdeal Cert.PostSampleIdeal.Gen
open Cert.Post
open Idealize.ShloMosaic Idealize.ShloMosaic.TcCoe Idealize.SL.Sem
open Cert.Proj (meanOf normOf)

/-! ## The body's values at an index -/

theorem pay3_apply (x : FVec Ideal S128x1024 .f32) (g b : FVec Ideal S1x1024 .f32) (a : FVec Ideal S128x1024 .bf16) (w : FVec Ideal S1024x1024 .bf16)
    (r : Fin 128) (k : Fin 1024) :
    k0_pay3 (F := Ideal) x g b a w (ix2 r k)
      = mixOf (fun k => x (ix2 r k)) (fun k => g (ix2 0 k)) (fun k => b (ix2 0 k)) (fun k => a (ix2 r k)) (fun i k => w (ix2 i k)) k := by
  pointwise [k0_pay3, mixOf, lnOf, normOf, meanOf]

theorem pay6_apply (x : FVec Ideal S128x1024 .f32) (g b : FVec Ideal S1x1024 .f32) (r : Fin 128) (k : Fin 1024) :
    k0_pay6 (F := Ideal) x g b (ix2 r k) = lnOf (fun k => x (ix2 r k)) (fun k => g (ix2 0 k)) (fun k => b (ix2 0 k)) k := by
  pointwise [k0_pay6, lnOf, normOf, meanOf]

theorem pay7_apply (x : FVec Ideal S128x1024 .f32) (g b : FVec Ideal S1x1024 .f32) (hi lo : FVec Ideal S1024x128 .bf16) (br : FVec Ideal S1x128 .f32)
    (r : Fin 128) (j : Fin 128) :
    k0_pay7 (F := Ideal) x g b hi lo br (ix2 r j)
      = (((∑ k, k0_pay6 (F := Ideal) x g b (ix2 r k) * hi (ix2 k j)) + ∑ k, k0_pay6 (F := Ideal) x g b (ix2 r k) * lo (ix2 k j))
        + ∑ k, (k0_pay6 (F := Ideal) x g b (ix2 r k) - k0_pay6 (F := Ideal) x g b (ix2 r k)) * hi (ix2 k j)) + br (ix2 0 j) := by
  pointwise [k0_pay7]

/-- A row of an array of lanes. -/
def lane (v : FVec Ideal S128x128 .f32) (r : Fin 128) (j : Fin 128) : EReal := v (ix2 r j)

abbrev io : IVec S128x128 32 := iota .tc S128x128 32 [1] iota_S128x128_d1_w32
abbrev least : Ideal .f32 := Scalar.ofBits .f32 0xFF800000#32

theorem lane_9 (v : FVec Ideal S128x128 .f32) (r : Fin 128) :
    lane (k0_pay9 (F := Ideal) v k0_pay8 least) r = lanes fun e => v (ix2 r ⟨e.val, by omega⟩) := by
  funext j
  unfold lane lanes
  have e : k0_pay9 (F := Ideal) v k0_pay8 least (ix2 r j) = Scalar.select (IntOp.cmpi .slt (BitVec.ofNat 32 j.val) 32#32) (v (ix2 r j)) ⊥ := by
    rw [← bits_least]; pointwise [k0_pay9, k0_pay8]
  rw [e]
  have hj := j.isLt
  have hc : IntOp.cmpi .slt (BitVec.ofNat 32 j.val) 32#32 = if j.val < 32 then 1#1 else 0#1 := by
    have h1 : (BitVec.ofNat 32 j.val).toInt = (j.val : Int) := by
      rw [BitVec.toInt_ofNat']; exact Int.bmod_eq_of_le (by omega) (by omega)
    show BitVec.ofBool ((BitVec.ofNat 32 j.val).slt 32#32) = _
    unfold BitVec.slt
    rw [h1]
    by_cases h : j.val < 32
    · rw [if_pos h, decide_eq_true (by show (j.val : Int) < 32; omega)]; rfl
    · rw [if_neg h, decide_eq_false (by show ¬(j.val : Int) < 32; omega)]; rfl
  rw [hc]
  by_cases h : j.val < 32
  · rw [if_pos h, dif_pos h]; rfl
  · rw [if_neg h, dif_neg h]; rfl

variable (v : FVec Ideal S128x128 .f32) (s : IVec S128x128 1) (r : Fin 128)

theorem pay10_apply : k0_pay10 (F := Ideal) v s least (ix2 r 0) = best (lane (k0_pay9 (F := Ideal) v s least) r) := by
  unfold best; rw [← bits_least]; pointwise [k0_pay10, lane]
theorem pay11_apply : k0_pay11 (F := Ideal) v io s least (ix2 r 0) = word (lane (k0_pay9 (F := Ideal) v s least) r) := by
  unfold word; rw [← pay10_apply]; pointwise [k0_pay11, lane]
theorem lane_12 : lane (k0_pay12 (F := Ideal) v io s least) r = next (lane (k0_pay9 (F := Ideal) v s least) r) := by
  funext j; unfold next; rw [← pay11_apply, ← bits_least]; pointwise [k0_pay12, lane]
theorem pay13_apply : k0_pay13 (F := Ideal) v io s least (ix2 r 0) = best (lane (k0_pay12 (F := Ideal) v io s least) r) := by
  unfold best; rw [← bits_least]; pointwise [k0_pay13, lane]
theorem pay14_apply : k0_pay14 (F := Ideal) v io s least (ix2 r 0) = word (lane (k0_pay12 (F := Ideal) v io s least) r) := by
  unfold word; rw [← pay13_apply]; pointwise [k0_pay14, lane]
theorem lane_15 : lane (k0_pay15 (F := Ideal) v io s least) r = next (lane (k0_pay12 (F := Ideal) v io s least) r) := by
  funext j; unfold next; rw [← pay14_apply, ← bits_least]; pointwise [k0_pay15, lane]
theorem pay16_apply : k0_pay16 (F := Ideal) v io s least (ix2 r 0) = best (lane (k0_pay15 (F := Ideal) v io s least) r) := by
  unfold best; rw [← bits_least]; pointwise [k0_pay16, lane]
theorem pay17_apply : k0_pay17 (F := Ideal) v io s least (ix2 r 0) = word (lane (k0_pay15 (F := Ideal) v io s least) r) := by
  unfold word; rw [← pay16_apply]; pointwise [k0_pay17, lane]
theorem lane_18 : lane (k0_pay18 (F := Ideal) v io s least) r = next (lane (k0_pay15 (F := Ideal) v io s least) r) := by
  funext j; unfold next; rw [← pay17_apply, ← bits_least]; pointwise [k0_pay18, lane]
theorem pay19_apply : k0_pay19 (F := Ideal) v io s least (ix2 r 0) = best (lane (k0_pay18 (F := Ideal) v io s least) r) := by
  unfold best; rw [← bits_least]; pointwise [k0_pay19, lane]
theorem pay21_apply : k0_pay21 (k0_pay20 (F := Ideal) v io s least) (ix2 r 0) = word (lane (k0_pay18 (F := Ideal) v io s least) r) := by
  unfold word; rw [← pay19_apply]; pointwise [k0_pay21, k0_pay20, lane]

/-- The lanes after each round. -/
theorem round_1 : lane (k0_pay12 (F := Ideal) v io s least) r = after (lane (k0_pay9 (F := Ideal) v s least) r) 1 := by
  rw [lane_12, after_succ, after]
theorem round_2 : lane (k0_pay15 (F := Ideal) v io s least) r = after (lane (k0_pay9 (F := Ideal) v s least) r) 2 := by
  rw [lane_15, round_1, after_succ _ 1]
theorem round_3 : lane (k0_pay18 (F := Ideal) v io s least) r = after (lane (k0_pay9 (F := Ideal) v s least) r) 3 := by
  rw [lane_18, round_2, after_succ _ 2]

theorem pay1_apply (a b c d : IVec S128x1 32) (j : Fin 128) :
    k0_pay1 io d (k0_pay27 io a b c) k0_pay29 (ix2 r j) = inFour 0#32 ![a (ix2 r 0), b (ix2 r 0), c (ix2 r 0), d (ix2 r 0)] j := by
  rw [← four_selects]; pointwise [k0_pay1, k0_pay27, k0_pay29]

theorem pay2_apply (a b c d : FVec Ideal S128x1 .f32) (j : Fin 128) :
    k0_pay2 (F := Ideal) io (k0_pay25 a d) (k0_pay26 a b c d) (k0_pay28 io a b c d) (ix2 r j)
      = inFour (0 : EReal) (fun k => expOf ![a (ix2 r 0), b (ix2 r 0), c (ix2 r 0), d (ix2 r 0)] k
          * Ideal.div (Ideal.ofBits .f32 0x3F800000#32) (totalOf ![a (ix2 r 0), b (ix2 r 0), c (ix2 r 0), d (ix2 r 0)])) j := by
  have e : (fun k => expOf ![a (ix2 r 0), b (ix2 r 0), c (ix2 r 0), d (ix2 r 0)] k
          * Ideal.div (Ideal.ofBits .f32 0x3F800000#32) (totalOf ![a (ix2 r 0), b (ix2 r 0), c (ix2 r 0), d (ix2 r 0)]))
      = ![Ideal.exp (a (ix2 r 0) - a (ix2 r 0)) * Ideal.div (Ideal.ofBits .f32 0x3F800000#32) (totalOf ![a (ix2 r 0), b (ix2 r 0), c (ix2 r 0), d (ix2 r 0)]),
        Ideal.exp (b (ix2 r 0) - a (ix2 r 0)) * Ideal.div (Ideal.ofBits .f32 0x3F800000#32) (totalOf ![a (ix2 r 0), b (ix2 r 0), c (ix2 r 0), d (ix2 r 0)]),
        Ideal.exp (c (ix2 r 0) - a (ix2 r 0)) * Ideal.div (Ideal.ofBits .f32 0x3F800000#32) (totalOf ![a (ix2 r 0), b (ix2 r 0), c (ix2 r 0), d (ix2 r 0)]),
        Ideal.exp (d (ix2 r 0) - a (ix2 r 0)) * Ideal.div (Ideal.ofBits .f32 0x3F800000#32) (totalOf ![a (ix2 r 0), b (ix2 r 0), c (ix2 r 0), d (ix2 r 0)])] := by
    funext k
    match k with
    | 0 => rfl
    | 1 => rfl
    | 2 => rfl
    | 3 => rfl
  have et : totalOf ![a (ix2 r 0), b (ix2 r 0), c (ix2 r 0), d (ix2 r 0)]
      = ((Ideal.exp (a (ix2 r 0) - a (ix2 r 0)) + Ideal.exp (b (ix2 r 0) - a (ix2 r 0))) + Ideal.exp (c (ix2 r 0) - a (ix2 r 0))) + Ideal.exp (d (ix2 r 0) - a (ix2 r 0)) := rfl
  rw [e, ← four_selects, et, ← Ideal.ofBits_zero_f32]
  pointwise [k0_pay2, k0_pay28, k0_pay26, k0_pay25, k0_pay24, k0_pay23, k0_pay22]

end Cert.SamplePost

end
-- ==== Proof.PostSampleOut.lean ====
module

public import proofs.«01_k».proof.Proof.PostSamplePay
public import proofs.«01_k».proof.Proof.PostOut

@[expose] public section

set_option maxRecDepth 16384

noncomputable section

namespace Cert.SamplePost

open Cert.PostSampleIdeal Cert.PostSampleIdeal.Gen
open Cert.Post
open Idealize.ShloMosaic Idealize.ShloMosaic.TcCoe Idealize.SL.Sem

/-! ## The body's three results at an index, of what its windows hold -/

variable (x0 : FVec Ideal S128x1024 .bf16) (x1 : FVec Ideal S128x1024 .f32) (x2 x3 : FVec Ideal S1x1024 .f32) (x4 : FVec Ideal S1024x1024 .bf16)
  (x5 x6 : FVec Ideal S1x1024 .f32) (x7 x8 : FVec Ideal S1024x128 .bf16) (x9 : FVec Ideal S1x128 .f32)

theorem ld_0 (X : FVec Ideal S128x1024 .f32) : View.ld (Val := Elt Ideal) (e' := .f32) (S := S128x1024) X r0_0 = X := View.ld_unit_zero (Val := Elt Ideal) (S := S128x1024) (e := .f32) zeros inb_S128x1024_S128x1024_0_0 X
theorem ld_0b (X : FVec Ideal S128x1024 .bf16) : View.ld (Val := Elt Ideal) (e' := .bf16) (S := S128x1024) X r0_0 = X := View.ld_unit_zero (Val := Elt Ideal) (S := S128x1024) (e := .bf16) zeros inb_S128x1024_S128x1024_0_0 X
theorem ld_1 (X : FVec Ideal S1x1024 .f32) : View.ld (Val := Elt Ideal) (e' := .f32) (S := S1x1024) X r0_1 = X := View.ld_unit_zero (Val := Elt Ideal) (S := S1x1024) (e := .f32) zeros inb_S1x1024_S1x1024_0_0 X
theorem ld_2 (X : FVec Ideal S1024x1024 .bf16) : View.ld (Val := Elt Ideal) (e' := .bf16) (S := S1024x1024) X r0_2 = X := View.ld_unit_zero (Val := Elt Ideal) (S := S1024x1024) (e := .bf16) zeros inb_S1024x1024_S1024x1024_0_0 X
theorem ld_3 (X : FVec Ideal S1024x128 .bf16) : View.ld (Val := Elt Ideal) (e' := .bf16) (S := S1024x128) X r0_3 = X := View.ld_unit_zero (Val := Elt Ideal) (S := S1024x128) (e := .bf16) zeros inb_S1024x128_S1024x128_0_0 X
theorem ld_4 (X : FVec Ideal S1x128 .f32) : View.ld (Val := Elt Ideal) (e' := .f32) (S := S1x128) X r0_4 = X := View.ld_unit_zero (Val := Elt Ideal) (S := S1x128) (e := .f32) zeros inb_S1x128_S1x128_0_0 X

theorem same_4 (v : FVec Ideal S1x1024 .f32) : k0_pay4 (F := Ideal) v = v := by
  funext y; obtain ⟨i, k, rfl⟩ : ∃ (i : Fin 1) (k : Fin 1024), y = (ix2 i k : S1x1024.Idx) := ⟨y (0 : Fin 2), y (1 : Fin 2), by funext a; match a with | ⟨0, _⟩ => rfl | ⟨1, _⟩ => rfl⟩
  obtain rfl : i = 0 := Subsingleton.elim _ _
  pointwise [k0_pay4]
theorem same_5 (v : FVec Ideal S1x1024 .f32) : k0_pay5 (F := Ideal) v = v := same_4 v

/-- The rows before the second normalization. -/
abbrev mixed : FVec Ideal S128x1024 .f32 := k0_pay3 (F := Ideal) x1 x2 x3 x0 x4
/-- The row of the point as numbers. -/
abbrev hPoint (r : Fin 128) : Fin 1024 → EReal :=
  hRow (fun k => x1 (ix2 r k)) (fun k => x0 (ix2 r k)) (fun k => x2 (ix2 0 k)) (fun k => x3 (ix2 0 k)) (fun i k => x4 (ix2 i k)) (fun k => x5 (ix2 0 k)) (fun k => x6 (ix2 0 k))
/-- The router's lanes before the rounds. -/
abbrev lanesPay : FVec Ideal S128x128 .f32 := k0_pay7 (F := Ideal) (mixed x0 x1 x2 x3 x4) x5 x6 x7 x8 x9

theorem pay30_eq : k0_pay30 (F := Ideal) x0 x1 x2 x3 x4 x5 x6 x7 x8 x9 = mixed x0 x1 x2 x3 x4 := by
  unfold k0_pay30; rw [ld_0, ld_1, ld_1, ld_0b, ld_2]
theorem pay31_eq : k0_pay31 (F := Ideal) x0 x1 x2 x3 x4 x5 x6 x7 x8 x9 = x5 := by
  unfold k0_pay31; rw [ld_1, same_4]
theorem pay32_eq : k0_pay32 (F := Ideal) x0 x1 x2 x3 x4 x5 x6 x7 x8 x9 = x6 := by
  unfold k0_pay32; rw [ld_1, same_5]
theorem pay34_eq : k0_pay34 (F := Ideal) x0 x1 x2 x3 x4 x5 x6 x7 x8 x9 = lanesPay x0 x1 x2 x3 x4 x5 x6 x7 x8 x9 := by
  unfold k0_pay34; rw [pay30_eq, pay31_eq, pay32_eq, ld_3, ld_3, ld_4]

/-- The rows normalized again, at an index. -/
theorem row_apply (r : Fin 128) (k : Fin 1024) : k0_pay6 (F := Ideal) (mixed x0 x1 x2 x3 x4) x5 x6 (ix2 r k) = hPoint x0 x1 x2 x3 x4 x5 x6 r k := by
  rw [pay6_apply]
  unfold hPoint hRow
  exact congrArg (fun f => lnOf f (fun k => x5 (ix2 0 k)) (fun k => x6 (ix2 0 k)) k) (funext fun k => pay3_apply x1 x2 x3 x0 x4 r k)

/-- The first result. -/
theorem out_10 : out0_10 (F := Ideal) x0 x1 x2 x3 x4 x5 x6 x7 x8 x9 = k0_pay6 (F := Ideal) (mixed x0 x1 x2 x3 x4) x5 x6 := by
  unfold out0_10; rw [pay30_eq, pay31_eq, pay32_eq]
  exact View.canon_unit_zero (S := S128x1024) zeros _ _

/-- The scores of a row are the router's lanes, for numbers that are neither infinity. -/
theorem score_apply (r : Fin 128) (wr : Fin 1024 → Fin 32 → EReal) (br : Fin 32 → EReal)
    (h7 : ∀ k (e : Fin 32), x7 (ix2 k ⟨e.val, by omega⟩) = wr k e) (h8 : ∀ k (e : Fin 32), x8 (ix2 k ⟨e.val, by omega⟩) = wr k e - wr k e)
    (h9 : ∀ e : Fin 32, x9 (ix2 0 ⟨e.val, by omega⟩) = br e) (hw : ∀ k e, Real' (wr k e)) (hh : ∀ k, Real' (hPoint x0 x1 x2 x3 x4 x5 x6 r k)) (e : Fin 32) :
    lanesPay x0 x1 x2 x3 x4 x5 x6 x7 x8 x9 (ix2 r ⟨e.val, by omega⟩) = scoreOf (hPoint x0 x1 x2 x3 x4 x5 x6 r) wr br e := by
  refine (pay7_apply (mixed x0 x1 x2 x3 x4) x5 x6 x7 x8 x9 r _).trans ?_
  simp only [row_apply]
  simp only [h7, h8, h9]
  rw [three_sums _ (fun k => wr k e) hh fun k => hw k e]
  rfl

variable (v : FVec Ideal S128x128 .f32) (r : Fin 128) (l : Fin 32 → EReal) (hv : ∀ e : Fin 32, v (ix2 r ⟨e.val, by omega⟩) = l e)
include hv

theorem lane_scores : lane (k0_pay9 (F := Ideal) v k0_pay8 least) r = lanes l := by
  rw [lane_9]; exact congrArg lanes (funext hv)

/-- The four greatest of a row, and their places. -/
theorem greatest : (![k0_pay10 (F := Ideal) v k0_pay8 least (ix2 r 0), k0_pay13 (F := Ideal) v io k0_pay8 least (ix2 r 0), k0_pay16 (F := Ideal) v io k0_pay8 least (ix2 r 0),
    k0_pay19 (F := Ideal) v io k0_pay8 least (ix2 r 0)] : Fin 4 → EReal) = topVal l := by
  funext k
  rw [pay10_apply, pay13_apply, pay16_apply, pay19_apply, round_1, round_2, round_3, lane_scores v r l hv]
  match k with
  | 0 => rfl
  | 1 => rfl
  | 2 => rfl
  | 3 => rfl
theorem places : (![k0_pay11 (F := Ideal) v io k0_pay8 least (ix2 r 0), k0_pay14 (F := Ideal) v io k0_pay8 least (ix2 r 0), k0_pay17 (F := Ideal) v io k0_pay8 least (ix2 r 0),
    k0_pay21 (k0_pay20 (F := Ideal) v io k0_pay8 least) (ix2 r 0)] : Fin 4 → BitVec 32) = topWord l := by
  funext k
  rw [pay11_apply, pay14_apply, pay17_apply, pay21_apply, round_1, round_2, round_3, lane_scores v r l hv, word_eq, word_eq, word_eq, word_eq]
  match k with
  | 0 => rfl
  | 1 => rfl
  | 2 => rfl
  | 3 => rfl
omit hv

/-- The second result. -/
theorem out_11 (l : Fin 32 → EReal) (hv : ∀ e : Fin 32, lanesPay x0 x1 x2 x3 x4 x5 x6 x7 x8 x9 (ix2 r ⟨e.val, by omega⟩) = l e) (j : Fin 128) :
    (out0_11 (F := Ideal) x0 x1 x2 x3 x4 x5 x6 x7 x8 x9 : IVec S128x128 32) (ix2 r j) = inFour 0#32 (topWord l) j := by
  unfold out0_11
  rw [pay34_eq]
  refine (congrFun (View.canon_unit_zero (S := S128x128) zeros _ _) (ix2 r j)).trans ?_
  exact (pay1_apply r _ _ _ _ j).trans (congrArg (fun u => inFour 0#32 u j) (places _ r l hv))

/-- The third result. -/
theorem out_12 (l : Fin 32 → EReal) (hl : ∀ e, Real' (l e)) (hv : ∀ e : Fin 32, lanesPay x0 x1 x2 x3 x4 x5 x6 x7 x8 x9 (ix2 r ⟨e.val, by omega⟩) = l e) (j : Fin 128) :
    (out0_12 (F := Ideal) x0 x1 x2 x3 x4 x5 x6 x7 x8 x9 : FVec Ideal S128x128 .f32) (ix2 r j) = inFour (0 : EReal) (gateOf l) j := by
  unfold out0_12 k0_pay36 k0_pay37 k0_pay38 k0_pay39
  rw [pay34_eq]
  refine (congrFun (View.canon_unit_zero (S := S128x128) zeros _ _) (ix2 r j)).trans ?_
  refine (pay2_apply r _ _ _ _ j).trans ?_
  refine (congrArg (fun u => inFour (0 : EReal) (fun k => expOf u k * Ideal.div (Ideal.ofBits .f32 0x3F800000#32) (totalOf u)) j) (greatest _ r l hv)).trans ?_
  exact congrArg (fun u => inFour (0 : EReal) u j) (funext fun k => mul_inv_total (topVal l) (real_top hl) (expOf (topVal l) k))

end Cert.SamplePost

end
-- ==== Proof.PostSampleRef.lean ====
module

public import proofs.«01_k».proof.Defs
public import proofs.«01_k».proof.Proof.Gen.PostSampleReferenceIdeal
public import proofs.«01_k».proof.Proof.PostRef
public import Idealize.ShloMosaic.Lib.Pointwise

@[expose] public section

set_option maxRecDepth 16384

noncomputable section

namespace Cert.SamplePost

open Cert.PostSampleReferenceIdeal Cert.PostSampleReferenceIdeal.Gen
open Cert.Post
open Idealize.ShloMosaic
open Cert.Proj (meanOf normOf flat flat_apply reshape_flat)

/-! ## The reference's term, in its steps -/

/-- The mean over the last axis, as a column. -/
def refMean (x : FVec Ideal S32x4x1024 .f32) : FVec Ideal S32x4x1 .f32 :=
  Host.divf (broadcastInDim S32x4x1 ![0, 1] bcast_S32x4_S32x4x1_0_1 (Host.reduceAdd x (constant S_ .f32 0x00000000#32) reducesTo_S32x4x1024_S32x4_d2 h_S_))
    (broadcastInDim S32x4x1 ![] bcast_S_S32x4x1 (constant S_ .f32 0x44800000#32))

/-- The rows less their means. -/
def refCentred (x : FVec Ideal S32x4x1024 .f32) : FVec Ideal S32x4x1024 .f32 :=
  subf x (broadcastInDim S32x4x1024 ![0, 1, 2] bcast_S32x4x1_S32x4x1024_0_1_2 (refMean x))

/-- The rows normalized, scaled and shifted. -/
def refNormed (x : FVec Ideal S32x4x1024 .f32) (g b : FVec Ideal S1024 .f32) : FVec Ideal S32x4x1024 .f32 :=
  addf (mulf (mulf (refCentred x)
      (broadcastInDim S32x4x1024 ![0, 1, 2] bcast_S32x4x1_S32x4x1024_0_1_2
        (Host.rsqrt (addf (refMean (mulf (refCentred x) (refCentred x))) (broadcastInDim S32x4x1 ![] bcast_S_S32x4x1 (constant S_ .f32 0x3727C5AC#32))))))
      (broadcastInDim S32x4x1024 ![0, 1, 2] bcast_S1x1x1024_S32x4x1024_0_1_2 (broadcastInDim S1x1x1024 ![2] bcast_S1024_S1x1x1024_2 g)))
    (broadcastInDim S32x4x1024 ![0, 1, 2] bcast_S1x1x1024_S32x4x1024_0_1_2 (broadcastInDim S1x1x1024 ![2] bcast_S1024_S1x1x1024_2 b))

/-- The normalized rows, scaled, and the heads' rows through their weights. -/
def refMix (a : FVec Ideal S32x4x1024 .bf16) (h : FVec Ideal S32x4x1024 .f32) (wo : FVec Ideal S1x1024x1024 .f32) : FVec Ideal S32x4x1024 .f32 :=
  addf (mulf (broadcastInDim S32x4x1024 ![] bcast_S_S32x4x1024 (constant S_ .f32 0x3F9837F0#32)) h)
    (Host.dotGeneral dot_S32x4x1024_S1024x1024_S32x4x1024_2_0_01_1_n_n none (extf .f32 a bitsLt_bf16_f32) (shapeCast S1024x1024 wo shapeCasts_S1x1024x1024_S1024x1024))
def refMixed (a : FVec Ideal S32x4x1024 .bf16) (x : FVec Ideal S32x4x1024 .f32) (gi bi : FVec Ideal S1024 .f32) (wo : FVec Ideal S1x1024x1024 .f32) :
    FVec Ideal S32x4x1024 .f32 := refMix a (refNormed x gi bi) wo

/-- The first result, of the mixed rows. -/
def refH (y : FVec Ideal S32x4x1024 .f32) (g1 b1 : FVec Ideal S1x1024 .f32) : FVec Ideal S128x1024 .f32 :=
  shapeCast S128x1024 (refNormed y (shapeCast S1024 g1 shapeCasts_S1x1024_S1024) (shapeCast S1024 b1 shapeCasts_S1x1024_S1024)) shapeCasts_S32x4x1024_S128x1024

/-- The router's scores, of the first result. -/
def refScores (h : FVec Ideal S128x1024 .f32) (wr : FVec Ideal S1x1024x32 .f32) (br : FVec Ideal S1x32 .f32) : FVec Ideal S128x32 .f32 :=
  addf (Host.dotGeneral dot_S128x1024_S1024x32_S128x32_1_0_0_1_n_n none h (shapeCast S1024x32 wr shapeCasts_S1x1024x32_S1024x32))
    (broadcastInDim S128x32 ![0, 1] bcast_S1x32_S128x32_0_1 (broadcastInDim S1x32 ![1] bcast_S32_S1x32_1 (shapeCast S32 br shapeCasts_S1x32_S32)))

/-- The four best scores of each row, and their places. -/
def refTopV (s : FVec Ideal S128x32 .f32) : FVec Ideal S128x4 .f32 := (Host.topK S128x4 1 (FloatOps.cmpfTotal .gt) s sliceFits_S128x32_S128x4).1
def refTopE (s : FVec Ideal S128x32 .f32) : IVec S128x4 32 := (Host.topK S128x4 1 (FloatOps.cmpfTotal .gt) s sliceFits_S128x32_S128x4).2

/-- The exponentials of the four less the greatest. -/
def refExp (v : FVec Ideal S128x4 .f32) : FVec Ideal S128x4 .f32 :=
  Host.exp (subf v (broadcastInDim S128x4 ![0, 1] bcast_S128x1_S128x4_0_1 (broadcastInDim S128x1 ![0] bcast_S128_S128x1_0
    (maximumf (broadcastInDim S128 ![] bcast_S_S128 (constant S_ .f32 0xFF800000#32))
      (Host.reduce FloatOps.maximumf v (constant S_ .f32 0xFF800000#32) reducesTo_S128x4_S128_d1 h_S_)))))

/-- The exponentials over their sum. -/
def refGate (e : FVec Ideal S128x4 .f32) : FVec Ideal S128x4 .f32 :=
  Host.divf e (broadcastInDim S128x4 ![0, 1] bcast_S128x1_S128x4_0_1 (broadcastInDim S128x1 ![0] bcast_S128_S128x1_0
    (Host.reduceAdd e (constant S_ .f32 0x00000000#32) reducesTo_S128x4_S128_d1 h_S_)))

/-- The second and third results: the places and the weights, in the first four of 128 lanes. -/
def refPlaces (t : IVec S128x4 32) : IVec S128x128 32 := pad S128x128 ![0, 0] ![0, 124] ![0, 0] t (constantI S_ 32 0#32) pads_S128x4_S128x128_000_01240 h_S_
def refWeights (g : FVec Ideal S128x4 .f32) : FVec Ideal S128x128 .f32 :=
  pad S128x128 ![0, 0] ![0, 124] ![0, 0] g (sitofp (F := Ideal) .f32 (constantI S_ 32 0#32)) pads_S128x4_S128x128_000_01240 h_S_

/-! ## The same at an index -/

theorem refMixed_apply (a : FVec Ideal S32x4x1024 .bf16) (x : FVec Ideal S32x4x1024 .f32) (gi bi : FVec Ideal S1024 .f32) (wo : FVec Ideal S1x1024x1024 .f32)
    (n : Fin 32) (s : Fin 4) (k : Fin 1024) :
    refMixed a x gi bi wo (ix3 n s k)
      = mixOf (fun k => x (ix3 n s k)) (fun k => gi (ix1 k)) (fun k => bi (ix1 k)) (fun k => a (ix3 n s k)) (fun i k => wo (ix3 0 i k)) k := by
  pointwise [refMixed, refMix, refNormed, refCentred, refMean, mixOf, lnOf, normOf, meanOf]

theorem refNormed_apply (y : FVec Ideal S32x4x1024 .f32) (g1 b1 : FVec Ideal S1x1024 .f32) (n : Fin 32) (s : Fin 4) (k : Fin 1024) :
    refNormed y (shapeCast S1024 g1 shapeCasts_S1x1024_S1024) (shapeCast S1024 b1 shapeCasts_S1x1024_S1024) (ix3 n s k)
      = lnOf (fun k => y (ix3 n s k)) (fun k => g1 (ix2 0 k)) (fun k => b1 (ix2 0 k)) k := by
  pointwise [refNormed, refCentred, refMean, lnOf, normOf, meanOf]

/-- The first result is the row through the layers. -/
theorem refH_apply (a : FVec Ideal S32x4x1024 .bf16) (x : FVec Ideal S32x4x1024 .f32) (gi bi : FVec Ideal S1024 .f32) (wo : FVec Ideal S1x1024x1024 .f32)
    (g1 b1 : FVec Ideal S1x1024 .f32) (n : Fin 128) (k : Fin 1024) :
    refH (refMixed a x gi bi wo) g1 b1 (ix2 n k)
      = hRow (fun k => flat (A := 32) (B := 4) (N := 128) (by decide) x (ix2 n k)) (fun k => flat (A := 32) (B := 4) (N := 128) (by decide) a (ix2 n k))
          (fun k => gi (ix1 k)) (fun k => bi (ix1 k)) (fun i k => wo (ix3 0 i k)) (fun k => g1 (ix2 0 k)) (fun k => b1 (ix2 0 k)) k := by
  unfold refH hRow
  rw [reshape_flat (A := 32) (B := 4) (by decide), flat_apply, refNormed_apply]
  congr 1
  funext k
  rw [refMixed_apply]
  rfl

theorem refScores_apply (h : FVec Ideal S128x1024 .f32) (wr : FVec Ideal S1x1024x32 .f32) (br : FVec Ideal S1x32 .f32) (n : Fin 128) (e : Fin 32) :
    refScores h wr br (ix2 n e) = scoreOf (fun k => h (ix2 n k)) (fun k e => wr (ix3 0 k e)) (fun e => br (ix2 0 e)) e := by
  pointwise [refScores, scoreOf]

section
variable (s : FVec Ideal S128x32 .f32) (n : Fin 128) (hs : ∀ e, Real' (s (ix2 n e)))
include hs

theorem refTopV_apply (k : Fin 4) : refTopV s (ix2 n k) = topVal (fun e => s (ix2 n e)) k := by
  refine ((topK_row _ s _ (by decide) n k).1.trans ?_).trans (best_eq (fun e => s (ix2 n e)) (fun e => real_ne_bot (hs e)) k).symm
  rw [sortedFrom_eq (fun e => s (ix2 n e)) (fun e => real_ne_bot (hs e)) k]

theorem refTopE_apply (k : Fin 4) : refTopE s (ix2 n k) = topWord (fun e => s (ix2 n e)) k := by
  refine (topK_row _ s _ (by decide) n k).2.trans ?_
  rw [sortedFrom_eq (fun e => s (ix2 n e)) (fun e => real_ne_bot (hs e)) k]
  rfl
end

theorem refExp_apply (v : FVec Ideal S128x4 .f32) (n : Fin 128) (k : Fin 4) :
    refExp v (ix2 n k) = Ideal.exp (v (ix2 n k) - max ⊥ (Finset.univ.fold max ⊥ fun k => v (ix2 n k))) := by
  rw [← bits_least]
  pointwise [refExp]

theorem refGate_apply (e : FVec Ideal S128x4 .f32) (n : Fin 128) (k : Fin 4) :
    refGate e (ix2 n k) = Ideal.div (e (ix2 n k)) (∑ k, e (ix2 n k)) := by
  pointwise [refGate]

theorem refPlaces_apply (t : IVec S128x4 32) (n : Fin 128) (j : Fin 128) : refPlaces t (ix2 n j) = inFour 0#32 (fun k => t (ix2 n k)) j := by
  unfold inFour
  pointwise [refPlaces]

theorem refWeights_apply (g : FVec Ideal S128x4 .f32) (n : Fin 128) (j : Fin 128) : refWeights g (ix2 n j) = inFour (0 : EReal) (fun k => g (ix2 n k)) j := by
  have z : (FloatOps.sitofp (F := Ideal) FTy.f32 (0#32 : BitVec 32)) = (0 : EReal) := by
    show (((0#32 : BitVec 32).toInt : ℝ) : EReal) = 0
    norm_num
  unfold inFour
  pointwise [refWeights]
  rw [z]

/-! ## The results at an index -/

section
variable (s : FVec Ideal S128x32 .f32) (n : Fin 128) (hs : ∀ e, Real' (s (ix2 n e))) (j : Fin 128)
include hs

theorem places_apply : refPlaces (refTopE s) (ix2 n j) = inFour 0#32 (topWord fun e => s (ix2 n e)) j := by
  rw [refPlaces_apply, funext (refTopE_apply s n hs)]

theorem weights_apply : refWeights (refGate (refExp (refTopV s))) (ix2 n j) = inFour (0 : EReal) (gateOf fun e => s (ix2 n e)) j := by
  have e : ∀ k, refExp (refTopV s) (ix2 n k) = expOf (topVal fun e => s (ix2 n e)) k := fun k => by
    rw [refExp_apply, funext (refTopV_apply s n hs), refTopV_apply s n hs k, fold_top hs]; rfl
  rw [refWeights_apply]
  refine congrArg (fun u => inFour (0 : EReal) u j) (funext fun k => ?_)
  have h : ∑ k, refExp (refTopV s) (ix2 n k) = totalOf (topVal fun e => s (ix2 n e)) := (Finset.sum_congr rfl fun k _ => e k).trans (Fin.sum_univ_four _)
  rw [refGate_apply, e, h]
  rfl
end

end Cert.SamplePost

end
-- ==== Proof.PostSampleValue.lean ====
module

public import proofs.«01_k».proof.Proof.PostSampleOut
public import proofs.«01_k».proof.Proof.PostSampleRef
public import Idealize.ShloMosaic.Lib.KernelVsHost
public import Idealize.ShloMosaic.Lib.Pipeline.Covers
public import Idealize.ShloMosaic.Lib.Pipeline.ValueKit

@[expose] public section

set_option maxRecDepth 16384

noncomputable section

namespace Cert.SamplePost

open Cert.PostSampleIdeal Cert.PostSampleIdeal.Gen
open Cert.Post
open Idealize.ShloMosaic Idealize.ShloMosaic.TcCoe Idealize.SL.Sem
open Cert.Proj (flat flat_apply reshape_flat place_at)

variable (m : (ℓ : Loc nD τ sig) → Buf (Elt Ideal) ℓ)

/-- The arguments as launched. -/
abbrev argA (c : Dev nD) : FVec Ideal S32x4x1024 .bf16 := m ((c : Thread nD τ).loc main_arg0)
abbrev argX (c : Dev nD) : FVec Ideal S32x4x1024 .f32 := m ((c : Thread nD τ).loc main_arg1)
abbrev argGi (c : Dev nD) : FVec Ideal S1024 .f32 := m ((c : Thread nD τ).loc main_arg2)
abbrev argBi (c : Dev nD) : FVec Ideal S1024 .f32 := m ((c : Thread nD τ).loc main_arg3)
abbrev argWo (c : Dev nD) : FVec Ideal S1x1024x1024 .f32 := m ((c : Thread nD τ).loc main_arg4)
abbrev argG1 (c : Dev nD) : FVec Ideal S1x1024 .f32 := m ((c : Thread nD τ).loc main_arg5)
abbrev argB1 (c : Dev nD) : FVec Ideal S1x1024 .f32 := m ((c : Thread nD τ).loc main_arg6)
abbrev argWr (c : Dev nD) : FVec Ideal S1x1024x32 .f32 := m ((c : Thread nD τ).loc main_arg7)
abbrev argBr (c : Dev nD) : FVec Ideal S1x32 .f32 := m ((c : Thread nD τ).loc main_arg8)

/-- No entry of an argument is an infinity. -/
structure Fine (c : Dev nD) : Prop where
  a : ∀ i, Real' (argA m c i)
  x : ∀ i, Real' (argX m c i)
  gi : ∀ i, Real' (argGi m c i)
  bi : ∀ i, Real' (argBi m c i)
  wo : ∀ i, Real' (argWo m c i)
  g1 : ∀ i, Real' (argG1 m c i)
  b1 : ∀ i, Real' (argB1 m c i)
  wr : ∀ i, Real' (argWr m c i)
  br : ∀ i, Real' (argBr m c i)

/-- The reference's rows and scores of the arguments. -/
abbrev wantH (c : Dev nD) : FVec Ideal S128x1024 .f32 := refH (refMixed (argA m c) (argX m c) (argGi m c) (argBi m c) (argWo m c)) (argG1 m c) (argB1 m c)
abbrev wantS (c : Dev nD) : FVec Ideal Cert.PostSampleReferenceIdeal.S128x32 .f32 := refScores (wantH m c) (argWr m c) (argBr m c)
abbrev wantE (c : Dev nD) : IVec S128x128 32 := refPlaces (refTopE (wantS m c))
abbrev wantG (c : Dev nD) : FVec Ideal S128x128 .f32 := refWeights (refGate (refExp (refTopV (wantS m c))))

/-- The router's weights and its shift, widened to 128 columns. -/
abbrev padW (c : Dev nD) : FVec Ideal S1024x128 .f32 :=
  pad S1024x128 ![0, 0] ![0, 96] ![0, 0] (shapeCast S1024x32 (argWr m c) shapeCasts_S1x1024x32_S1024x32) (sitofp .f32 (constantI S_ 32 0#32)) pads_S1024x32_S1024x128_000_0960 h_S_
abbrev padB (c : Dev nD) : FVec Ideal S1x128 .f32 :=
  pad S1x128 ![0, 0] ![0, 96] ![0, 0] (shapeCast S1x32 (shapeCast S32 (argBr m c) shapeCasts_S1x32_S32) shapeCasts_S32_S1x32) (sitofp .f32 (constantI S_ 32 0#32)) pads_S1x32_S1x128_000_0960 h_S_

theorem padW_apply (c : Dev nD) (k : Fin 1024) (e : Fin 32) : padW m c (ix2 k ⟨e.val, by omega⟩) = argWr m c (ix3 0 k e) := by
  refine (pad_apply_of_inside _ _ _ _ _ _ _ _ (ix2 k e) fun a => ?_).trans ?_
  · match a with
    | ⟨0, _⟩ => show k.val = 0 + k.val * (0 + 1); omega
    | ⟨1, _⟩ => show e.val = 0 + e.val * (0 + 1); omega
  · pointwise
theorem padB_apply (c : Dev nD) (e : Fin 32) : padB m c (ix2 0 ⟨e.val, by omega⟩) = argBr m c (ix2 0 e) := by
  refine (pad_apply_of_inside _ _ _ _ _ _ _ _ (ix2 0 e) fun a => ?_).trans ?_
  · match a with
    | ⟨0, _⟩ => rfl
    | ⟨1, _⟩ => show e.val = 0 + e.val * (0 + 1); omega
  · pointwise

/-- What the call finds in its arrays. -/
theorem V_9 (c : Dev nD) : (V m c main_v9 : FVec Ideal S128x1024 .bf16) = shapeCast S128x1024 (argA m c) shapeCasts_S32x4x1024_S128x1024 := by
  unfold V; entry_read; rfl
theorem V_10 (c : Dev nD) : (V m c main_v10 : FVec Ideal S128x1024 .f32) = shapeCast S128x1024 (argX m c) shapeCasts_S32x4x1024_S128x1024 := by
  unfold V; entry_read; rfl
theorem V_11 (c : Dev nD) : (V m c main_v11 : FVec Ideal S1x1024 .f32) = shapeCast S1x1024 (argGi m c) shapeCasts_S1024_S1x1024 := by
  unfold V; entry_read; rfl
theorem V_12 (c : Dev nD) : (V m c main_v12 : FVec Ideal S1x1024 .f32) = shapeCast S1x1024 (argBi m c) shapeCasts_S1024_S1x1024 := by
  unfold V; entry_read; rfl
theorem V_14 (c : Dev nD) : (V m c main_v14 : FVec Ideal S1024x1024 .bf16) = truncf .bf16 (shapeCast S1024x1024 (argWo m c) shapeCasts_S1x1024x1024_S1024x1024) bitsLt_bf16_f32 := by
  unfold V; entry_read; rfl
theorem V_16 (c : Dev nD) : (V m c main_v16 : FVec Ideal S1x1024 .f32) = shapeCast S1x1024 (shapeCast S1024 (argG1 m c) shapeCasts_S1x1024_S1024) shapeCasts_S1024_S1x1024 := by
  unfold V; entry_read; rfl
theorem V_18 (c : Dev nD) : (V m c main_v18 : FVec Ideal S1x1024 .f32) = shapeCast S1x1024 (shapeCast S1024 (argB1 m c) shapeCasts_S1x1024_S1024) shapeCasts_S1024_S1x1024 := by
  unfold V; entry_read; rfl
theorem V_2 (c : Dev nD) : (V m c main_v2 : FVec Ideal S1024x128 .bf16) = truncf .bf16 (padW m c) bitsLt_bf16_f32 := by
  unfold V; entry_read; rfl
theorem V_5 (c : Dev nD) : (V m c main_v5 : FVec Ideal S1024x128 .bf16)
    = truncf .bf16 (subf (padW m c) (extf .f32 (truncf .bf16 (padW m c) bitsLt_bf16_f32) bitsLt_bf16_f32)) bitsLt_bf16_f32 := by
  unfold V; entry_read; rfl
theorem V_8 (c : Dev nD) : (V m c main_v8 : FVec Ideal S1x128 .f32) = padB m c := by
  unfold V; entry_read; rfl

/-- The points are the blocks of rows. -/
theorem point_lt (t : Fin cfg0.N) : t.val < 1 := lt_of_lt_of_eq t.isLt N_0
theorem coord_val (t : Fin cfg0.N) : ((grid0.coords t) 0).val = t.val := by
  rw [Pipeline.Grid.coords_val (G := grid0) (S := 1) (B := 1) t 0 (by decide) rfl]
  have := point_lt t; omega

/-- Where each window's block lies: the rows' and the results' at the point's, the others whole. -/
theorem place_0 (t : Fin cfg0.N) : (cfg0.win 0).index t = ![t.val, 0] := by
  have e : (cfg0.win 0).index t = ![(BitVec.ofNat 32 ((grid0.coords t) 0).val).toNat, 0] := rfl
  have := point_lt t
  rw [e, coord_val t, BitVec.toNat_ofNat, Nat.mod_eq_of_lt (by omega)]
theorem place_1 (t : Fin cfg0.N) : (cfg0.win 1).index t = ![t.val, 0] := place_0 t
theorem place_10 (t : Fin cfg0.N) : (cfg0.win 10).index t = ![t.val, 0] := place_0 t
theorem place_11 (t : Fin cfg0.N) : (cfg0.win 11).index t = ![t.val, 0] := place_0 t
theorem place_12 (t : Fin cfg0.N) : (cfg0.win 12).index t = ![t.val, 0] := place_0 t

/-- The row of point `t` and place `r`. -/
abbrev rowAt (t : Fin cfg0.N) (r : Fin 128) : Fin 128 := ⟨t.val * 128 + r.val, by have := point_lt t; omega⟩

/-- The blocks at an index. -/

theorem iblk_0 (c : Dev nD) (t : Fin cfg0.N) (r : Fin 128) (k : Fin 1024) :
    (iblk m c 0 t : FVec Ideal S128x1024 .bf16) (ix2 r k) = flat (A := 32) (B := 4) (N := 128) (by decide) (argA m c) (ix2 (rowAt t r) k) := by
  have e : (iblk m c 0 t : FVec Ideal S128x1024 .bf16) (ix2 r k) = (V m c main_v9 : FVec Ideal S128x1024 .bf16) (ix2 (rowAt t r) k) := by
    blk_ext [iblk]
    · exact place_at (congrFun (place_0 t) 0) 128 _ _ rfl
    · exact place_at (congrFun (place_0 t) 1) 1024 _ _ (by show 0 * _ + _ = _; omega)
  rw [e, V_9, reshape_flat (A := 32) (B := 4) (by decide) (argA m c)]

theorem iblk_1 (c : Dev nD) (t : Fin cfg0.N) (r : Fin 128) (k : Fin 1024) :
    (iblk m c 1 t : FVec Ideal S128x1024 .f32) (ix2 r k) = flat (A := 32) (B := 4) (N := 128) (by decide) (argX m c) (ix2 (rowAt t r) k) := by
  have e : (iblk m c 1 t : FVec Ideal S128x1024 .f32) (ix2 r k) = (V m c main_v10 : FVec Ideal S128x1024 .f32) (ix2 (rowAt t r) k) := by
    blk_ext [iblk]
    · exact place_at (congrFun (place_1 t) 0) 128 _ _ rfl
    · exact place_at (congrFun (place_1 t) 1) 1024 _ _ (by show 0 * _ + _ = _; omega)
  rw [e, V_10, reshape_flat (A := 32) (B := 4) (by decide) (argX m c)]

theorem iblk_2 (c : Dev nD) (t : Fin cfg0.N) (k : Fin 1024) : (iblk m c 2 t : FVec Ideal S1x1024 .f32) (ix2 0 k) = argGi m c (ix1 k) := by
  have e : (iblk m c 2 t : FVec Ideal S1x1024 .f32) (ix2 0 k) = (V m c main_v11 : FVec Ideal S1x1024 .f32) (ix2 0 k) := by
    blk_ext [iblk]
    · rfl
    · exact place_at (a := 0) rfl 1024 _ _ (by omega)
  rw [e, V_11]; pointwise

theorem iblk_3 (c : Dev nD) (t : Fin cfg0.N) (k : Fin 1024) : (iblk m c 3 t : FVec Ideal S1x1024 .f32) (ix2 0 k) = argBi m c (ix1 k) := by
  have e : (iblk m c 3 t : FVec Ideal S1x1024 .f32) (ix2 0 k) = (V m c main_v12 : FVec Ideal S1x1024 .f32) (ix2 0 k) := by
    blk_ext [iblk]
    · rfl
    · exact place_at (a := 0) rfl 1024 _ _ (by omega)
  rw [e, V_12]; pointwise

theorem iblk_5 (c : Dev nD) (t : Fin cfg0.N) (k : Fin 1024) : (iblk m c 5 t : FVec Ideal S1x1024 .f32) (ix2 0 k) = argG1 m c (ix2 0 k) := by
  have e : (iblk m c 5 t : FVec Ideal S1x1024 .f32) (ix2 0 k) = (V m c main_v16 : FVec Ideal S1x1024 .f32) (ix2 0 k) := by
    blk_ext [iblk]
    · rfl
    · exact place_at (a := 0) rfl 1024 _ _ (by omega)
  rw [e, V_16]; pointwise

theorem iblk_6 (c : Dev nD) (t : Fin cfg0.N) (k : Fin 1024) : (iblk m c 6 t : FVec Ideal S1x1024 .f32) (ix2 0 k) = argB1 m c (ix2 0 k) := by
  have e : (iblk m c 6 t : FVec Ideal S1x1024 .f32) (ix2 0 k) = (V m c main_v18 : FVec Ideal S1x1024 .f32) (ix2 0 k) := by
    blk_ext [iblk]
    · rfl
    · exact place_at (a := 0) rfl 1024 _ _ (by omega)
  rw [e, V_18]; pointwise

theorem iblk_4 (c : Dev nD) (t : Fin cfg0.N) (k : Fin 1024) (j : Fin 1024) : (iblk m c 4 t : FVec Ideal S1024x1024 .bf16) (ix2 k j) = argWo m c (ix3 0 k j) := by
  have e : (iblk m c 4 t : FVec Ideal S1024x1024 .bf16) (ix2 k j) = (V m c main_v14 : FVec Ideal S1024x1024 .bf16) (ix2 k j) := by
    blk_ext [iblk]
    · exact place_at (a := 0) rfl 1024 _ _ (by omega)
    · exact place_at (a := 0) rfl 1024 _ _ (by omega)
  rw [e, V_14]; pointwise

theorem iblk_7 (c : Dev nD) (t : Fin cfg0.N) (k : Fin 1024) (j : Fin 128) : (iblk m c 7 t : FVec Ideal S1024x128 .bf16) (ix2 k j) = padW m c (ix2 k j) := by
  have e : (iblk m c 7 t : FVec Ideal S1024x128 .bf16) (ix2 k j) = (V m c main_v2 : FVec Ideal S1024x128 .bf16) (ix2 k j) := by
    blk_ext [iblk]
    · exact place_at (a := 0) rfl 1024 _ _ (by omega)
    · exact place_at (a := 0) rfl 128 _ _ (by omega)
  rw [e, V_2]; rfl

theorem iblk_8 (c : Dev nD) (t : Fin cfg0.N) (k : Fin 1024) (j : Fin 128) : (iblk m c 8 t : FVec Ideal S1024x128 .bf16) (ix2 k j) = padW m c (ix2 k j) - padW m c (ix2 k j) := by
  have e : (iblk m c 8 t : FVec Ideal S1024x128 .bf16) (ix2 k j) = (V m c main_v5 : FVec Ideal S1024x128 .bf16) (ix2 k j) := by
    blk_ext [iblk]
    · exact place_at (a := 0) rfl 1024 _ _ (by omega)
    · exact place_at (a := 0) rfl 128 _ _ (by omega)
  rw [e, V_5]; rfl

theorem iblk_9 (c : Dev nD) (t : Fin cfg0.N) (j : Fin 128) : (iblk m c 9 t : FVec Ideal S1x128 .f32) (ix2 0 j) = padB m c (ix2 0 j) := by
  have e : (iblk m c 9 t : FVec Ideal S1x128 .f32) (ix2 0 j) = (V m c main_v8 : FVec Ideal S1x128 .f32) (ix2 0 j) := by
    blk_ext [iblk]
    · rfl
    · exact place_at (a := 0) rfl 128 _ _ (by omega)
  rw [e, V_8]

/-- A row of a point is the reference's row. -/
theorem row_point (c : Dev nD) (t : Fin cfg0.N) (r : Fin 128) (k : Fin 1024) :
    hPoint (iblk m c 0 t) (iblk m c 1 t) (iblk m c 2 t) (iblk m c 3 t) (iblk m c 4 t) (iblk m c 5 t) (iblk m c 6 t) r k = wantH m c (ix2 (rowAt t r) k) := by
  refine Eq.trans ?_ (refH_apply (argA m c) (argX m c) (argGi m c) (argBi m c) (argWo m c) (argG1 m c) (argB1 m c) (rowAt t r) k).symm
  unfold hPoint
  simp only [iblk_0 m c t, iblk_1 m c t, iblk_2 m c t, iblk_3 m c t, iblk_4 m c t, iblk_5 m c t, iblk_6 m c t]

/-- The reference's rows and scores are no infinities. -/
theorem real_rows (c : Dev nD) (hf : Fine m c) (n : Fin 128) (k : Fin 1024) : Real' (wantH m c (ix2 n k)) := by
  unfold wantH; rw [refH_apply]
  exact real_ln (real_mix (fun _ => hf.x _) (fun _ => hf.gi _) (fun _ => hf.bi _) (fun _ => hf.a _) (fun _ _ => hf.wo _)) (fun _ => hf.g1 _) (fun _ => hf.b1 _) k
theorem real_scores (c : Dev nD) (hf : Fine m c) (n : Fin 128) (e : Fin 32) : Real' (wantS m c (ix2 n e)) := by
  unfold wantS; rw [refScores_apply]
  exact real_score (fun k => real_rows m c hf n k) (fun _ _ => hf.wr _) (fun _ => hf.br _) e

/-- The lanes of a row are the reference's scores. -/
theorem score_point (c : Dev nD) (hf : Fine m c) (t : Fin cfg0.N) (r : Fin 128) (e : Fin 32) :
    lanesPay (iblk m c 0 t) (iblk m c 1 t) (iblk m c 2 t) (iblk m c 3 t) (iblk m c 4 t) (iblk m c 5 t) (iblk m c 6 t) (iblk m c 7 t) (iblk m c 8 t) (iblk m c 9 t) (ix2 r ⟨e.val, by omega⟩)
      = wantS m c (ix2 (rowAt t r) e) := by
  refine (score_apply _ _ _ _ _ _ _ _ _ _ r (fun k e => argWr m c (ix3 0 k e)) (fun e => argBr m c (ix2 0 e)) (fun k e => (iblk_7 m c t k _).trans (padW_apply m c k e))
    (fun k e => (iblk_8 m c t k _).trans (by rw [padW_apply])) (fun e => (iblk_9 m c t _).trans (padB_apply m c e)) (fun k e => hf.wr _) (fun k => ?_) e).trans ?_
  · rw [row_point]; exact real_rows m c hf _ _
  · refine Eq.trans ?_ (refScores_apply (wantH m c) (argWr m c) (argBr m c) (rowAt t r) e).symm
    exact congrArg (fun h => scoreOf h (fun k e => argWr m c (ix3 0 k e)) (fun e => argBr m c (ix2 0 e)) e) (funext fun k => row_point m c t r k)

/-- The three results of a point at an index. -/
theorem point_10 (c : Dev nD) (t : Fin cfg0.N) (r : Fin 128) (j : Fin 1024) :
    (out0_10 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S128x1024 .f32) (ix2 r j) = wantH m c (ix2 (rowAt t r) j) :=
  (congrFun (out_10 (iblk m c 0 t) (iblk m c 1 t) (iblk m c 2 t) (iblk m c 3 t) (iblk m c 4 t) (iblk m c 5 t) (iblk m c 6 t) (iblk m c 7 t) (iblk m c 8 t) (iblk m c 9 t)) (ix2 r j)).trans ((row_apply (iblk m c 0 t) (iblk m c 1 t) (iblk m c 2 t) (iblk m c 3 t) (iblk m c 4 t) (iblk m c 5 t) (iblk m c 6 t) r j).trans (row_point m c t r j))
theorem point_11 (c : Dev nD) (hf : Fine m c) (t : Fin cfg0.N) (r : Fin 128) (j : Fin 128) :
    (out0_11 (F := Ideal) (iblk m c 0 t) (iblk m c 1 t) (iblk m c 2 t) (iblk m c 3 t) (iblk m c 4 t) (iblk m c 5 t) (iblk m c 6 t) (iblk m c 7 t) (iblk m c 8 t) (iblk m c 9 t) : IVec S128x128 32) (ix2 r j) = wantE m c (ix2 (rowAt t r) j) :=
  (out_11 (iblk m c 0 t) (iblk m c 1 t) (iblk m c 2 t) (iblk m c 3 t) (iblk m c 4 t) (iblk m c 5 t) (iblk m c 6 t) (iblk m c 7 t) (iblk m c 8 t) (iblk m c 9 t) r _ (score_point m c hf t r) j).trans (places_apply (wantS m c) (rowAt t r) (real_scores m c hf _) j).symm
theorem point_12 (c : Dev nD) (hf : Fine m c) (t : Fin cfg0.N) (r : Fin 128) (j : Fin 128) :
    (out0_12 (F := Ideal) (iblk m c 0 t) (iblk m c 1 t) (iblk m c 2 t) (iblk m c 3 t) (iblk m c 4 t) (iblk m c 5 t) (iblk m c 6 t) (iblk m c 7 t) (iblk m c 8 t) (iblk m c 9 t) : FVec Ideal S128x128 .f32) (ix2 r j) = wantG m c (ix2 (rowAt t r) j) :=
  (out_12 (iblk m c 0 t) (iblk m c 1 t) (iblk m c 2 t) (iblk m c 3 t) (iblk m c 4 t) (iblk m c 5 t) (iblk m c 6 t) (iblk m c 7 t) (iblk m c 8 t) (iblk m c 9 t) r _ (real_scores m c hf _) (score_point m c hf t r) j).trans (weights_apply (wantS m c) (rowAt t r) (real_scores m c hf _) j).symm

/-- The result array of window 10 after the run is the reference's. -/
theorem final_10 (c : Dev nD) : (dats m 0 c).arrAt 10 cfg0.N = (wantH m c : FVec Ideal S128x1024 .f32) := by
  have hcov : (cfg0.win 10).Covers := (cfg0.win 10).covers_of_indexMap_surj rfl
    (by show ∀ a : Fin 2, 0 < S128x1024.size a; decide) fun β => by
    have h0 : (β (0 : Fin 2)).val < 1 := lt_of_lt_of_eq (β (0 : Fin 2)).isLt (by show (128 + 128 - 1) / 128 = 1; norm_num)
    have h1 : (β (1 : Fin 2)).val < 1 := lt_of_lt_of_eq (β (1 : Fin 2)).isLt (by show (1024 + 1024 - 1) / 1024 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 10 _ hcov fun t _ y => ?_
  blk_simp
  rw [after0_10]
  obtain ⟨r, j, rfl⟩ : ∃ (r : Fin 128) (j : Fin 1024), y = (ix2 r j : S128x1024.Idx) := ⟨y (0 : Fin 2), y (1 : Fin 2), by funext a; match a with | ⟨0, _⟩ => rfl | ⟨1, _⟩ => rfl⟩
  have e : (((cfg0.win 10).blk t).view.emb (ix2 r j) : S128x1024.Idx) = ix2 (rowAt t r) j := by
    blk_ext []
    · exact place_at (congrFun (place_10 t) 0) 128 _ _ rfl
    · exact place_at (congrFun (place_10 t) 1) 1024 _ _ (by show 0 * _ + _ = _; omega)
  exact (point_10 m c t r j).trans (congrArg (wantH m c) e.symm)

/-- The result array of window 11 after the run is the reference's. -/
theorem final_11 (c : Dev nD) (hf : Fine m c) : (dats m 0 c).arrAt 11 cfg0.N = (wantE m c : IVec S128x128 32) := by
  have hcov : (cfg0.win 11).Covers := (cfg0.win 11).covers_of_indexMap_surj rfl
    (by show ∀ a : Fin 2, 0 < S128x128.size a; decide) fun β => by
    have h0 : (β (0 : Fin 2)).val < 1 := lt_of_lt_of_eq (β (0 : Fin 2)).isLt (by show (128 + 128 - 1) / 128 = 1; norm_num)
    have h1 : (β (1 : Fin 2)).val < 1 := lt_of_lt_of_eq (β (1 : Fin 2)).isLt (by show (128 + 128 - 1) / 128 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 11 _ hcov fun t _ y => ?_
  blk_simp
  rw [after0_11]
  obtain ⟨r, j, rfl⟩ : ∃ (r : Fin 128) (j : Fin 128), y = (ix2 r j : S128x128.Idx) := ⟨y (0 : Fin 2), y (1 : Fin 2), by funext a; match a with | ⟨0, _⟩ => rfl | ⟨1, _⟩ => rfl⟩
  have e : (((cfg0.win 11).blk t).view.emb (ix2 r j) : S128x128.Idx) = ix2 (rowAt t r) j := by
    blk_ext []
    · exact place_at (congrFun (place_11 t) 0) 128 _ _ rfl
    · exact place_at (congrFun (place_11 t) 1) 128 _ _ (by show 0 * _ + _ = _; omega)
  exact (point_11 m c hf t r j).trans (congrArg (wantE m c) e.symm)

/-- The result array of window 12 after the run is the reference's. -/
theorem final_12 (c : Dev nD) (hf : Fine m c) : (dats m 0 c).arrAt 12 cfg0.N = (wantG m c : FVec Ideal S128x128 .f32) := by
  have hcov : (cfg0.win 12).Covers := (cfg0.win 12).covers_of_indexMap_surj rfl
    (by show ∀ a : Fin 2, 0 < S128x128.size a; decide) fun β => by
    have h0 : (β (0 : Fin 2)).val < 1 := lt_of_lt_of_eq (β (0 : Fin 2)).isLt (by show (128 + 128 - 1) / 128 = 1; norm_num)
    have h1 : (β (1 : Fin 2)).val < 1 := lt_of_lt_of_eq (β (1 : Fin 2)).isLt (by show (128 + 128 - 1) / 128 = 1; norm_num)
    refine ⟨fun x => ⟨(β (0 : Fin 2)).val, lt_of_lt_of_eq h0 (by match x with | ⟨0, _⟩ => rfl)⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega
  refine (dats m 0 c).arrAt_eq_of_covers 12 _ hcov fun t _ y => ?_
  blk_simp
  rw [after0_12]
  obtain ⟨r, j, rfl⟩ : ∃ (r : Fin 128) (j : Fin 128), y = (ix2 r j : S128x128.Idx) := ⟨y (0 : Fin 2), y (1 : Fin 2), by funext a; match a with | ⟨0, _⟩ => rfl | ⟨1, _⟩ => rfl⟩
  have e : (((cfg0.win 12).blk t).view.emb (ix2 r j) : S128x128.Idx) = ix2 (rowAt t r) j := by
    blk_ext []
    · exact place_at (congrFun (place_12 t) 0) 128 _ _ rfl
    · exact place_at (congrFun (place_12 t) 1) 128 _ _ (by show 0 * _ + _ = _; omega)
  exact (point_12 m c hf t r j).trans (congrArg (wantG m c) e.symm)

/-- The call's results are the reference's of its arguments, which it leaves. -/
theorem value_here (hf : ∀ c, Fine m c) (ρ : Dev nD → PrngReg) : θ_run defs (onTc (τ := τ) (main (F := Ideal))) ⟨m, fun _ => 0, ρ⟩ (fun r => ∀ c : Dev nD,
      r.2.mem ((c.tc : Thread nD τ).loc main_v19_0) = wantH m c
      ∧ r.2.mem ((c.tc : Thread nD τ).loc main_v19_1) = wantE m c
      ∧ r.2.mem ((c.tc : Thread nD τ).loc main_v19_2) = wantG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(Pipeline.FramePost.out_eq h c 10).trans (final_10 m c), (Pipeline.FramePost.out_eq h c 11).trans (final_11 m c (hf c)),
      (Pipeline.FramePost.out_eq h c 12).trans (final_12 m c (hf c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.SamplePost

end
-- ==== Proof.PostSampleOk.lean ====
module

public import proofs.«01_k».proof.Defs
public import proofs.«01_k».proof.Proof.PostSampleValue
public import proofs.«01_k».proof.Proof.PostOk
public import proofs.«01_k».proof.Proof.Gen.Pre_samples_finite
public import Idealize.ShloMosaic.Lib.ReduceAll

@[expose] public section

set_option maxRecDepth 16384

noncomputable section

namespace Cert.SamplePost

open Cert.Post
open Idealize.ShloMosaic Idealize.ShloMosaic.TcCoe
open Cert.Pre_samples_finite (S_)

/-- An array whose entries are all found below infinity in size has none that is an infinity. -/
theorem real_of_all {s : Shape} {dims : List (Fin s.rank)} (x : FVec Ideal s .f32) (hb : S_.BroadcastsInDim s (![] : Fin 0 → Fin s.rank)) (hr : s.ReducesTo dims S_)
    (h : Host.reduce IntOp.andi (cmpf .olt (Host.absf x) (broadcastInDim s ![] hb (constant S_ .f32 0x7F800000#32))) (constantI S_ 1 1#1) hr Cert.Pre_samples_finite.Gen.h_S_ (fun i => i.elim0) = 1#1)
    (y : s.Idx) : Real' (x y) := by
  have : Subsingleton S_.Idx := ⟨fun a b => funext fun i => i.elim0⟩
  exact real_of_abs_lt (x y) (Host.reduce_andi_all _ _ _ _ _ h y)

/-- Where the precondition holds no entry of an argument is an infinity. -/
theorem fine_of_pre (m : (ℓ : Loc Cert.PostSampleIdeal.nD Cert.PostSampleIdeal.τ Cert.PostSampleIdeal.sig) → Buf (Elt Ideal) ℓ) (h : Cert.Pre_PostSampleIdeal_samples_finite m)
    (c : Dev Cert.PostSampleIdeal.nD) : Fine m c := by
  have h1 := congrFun (h c) (fun i => i.elim0)
  dsimp only [Cert.Pre_samples_finite.fn, Cert.Pre_samples_finite.fn_part1, Cert.Pre_samples_finite.fn_part2] at h1
  replace h1 := IntOp.andi_eq_one.1 h1; obtain ⟨h1, r8⟩ := h1
  replace h1 := IntOp.andi_eq_one.1 h1; obtain ⟨h1, r7⟩ := h1
  replace h1 := IntOp.andi_eq_one.1 h1; obtain ⟨h1, r6⟩ := h1
  replace h1 := IntOp.andi_eq_one.1 h1; obtain ⟨h1, r5⟩ := h1
  replace h1 := IntOp.andi_eq_one.1 h1; obtain ⟨h1, r4⟩ := h1
  replace h1 := IntOp.andi_eq_one.1 h1; obtain ⟨h1, r3⟩ := h1
  replace h1 := IntOp.andi_eq_one.1 h1; obtain ⟨h1, r2⟩ := h1
  replace h1 := IntOp.andi_eq_one.1 h1; obtain ⟨r0, r1⟩ := h1
  constructor
  · exact fun y => real_of_all (extf .f32 (argA m c) Cert.Pre_samples_finite.Gen.bitsLt_bf16_f32) _ _ r0 y
  · exact fun y => real_of_all (argX m c) _ _ r1 y
  · exact fun y => real_of_all (argGi m c) _ _ r2 y
  · exact fun y => real_of_all (argBi m c) _ _ r3 y
  · exact fun y => real_of_all (argWo m c) _ _ r4 y
  · exact fun y => real_of_all (argG1 m c) _ _ r5 y
  · exact fun y => real_of_all (argB1 m c) _ _ r6 y
  · exact fun y => real_of_all (argWr m c) _ _ r7 y
  · exact fun y => real_of_all (argBr m c) _ _ r8 y

end Cert.SamplePost

end
-- ==== Proof.PostSampleRefRun.lean ====
module

public import proofs.«01_k».proof.Proof.PostSampleRef
public import Idealize.ShloMosaic.Lib.Claim
public import Idealize.ShloMosaic.Lib.StableHlo.RunRead

@[expose] public section

set_option maxRecDepth 16384

noncomputable section

namespace Cert.SamplePost

open Cert.PostSampleReferenceIdeal Cert.PostSampleReferenceIdeal.Gen
open Cert.Post
open Idealize.ShloMosaic Idealize.ShloMosaic.TcCoe Idealize.SL.Sem

/-! ## The reference's operations, in eight runs -/

/-- The operations up to the normalized rows. -/
def opsNorm {F : FTy → Type} [FloatOps F] : List (HloOp τ sig (Elt F)) := [
  StableHlo.nullary main_cst (constant S_ .f32 0x00000000#32),
  StableHlo.binary main_arg1 main_cst main_v0 ((fun x v => Host.reduceAdd x v reducesTo_S32x4x1024_S32x4_d2 h_S_) : (⟨S32x4x1024, .f32⟩ : BufTy).Contents (Elt F) → (⟨S_, .f32⟩ : BufTy).Contents (Elt F) → (⟨S32x4, .f32⟩ : BufTy).Contents (Elt F)),
  StableHlo.unary main_v0 main_v1 (broadcastInDim S32x4x1 ![0, 1] bcast_S32x4_S32x4x1_0_1 : (⟨S32x4, .f32⟩ : BufTy).Contents (Elt F) → (⟨S32x4x1, .f32⟩ : BufTy).Contents (Elt F)),
  StableHlo.nullary main_cst_0 (constant S_ .f32 0x44800000#32),
  StableHlo.unary main_cst_0 main_v2 (broadcastInDim S32x4x1 ![] bcast_S_S32x4x1 : (⟨S_, .f32⟩ : BufTy).Contents (Elt F) → (⟨S32x4x1, .f32⟩ : BufTy).Contents (Elt F)),
  StableHlo.binary main_v1 main_v2 main_v3 (Host.divf : (⟨S32x4x1, .f32⟩ : BufTy).Contents (Elt F) → (⟨S32x4x1, .f32⟩ : BufTy).Contents (Elt F) → (⟨S32x4x1, .f32⟩ : BufTy).Contents (Elt F)),
  StableHlo.unary main_v3 main_v4 (broadcastInDim S32x4x1024 ![0, 1, 2] bcast_S32x4x1_S32x4x1024_0_1_2 : (⟨S32x4x1, .f32⟩ : BufTy).Contents (Elt F) → (⟨S32x4x1024, .f32⟩ : BufTy).Contents (Elt F)),
  StableHlo.binary main_arg1 main_v4 main_v5 (subf : (⟨S32x4x1024, .f32⟩ : BufTy).Contents (Elt F) → (⟨S32x4x1024, .f32⟩ : BufTy).Contents (Elt F) → (⟨S32x4x1024, .f32⟩ : BufTy).Contents (Elt F)),
  StableHlo.binary main_v5 main_v5 main_v6 (mulf : (⟨S32x4x1024, .f32⟩ : BufTy).Contents (Elt F) → (⟨S32x4x1024, .f32⟩ : BufTy).Contents (Elt F) → (⟨S32x4x1024, .f32⟩ : BufTy).Contents (Elt F)),
  StableHlo.nullary main_cst_1 (constant S_ .f32 0x00000000#32),
  StableHlo.binary main_v6 main_cst_1 main_v7 ((fun x v => Host.reduceAdd x v reducesTo_S32x4x1024_S32x4_d2 h_S_) : (⟨S32x4x1024, .f32⟩ : BufTy).Contents (Elt F) → (⟨S_, .f32⟩ : BufTy).Contents (Elt F) → (⟨S32x4, .f32⟩ : BufTy).Contents (Elt F)),
  StableHlo.unary main_v7 main_v8 (broadcastInDim S32x4x1 ![0, 1] bcast_S32x4_S32x4x1_0_1 : (⟨S32x4, .f32⟩ : BufTy).Contents (Elt F) → (⟨S32x4x1, .f32⟩ : BufTy).Contents (Elt F)),
  StableHlo.nullary main_cst_2 (constant S_ .f32 0x44800000#32),
  StableHlo.unary main_cst_2 main_v9 (broadcastInDim S32x4x1 ![] bcast_S_S32x4x1 : (⟨S_, .f32⟩ : BufTy).Contents (Elt F) → (⟨S32x4x1, .f32⟩ : BufTy).Contents (Elt F)),
  StableHlo.binary main_v8 main_v9 main_v10 (Host.divf : (⟨S32x4x1, .f32⟩ : BufTy).Contents (Elt F) → (⟨S32x4x1, .f32⟩ : BufTy).Contents (Elt F) → (⟨S32x4x1, .f32⟩ : BufTy).Contents (Elt F)),
  StableHlo.unary main_v3 main_v11 (broadcastInDim S32x4x1024 ![0, 1, 2] bcast_S32x4x1_S32x4x1024_0_1_2 : (⟨S32x4x1, .f32⟩ : BufTy).Contents (Elt F) → (⟨S32x4x1024, .f32⟩ : BufTy).Contents (Elt F)),
  StableHlo.binary main_arg1 main_v11 main_v12 (subf : (⟨S32x4x1024, .f32⟩ : BufTy).Contents (Elt F) → (⟨S32x4x1024, .f32⟩ : BufTy).Contents (Elt F) → (⟨S32x4x1024, .f32⟩ : BufTy).Contents (Elt F)),
  StableHlo.nullary main_cst_3 (constant S_ .f32 0x3727C5AC#32),
  StableHlo.unary main_cst_3 main_v13 (broadcastInDim S32x4x1 ![] bcast_S_S32x4x1 : (⟨S_, .f32⟩ : BufTy).Contents (Elt F) → (⟨S32x4x1, .f32⟩ : BufTy).Contents (Elt F)),
  StableHlo.binary main_v10 main_v13 main_v14 (addf : (⟨S32x4x1, .f32⟩ : BufTy).Contents (Elt F) → (⟨S32x4x1, .f32⟩ : BufTy).Contents (Elt F) → (⟨S32x4x1, .f32⟩ : BufTy).Contents (Elt F)),
  StableHlo.unary main_v14 main_v15 (Host.rsqrt : (⟨S32x4x1, .f32⟩ : BufTy).Contents (Elt F) → (⟨S32x4x1, .f32⟩ : BufTy).Contents (Elt F)),
  StableHlo.unary main_v15 main_v16 (broadcastInDim S32x4x1024 ![0, 1, 2] bcast_S32x4x1_S32x4x1024_0_1_2 : (⟨S32x4x1, .f32⟩ : BufTy).Contents (Elt F) → (⟨S32x4x1024, .f32⟩ : BufTy).Contents (Elt F)),
  StableHlo.binary main_v12 main_v16 main_v17 (mulf : (⟨S32x4x1024, .f32⟩ : BufTy).Contents (Elt F) → (⟨S32x4x1024, .f32⟩ : BufTy).Contents (Elt F) → (⟨S32x4x1024, .f32⟩ : BufTy).Contents (Elt F)),
  StableHlo.unary main_arg2 main_v18 (broadcastInDim S1x1x1024 ![2] bcast_S1024_S1x1x1024_2 : (⟨S1024, .f32⟩ : BufTy).Contents (Elt F) → (⟨S1x1x1024, .f32⟩ : BufTy).Contents (Elt F)),
  StableHlo.unary main_v18 main_v19 (broadcastInDim S32x4x1024 ![0, 1, 2] bcast_S1x1x1024_S32x4x1024_0_1_2 : (⟨S1x1x1024, .f32⟩ : BufTy).Contents (Elt F) → (⟨S32x4x1024, .f32⟩ : BufTy).Contents (Elt F)),
  StableHlo.binary main_v17 main_v19 main_v20 (mulf : (⟨S32x4x1024, .f32⟩ : BufTy).Contents (Elt F) → (⟨S32x4x1024, .f32⟩ : BufTy).Contents (Elt F) → (⟨S32x4x1024, .f32⟩ : BufTy).Contents (Elt F)),
  StableHlo.unary main_arg3 main_v21 (broadcastInDim S1x1x1024 ![2] bcast_S1024_S1x1x1024_2 : (⟨S1024, .f32⟩ : BufTy).Contents (Elt F) → (⟨S1x1x1024, .f32⟩ : BufTy).Contents (Elt F)),
  StableHlo.unary main_v21 main_v22 (broadcastInDim S32x4x1024 ![0, 1, 2] bcast_S1x1x1024_S32x4x1024_0_1_2 : (⟨S1x1x1024, .f32⟩ : BufTy).Contents (Elt F) → (⟨S32x4x1024, .f32⟩ : BufTy).Contents (Elt F)),
  StableHlo.binary main_v20 main_v22 main_v23 (addf : (⟨S32x4x1024, .f32⟩ : BufTy).Contents (Elt F) → (⟨S32x4x1024, .f32⟩ : BufTy).Contents (Elt F) → (⟨S32x4x1024, .f32⟩ : BufTy).Contents (Elt F))]

/-- The operations up to the mixed rows. -/
def opsMix {F : FTy → Type} [FloatOps F] : List (HloOp τ sig (Elt F)) := [
  StableHlo.unary main_arg0 main_v24 ((extf .f32 · bitsLt_bf16_f32) : (⟨S32x4x1024, .bf16⟩ : BufTy).Contents (Elt F) → (⟨S32x4x1024, .f32⟩ : BufTy).Contents (Elt F)),
  StableHlo.reshape main_arg4 main_v25 (rfl : (.f32 : EltTy) = .f32) shapeCasts_S1x1024x1024_S1024x1024,
  StableHlo.binary main_v24 main_v25 main_v26 ((fun l r => Host.dotGeneral dot_S32x4x1024_S1024x1024_S32x4x1024_2_0_01_1_n_n none l r) : (⟨S32x4x1024, .f32⟩ : BufTy).Contents (Elt F) → (⟨S1024x1024, .f32⟩ : BufTy).Contents (Elt F) → (⟨S32x4x1024, .f32⟩ : BufTy).Contents (Elt F)),
  StableHlo.nullary main_cst_4 (constant S_ .f32 0x3F9837F0#32),
  StableHlo.unary main_cst_4 main_v27 (broadcastInDim S32x4x1024 ![] bcast_S_S32x4x1024 : (⟨S_, .f32⟩ : BufTy).Contents (Elt F) → (⟨S32x4x1024, .f32⟩ : BufTy).Contents (Elt F)),
  StableHlo.binary main_v27 main_v23 main_v28 (mulf : (⟨S32x4x1024, .f32⟩ : BufTy).Contents (Elt F) → (⟨S32x4x1024, .f32⟩ : BufTy).Contents (Elt F) → (⟨S32x4x1024, .f32⟩ : BufTy).Contents (Elt F)),
  StableHlo.binary main_v28 main_v26 main_v29 (addf : (⟨S32x4x1024, .f32⟩ : BufTy).Contents (Elt F) → (⟨S32x4x1024, .f32⟩ : BufTy).Contents (Elt F) → (⟨S32x4x1024, .f32⟩ : BufTy).Contents (Elt F))]

/-- The operations up to the mixed rows' means. -/
def opsMeans {F : FTy → Type} [FloatOps F] : List (HloOp τ sig (Elt F)) := [
  StableHlo.reshape main_arg5 main_v30 (rfl : (.f32 : EltTy) = .f32) shapeCasts_S1x1024_S1024,
  StableHlo.reshape main_arg6 main_v31 (rfl : (.f32 : EltTy) = .f32) shapeCasts_S1x1024_S1024,
  StableHlo.nullary main_cst_5 (constant S_ .f32 0x00000000#32),
  StableHlo.binary main_v29 main_cst_5 main_v32 ((fun x v => Host.reduceAdd x v reducesTo_S32x4x1024_S32x4_d2 h_S_) : (⟨S32x4x1024, .f32⟩ : BufTy).Contents (Elt F) → (⟨S_, .f32⟩ : BufTy).Contents (Elt F) → (⟨S32x4, .f32⟩ : BufTy).Contents (Elt F)),
  StableHlo.unary main_v32 main_v33 (broadcastInDim S32x4x1 ![0, 1] bcast_S32x4_S32x4x1_0_1 : (⟨S32x4, .f32⟩ : BufTy).Contents (Elt F) → (⟨S32x4x1, .f32⟩ : BufTy).Contents (Elt F)),
  StableHlo.nullary main_cst_6 (constant S_ .f32 0x44800000#32),
  StableHlo.unary main_cst_6 main_v34 (broadcastInDim S32x4x1 ![] bcast_S_S32x4x1 : (⟨S_, .f32⟩ : BufTy).Contents (Elt F) → (⟨S32x4x1, .f32⟩ : BufTy).Contents (Elt F)),
  StableHlo.binary main_v33 main_v34 main_v35 (Host.divf : (⟨S32x4x1, .f32⟩ : BufTy).Contents (Elt F) → (⟨S32x4x1, .f32⟩ : BufTy).Contents (Elt F) → (⟨S32x4x1, .f32⟩ : BufTy).Contents (Elt F)),
  StableHlo.unary main_v35 main_v36 (broadcastInDim S32x4x1024 ![0, 1, 2] bcast_S32x4x1_S32x4x1024_0_1_2 : (⟨S32x4x1, .f32⟩ : BufTy).Contents (Elt F) → (⟨S32x4x1024, .f32⟩ : BufTy).Contents (Elt F)),
  StableHlo.binary main_v29 main_v36 main_v37 (subf : (⟨S32x4x1024, .f32⟩ : BufTy).Contents (Elt F) → (⟨S32x4x1024, .f32⟩ : BufTy).Contents (Elt F) → (⟨S32x4x1024, .f32⟩ : BufTy).Contents (Elt F)),
  StableHlo.binary main_v37 main_v37 main_v38 (mulf : (⟨S32x4x1024, .f32⟩ : BufTy).Contents (Elt F) → (⟨S32x4x1024, .f32⟩ : BufTy).Contents (Elt F) → (⟨S32x4x1024, .f32⟩ : BufTy).Contents (Elt F)),
  StableHlo.nullary main_cst_7 (constant S_ .f32 0x00000000#32),
  StableHlo.binary main_v38 main_cst_7 main_v39 ((fun x v => Host.reduceAdd x v reducesTo_S32x4x1024_S32x4_d2 h_S_) : (⟨S32x4x1024, .f32⟩ : BufTy).Contents (Elt F) → (⟨S_, .f32⟩ : BufTy).Contents (Elt F) → (⟨S32x4, .f32⟩ : BufTy).Contents (Elt F)),
  StableHlo.unary main_v39 main_v40 (broadcastInDim S32x4x1 ![0, 1] bcast_S32x4_S32x4x1_0_1 : (⟨S32x4, .f32⟩ : BufTy).Contents (Elt F) → (⟨S32x4x1, .f32⟩ : BufTy).Contents (Elt F)),
  StableHlo.nullary main_cst_8 (constant S_ .f32 0x44800000#32),
  StableHlo.unary main_cst_8 main_v41 (broadcastInDim S32x4x1 ![] bcast_S_S32x4x1 : (⟨S_, .f32⟩ : BufTy).Contents (Elt F) → (⟨S32x4x1, .f32⟩ : BufTy).Contents (Elt F)),
  StableHlo.binary main_v40 main_v41 main_v42 (Host.divf : (⟨S32x4x1, .f32⟩ : BufTy).Contents (Elt F) → (⟨S32x4x1, .f32⟩ : BufTy).Contents (Elt F) → (⟨S32x4x1, .f32⟩ : BufTy).Contents (Elt F))]

/-- The operations of the first result, from the means. -/
def opsShift {F : FTy → Type} [FloatOps F] : List (HloOp τ sig (Elt F)) := [
  StableHlo.unary main_v35 main_v43 (broadcastInDim S32x4x1024 ![0, 1, 2] bcast_S32x4x1_S32x4x1024_0_1_2 : (⟨S32x4x1, .f32⟩ : BufTy).Contents (Elt F) → (⟨S32x4x1024, .f32⟩ : BufTy).Contents (Elt F)),
  StableHlo.binary main_v29 main_v43 main_v44 (subf : (⟨S32x4x1024, .f32⟩ : BufTy).Contents (Elt F) → (⟨S32x4x1024, .f32⟩ : BufTy).Contents (Elt F) → (⟨S32x4x1024, .f32⟩ : BufTy).Contents (Elt F)),
  StableHlo.nullary main_cst_9 (constant S_ .f32 0x3727C5AC#32),
  StableHlo.unary main_cst_9 main_v45 (broadcastInDim S32x4x1 ![] bcast_S_S32x4x1 : (⟨S_, .f32⟩ : BufTy).Contents (Elt F) → (⟨S32x4x1, .f32⟩ : BufTy).Contents (Elt F)),
  StableHlo.binary main_v42 main_v45 main_v46 (addf : (⟨S32x4x1, .f32⟩ : BufTy).Contents (Elt F) → (⟨S32x4x1, .f32⟩ : BufTy).Contents (Elt F) → (⟨S32x4x1, .f32⟩ : BufTy).Contents (Elt F)),
  StableHlo.unary main_v46 main_v47 (Host.rsqrt : (⟨S32x4x1, .f32⟩ : BufTy).Contents (Elt F) → (⟨S32x4x1, .f32⟩ : BufTy).Contents (Elt F)),
  StableHlo.unary main_v47 main_v48 (broadcastInDim S32x4x1024 ![0, 1, 2] bcast_S32x4x1_S32x4x1024_0_1_2 : (⟨S32x4x1, .f32⟩ : BufTy).Contents (Elt F) → (⟨S32x4x1024, .f32⟩ : BufTy).Contents (Elt F)),
  StableHlo.binary main_v44 main_v48 main_v49 (mulf : (⟨S32x4x1024, .f32⟩ : BufTy).Contents (Elt F) → (⟨S32x4x1024, .f32⟩ : BufTy).Contents (Elt F) → (⟨S32x4x1024, .f32⟩ : BufTy).Contents (Elt F)),
  StableHlo.unary main_v30 main_v50 (broadcastInDim S1x1x1024 ![2] bcast_S1024_S1x1x1024_2 : (⟨S1024, .f32⟩ : BufTy).Contents (Elt F) → (⟨S1x1x1024, .f32⟩ : BufTy).Contents (Elt F)),
  StableHlo.unary main_v50 main_v51 (broadcastInDim S32x4x1024 ![0, 1, 2] bcast_S1x1x1024_S32x4x1024_0_1_2 : (⟨S1x1x1024, .f32⟩ : BufTy).Contents (Elt F) → (⟨S32x4x1024, .f32⟩ : BufTy).Contents (Elt F)),
  StableHlo.binary main_v49 main_v51 main_v52 (mulf : (⟨S32x4x1024, .f32⟩ : BufTy).Contents (Elt F) → (⟨S32x4x1024, .f32⟩ : BufTy).Contents (Elt F) → (⟨S32x4x1024, .f32⟩ : BufTy).Contents (Elt F)),
  StableHlo.unary main_v31 main_v53 (broadcastInDim S1x1x1024 ![2] bcast_S1024_S1x1x1024_2 : (⟨S1024, .f32⟩ : BufTy).Contents (Elt F) → (⟨S1x1x1024, .f32⟩ : BufTy).Contents (Elt F)),
  StableHlo.unary main_v53 main_v54 (broadcastInDim S32x4x1024 ![0, 1, 2] bcast_S1x1x1024_S32x4x1024_0_1_2 : (⟨S1x1x1024, .f32⟩ : BufTy).Contents (Elt F) → (⟨S32x4x1024, .f32⟩ : BufTy).Contents (Elt F)),
  StableHlo.binary main_v52 main_v54 main_v55 (addf : (⟨S32x4x1024, .f32⟩ : BufTy).Contents (Elt F) → (⟨S32x4x1024, .f32⟩ : BufTy).Contents (Elt F) → (⟨S32x4x1024, .f32⟩ : BufTy).Contents (Elt F)),
  StableHlo.reshape main_v55 main_v56 (rfl : (.f32 : EltTy) = .f32) shapeCasts_S32x4x1024_S128x1024]

/-- The operations up to the first result. -/
def opsOut {F : FTy → Type} [FloatOps F] : List (HloOp τ sig (Elt F)) := opsMeans ++ opsShift

/-- The operations up to the router's scores. -/
def opsScore {F : FTy → Type} [FloatOps F] : List (HloOp τ sig (Elt F)) := [
  StableHlo.reshape main_arg7 main_v57 (rfl : (.f32 : EltTy) = .f32) shapeCasts_S1x1024x32_S1024x32,
  StableHlo.binary main_v56 main_v57 main_v58 ((fun l r => Host.dotGeneral dot_S128x1024_S1024x32_S128x32_1_0_0_1_n_n none l r) : (⟨S128x1024, .f32⟩ : BufTy).Contents (Elt F) → (⟨S1024x32, .f32⟩ : BufTy).Contents (Elt F) → (⟨S128x32, .f32⟩ : BufTy).Contents (Elt F)),
  StableHlo.reshape main_arg8 main_v59 (rfl : (.f32 : EltTy) = .f32) shapeCasts_S1x32_S32,
  StableHlo.unary main_v59 main_v60 (broadcastInDim S1x32 ![1] bcast_S32_S1x32_1 : (⟨S32, .f32⟩ : BufTy).Contents (Elt F) → (⟨S1x32, .f32⟩ : BufTy).Contents (Elt F)),
  StableHlo.unary main_v60 main_v61 (broadcastInDim S128x32 ![0, 1] bcast_S1x32_S128x32_0_1 : (⟨S1x32, .f32⟩ : BufTy).Contents (Elt F) → (⟨S128x32, .f32⟩ : BufTy).Contents (Elt F)),
  StableHlo.binary main_v58 main_v61 main_v62 (addf : (⟨S128x32, .f32⟩ : BufTy).Contents (Elt F) → (⟨S128x32, .f32⟩ : BufTy).Contents (Elt F) → (⟨S128x32, .f32⟩ : BufTy).Contents (Elt F))]

/-- The operations up to the four best scores. -/
def opsTop {F : FTy → Type} [FloatOps F] : List (HloOp τ sig (Elt F)) := [
  StableHlo.unary main_v62 main_values ((fun x => (Host.topK S128x4 1 (FloatOps.cmpfTotal .gt) x sliceFits_S128x32_S128x4).1) : (⟨S128x32, .f32⟩ : BufTy).Contents (Elt F) → (⟨S128x4, .f32⟩ : BufTy).Contents (Elt F)),
  StableHlo.unary main_v62 main_indices ((fun x => (Host.topK S128x4 1 (FloatOps.cmpfTotal .gt) x sliceFits_S128x32_S128x4).2) : (⟨S128x32, .f32⟩ : BufTy).Contents (Elt F) → (⟨S128x4, .i32⟩ : BufTy).Contents (Elt F))]

/-- The operations up to their exponentials. -/
def opsExp {F : FTy → Type} [FloatOps F] : List (HloOp τ sig (Elt F)) := [
  StableHlo.nullary main_cst_10 (constant S_ .f32 0xFF800000#32),
  StableHlo.binary main_values main_cst_10 main_v63 ((fun x v => Host.reduce FloatOps.maximumf x v reducesTo_S128x4_S128_d1 h_S_) : (⟨S128x4, .f32⟩ : BufTy).Contents (Elt F) → (⟨S_, .f32⟩ : BufTy).Contents (Elt F) → (⟨S128, .f32⟩ : BufTy).Contents (Elt F)),
  StableHlo.nullary main_cst_11 (constant S_ .f32 0xFF800000#32),
  StableHlo.unary main_cst_11 main_v64 (broadcastInDim S128 ![] bcast_S_S128 : (⟨S_, .f32⟩ : BufTy).Contents (Elt F) → (⟨S128, .f32⟩ : BufTy).Contents (Elt F)),
  StableHlo.binary main_v64 main_v63 main_v65 (maximumf : (⟨S128, .f32⟩ : BufTy).Contents (Elt F) → (⟨S128, .f32⟩ : BufTy).Contents (Elt F) → (⟨S128, .f32⟩ : BufTy).Contents (Elt F)),
  StableHlo.unary main_v65 main_v66 (broadcastInDim S128x1 ![0] bcast_S128_S128x1_0 : (⟨S128, .f32⟩ : BufTy).Contents (Elt F) → (⟨S128x1, .f32⟩ : BufTy).Contents (Elt F)),
  StableHlo.unary main_v66 main_v67 (broadcastInDim S128x4 ![0, 1] bcast_S128x1_S128x4_0_1 : (⟨S128x1, .f32⟩ : BufTy).Contents (Elt F) → (⟨S128x4, .f32⟩ : BufTy).Contents (Elt F)),
  StableHlo.binary main_values main_v67 main_v68 (subf : (⟨S128x4, .f32⟩ : BufTy).Contents (Elt F) → (⟨S128x4, .f32⟩ : BufTy).Contents (Elt F) → (⟨S128x4, .f32⟩ : BufTy).Contents (Elt F)),
  StableHlo.unary main_v68 main_v69 (Host.exp : (⟨S128x4, .f32⟩ : BufTy).Contents (Elt F) → (⟨S128x4, .f32⟩ : BufTy).Contents (Elt F))]

/-- The operations up to their weights. -/
def opsGate {F : FTy → Type} [FloatOps F] : List (HloOp τ sig (Elt F)) := [
  StableHlo.nullary main_cst_12 (constant S_ .f32 0x00000000#32),
  StableHlo.binary main_v69 main_cst_12 main_v70 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
  StableHlo.unary main_v70 main_v71 (broadcastInDim S128x1 ![0] bcast_S128_S128x1_0 : (⟨S128, .f32⟩ : BufTy).Contents (Elt F) → (⟨S128x1, .f32⟩ : BufTy).Contents (Elt F)),
  StableHlo.unary main_v71 main_v72 (broadcastInDim S128x4 ![0, 1] bcast_S128x1_S128x4_0_1 : (⟨S128x1, .f32⟩ : BufTy).Contents (Elt F) → (⟨S128x4, .f32⟩ : BufTy).Contents (Elt F)),
  StableHlo.binary main_v69 main_v72 main_v73 (Host.divf : (⟨S128x4, .f32⟩ : BufTy).Contents (Elt F) → (⟨S128x4, .f32⟩ : BufTy).Contents (Elt F) → (⟨S128x4, .f32⟩ : BufTy).Contents (Elt F))]

/-- The operations up to the other results. -/
def opsPad {F : FTy → Type} [FloatOps F] : List (HloOp τ sig (Elt F)) := [
  StableHlo.nullary main_c (constantI S_ 32 0#32),
  StableHlo.TRef.unary (.of main_c : StableHlo.TRef sig ⟨S_, .i32⟩) (.of main_call0_v0 : StableHlo.TRef sig ⟨S_, .i32⟩) id,
  StableHlo.TRef.binary (.of main_indices : StableHlo.TRef sig ⟨S128x4, .i32⟩) (.of main_call0_v0 : StableHlo.TRef sig ⟨S_, .i32⟩) (.of main_v74 : StableHlo.TRef sig ⟨S128x128, .i32⟩) (fun x v => pad S128x128 ![0, 0] ![0, 124] ![0, 0] x v pads_S128x4_S128x128_000_01240 h_S_),
  StableHlo.nullary main_c_13 (constantI S_ 32 0#32),
  StableHlo.TRef.unary (.of main_c_13 : StableHlo.TRef sig ⟨S_, .i32⟩) (.of main_call1_v0 : StableHlo.TRef sig ⟨S_, .f32⟩) (sitofp .f32),
  StableHlo.TRef.binary (.of main_v73 : StableHlo.TRef sig ⟨S128x4, .f32⟩) (.of main_call1_v0 : StableHlo.TRef sig ⟨S_, .f32⟩) (.of main_v75 : StableHlo.TRef sig ⟨S128x128, .f32⟩) (fun x v => pad S128x128 ![0, 0] ![0, 124] ![0, 0] x v pads_S128x4_S128x128_000_01240 h_S_)]

/-- All of them. -/
def opsAll {F : FTy → Type} [FloatOps F] : List (HloOp τ sig (Elt F)) := opsNorm ++ (opsMix ++ (opsOut ++ (opsScore ++ (opsTop ++ (opsExp ++ (opsGate ++ opsPad))))))

set_option maxHeartbeats 4000000 in
/-- The reference is the eight runs in turn. -/
theorem main_ops (d : Dev nD) : StableHlo.IsSeq (main (F := Ideal) d) opsAll := by
  unfold opsAll opsNorm opsMix opsOut opsMeans opsShift opsScore opsTop opsExp opsGate opsPad
  simp only [List.cons_append, List.nil_append]
  hlo_seq

variable (V : Valuation τ sig (Elt Ideal))

/-! ## What each run leaves -/

set_option maxHeartbeats 4000000 in
theorem norm_read : StableHlo.after opsNorm V (Proc.devRef .tc main_v23)
    = (refNormed (V (Proc.devRef .tc main_arg1)) (V (Proc.devRef .tc main_arg2)) (V (Proc.devRef .tc main_arg3)) : FVec Ideal S32x4x1024 .f32) := by
  unfold opsNorm; after_results_simp; rfl
theorem mix_read : StableHlo.after opsMix V (Proc.devRef .tc main_v29)
    = (refMix (V (Proc.devRef .tc main_arg0)) (V (Proc.devRef .tc main_v23)) (V (Proc.devRef .tc main_arg4)) : FVec Ideal S32x4x1024 .f32) := by
  unfold opsMix; after_results_simp; rfl
set_option maxHeartbeats 4000000 in
theorem out_read : StableHlo.after opsOut V (Proc.devRef .tc main_v56)
    = (refH (V (Proc.devRef .tc main_v29)) (V (Proc.devRef .tc main_arg5)) (V (Proc.devRef .tc main_arg6)) : FVec Ideal S128x1024 .f32) := by
  unfold opsOut opsMeans opsShift; simp only [List.cons_append, List.nil_append]; after_results_simp; rfl
theorem score_read : StableHlo.after opsScore V (Proc.devRef .tc main_v62)
    = (refScores (V (Proc.devRef .tc main_v56)) (V (Proc.devRef .tc main_arg7)) (V (Proc.devRef .tc main_arg8)) : FVec Ideal S128x32 .f32) := by
  unfold opsScore; after_results_simp; rfl
theorem topV_read : StableHlo.after opsTop V (Proc.devRef .tc main_values) = (refTopV (V (Proc.devRef .tc main_v62)) : FVec Ideal S128x4 .f32) := by
  unfold opsTop; after_results_simp; rfl
theorem topE_read : StableHlo.after opsTop V (Proc.devRef .tc main_indices) = (refTopE (V (Proc.devRef .tc main_v62)) : IVec S128x4 32) := by
  unfold opsTop; after_results_simp; rfl
theorem exp_read : StableHlo.after opsExp V (Proc.devRef .tc main_v69) = (refExp (V (Proc.devRef .tc main_values)) : FVec Ideal S128x4 .f32) := by
  unfold opsExp; after_results_simp; rfl
theorem gate_read : StableHlo.after opsGate V (Proc.devRef .tc main_v73) = (refGate (V (Proc.devRef .tc main_v69)) : FVec Ideal S128x4 .f32) := by
  unfold opsGate; after_results_simp; rfl
theorem places_read : StableHlo.after opsPad V (Proc.devRef .tc main_v74) = (refPlaces (V (Proc.devRef .tc main_indices)) : IVec S128x128 32) := by
  unfold opsPad; after_results_simp; rfl
theorem weights_read : StableHlo.after opsPad V (Proc.devRef .tc main_v75) = (refWeights (V (Proc.devRef .tc main_v73)) : FVec Ideal S128x128 .f32) := by
  unfold opsPad; after_results_simp; rfl

/-! ## What each run leaves as it was -/

/-- What the run of `opsNorm` writes. -/
def outNorm : List (Ref sig .tc) := [main_cst, main_v0, main_v1, main_cst_0, main_v2, main_v3, main_v4, main_v5, main_v6, main_cst_1, main_v7, main_v8, main_cst_2, main_v9, main_v10, main_v11, main_v12, main_cst_3, main_v13, main_v14, main_v15, main_v16, main_v17, main_v18, main_v19, main_v20, main_v21, main_v22, main_v23]
theorem keepNorm (r : Ref sig .tc) (hr : r ∉ outNorm) : StableHlo.after opsNorm V (Proc.devRef .tc r) = V (Proc.devRef .tc r) := StableHlo.after_unwritten outNorm rfl hr V
/-- What the run of `opsMix` writes. -/
def outMix : List (Ref sig .tc) := [main_v24, main_v25, main_v26, main_cst_4, main_v27, main_v28, main_v29]
theorem keepMix (r : Ref sig .tc) (hr : r ∉ outMix) : StableHlo.after opsMix V (Proc.devRef .tc r) = V (Proc.devRef .tc r) := StableHlo.after_unwritten outMix rfl hr V
/-- What the run of `opsOut` writes. -/
def outOut : List (Ref sig .tc) := [main_v30, main_v31, main_cst_5, main_v32, main_v33, main_cst_6, main_v34, main_v35, main_v36, main_v37, main_v38, main_cst_7, main_v39, main_v40, main_cst_8, main_v41, main_v42, main_v43, main_v44, main_cst_9, main_v45, main_v46, main_v47, main_v48, main_v49, main_v50, main_v51, main_v52, main_v53, main_v54, main_v55, main_v56]
theorem keepOut (r : Ref sig .tc) (hr : r ∉ outOut) : StableHlo.after opsOut V (Proc.devRef .tc r) = V (Proc.devRef .tc r) := StableHlo.after_unwritten outOut rfl hr V
/-- What the run of `opsScore` writes. -/
def outScore : List (Ref sig .tc) := [main_v57, main_v58, main_v59, main_v60, main_v61, main_v62]
theorem keepScore (r : Ref sig .tc) (hr : r ∉ outScore) : StableHlo.after opsScore V (Proc.devRef .tc r) = V (Proc.devRef .tc r) := StableHlo.after_unwritten outScore rfl hr V
/-- What the run of `opsTop` writes. -/
def outTop : List (Ref sig .tc) := [main_values, main_indices]
theorem keepTop (r : Ref sig .tc) (hr : r ∉ outTop) : StableHlo.after opsTop V (Proc.devRef .tc r) = V (Proc.devRef .tc r) := StableHlo.after_unwritten outTop rfl hr V
/-- What the run of `opsExp` writes. -/
def outExp : List (Ref sig .tc) := [main_cst_10, main_v63, main_cst_11, main_v64, main_v65, main_v66, main_v67, main_v68, main_v69]
theorem keepExp (r : Ref sig .tc) (hr : r ∉ outExp) : StableHlo.after opsExp V (Proc.devRef .tc r) = V (Proc.devRef .tc r) := StableHlo.after_unwritten outExp rfl hr V
/-- What the run of `opsGate` writes. -/
def outGate : List (Ref sig .tc) := [main_cst_12, main_v70, main_v71, main_v72, main_v73]
theorem keepGate (r : Ref sig .tc) (hr : r ∉ outGate) : StableHlo.after opsGate V (Proc.devRef .tc r) = V (Proc.devRef .tc r) := StableHlo.after_unwritten outGate rfl hr V
/-- What the run of `opsPad` writes. -/
def outPad : List (Ref sig .tc) := [main_c, main_call0_v0, main_v74, main_c_13, main_call1_v0, main_v75]
theorem keepPad (r : Ref sig .tc) (hr : r ∉ outPad) : StableHlo.after opsPad V (Proc.devRef .tc r) = V (Proc.devRef .tc r) := StableHlo.after_unwritten outPad rfl hr V

/-- What no run writes is as it was. -/
theorem keepAll (r : Ref sig .tc) (h : r ∉ outNorm ∧ r ∉ outMix ∧ r ∉ outOut ∧ r ∉ outScore ∧ r ∉ outTop ∧ r ∉ outExp ∧ r ∉ outGate ∧ r ∉ outPad) :
    StableHlo.after opsAll V (Proc.devRef .tc r) = V (Proc.devRef .tc r) := by
  obtain ⟨h0, h1, h2, h3, h4, h5, h6, h7⟩ := h
  unfold opsAll
  simp only [StableHlo.after_append]
  rw [keepPad _ r h7, keepGate _ r h6, keepExp _ r h5, keepTop _ r h4, keepScore _ r h3, keepOut _ r h2, keepMix _ r h1, keepNorm _ r h0]

/-- The first result of the arguments, and the scores. -/
abbrev refRows : FVec Ideal S128x1024 .f32 :=
  refH (refMixed (V (Proc.devRef .tc main_arg0)) (V (Proc.devRef .tc main_arg1)) (V (Proc.devRef .tc main_arg2)) (V (Proc.devRef .tc main_arg3)) (V (Proc.devRef .tc main_arg4)))
    (V (Proc.devRef .tc main_arg5)) (V (Proc.devRef .tc main_arg6))
abbrev refAll : FVec Ideal S128x32 .f32 := refScores (refRows V) (V (Proc.devRef .tc main_arg7)) (V (Proc.devRef .tc main_arg8))

/-- The first result, after the runs that make it. -/
theorem rows_read : StableHlo.after opsOut (StableHlo.after opsMix (StableHlo.after opsNorm V)) (Proc.devRef .tc main_v56) = refRows V := by
  rw [out_read, mix_read, norm_read, keepMix _ main_arg5 (by decide), keepNorm _ main_arg5 (by decide), keepMix _ main_arg6 (by decide), keepNorm _ main_arg6 (by decide),
    keepNorm _ main_arg0 (by decide), keepNorm _ main_arg4 (by decide)]
  rfl

/-- The scores, after the runs that make them. -/
theorem all_read : StableHlo.after opsScore (StableHlo.after opsOut (StableHlo.after opsMix (StableHlo.after opsNorm V))) (Proc.devRef .tc main_v62) = refAll V := by
  rw [score_read, rows_read, keepOut _ main_arg7 (by decide), keepMix _ main_arg7 (by decide), keepNorm _ main_arg7 (by decide),
    keepOut _ main_arg8 (by decide), keepMix _ main_arg8 (by decide), keepNorm _ main_arg8 (by decide)]

/-- The results, after all. -/
theorem read_0 : StableHlo.after opsAll V (Proc.devRef .tc main_v56) = refRows V := by
  unfold opsAll
  simp only [StableHlo.after_append]
  rw [keepPad _ main_v56 (by decide), keepGate _ main_v56 (by decide), keepExp _ main_v56 (by decide), keepTop _ main_v56 (by decide), keepScore _ main_v56 (by decide), rows_read]
theorem read_1 : StableHlo.after opsAll V (Proc.devRef .tc main_v74) = refPlaces (refTopE (refAll V)) := by
  unfold opsAll
  simp only [StableHlo.after_append]
  rw [places_read, keepGate _ main_indices (by decide), keepExp _ main_indices (by decide), topE_read, all_read]
theorem read_2 : StableHlo.after opsAll V (Proc.devRef .tc main_v75) = refWeights (refGate (refExp (refTopV (refAll V)))) := by
  unfold opsAll
  simp only [StableHlo.after_append]
  rw [weights_read, gate_read, exp_read, topV_read, all_read]

variable (m : (ℓ : Loc nD τ sig) → Buf (Elt Ideal) ℓ)

/-- The reference's run: its results are its terms, its arguments as they were. -/
theorem ref_run (g : Dev nD → PrngReg) :
    θ_run (defs (F := Ideal)) (onTc (τ := τ) (main (F := Ideal))) ⟨m, fun _ => 0, g⟩ (fun r => ∀ c : Dev nD,
      r.2.mem ((c.tc : Thread nD τ).loc main_v56) = (refRows (StableHlo.launchContents m c) : FVec Ideal S128x1024 .f32)
      ∧ r.2.mem ((c.tc : Thread nD τ).loc main_v74) = (refPlaces (refTopE (refAll (StableHlo.launchContents m c))) : IVec S128x128 32)
      ∧ r.2.mem ((c.tc : Thread nD τ).loc main_v75) = (refWeights (refGate (refExp (refTopV (refAll (StableHlo.launchContents m c))))) : FVec Ideal S128x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_v56).trans (read_0 _), (h c main_v74).trans (read_1 _), (h c main_v75).trans (read_2 _),
      (h c main_arg0).trans (keepAll _ main_arg0 (by decide)),
      (h c main_arg1).trans (keepAll _ main_arg1 (by decide)),
      (h c main_arg2).trans (keepAll _ main_arg2 (by decide)),
      (h c main_arg3).trans (keepAll _ main_arg3 (by decide)),
      (h c main_arg4).trans (keepAll _ main_arg4 (by decide)),
      (h c main_arg5).trans (keepAll _ main_arg5 (by decide)),
      (h c main_arg6).trans (keepAll _ main_arg6 (by decide)),
      (h c main_arg7).trans (keepAll _ main_arg7 (by decide)),
      (h c main_arg8).trans (keepAll _ main_arg8 (by decide))⟩)
    (StableHlo.run_hlo defs main main_ops (by decide) (by decide) (by simp [opsAll, opsNorm, opsMix, opsOut, opsMeans, opsShift, opsScore, opsTop, opsExp, opsGate, opsPad])
      (by intro _ h; unfold opsAll opsNorm opsMix opsOut opsMeans opsShift opsScore opsTop opsExp opsGate opsPad at h; simp only [List.cons_append, List.nil_append] at h
          (repeat (cases h with | head => rfl | tail _ h => ?_)); exact nomatch h) m g)

/-- The reference's rows and scores, of arguments named otherwise. -/
theorem rows_of (c : Dev nD) (a : FVec Ideal S32x4x1024 .bf16) (x : FVec Ideal S32x4x1024 .f32) (gi bi : FVec Ideal S1024 .f32) (wo : FVec Ideal S1x1024x1024 .f32)
    (g1 b1 : FVec Ideal S1x1024 .f32) (h0 : m ((c.tc : Thread nD τ).loc main_arg0) = a) (h1 : m ((c.tc : Thread nD τ).loc main_arg1) = x) (h2 : m ((c.tc : Thread nD τ).loc main_arg2) = gi)
    (h3 : m ((c.tc : Thread nD τ).loc main_arg3) = bi) (h4 : m ((c.tc : Thread nD τ).loc main_arg4) = wo) (h5 : m ((c.tc : Thread nD τ).loc main_arg5) = g1)
    (h6 : m ((c.tc : Thread nD τ).loc main_arg6) = b1) : refRows (StableHlo.launchContents m c) = refH (refMixed a x gi bi wo) g1 b1 := by
  subst h0 h1 h2 h3 h4 h5 h6; rfl
theorem all_of (c : Dev nD) (h : FVec Ideal S128x1024 .f32) (wr : FVec Ideal S1x1024x32 .f32) (br : FVec Ideal S1x32 .f32) (hp : refRows (StableHlo.launchContents m c) = h)
    (h7 : m ((c.tc : Thread nD τ).loc main_arg7) = wr) (h8 : m ((c.tc : Thread nD τ).loc main_arg8) = br) : refAll (StableHlo.launchContents m c) = refScores h wr br := by
  subst hp h7 h8; rfl

end Cert.SamplePost

end
-- ==== Proof.PostSampleSame.lean ====
module

public import proofs.«01_k».proof.Defs
public import proofs.«01_k».proof.Proof.Gen.PostSample
public import proofs.«01_k».proof.Proof.Gen.PostSampleIdeal

@[expose] public section

set_option maxRecDepth 16384
set_option maxHeartbeats 1000000

namespace Cert.SamplePost

open Idealize.ShloMosaic

/-- The two programs' body tables are one: their texts are the same. -/
theorem bodies_same : Cert.PostSample.defs₀ (F := Bits) = Cert.PostSampleIdeal.defs₀ (F := Bits) := by
  unfold Cert.PostSample.defs₀ Cert.PostSampleIdeal.defs₀
  congr 1
  funext l a
  match l, a with
  | ⟨0, _⟩, (t, s) => rfl
  | ⟨_ + 1, h⟩, _ => exact absurd h (Nat.not_lt.2 (Nat.le_add_left _ _))

/-- So are their tables with the pipelines. -/
theorem defs_same : Cert.PostSample.defs (F := Bits) = Cert.PostSampleIdeal.defs (F := Bits) :=
  congrArg (Pipeline.defs (Cert.PostSampleIdeal.pcfgs (F := Bits))) bodies_same

/-- And their host programs. -/
theorem main_same : Cert.PostSample.main (F := Bits) = Cert.PostSampleIdeal.main (F := Bits) := rfl

end Cert.SamplePost

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_experts_in_range
public import proofs.«01_k».proof.Proof.ExpertsOk
public import proofs.«01_k».proof.Proof.ExpertsValue
public import proofs.«01_k».proof.Proof.ExpertsRefRun
public import proofs.«01_k».proof.Proof.ExpertsSame
public import proofs.«01_k».proof.Proof.Gen.InProj
public import proofs.«01_k».proof.Proof.Gen.InProjIdeal
public import proofs.«01_k».proof.Proof.Gen.InProjReferenceIdeal
public import proofs.«01_k».proof.Proof.InProjValue
public import proofs.«01_k».proof.Proof.InProjRefRun
public import proofs.«01_k».proof.Proof.InProjSame
public import proofs.«01_k».proof.Proof.Gen.Sample
public import proofs.«01_k».proof.Proof.Gen.SampleIdeal
public import proofs.«01_k».proof.Proof.Gen.SampleReferenceIdeal
public import proofs.«01_k».proof.Proof.SampleValue
public import proofs.«01_k».proof.Proof.SampleRefRun
public import proofs.«01_k».proof.Proof.SampleSame
public import proofs.«01_k».proof.Proof.Gen.PostAttn
public import proofs.«01_k».proof.Proof.Gen.PostAttnIdeal
public import proofs.«01_k».proof.Proof.Gen.PostAttnReferenceIdeal
public import proofs.«01_k».proof.Proof.Gen.PostSample
public import proofs.«01_k».proof.Proof.Gen.PostSampleIdeal
public import proofs.«01_k».proof.Proof.Gen.PostSampleReferenceIdeal
public import proofs.«01_k».proof.Proof.Gen.Pre_all_finite
public import proofs.«01_k».proof.Proof.PostOk
public import proofs.«01_k».proof.Proof.PostRefRun
public import proofs.«01_k».proof.Proof.PostSame
public import proofs.«01_k».proof.Proof.Gen.Pre_samples_finite
public import proofs.«01_k».proof.Proof.PostSampleOk
public import proofs.«01_k».proof.Proof.PostSampleRefRun
public import proofs.«01_k».proof.Proof.PostSampleSame
public import Idealize.ShloMosaic.Adequacy
public import Idealize.ShloMosaic.Init

@[expose] public section

noncomputable section

namespace Cert.Proof

open Idealize.ShloMosaic Idealize.ShloMosaic.TcCoe Idealize.SL.Sem

/-- The words of the table are below 32, from the precondition. -/
theorem ok_of_pre_ideal (m) (h : Cert.Pre_KernelIdeal m) : Cert.Experts.Ok m :=
  Cert.Experts.ok_ideal m fun y => by
    have e : (Cert.Experts.tbl m 0 : Cert.KernelIdeal.S289.Idx → BitVec 32) = m (((0 : Dev Cert.KernelIdeal.nD) : Thread Cert.KernelIdeal.nD Cert.KernelIdeal.τ).loc Cert.KernelIdeal.main_arg0) :=
      Cert.Experts.V_of_not_written m 0 Cert.KernelIdeal.main_arg0 (by decide)
    rw [e]
    exact Cert.Experts.words_lt _ _ _ _ _ _ (h 0) y

/-- The words of the table as launched are below 32. -/
theorem words_ideal (m) (h : Cert.Pre_KernelIdeal m) (c : Dev Cert.KernelIdeal.nD) (n : Fin 289) : (Cert.Experts.argBlk m c (ix1 n)).toNat < 32 :=
  Cert.Experts.words_lt _ _ _ _ _ _ (h c) (ix1 n)

/-- The words of the table as launched are below 32: the program as printed, whose memory is its idealization's. -/
theorem ok_of_pre (m) (h : Cert.Pre_Kernel m) : Cert.Experts.Ok (F := Bits) m :=
  Cert.Experts.ok_ideal (F := Bits) m fun y => by
    have e : (Cert.Experts.tbl (F := Bits) m 0 : Cert.KernelIdeal.S289.Idx → BitVec 32) = m (((0 : Dev Cert.KernelIdeal.nD) : Thread Cert.KernelIdeal.nD Cert.KernelIdeal.τ).loc Cert.KernelIdeal.main_arg0) :=
      Cert.Experts.V_of_not_written m 0 Cert.KernelIdeal.main_arg0 (by decide)
    rw [e]
    exact Cert.Experts.words_lt _ _ _ _ _ _ (h 0) y

/-- The kernel as printed runs, leaves its arguments, and ends with every counter at zero. -/
theorem kernel_runs : Cert.quiescent_Kernel := fun m g hpre => by
  rw [Cert.Experts.defs_same, Cert.Experts.main_same]
  exact Cert.Experts.frame_here (F := Bits) m g (ok_of_pre m hpre)

/-- So does its idealization. -/
theorem kernel_ideal_runs : Cert.quiescent_KernelIdeal := fun m g hpre => Cert.Experts.frame_here m g (ok_of_pre_ideal m hpre)

/-- So does the reference, which has no counters. -/
theorem reference_runs : Cert.quiescent_ReferenceIdeal := fun m g _ =>
  (θ_run Cert.ReferenceIdeal.defs _ _).mono (fun r h => ⟨fun c => (h c).2, Idealize.ShloMosaic.sem_eq_zero_of_no_sems (by decide) r.2⟩)
    (Cert.Experts.ref_run m g)

/-- The kernel's result is the reference's. -/
theorem same_value : Cert.algebraic_KernelIdeal_ReferenceIdeal := fun m g m' g' hpre hagree =>
  ⟨_, Cert.Experts.value_here m (ok_of_pre_ideal m hpre) (words_ideal m hpre) g,
    (θ_run Cert.ReferenceIdeal.defs _ _).mono (fun r h c => by
      obtain ⟨h0, h1, h2, h3, h4, h5⟩ := hagree c
      have e := (h c).1
      rw [h0, h1, h2, h3, h4, h5] at e
      exact ⟨e, (h c).2⟩) (Cert.Experts.ref_run m' g')⟩

/-- The input projection as printed runs, leaves its arguments, and ends with every counter at zero. -/
theorem in_proj_runs : Cert.quiescent_InProj := fun m g _ => by
  rw [Cert.Proj.defs_same, Cert.Proj.main_same]
  exact Cert.Proj.frame_here (F := Bits) m g

/-- So does its idealization. -/
theorem in_proj_ideal_runs : Cert.quiescent_InProjIdeal := fun m g _ => Cert.Proj.frame_here m g

/-- So does its reference, which has no counters. -/
theorem in_proj_reference_runs : Cert.quiescent_InProjReferenceIdeal := fun m g _ =>
  (θ_run Cert.InProjReferenceIdeal.defs _ _).mono (fun r h => ⟨fun c => (h c).2.2.2.2.2, Idealize.ShloMosaic.sem_eq_zero_of_no_sems (by decide) r.2⟩)
    (Cert.Proj.ref_run m g)

/-- The input projection's results are its reference's. -/
theorem in_proj_same : Cert.algebraic_InProjIdeal_InProjReferenceIdeal := fun m g m' g' hpre hagree =>
  ⟨_, _, _, _, _, Cert.Proj.value_here m g,
    (θ_run Cert.InProjReferenceIdeal.defs _ _).mono (fun r h c => by
      have hp : Cert.Proj.refRows m' c = Cert.Proj.projected m c := by
        obtain ⟨h0, h1, h2, h3⟩ := hagree c
        unfold Cert.Proj.refRows
        rw [h0, h1, h2, h3]
      obtain ⟨e0, e1, e2, e3, e4, e⟩ := h c
      rw [hp] at e0 e1 e2 e3 e4
      exact ⟨e0, e1, e2, e3, e4, e⟩) (Cert.Proj.ref_run m' g')⟩

/-- The samples' projection as printed runs, leaves its arguments, and ends with every counter at zero. -/
theorem sample_runs : Cert.quiescent_Sample := fun m g _ => by
  rw [Cert.ProjSample.defs_same, Cert.ProjSample.main_same]
  exact Cert.ProjSample.frame_here (F := Bits) m g

/-- So does its idealization. -/
theorem sample_ideal_runs : Cert.quiescent_SampleIdeal := fun m g _ => Cert.ProjSample.frame_here m g

/-- So does its reference, which has no counters. -/
theorem sample_reference_runs : Cert.quiescent_SampleReferenceIdeal := fun m g _ =>
  (θ_run Cert.SampleReferenceIdeal.defs _ _).mono (fun r h => ⟨fun c => (h c).2.2.2.2.2, Idealize.ShloMosaic.sem_eq_zero_of_no_sems (by decide) r.2⟩)
    (Cert.ProjSample.ref_run m g)

/-- The samples' projection's results are its reference's. -/
theorem sample_same : Cert.algebraic_SampleIdeal_SampleReferenceIdeal := fun m g m' g' hpre hagree =>
  ⟨_, _, _, _, _, Cert.ProjSample.value_here m g,
    (θ_run Cert.SampleReferenceIdeal.defs _ _).mono (fun r h c => by
      have hp : Cert.ProjSample.refRows m' c = Cert.ProjSample.projected m c := by
        obtain ⟨h0, h1, h2, h3⟩ := hagree c
        unfold Cert.ProjSample.refRows
        rw [h0, h1, h2, h3]
      obtain ⟨e0, e1, e2, e3, e4, e⟩ := h c
      rw [hp] at e0 e1 e2 e3 e4
      exact ⟨e0, e1, e2, e3, e4, e⟩) (Cert.ProjSample.ref_run m' g')⟩

/-- The step after the attentions as printed runs, leaves its arguments, and ends with every counter at zero. -/
theorem post_runs : Cert.quiescent_PostAttn := fun m g _ => by
  rw [Cert.Post.defs_same, Cert.Post.main_same]
  exact Cert.PostAttnIdeal.Gen.frame (F := Bits) m g

/-- So does its idealization. -/
theorem post_ideal_runs : Cert.quiescent_PostAttnIdeal := fun m g _ => Cert.PostAttnIdeal.Gen.frame m g

/-- So does its idealization at numbers that are no infinities. -/
theorem post_ideal_runs_finite : Cert.quiescent_PostAttnIdeal_pre_all_finite := fun m g _ => Cert.PostAttnIdeal.Gen.frame m g

/-- So does its reference, which has no counters. -/
theorem post_reference_runs : Cert.quiescent_PostAttnReferenceIdeal := fun m g _ =>
  (θ_run Cert.PostAttnReferenceIdeal.defs _ _).mono (fun r h => ⟨fun c => (h c).2.2.2, Idealize.ShloMosaic.sem_eq_zero_of_no_sems (by decide) r.2⟩)
    (Cert.Post.ref_run m g)

/-- So does its reference at numbers that are no infinities. -/
theorem post_reference_runs_finite : Cert.quiescent_PostAttnReferenceIdeal_pre_all_finite := fun m g _ =>
  (θ_run Cert.PostAttnReferenceIdeal.defs _ _).mono (fun r h => ⟨fun c => (h c).2.2.2, Idealize.ShloMosaic.sem_eq_zero_of_no_sems (by decide) r.2⟩)
    (Cert.Post.ref_run m g)

/-- The step's results are its reference's, at numbers that are no infinities. -/
theorem post_same : Cert.algebraic_PostAttnIdeal_PostAttnReferenceIdeal_pre_all_finite := fun m g m' g' hpre hagree =>
  ⟨_, _, _, Cert.Post.value_here m (Cert.Post.fine_of_pre m hpre) g,
    (θ_run Cert.PostAttnReferenceIdeal.defs _ _).mono (fun r h c => by
      have hp : Cert.Post.refRows (StableHlo.launchContents m' c) = Cert.Post.wantH m c := by
        obtain ⟨h0, h1, h2, h3, h4, h5, h6, _, _⟩ := hagree c
        exact Cert.Post.rows_of m' c _ _ _ _ _ _ _ h0 h1 h2 h3 h4 h5 h6
      have hs : Cert.Post.refAll (StableHlo.launchContents m' c) = Cert.Post.wantS m c := by
        obtain ⟨_, _, _, _, _, _, _, h7, h8⟩ := hagree c
        exact Cert.Post.all_of m' c _ _ _ hp h7 h8
      obtain ⟨e0, e1, e2, e⟩ := h c
      rw [hp] at e0
      rw [hs] at e1 e2
      exact ⟨e0, e1, e2, e⟩) (Cert.Post.ref_run m' g')⟩

/-- The samples' step after the attentions as printed runs, leaves its arguments, and ends with every counter at zero. -/
theorem sample_post_runs : Cert.quiescent_PostSample := fun m g _ => by
  rw [Cert.SamplePost.defs_same, Cert.SamplePost.main_same]
  exact Cert.PostSampleIdeal.Gen.frame (F := Bits) m g

/-- So does its idealization. -/
theorem sample_post_ideal_runs : Cert.quiescent_PostSampleIdeal := fun m g _ => Cert.PostSampleIdeal.Gen.frame m g

/-- So does its idealization at numbers that are no infinities. -/
theorem sample_post_ideal_runs_finite : Cert.quiescent_PostSampleIdeal_pre_samples_finite := fun m g _ => Cert.PostSampleIdeal.Gen.frame m g

/-- So does its reference, which has no counters. -/
theorem sample_post_reference_runs : Cert.quiescent_PostSampleReferenceIdeal := fun m g _ =>
  (θ_run Cert.PostSampleReferenceIdeal.defs _ _).mono (fun r h => ⟨fun c => (h c).2.2.2, Idealize.ShloMosaic.sem_eq_zero_of_no_sems (by decide) r.2⟩)
    (Cert.SamplePost.ref_run m g)

/-- So does its reference at numbers that are no infinities. -/
theorem sample_post_reference_runs_finite : Cert.quiescent_PostSampleReferenceIdeal_pre_samples_finite := fun m g _ =>
  (θ_run Cert.PostSampleReferenceIdeal.defs _ _).mono (fun r h => ⟨fun c => (h c).2.2.2, Idealize.ShloMosaic.sem_eq_zero_of_no_sems (by decide) r.2⟩)
    (Cert.SamplePost.ref_run m g)

/-- The samples' step's results are its reference's, at numbers that are no infinities. -/
theorem sample_post_same : Cert.algebraic_PostSampleIdeal_PostSampleReferenceIdeal_pre_samples_finite := fun m g m' g' hpre hagree =>
  ⟨_, _, _, Cert.SamplePost.value_here m (Cert.SamplePost.fine_of_pre m hpre) g,
    (θ_run Cert.PostSampleReferenceIdeal.defs _ _).mono (fun r h c => by
      have hp : Cert.SamplePost.refRows (StableHlo.launchContents m' c) = Cert.SamplePost.wantH m c := by
        obtain ⟨h0, h1, h2, h3, h4, h5, h6, _, _⟩ := hagree c
        exact Cert.SamplePost.rows_of m' c _ _ _ _ _ _ _ h0 h1 h2 h3 h4 h5 h6
      have hs : Cert.SamplePost.refAll (StableHlo.launchContents m' c) = Cert.SamplePost.wantS m c := by
        obtain ⟨_, _, _, _, _, _, _, h7, h8⟩ := hagree c
        exact Cert.SamplePost.all_of m' c _ _ _ hp h7 h8
      obtain ⟨e0, e1, e2, e⟩ := h c
      rw [hp] at e0
      rw [hs] at e1 e2
      exact ⟨e0, e1, e2, e⟩) (Cert.SamplePost.ref_run m' g')⟩

/-- Everything claimed. -/
theorem claim : Cert.Claim := ⟨Cert.Kernel.Gen.facts, Cert.KernelIdeal.Gen.facts, Cert.ReferenceIdeal.Gen.facts, Cert.InProj.Gen.facts, Cert.InProjIdeal.Gen.facts,
  Cert.InProjReferenceIdeal.Gen.facts, Cert.Sample.Gen.facts, Cert.SampleIdeal.Gen.facts, Cert.SampleReferenceIdeal.Gen.facts, Cert.PostAttn.Gen.facts,
  Cert.PostAttnIdeal.Gen.facts, Cert.PostAttnReferenceIdeal.Gen.facts, Cert.PostSample.Gen.facts, Cert.PostSampleIdeal.Gen.facts, Cert.PostSampleReferenceIdeal.Gen.facts,
  Cert.Pre_experts_in_range.Gen.facts, Cert.Pre_all_finite.Gen.facts, Cert.Pre_samples_finite.Gen.facts,
  kernel_runs, kernel_ideal_runs, reference_runs, in_proj_runs, in_proj_ideal_runs, in_proj_reference_runs, sample_runs, sample_ideal_runs, sample_reference_runs,
  post_runs, post_ideal_runs, post_ideal_runs_finite, post_reference_runs, post_reference_runs_finite,
  sample_post_runs, sample_post_ideal_runs, sample_post_ideal_runs_finite, sample_post_reference_runs, sample_post_reference_runs_finite,
  trivial, same_value, trivial, in_proj_same, trivial, sample_same, trivial, post_same, trivial, sample_post_same⟩

end Cert.Proof

end
